-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal)
    ∧ quiescent_Reference3Ideal_pre_tables (hReference3Ideal := hReference3Ideal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
-- ==== Pre_finite.lean ====
abbrev S2x4096x6144 : Shape := ⟨3, ![2, 4096, 6144]⟩
abbrev S1x128 : Shape := ⟨2, ![1, 128]⟩
abbrev S1x256 : Shape := ⟨2, ![1, 256]⟩
abbrev S_ : Shape := ⟨0, ![]⟩

class Facts : Prop where
  bcast_S_S2x4096x6144 : S_.BroadcastsInDim S2x4096x6144 (![] : Fin 0 → Fin S2x4096x6144.rank)
  reducesTo_S2x4096x6144_S_d0_1_2 : S2x4096x6144.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S2x4096x6144 .f32) (main_arg1 : FVec F S1x128 .f32) (main_arg2 : FVec F S1x128 .f32) (main_arg3 : FVec F S1x128 .f32) (main_arg4 : FVec F S1x128 .f32) (main_arg5 : FVec F S1x256 .f32) : IVec S_ 1 :=
  let main_v0 : FVec F S2x4096x6144 .f32 := Host.absf main_arg0
  let main_cst : FVec F S_ .f32 := constant S_ .f32 0x7F800000#32
  let main_v1 : FVec F S2x4096x6144 .f32 := broadcastInDim S2x4096x6144 ![] bcast_S_S2x4096x6144 main_cst
  let main_v2 : IVec S2x4096x6144 1 := cmpf .olt main_v0 main_v1
  let main_c : IVec S_ 1 := constantI S_ 1 1#1
  let main_v3 : IVec S_ 1 := (fun x v => Host.reduce IntOp.andi x v reducesTo_S2x4096x6144_S_d0_1_2 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Pre_tables.lean ====
abbrev S96 : Shape := ⟨1, ![96]⟩
abbrev S32 : Shape := ⟨1, ![32]⟩
abbrev S2 : Shape := ⟨1, ![2]⟩
abbrev S24576x2048 : Shape := ⟨2, ![24576, 2048]⟩
abbrev S32x2048x512 : Shape := ⟨3, ![32, 2048, 512]⟩
abbrev S32x512x2048 : Shape := ⟨3, ![32, 512, 2048]⟩
abbrev S1 : Shape := ⟨1, ![1]⟩
abbrev S_ : Shape := ⟨0, ![]⟩
abbrev S95 : Shape := ⟨1, ![95]⟩

class Facts : Prop where
  slices_S2_S1_0 : S2.Slices ![0] S1
  shapeCasts_S1_S_ : S1.ShapeCasts S_
  slices_S2_S1_1 : S2.Slices ![1] S1
  bcast_S_S96 : S_.BroadcastsInDim S96 (![] : Fin 0 → Fin S96.rank)
  reducesTo_S96_S_d0 : S96.ReducesTo [0] S_
  h_S_ : 0 < S_.numel
  slices_S96_S1_0 : S96.Slices ![0] S1
  slices_S96_S95_1 : S96.Slices ![1] S95
  bcast_S_S95 : S_.BroadcastsInDim S95 (![] : Fin 0 → Fin S95.rank)
  slices_S96_S95_0 : S96.Slices ![0] S95
  reducesTo_S95_S_d0 : S95.ReducesTo [0] S_
  bcast_S_S32 : S_.BroadcastsInDim S32 (![] : Fin 0 → Fin S32.rank)
  reducesTo_S32_S_d0 : S32.ReducesTo [0] S_

variable [Facts]

def fn_part3 {F : FTy → Type} [FloatOps F] (main_v12 : IVec S_ 1) (main_v21 : IVec S_ 1) (main_v26 : IVec S_ 1) (main_v40 : IVec S_ 1) (main_v50 : IVec S_ 1) (main_v52 : IVec S32 1) (main_v54 : IVec S32 1) (main_v56 : IVec S32 1) : IVec S_ 1 :=
  let main_v57 : IVec S32 1 := andi main_v54 main_v56
  let main_v58 : IVec S32 1 := ori main_v52 main_v57
  let main_c_14 : IVec S_ 1 := constantI S_ 1 1#1
  let main_v59 : IVec S_ 1 := (fun x v => Host.reduce IntOp.andi x v reducesTo_S32_S_d0 h_S_) main_v58 main_c_14
  let main_v60 : IVec S_ 1 := andi main_v12 main_v21
  let main_v61 : IVec S_ 1 := andi main_v60 main_v26
  let main_v62 : IVec S_ 1 := andi main_v61 main_v40
  let main_v63 : IVec S_ 1 := andi main_v62 main_v50
  let main_v64 : IVec S_ 1 := andi main_v63 main_v59
  main_v64

def fn_part2 {F : FTy → Type} [FloatOps F] (main_arg0 : IVec S96 32) (main_arg1 : IVec S32 32) (main_v1 : IVec S_ 32) (main_v3 : IVec S_ 32) (main_v4 : IVec S96 32) (main_v5 : IVec S32 32) (main_v12 : IVec S_ 1) (main_v21 : IVec S_ 1) (main_v26 : IVec S_ 1) (main_v33 : IVec S95 1) (main_v38 : IVec S95 1) : IVec S_ 1 :=
  let main_v39 : IVec S95 1 := ori main_v33 main_v38
  let main_c_8 : IVec S_ 1 := constantI S_ 1 1#1
  let main_v40 : IVec S_ 1 := (fun x v => Host.reduce IntOp.andi x v reducesTo_S95_S_d0 h_S_) main_v39 main_c_8
  let main_c_9 : IVec S_ 32 := constantI S_ 32 1#32
  let main_v41 : IVec S96 32 := broadcastInDim S96 ![] bcast_S_S96 main_c_9
  let main_v42 : IVec S96 32 := addi main_v4 main_v41
  let main_v43 : IVec S96 32 := broadcastInDim S96 ![] bcast_S_S96 main_v1
  let main_v44 : IVec S96 1 := cmpi .ne main_v42 main_v43
  let main_c_10 : IVec S_ 32 := constantI S_ 32 1#32
  let main_v45 : IVec S96 32 := broadcastInDim S96 ![] bcast_S_S96 main_c_10
  let main_v46 : IVec S96 32 := addi main_arg0 main_v45
  let main_v47 : IVec S96 32 := broadcastInDim S96 ![] bcast_S_S96 main_v3
  let main_v48 : IVec S96 1 := cmpi .eq main_v46 main_v47
  let main_v49 : IVec S96 1 := ori main_v44 main_v48
  let main_c_11 : IVec S_ 1 := constantI S_ 1 1#1
  let main_v50 : IVec S_ 1 := (fun x v => Host.reduce IntOp.andi x v reducesTo_S96_S_d0 h_S_) main_v49 main_c_11
  let main_v51 : IVec S32 32 := broadcastInDim S32 ![] bcast_S_S32 main_v3
  let main_v52 : IVec S32 1 := cmpi .sge main_v5 main_v51
  let main_c_12 : IVec S_ 32 := constantI S_ 32 0#32
  let main_v53 : IVec S32 32 := broadcastInDim S32 ![] bcast_S_S32 main_c_12
  let main_v54 : IVec S32 1 := cmpi .sge main_arg1 main_v53
  let main_c_13 : IVec S_ 32 := constantI S_ 32 32#32
  let main_v55 : IVec S32 32 := broadcastInDim S32 ![] bcast_S_S32 main_c_13
  let main_v56 : IVec S32 1 := cmpi .slt main_arg1 main_v55
  fn_part3 (F := F) main_v12 main_v21 main_v26 main_v40 main_v50 main_v52 main_v54 main_v56

def fn_part1 {F : FTy → Type} [FloatOps F] (main_arg0 : IVec S96 32) (main_arg1 : IVec S32 32) (main_v1 : IVec S_ 32) (main_v3 : IVec S_ 32) (main_v4 : IVec S96 32) (main_v5 : IVec S32 32) (main_v12 : IVec S_ 1) (main_v14 : IVec S96 1) (main_v16 : IVec S96 1) (main_v18 : IVec S96 1) : IVec S_ 1 :=
  let main_v19 : IVec S96 1 := andi main_v16 main_v18
  let main_v20 : IVec S96 1 := ori main_v14 main_v19
  let main_c_4 : IVec S_ 1 := constantI S_ 1 1#1
  let main_v21 : IVec S_ 1 := (fun x v => Host.reduce IntOp.andi x v reducesTo_S96_S_d0 h_S_) main_v20 main_c_4
  let main_c_5 : IVec S_ 32 := constantI S_ 32 0#32
  let main_v22 : IVec S_ 1 := cmpi .sle main_v1 main_c_5
  let main_v23 : IVec S1 32 := (extractStridedSlice S1 ![0] · slices_S96_S1_0) main_arg0
  let main_v24 : IVec S_ 32 := shapeCast S_ main_v23 shapeCasts_S1_S_
  let main_c_6 : IVec S_ 32 := constantI S_ 32 0#32
  let main_v25 : IVec S_ 1 := cmpi .eq main_v24 main_c_6
  let main_v26 : IVec S_ 1 := ori main_v22 main_v25
  let main_v27 : IVec S95 32 := (extractStridedSlice S95 ![1] · slices_S96_S95_1) main_v4
  let main_v28 : IVec S95 32 := broadcastInDim S95 ![] bcast_S_S95 main_v1
  let main_v29 : IVec S95 1 := cmpi .sge main_v27 main_v28
  let main_v30 : IVec S95 32 := (extractStridedSlice S95 ![1] · slices_S96_S95_1) main_arg0
  let main_v31 : IVec S95 32 := (extractStridedSlice S95 ![0] · slices_S96_S95_0) main_arg0
  let main_v32 : IVec S95 1 := cmpi .eq main_v30 main_v31
  let main_v33 : IVec S95 1 := ori main_v29 main_v32
  let main_v34 : IVec S95 32 := (extractStridedSlice S95 ![1] · slices_S96_S95_1) main_arg0
  let main_v35 : IVec S95 32 := (extractStridedSlice S95 ![0] · slices_S96_S95_0) main_arg0
  let main_c_7 : IVec S_ 32 := constantI S_ 32 1#32
  let main_v36 : IVec S95 32 := broadcastInDim S95 ![] bcast_S_S95 main_c_7
  let main_v37 : IVec S95 32 := addi main_v35 main_v36
  let main_v38 : IVec S95 1 := cmpi .eq main_v34 main_v37
  fn_part2 (F := F) main_arg0 main_arg1 main_v1 main_v3 main_v4 main_v5 main_v12 main_v21 main_v26 main_v33 main_v38

def fn {F : FTy → Type} [FloatOps F] (main_arg0 : IVec S96 32) (main_arg1 : IVec S32 32) (main_arg2 : IVec S2 32) (main_arg3 : FVec F S24576x2048 .bf16) (main_arg4 : FVec F S32x2048x512 .f32) (main_arg5 : FVec F S32x2048x512 .f32) (main_arg6 : FVec F S32x512x2048 .f32) : IVec S_ 1 :=
  let main_v0 : IVec S1 32 := (extractStridedSlice S1 ![0] · slices_S2_S1_0) main_arg2
  let main_v1 : IVec S_ 32 := shapeCast S_ main_v0 shapeCasts_S1_S_
  let main_v2 : IVec S1 32 := (extractStridedSlice S1 ![1] · slices_S2_S1_1) main_arg2
  let main_v3 : IVec S_ 32 := shapeCast S_ main_v2 shapeCasts_S1_S_
  let main_v4 : IVec S96 32 := iotaInDim S96 32 0
  let main_v5 : IVec S32 32 := iotaInDim S32 32 0
  let main_c : IVec S_ 32 := constantI S_ 32 0#32
  let main_v6 : IVec S_ 1 := cmpi .sge main_v1 main_c
  let main_c_0 : IVec S_ 32 := constantI S_ 32 96#32
  let main_v7 : IVec S_ 1 := cmpi .sle main_v1 main_c_0
  let main_v8 : IVec S_ 1 := andi main_v6 main_v7
  let main_c_1 : IVec S_ 32 := constantI S_ 32 0#32
  let main_v9 : IVec S_ 1 := cmpi .sge main_v3 main_c_1
  let main_v10 : IVec S_ 1 := andi main_v8 main_v9
  let main_c_2 : IVec S_ 32 := constantI S_ 32 32#32
  let main_v11 : IVec S_ 1 := cmpi .sle main_v3 main_c_2
  let main_v12 : IVec S_ 1 := andi main_v10 main_v11
  let main_v13 : IVec S96 32 := broadcastInDim S96 ![] bcast_S_S96 main_v1
  let main_v14 : IVec S96 1 := cmpi .sge main_v4 main_v13
  let main_c_3 : IVec S_ 32 := constantI S_ 32 0#32
  let main_v15 : IVec S96 32 := broadcastInDim S96 ![] bcast_S_S96 main_c_3
  let main_v16 : IVec S96 1 := cmpi .sge main_arg0 main_v15
  let main_v17 : IVec S96 32 := broadcastInDim S96 ![] bcast_S_S96 main_v3
  let main_v18 : IVec S96 1 := cmpi .slt main_arg0 main_v17
  fn_part1 (F := F) main_arg0 main_arg1 main_v1 main_v3 main_v4 main_v5 main_v12 main_v14 main_v16 main_v18
-- ==== Kernel.lean ====
abbrev S2x4096x6144 : Shape := ⟨3, ![2, 4096, 6144]⟩
abbrev S1x128 : Shape := ⟨2, ![1, 128]⟩
abbrev S1x256 : Shape := ⟨2, ![1, 256]⟩
abbrev S4 : Shape := ⟨1, ![4]⟩
abbrev S8192x6144 : Shape := ⟨2, ![8192, 6144]⟩
abbrev S1x6144 : Shape := ⟨2, ![1, 6144]⟩
abbrev S_ : Shape := ⟨0, ![]⟩
abbrev S4x1 : Shape := ⟨2, ![4, 1]⟩
abbrev S4x3 : Shape := ⟨2, ![4, 3]⟩
abbrev S12 : Shape := ⟨1, ![12]⟩
abbrev S8192x1024 : Shape := ⟨2, ![8192, 1024]⟩
abbrev S1024x256 : Shape := ⟨2, ![1024, 256]⟩
abbrev S4096x256 : Shape := ⟨2, ![4096, 256]⟩
abbrev S2x4096x256 : Shape := ⟨3, ![2, 4096, 256]⟩
abbrev S2x1024x256 : Shape := ⟨3, ![2, 1024, 256]⟩
abbrev S4096x128 : Shape := ⟨2, ![4096, 128]⟩
abbrev S1x4096x128 : Shape := ⟨3, ![1, 4096, 128]⟩
abbrev S8x1024 : Shape := ⟨2, ![8, 1024]⟩
abbrev S1 : Shape := ⟨1, ![1]⟩
abbrev S120x1024 : Shape := ⟨2, ![120, 1024]⟩
abbrev S128x1024 : Shape := ⟨2, ![128, 1024]⟩
abbrev S1024x128 : Shape := ⟨2, ![1024, 128]⟩
abbrev S1x1024x128 : Shape := ⟨3, ![1, 1024, 128]⟩
abbrev S1024x1 : Shape := ⟨2, ![1024, 1]⟩
abbrev S1x1024x256 : Shape := ⟨3, ![1, 1024, 256]⟩
abbrev S1x512x256 : Shape := ⟨3, ![1, 512, 256]⟩
abbrev S512x256 : Shape := ⟨2, ![512, 256]⟩
abbrev S1024x512 : Shape := ⟨2, ![1024, 512]⟩
abbrev S1024 : Shape := ⟨1, ![1024]⟩
abbrev S512x1 : Shape := ⟨2, ![512, 1]⟩
abbrev S512x512 : Shape := ⟨2, ![512, 512]⟩
abbrev S512 : Shape := ⟨1, ![512]⟩
abbrev S1x1 : Shape := ⟨2, ![1, 1]⟩

abbrev nBuf : Space → Nat
  | .hbm => 56
  | .vmem => 15
  | .smem => 1
  | _ => 0

abbrev bufTy : (tb : Table) → Fin (tcTables nBuf tb) → BufTy
  | .hbm, ⟨0, _⟩ => ⟨S2x4096x6144, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S4, .f32⟩
  | .hbm, ⟨7, _⟩ => ⟨S8192x6144, .f32⟩
  | .hbm, ⟨8, _⟩ => ⟨S1x6144, .i32⟩
  | .hbm, ⟨9, _⟩ => ⟨S_, .i32⟩
  | .hbm, ⟨10, _⟩ => ⟨S1x6144, .i32⟩
  | .hbm, ⟨11, _⟩ => ⟨S1x6144, .i1⟩
  | .hbm, ⟨12, _⟩ => ⟨S_, .i32⟩
  | .hbm, ⟨13, _⟩ => ⟨S1x6144, .i32⟩
  | .hbm, ⟨14, _⟩ => ⟨S1x6144, .i1⟩
  | .hbm, ⟨15, _⟩ => ⟨S_, .i32⟩
  | .hbm, ⟨16, _⟩ => ⟨S1x6144, .i32⟩
  | .hbm, ⟨17, _⟩ => ⟨S1x6144, .i1⟩
  | .hbm, ⟨18, _⟩ => ⟨S1x6144, .i1⟩
  | .hbm, ⟨19, _⟩ => ⟨S1x6144, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x6144, .f32⟩
  | .hbm, ⟨30, _⟩ => ⟨S1x6144, .f32⟩
  | .hbm, ⟨31, _⟩ => ⟨S1x6144, .f32⟩
  | .hbm, ⟨32, _⟩ => ⟨S8192x6144, .f32⟩
  | .hbm, ⟨33, _⟩ => ⟨S8192x6144, .f32⟩
  | .hbm, ⟨34, _⟩ => ⟨S8192x6144, .bf16⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .bf16⟩
  | .hbm, ⟨42, _⟩ => ⟨S4, .f32⟩
  | .hbm, ⟨43, _⟩ => ⟨S4, .f32⟩
  | .hbm, ⟨44, _⟩ => ⟨S4, .bf16⟩
  | .hbm, ⟨45, _⟩ => ⟨S4, .f32⟩
  | .hbm, ⟨46, _⟩ => ⟨S4, .f32⟩
  | .hbm, ⟨47, _⟩ => ⟨S4, .bf16⟩
  | .hbm, ⟨48, _⟩ => ⟨S4, .f32⟩
  | .hbm, ⟨49, _⟩ => ⟨S4, .f32⟩
  | .hbm, ⟨50, _⟩ => ⟨S4x1, .f32⟩
  | .hbm, ⟨51, _⟩ => ⟨S4x1, .f32⟩
  | .hbm, ⟨52, _⟩ => ⟨S4x1, .f32⟩
  | .hbm, ⟨53, _⟩ => ⟨S4x3, .f32⟩
  | .hbm, ⟨54, _⟩ => ⟨S12, .f32⟩
  | .hbm, ⟨55, _⟩ => ⟨S8192x1024, .bf16⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S1024x256, .bf16⟩
  | .local _ .vmem, ⟨12, _⟩ => ⟨S1024x256, .bf16⟩
  | .local _ .vmem, ⟨13, _⟩ => ⟨S2x4096x256, .bf16⟩
  | .local _ .vmem, ⟨14, _⟩ => ⟨S2x1024x256, .bf16⟩
  | .local _ .smem, ⟨0, _⟩ => ⟨S12, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![2, 4, 4], ![false, false, false]⟩

def k0_off1 (i : grid0.Coords) (c0_i32_2 : BitVec 32) : Fin 1 → Nat :=
  let arg1 : BitVec 32 := BitVec.ofNat 32 (i 1).val
  let c1_i32 : BitVec 32 := 1#32
  let v3 : BitVec 32 := Scalar.muli arg1 c1_i32
  let c0_i32_1 : BitVec 32 := 0#32
  let v4 : BitVec 32 := Scalar.addi v3 c0_i32_1
  let c3_i32 : BitVec 32 := 3#32
  let v7 : BitVec 32 := Scalar.muli v4 c3_i32
  let v8 : BitVec 32 := Scalar.addi v7 c0_i32_2
  let v9 : Index := Scalar.indexCast v8
  ![v9.toNat]
@[reducible] def k0_t1_loop (i : grid0.Coords) : Scf.Loop 32 :=
  let c0_i32_34 : BitVec 32 := 0#32
  let arg2 : BitVec 32 := BitVec.ofNat 32 (i 2).val
  let c1_i32_33 : BitVec 32 := 1#32
  let v72 : BitVec 32 := Scalar.muli arg2 c1_i32_33
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_36 : BitVec 32 := 1#32
  ⟨c0_i32_34, v77, c1_i32_36⟩
def k0_mult1 (i : grid0.Coords) (k0_t1 : Fin (k0_t1_loop i).trips) : BitVec 32 :=
  let c0_i32_34 : BitVec 32 := 0#32
  let c1_i32_36 : BitVec 32 := 1#32
  let arg15 : BitVec 32 := Scf.iv c0_i32_34 c1_i32_36 k0_t1
  let c2_i32_102 : BitVec 32 := 2#32
  let v267 : BitVec 32 := Scalar.muli arg15 c2_i32_102
  let c0_i32_103 : BitVec 32 := 0#32
  let v268 : BitVec 32 := Scalar.addi v267 c0_i32_103
  let c512_i32_104 : BitVec 32 := 512#32
  let v269 : BitVec 32 := Scalar.muli v268 c512_i32_104
  v269
def k0_off2 (i : grid0.Coords) (k0_t1 : Fin (k0_t1_loop i).trips) (c0_i32_103 : BitVec 32) : Fin 3 → Nat :=
  let c0_108 : Index := 0#32
  let c0_i32_34 : BitVec 32 := 0#32
  let c1_i32_36 : BitVec 32 := 1#32
  let arg15 : BitVec 32 := Scf.iv c0_i32_34 c1_i32_36 k0_t1
  let c2_i32_102 : BitVec 32 := 2#32
  let v267 : BitVec 32 := Scalar.muli arg15 c2_i32_102
  let v268 : BitVec 32 := Scalar.addi v267 c0_i32_103
  let c512_i32_104 : BitVec 32 := 512#32
  let v269 : BitVec 32 := Scalar.muli v268 c512_i32_104
  let v270 : BitVec 32 := v269
  let v273 : Index := Scalar.indexCast v270
  let c0_109 : Index := 0#32
  ![0, v273.toNat, 0]
def k0_off3 (i : grid0.Coords) (k0_t1 : Fin (k0_t1_loop i).trips) (c0_i32_103 : BitVec 32) : Fin 2 → Nat :=
  let c0_i32_34 : BitVec 32 := 0#32
  let c1_i32_36 : BitVec 32 := 1#32
  let arg15 : BitVec 32 := Scf.iv c0_i32_34 c1_i32_36 k0_t1
  let c2_i32_102 : BitVec 32 := 2#32
  let v267 : BitVec 32 := Scalar.muli arg15 c2_i32_102
  let v268 : BitVec 32 := Scalar.addi v267 c0_i32_103
  let c512_i32_104 : BitVec 32 := 512#32
  let v269 : BitVec 32 := Scalar.muli v268 c512_i32_104
  let v270 : BitVec 32 := v269
  let v285 : Index := Scalar.indexCast v270
  let c0_112 : Index := 0#32
  ![v285.toNat, 0]
def k0_off4 (i : grid0.Coords) (k0_t1 : Fin (k0_t1_loop i).trips) (c0_i32_103 : BitVec 32) : Fin 3 → Nat :=
  let c1_118 : Index := 1#32
  let c0_i32_34 : BitVec 32 := 0#32
  let c1_i32_36 : BitVec 32 := 1#32
  let arg15 : BitVec 32 := Scf.iv c0_i32_34 c1_i32_36 k0_t1
  let c2_i32_102 : BitVec 32 := 2#32
  let v267 : BitVec 32 := Scalar.muli arg15 c2_i32_102
  let v268 : BitVec 32 := Scalar.addi v267 c0_i32_103
  let c512_i32_104 : BitVec 32 := 512#32
  let v269 : BitVec 32 := Scalar.muli v268 c512_i32_104
  let v270 : BitVec 32 := v269
  let v300 : Index := Scalar.indexCast v270
  let c0_119 : Index := 0#32
  ![1, v300.toNat, 0]
def k0_mult2 (i : grid0.Coords) (k0_t1 : Fin (k0_t1_loop i).trips) : BitVec 32 :=
  let c0_i32_34 : BitVec 32 := 0#32
  let c1_i32_36 : BitVec 32 := 1#32
  let arg15 : BitVec 32 := Scf.iv c0_i32_34 c1_i32_36 k0_t1
  let c2_i32_125 : BitVec 32 := 2#32
  let v325 : BitVec 32 := Scalar.muli arg15 c2_i32_125
  let c1_i32_126 : BitVec 32 := 1#32
  let v326 : BitVec 32 := Scalar.addi v325 c1_i32_126
  let c512_i32_127 : BitVec 32 := 512#32
  let v327 : BitVec 32 := Scalar.muli v326 c512_i32_127
  v327
@[reducible] def k0_t2_loop (i : grid0.Coords) : Scf.Loop 32 :=
  let c0_i32_34 : BitVec 32 := 0#32
  let arg2 : BitVec 32 := BitVec.ofNat 32 (i 2).val
  let c1_i32_33 : BitVec 32 := 1#32
  let v72 : BitVec 32 := Scalar.muli arg2 c1_i32_33
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let v74 : BitVec 32 := Scalar.addi c0_i32_34 v73
  let c1_i32_37 : BitVec 32 := 1#32
  ⟨v77, v74, c1_i32_37⟩
def k0_mult3 (i : grid0.Coords) (k0_t2 : Fin (k0_t2_loop i).trips) : BitVec 32 :=
  let c0_i32_34 : BitVec 32 := 0#32
  let arg2 : BitVec 32 := BitVec.ofNat 32 (i 2).val
  let c1_i32_33 : BitVec 32 := 1#32
  let v72 : BitVec 32 := Scalar.muli arg2 c1_i32_33
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg15 : BitVec 32 := Scf.iv v77 c1_i32_37 k0_t2
  let c2_i32_102 : BitVec 32 := 2#32
  let v267 : BitVec 32 := Scalar.muli arg15 c2_i32_102
  let c0_i32_103 : BitVec 32 := 0#32
  let v268 : BitVec 32 := Scalar.addi v267 c0_i32_103
  let c512_i32_104 : BitVec 32 := 512#32
  let v269 : BitVec 32 := Scalar.muli v268 c512_i32_104
  v269
def k0_off5 (i : grid0.Coords) (k0_t2 : Fin (k0_t2_loop i).trips) (c0_i32_103 : BitVec 32) : Fin 3 → Nat :=
  let c0_108 : Index := 0#32
  let c0_i32_34 : BitVec 32 := 0#32
  let arg2 : BitVec 32 := BitVec.ofNat 32 (i 2).val
  let c1_i32_33 : BitVec 32 := 1#32
  let v72 : BitVec 32 := Scalar.muli arg2 c1_i32_33
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg15 : BitVec 32 := Scf.iv v77 c1_i32_37 k0_t2
  let c2_i32_102 : BitVec 32 := 2#32
  let v267 : BitVec 32 := Scalar.muli arg15 c2_i32_102
  let v268 : BitVec 32 := Scalar.addi v267 c0_i32_103
  let c512_i32_104 : BitVec 32 := 512#32
  let v269 : BitVec 32 := Scalar.muli v268 c512_i32_104
  let v270 : BitVec 32 := v269
  let v273 : Index := Scalar.indexCast v270
  let c0_109 : Index := 0#32
  ![0, v273.toNat, 0]
def k0_off6 (i : grid0.Coords) (k0_t2 : Fin (k0_t2_loop i).trips) (c0_i32_103 : BitVec 32) : Fin 2 → Nat :=
  let c0_i32_34 : BitVec 32 := 0#32
  let arg2 : BitVec 32 := BitVec.ofNat 32 (i 2).val
  let c1_i32_33 : BitVec 32 := 1#32
  let v72 : BitVec 32 := Scalar.muli arg2 c1_i32_33
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg15 : BitVec 32 := Scf.iv v77 c1_i32_37 k0_t2
  let c2_i32_102 : BitVec 32 := 2#32
  let v267 : BitVec 32 := Scalar.muli arg15 c2_i32_102
  let v268 : BitVec 32 := Scalar.addi v267 c0_i32_103
  let c512_i32_104 : BitVec 32 := 512#32
  let v269 : BitVec 32 := Scalar.muli v268 c512_i32_104
  let v270 : BitVec 32 := v269
  let v285 : Index := Scalar.indexCast v270
  let c0_112 : Index := 0#32
  ![v285.toNat, 0]
def k0_off7 (i : grid0.Coords) (k0_t2 : Fin (k0_t2_loop i).trips) (c0_i32_103 : BitVec 32) : Fin 3 → Nat :=
  let c1_118 : Index := 1#32
  let c0_i32_34 : BitVec 32 := 0#32
  let arg2 : BitVec 32 := BitVec.ofNat 32 (i 2).val
  let c1_i32_33 : BitVec 32 := 1#32
  let v72 : BitVec 32 := Scalar.muli arg2 c1_i32_33
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg15 : BitVec 32 := Scf.iv v77 c1_i32_37 k0_t2
  let c2_i32_102 : BitVec 32 := 2#32
  let v267 : BitVec 32 := Scalar.muli arg15 c2_i32_102
  let v268 : BitVec 32 := Scalar.addi v267 c0_i32_103
  let c512_i32_104 : BitVec 32 := 512#32
  let v269 : BitVec 32 := Scalar.muli v268 c512_i32_104
  let v270 : BitVec 32 := v269
  let v300 : Index := Scalar.indexCast v270
  let c0_119 : Index := 0#32
  ![1, v300.toNat, 0]
def k0_mult4 (i : grid0.Coords) (k0_t2 : Fin (k0_t2_loop i).trips) : BitVec 32 :=
  let c0_i32_34 : BitVec 32 := 0#32
  let arg2 : BitVec 32 := BitVec.ofNat 32 (i 2).val
  let c1_i32_33 : BitVec 32 := 1#32
  let v72 : BitVec 32 := Scalar.muli arg2 c1_i32_33
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg15 : BitVec 32 := Scf.iv v77 c1_i32_37 k0_t2
  let c2_i32_125 : BitVec 32 := 2#32
  let v325 : BitVec 32 := Scalar.muli arg15 c2_i32_125
  let c1_i32_126 : BitVec 32 := 1#32
  let v326 : BitVec 32 := Scalar.addi v325 c1_i32_126
  let c512_i32_127 : BitVec 32 := 512#32
  let v327 : BitVec 32 := Scalar.muli v326 c512_i32_127
  v327
def k0_mult5 (i : grid0.Coords) : BitVec 32 :=
  let arg2 : BitVec 32 := BitVec.ofNat 32 (i 2).val
  let c1024_i32 : BitVec 32 := 1024#32
  let v80 : BitVec 32 := Scalar.muli arg2 c1024_i32
  let c0_i32_38 : BitVec 32 := 0#32
  let v81 : BitVec 32 := Scalar.addi v80 c0_i32_38
  v81
def k0_off8 (i : grid0.Coords) (c0_i32_38 : BitVec 32) : Fin 3 → Nat :=
  let c0_42 : Index := 0#32
  let arg2 : BitVec 32 := BitVec.ofNat 32 (i 2).val
  let c1024_i32 : BitVec 32 := 1024#32
  let v80 : BitVec 32 := Scalar.muli arg2 c1024_i32
  let v81 : BitVec 32 := Scalar.addi v80 c0_i32_38
  let v82 : BitVec 32 := v81
  let v85 : Index := Scalar.indexCast v82
  let c0_43 : Index := 0#32
  ![0, v85.toNat, 0]
def k0_off9 (i : grid0.Coords) (c0_i32_38 : BitVec 32) : Fin 2 → Nat :=
  let arg2 : BitVec 32 := BitVec.ofNat 32 (i 2).val
  let c1024_i32 : BitVec 32 := 1024#32
  let v80 : BitVec 32 := Scalar.muli arg2 c1024_i32
  let v81 : BitVec 32 := Scalar.addi v80 c0_i32_38
  let v82 : BitVec 32 := v81
  let v102 : Index := Scalar.indexCast v82
  let c0_47 : Index := 0#32
  ![v102.toNat, 0]
def k0_off10 (i : grid0.Coords) (c0_i32_38 : BitVec 32) : Fin 3 → Nat :=
  let c1_53 : Index := 1#32
  let arg2 : BitVec 32 := BitVec.ofNat 32 (i 2).val
  let c1024_i32 : BitVec 32 := 1024#32
  let v80 : BitVec 32 := Scalar.muli arg2 c1024_i32
  let v81 : BitVec 32 := Scalar.addi v80 c0_i32_38
  let v82 : BitVec 32 := v81
  let v117 : Index := Scalar.indexCast v82
  let c0_54 : Index := 0#32
  ![1, v117.toNat, 0]
def k0_mult6 (i : grid0.Coords) : BitVec 32 :=
  let arg2 : BitVec 32 := BitVec.ofNat 32 (i 2).val
  let c1024_i32_61 : BitVec 32 := 1024#32
  let v147 : BitVec 32 := Scalar.muli arg2 c1024_i32_61
  let c512_i32 : BitVec 32 := 512#32
  let v148 : BitVec 32 := Scalar.addi v147 c512_i32
  v148
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S2x4096x6144 : Shape := ⟨3, ![2, 4096, 6144]⟩
abbrev S1x128 : Shape := ⟨2, ![1, 128]⟩
abbrev S1x256 : Shape := ⟨2, ![1, 256]⟩
abbrev S2x4096x1024 : Shape := ⟨3, ![2, 4096, 1024]⟩
abbrev S2x4096x4x2x128 : Shape := ⟨5, ![2, 4096, 4, 2, 128]⟩
abbrev S2x4x2x4096x128 : Shape := ⟨5, ![2, 4, 2, 4096, 128]⟩
abbrev S2x4096x4x256 : Shape := ⟨4, ![2, 4096, 4, 256]⟩
abbrev S2x4x4096x256 : Shape := ⟨4, ![2, 4, 4096, 256]⟩
abbrev S128 : Shape := ⟨1, ![128]⟩
abbrev S_ : Shape := ⟨0, ![]⟩
abbrev S4 : Shape := ⟨1, ![4]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S2x4x1x4096x128 : Shape := ⟨5, ![2, 4, 1, 4096, 128]⟩
abbrev S2x4x4096x128 : Shape := ⟨4, ![2, 4, 4096, 128]⟩
abbrev S2x4x4096x4096 : Shape := ⟨4, ![2, 4, 4096, 4096]⟩
abbrev S1x4x4096x4096 : Shape := ⟨4, ![1, 4, 4096, 4096]⟩
abbrev S2x4x4096 : Shape := ⟨3, ![2, 4, 4096]⟩
abbrev S2x4x4096x1 : Shape := ⟨4, ![2, 4, 4096, 1]⟩
abbrev S256 : Shape := ⟨1, ![256]⟩
abbrev S1x1x1x256 : Shape := ⟨4, ![1, 1, 1, 256]⟩
abbrev S8192x1024 : Shape := ⟨2, ![8192, 1024]⟩

abbrev nBuf : Space → Nat
  | .hbm => 150
  | .vmem => 0
  | .smem => 0
  | _ => 0

abbrev hbmTy0_0 (i : Nat) : BufTy := match i % 128 with
  | 0 => ⟨S2x4096x6144, .f32⟩
  | 1 => ⟨S1x128, .f32⟩
  | 2 => ⟨S1x128, .f32⟩
  | 3 => ⟨S1x128, .f32⟩
  | 4 => ⟨S1x128, .f32⟩
  | 5 => ⟨S1x256, .f32⟩
  | 6 => ⟨S2x4096x1024, .f32⟩
  | 7 => ⟨S2x4096x4x2x128, .f32⟩
  | 8 => ⟨S2x4x2x4096x128, .f32⟩
  | 9 => ⟨S2x4096x1024, .f32⟩
  | 10 => ⟨S2x4096x4x2x128, .f32⟩
  | 11 => ⟨S2x4x2x4096x128, .f32⟩
  | 12 => ⟨S2x4096x1024, .f32⟩
  | 13 => ⟨S2x4096x4x256, .f32⟩
  | 14 => ⟨S2x4x4096x256, .f32⟩
  | 15 => ⟨S128, .f32⟩
  | 16 => ⟨S128, .f32⟩
  | 17 => ⟨S128, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S4, .f32⟩
  | 31 => ⟨S_, .f32⟩
  | 32 => ⟨S4, .f32⟩
  | 33 => ⟨S4, .f32⟩
  | 34 => ⟨S_, .f32⟩
  | 35 => ⟨S4, .f32⟩
  | 36 => ⟨S4, .f32⟩
  | 37 => ⟨S_, .f32⟩
  | 38 => ⟨S4, .f32⟩
  | 39 => ⟨S4, .f32⟩
  | 40 => ⟨S_, .f32⟩
  | 41 => ⟨S4, .f32⟩
  | 42 => ⟨S4, .f32⟩
  | 43 => ⟨S4096, .i32⟩
  | 44 => ⟨S1x4096, .i32⟩
  | 45 => ⟨S4096x1, .i32⟩
  | 46 => ⟨S4096x4096, .i32⟩
  | 47 => ⟨S4096x4096, .i32⟩
  | 48 => ⟨S4096x4096, .i1⟩
  | 49 => ⟨S4x1x1, .f32⟩
  | 50 => ⟨S4x1x1, .f32⟩
  | 51 => ⟨S4096x1, .i32⟩
  | 52 => ⟨S1x4096, .i32⟩
  | 53 => ⟨S4096x4096, .i32⟩
  | 54 => ⟨S4096x4096, .i32⟩
  | 55 => ⟨S4096x4096, .i32⟩
  | 56 => ⟨S4096x4096, .f32⟩
  | 57 => ⟨S1x4096x4096, .f32⟩
  | 58 => ⟨S4x4096x4096, .f32⟩
  | 59 => ⟨S4x4096x4096, .f32⟩
  | 60 => ⟨S4x4096x4096, .f32⟩
  | 61 => ⟨S2x4x1x4096x128, .f32⟩
  | 62 => ⟨S2x4x4096x128, .f32⟩
  | 63 => ⟨S2x4x1x4096x128, .f32⟩
  | 64 => ⟨S2x4x4096x128, .f32⟩
  | 65 => ⟨S_, .f32⟩
  | 66 => ⟨S_, .f32⟩
  | 67 => ⟨S2x4x4096x128, .f32⟩
  | 68 => ⟨S2x4x4096x128, .f32⟩
  | 69 => ⟨S2x4x4096x4096, .f32⟩
  | 70 => ⟨S1x4x4096x4096, .f32⟩
  | 71 => ⟨S2x4x4096x4096, .f32⟩
  | 72 => ⟨S2x4x4096x4096, .f32⟩
  | 73 => ⟨S_, .f32⟩
  | 74 => ⟨S_, .f32⟩
  | 75 => ⟨S2x4x4096x4096, .i1⟩
  | 76 => ⟨S2x4x4096x4096, .f32⟩
  | 77 => ⟨S2x4x4096x4096, .f32⟩
  | 78 => ⟨S_, .f32⟩
  | 79 => ⟨S2x4x4096, .f32⟩
  | 80 => ⟨S_, .f32⟩
  | 81 => ⟨S2x4x4096, .f32⟩
  | 82 => ⟨S2x4x4096, .f32⟩
  | 83 => ⟨S2x4x4096x1, .f32⟩
  | 84 => ⟨S2x4x4096x4096, .f32⟩
  | 85 => ⟨S2x4x4096x4096, .f32⟩
  | 86 => ⟨S2x4x4096x4096, .f32⟩
  | 87 => ⟨S_, .f32⟩
  | 88 => ⟨S2x4x4096, .f32⟩
  | 89 => ⟨S2x4x4096x1, .f32⟩
  | 90 => ⟨S2x4x4096x4096, .f32⟩
  | 91 => ⟨S2x4x4096x4096, .f32⟩
  | 92 => ⟨S2x4x1x4096x128, .f32⟩
  | 93 => ⟨S2x4x4096x128, .f32⟩
  | 94 => ⟨S2x4x1x4096x128, .f32⟩
  | 95 => ⟨S2x4x4096x128, .f32⟩
  | 96 => ⟨S_, .f32⟩
  | 97 => ⟨S_, .f32⟩
  | 98 => ⟨S2x4x4096x128, .f32⟩
  | 99 => ⟨S2x4x4096x128, .f32⟩
  | 100 => ⟨S2x4x4096x4096, .f32⟩
  | 101 => ⟨S1x4x4096x4096, .f32⟩
  | 102 => ⟨S2x4x4096x4096, .f32⟩
  | 103 => ⟨S2x4x4096x4096, .f32⟩
  | 104 => ⟨S_, .f32⟩
  | 105 => ⟨S_, .f32⟩
  | 106 => ⟨S2x4x4096x4096, .i1⟩
  | 107 => ⟨S2x4x4096x4096, .f32⟩
  | 108 => ⟨S2x4x4096x4096, .f32⟩
  | 109 => ⟨S_, .f32⟩
  | 110 => ⟨S2x4x4096, .f32⟩
  | 111 => ⟨S_, .f32⟩
  | 112 => ⟨S2x4x4096, .f32⟩
  | 113 => ⟨S2x4x4096, .f32⟩
  | 114 => ⟨S2x4x4096x1, .f32⟩
  | 115 => ⟨S2x4x4096x4096, .f32⟩
  | 116 => ⟨S2x4x4096x4096, .f32⟩
  | 117 => ⟨S2x4x4096x4096, .f32⟩
  | 118 => ⟨S_, .f32⟩
  | 119 => ⟨S2x4x4096, .f32⟩
  | 120 => ⟨S2x4x4096x1, .f32⟩
  | 121 => ⟨S2x4x4096x4096, .f32⟩
  | 122 => ⟨S2x4x4096x4096, .f32⟩
  | 123 => ⟨S2x4x4096x4096, .f32⟩
  | 124 => ⟨S2x4x4096x4096, .f32⟩
  | 125 => ⟨S2x4x4096x4096, .f32⟩
  | 126 => ⟨S2x4x4096x256, .f32⟩
  | 127 => ⟨S256, .f32⟩
  | _ => ⟨S2x4096x6144, .f32⟩

abbrev hbmTy0_1 (i : Nat) : BufTy := match i % 128 with
  | 0 => ⟨S2x4x4096x256, .f32⟩
  | 1 => ⟨S_, .f32⟩
  | 2 => ⟨S2x4x4096, .f32⟩
  | 3 => ⟨S2x4x4096x1, .f32⟩
  | 4 => ⟨S_, .f32⟩
  | 5 => ⟨S2x4x4096x1, .f32⟩
  | 6 => ⟨S2x4x4096x1, .f32⟩
  | 7 => ⟨S_, .f32⟩
  | 8 => ⟨S2x4x4096x1, .f32⟩
  | 9 => ⟨S2x4x4096x1, .f32⟩
  | 10 => ⟨S2x4x4096x1, .f32⟩
  | 11 => ⟨S2x4x4096x256, .f32⟩
  | 12 => ⟨S2x4x4096x256, .f32⟩
  | 13 => ⟨S1x1x1x256, .f32⟩
  | 14 => ⟨S2x4x4096x256, .f32⟩
  | 15 => ⟨S2x4x4096x256, .f32⟩
  | 16 => ⟨S_, .f32⟩
  | 17 => ⟨S2x4x4096x256, .f32⟩
  | 18 => ⟨S2x4x4096x256, .f32⟩
  | 19 => ⟨S2x4096x4x256, .f32⟩
  | 20 => ⟨S8192x1024, .f32⟩
  | 21 => ⟨S8192x1024, .bf16⟩
  | _ => ⟨S2x4096x6144, .f32⟩

abbrev hbmTy (i : Nat) : BufTy := match i / 128 with
  | 0 => hbmTy0_0 i
  | 1 => hbmTy0_1 i
  | _ => ⟨S2x4096x6144, .f32⟩

abbrev bufTy : (tb : Table) → Fin (tcTables nBuf tb) → BufTy
  | .hbm, ⟨i, _⟩ => hbmTy i
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_16 : Ref sig .tc := ⟨.hbm, 129, rfl⟩
abbrev main_v100 : Ref sig .tc := ⟨.hbm, 130, rfl⟩
abbrev main_v101 : Ref sig .tc := ⟨.hbm, 131, rfl⟩
abbrev main_cst_17 : Ref sig .tc := ⟨.hbm, 132, rfl⟩
abbrev main_v102 : Ref sig .tc := ⟨.hbm, 133, rfl⟩
abbrev main_v103 : Ref sig .tc := ⟨.hbm, 134, rfl⟩
abbrev main_cst_18 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_19 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048 : Shape := ⟨2, ![1, 2048]⟩
abbrev S1x2048x6144 : Shape := ⟨3, ![1, 2048, 6144]⟩
abbrev S8192x2048 : Shape := ⟨2, ![8192, 2048]⟩
abbrev S2048 : Shape := ⟨1, ![2048]⟩
abbrev S2048x6144 : Shape := ⟨2, ![2048, 6144]⟩
abbrev S1x6144 : Shape := ⟨2, ![1, 6144]⟩
abbrev S_ : Shape := ⟨0, ![]⟩
abbrev S8192x6144 : Shape := ⟨2, ![8192, 6144]⟩
abbrev S1024x2048 : Shape := ⟨2, ![1024, 2048]⟩
abbrev S1x1024 : Shape := ⟨2, ![1, 1024]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 32
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x6144, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x6144, .f32⟩
  | .hbm, ⟨7, _⟩ => ⟨S1x6144, .i32⟩
  | .hbm, ⟨8, _⟩ => ⟨S_, .i32⟩
  | .hbm, ⟨9, _⟩ => ⟨S1x6144, .i32⟩
  | .hbm, ⟨10, _⟩ => ⟨S1x6144, .i1⟩
  | .hbm, ⟨11, _⟩ => ⟨S_, .i32⟩
  | .hbm, ⟨12, _⟩ => ⟨S1x6144, .i32⟩
  | .hbm, ⟨13, _⟩ => ⟨S1x6144, .i1⟩
  | .hbm, ⟨14, _⟩ => ⟨S_, .i32⟩
  | .hbm, ⟨15, _⟩ => ⟨S1x6144, .i32⟩
  | .hbm, ⟨16, _⟩ => ⟨S1x6144, .i1⟩
  | .hbm, ⟨17, _⟩ => ⟨S1x6144, .i1⟩
  | .hbm, ⟨18, _⟩ => ⟨S1x6144, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x6144, .f32⟩
  | .hbm, ⟨29, _⟩ => ⟨S1x6144, .f32⟩
  | .hbm, ⟨30, _⟩ => ⟨S1x6144, .f32⟩
  | .hbm, ⟨31, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024, .f32⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x4096x2048 : Shape := ⟨3, ![2, 4096, 2048]⟩
abbrev S1x2048 : Shape := ⟨2, ![1, 2048]⟩
abbrev S1x2048x6144 : Shape := ⟨3, ![1, 2048, 6144]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x6144 : Shape := ⟨2, ![2048, 6144]⟩
abbrev S2x4096x6144 : Shape := ⟨3, ![2, 4096, 6144]⟩
abbrev S6144 : Shape := ⟨1, ![6144]⟩
abbrev S8192x6144 : Shape := ⟨2, ![8192, 6144]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x6144, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x6144, .f32⟩
  | .hbm, ⟨21, _⟩ => ⟨S2x4096x6144, .f32⟩
  | .hbm, ⟨22, _⟩ => ⟨S6144, .i32⟩
  | .hbm, ⟨23, _⟩ => ⟨S_, .i32⟩
  | .hbm, ⟨24, _⟩ => ⟨S6144, .i32⟩
  | .hbm, ⟨25, _⟩ => ⟨S6144, .i1⟩
  | .hbm, ⟨26, _⟩ => ⟨S_, .i32⟩
  | .hbm, ⟨27, _⟩ => ⟨S6144, .i32⟩
  | .hbm, ⟨28, _⟩ => ⟨S6144, .i1⟩
  | .hbm, ⟨29, _⟩ => ⟨S_, .i32⟩
  | .hbm, ⟨30, _⟩ => ⟨S6144, .i32⟩
  | .hbm, ⟨31, _⟩ => ⟨S6144, .i1⟩
  | .hbm, ⟨32, _⟩ => ⟨S6144, .i1⟩
  | .hbm, ⟨33, _⟩ => ⟨S6144, .i1⟩
  | .hbm, ⟨34, _⟩ => ⟨S_, .f32⟩
  | .hbm, ⟨35, _⟩ => ⟨S_, .f32⟩
  | .hbm, ⟨36, _⟩ => ⟨S2x4096x6144, .f32⟩
  | .hbm, ⟨37, _⟩ => ⟨S2x4096x6144, .f32⟩
  | .hbm, ⟨38, _⟩ => ⟨S_, .f32⟩
  | .hbm, ⟨39, _⟩ => ⟨S_, .f32⟩
  | .hbm, ⟨40, _⟩ => ⟨S2x4096x6144, .f32⟩
  | .hbm, ⟨41, _⟩ => ⟨S2x4096x6144, .f32⟩
  | .hbm, ⟨42, _⟩ => ⟨S2x4096x6144, .i1⟩
  | .hbm, ⟨43, _⟩ => ⟨S2x4096x6144, .f32⟩
  | .hbm, ⟨44, _⟩ => ⟨S8192x6144, .f32⟩
  | .hbm, ⟨45, _⟩ => ⟨S8192x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel3.lean ====
abbrev S96 : Shape := ⟨1, ![96]⟩
abbrev S32 : Shape := ⟨1, ![32]⟩
abbrev S2 : Shape := ⟨1, ![2]⟩
abbrev S24576x2048 : Shape := ⟨2, ![24576, 2048]⟩
abbrev S32x2048x512 : Shape := ⟨3, ![32, 2048, 512]⟩
abbrev S32x512x2048 : Shape := ⟨3, ![32, 512, 2048]⟩
abbrev S768x2048 : Shape := ⟨2, ![768, 2048]⟩
abbrev S1 : Shape := ⟨1, ![1]⟩
abbrev S2x2048x512 : Shape := ⟨3, ![2, 2048, 512]⟩
abbrev S2x512x2048 : Shape := ⟨3, ![2, 512, 2048]⟩
abbrev S256x2048 : Shape := ⟨2, ![256, 2048]⟩
abbrev S2x3 : Shape := ⟨2, ![2, 3]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S256x128 : Shape := ⟨2, ![256, 128]⟩
abbrev S256x512 : Shape := ⟨2, ![256, 512]⟩

abbrev nBuf : Space → Nat
  | .hbm => 5
  | .vmem => 8
  | .smem => 3
  | _ => 0

abbrev bufTy : (tb : Table) → Fin (tcTables nBuf tb) → BufTy
  | .hbm, ⟨0, _⟩ => ⟨S24576x2048, .bf16⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S24576x2048, .bf16⟩
  | .local _ .vmem, ⟨0, _⟩ => ⟨S768x2048, .bf16⟩
  | .local _ .vmem, ⟨1, _⟩ => ⟨S768x2048, .bf16⟩
  | .local _ .vmem, ⟨2, _⟩ => ⟨S768x2048, .bf16⟩
  | .local _ .vmem, ⟨3, _⟩ => ⟨S768x2048, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S256x2048, .bf16⟩
  | .local _ .smem, ⟨0, _⟩ => ⟨S96, .i32⟩
  | .local _ .smem, ⟨1, _⟩ => ⟨S32, .i32⟩
  | .local _ .smem, ⟨2, _⟩ => ⟨S2, .i32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c3_i32 : BitVec 32 := 3#32
  let v1 : BitVec 32 := Scalar.muli arg0 c3_i32
  let c0_i32 : BitVec 32 := 0#32
  let v2 : BitVec 32 := Scalar.addi v1 c0_i32
  let v31 : Index := Scalar.indexCast v2
  ![v31.toNat]
def k0_off2 (i : grid0.Coords) : Fin 1 → Nat :=
  let arg0 : BitVec 32 := BitVec.ofNat 32 (i 0).val
  let c3_i32 : BitVec 32 := 3#32
  let v1 : BitVec 32 := Scalar.muli arg0 c3_i32
  let c0_i32 : BitVec 32 := 0#32
  let v2 : BitVec 32 := Scalar.addi v1 c0_i32
  let c1_i32_20 : BitVec 32 := 1#32
  let v44 : BitVec 32 := Scalar.subi v2 c1_i32_20
  let c0_i32_21 : BitVec 32 := 0#32
  let v45 : BitVec 32 := Scalar.maxsi v44 c0_i32_21
  let v46 : Index := Scalar.indexCast v45
  ![v46.toNat]
def k0_off3 (v181 : BitVec 32) : Fin 3 → Nat :=
  let c0_i32_116 : BitVec 32 := 0#32
  let c0_i32_117 : BitVec 32 := 0#32
  ![v181.toNat, 0, 0]
def k0_cond1 (i : grid0.Coords) (v3 : BitVec 32) : BitVec 1 :=
  let arg0 : BitVec 32 := BitVec.ofNat 32 (i 0).val
  let c3_i32 : BitVec 32 := 3#32
  let v1 : BitVec 32 := Scalar.muli arg0 c3_i32
  let c0_i32 : BitVec 32 := 0#32
  let v2 : BitVec 32 := Scalar.addi v1 c0_i32
  let v4 : BitVec 1 := Scalar.cmpi .slt v2 v3
  let v5 : BitVec 32 := Scalar.extui v4
  let c0_i32_0 : BitVec 32 := 0#32
  let v6 : BitVec 1 := Scalar.cmpi .ne v5 c0_i32_0
  v6

def k0_cond2 (i : grid0.Coords) (v32 : BitVec 32) (v47 : BitVec 32) : BitVec 1 :=
  let arg0 : BitVec 32 := BitVec.ofNat 32 (i 0).val
  let c3_i32 : BitVec 32 := 3#32
  let v1 : BitVec 32 := Scalar.muli arg0 c3_i32
  let c0_i32 : BitVec 32 := 0#32
  let v2 : BitVec 32 := Scalar.addi v1 c0_i32
  let c0_i32_19 : BitVec 32 := 0#32
  let v43 : BitVec 1 := Scalar.cmpi .eq v2 c0_i32_19
  let v48 : BitVec 1 := Scalar.cmpi .ne v32 v47
  let v49 : BitVec 1 := Scalar.ori v43 v48
  let v50 : BitVec 32 := Scalar.extui v49
  let c0_i32_22 : BitVec 32 := 0#32
  let v51 : BitVec 1 := Scalar.cmpi .ne v50 c0_i32_22
  v51

def k0_cond3 (v32 : BitVec 32) : BitVec 1 :=
  let c0_i32_89 : BitVec 32 := 0#32
  let v152 : BitVec 1 := Scalar.cmpi .eq v32 c0_i32_89
  let v153 : BitVec 32 := Scalar.extui v152
  let c0_i32_90 : BitVec 32 := 0#32
  let v154 : BitVec 1 := Scalar.cmpi .ne v153 c0_i32_90
  v154

def k0_cond4 (v0 : BitVec 32) : BitVec 1 :=
  let c0_i32_106 : BitVec 32 := 0#32
  let v175 : BitVec 1 := Scalar.cmpi .sgt v0 c0_i32_106
  let v176 : BitVec 32 := Scalar.extui v175
  let c0_i32_107 : BitVec 32 := 0#32
  let v177 : BitVec 1 := Scalar.cmpi .ne v176 c0_i32_107
  v177

def k0_off4 (v181 : BitVec 32) : Fin 3 → Nat :=
  let c0_i32_130 : BitVec 32 := 0#32
  let c0_i32_131 : BitVec 32 := 0#32
  ![v181.toNat, 0, 0]

def k0_chk1 (i : grid0.Coords) (v0 : BitVec 32) (v3 : BitVec 32) (v32 : BitVec 32) (v47 : BitVec 32) (v181 : BitVec 32) : Prop :=
  (∀ (k0_h1 : k0_cond1 i v3 = 1#1), ∀ (k0_h2 : k0_cond2 i v32 v47 = 1#1), ∀ (k0_h3 : k0_cond3 v32 = 1#1), ∀ (k0_h4 : k0_cond4 v0 = 1#1), ∀ a, (k0_off3 v181) a + S1x2048x512.size a ≤ S32x2048x512.size a) ∧
  (∀ (k0_h1 : k0_cond1 i v3 = 1#1), ∀ (k0_h2 : k0_cond2 i v32 v47 = 1#1), ∀ (k0_h3 : k0_cond3 v32 = 1#1), ∀ (k0_h4 : k0_cond4 v0 = 1#1), ∀ a, (k0_off4 v181) a + S1x512x2048.size a ≤ S32x512x2048.size a)
theorem k0_off3_inb : ∀ (i : grid0.Coords) (v0 : BitVec 32) (v3 : BitVec 32) (v32 : BitVec 32) (v47 : BitVec 32) (v181 : BitVec 32) (k0_hw1 : k0_chk1 i v0 v3 v32 v47 v181), ∀ (k0_h1 : k0_cond1 i v3 = 1#1), ∀ (k0_h2 : k0_cond2 i v32 v47 = 1#1), ∀ (k0_h3 : k0_cond3 v32 = 1#1), ∀ (k0_h4 : k0_cond4 v0 = 1#1), ∀ a, (k0_off3 v181) a + S1x2048x512.size a ≤ S32x2048x512.size a := fun i v0 v3 v32 v47 v181 k0_hw1 k0_h1 k0_h2 k0_h3 k0_h4 => k0_hw1.1 k0_h1 k0_h2 k0_h3 k0_h4
theorem k0_off4_inb : ∀ (i : grid0.Coords) (v0 : BitVec 32) (v3 : BitVec 32) (v32 : BitVec 32) (v47 : BitVec 32) (v181 : BitVec 32) (k0_hw1 : k0_chk1 i v0 v3 v32 v47 v181), ∀ (k0_h1 : k0_cond1 i v3 = 1#1), ∀ (k0_h2 : k0_cond2 i v32 v47 = 1#1), ∀ (k0_h3 : k0_cond3 v32 = 1#1), ∀ (k0_h4 : k0_cond4 v0 = 1#1), ∀ a, (k0_off4 v181) a + S1x512x2048.size a ≤ S32x512x2048.size a := fun i v0 v3 v32 v47 v181 k0_hw1 k0_h1 k0_h2 k0_h3 k0_h4 => k0_hw1.2 k0_h1 k0_h2 k0_h3 k0_h4

def k0_off5 (v181 : BitVec 32) : Fin 3 → Nat :=
  let c0_i32_116 : BitVec 32 := 0#32
  let c0_i32_117 : BitVec 32 := 0#32
  ![v181.toNat, 0, 0]
def k0_cond5 (v0 : BitVec 32) : BitVec 1 :=
  let c1_i32_108 : BitVec 32 := 1#32
  let v178 : BitVec 1 := Scalar.cmpi .sgt v0 c1_i32_108
  let v179 : BitVec 32 := Scalar.extui v178
  let c0_i32_109 : BitVec 32 := 0#32
  let v180 : BitVec 1 := Scalar.cmpi .ne v179 c0_i32_109
  v180

def k0_off6 (v181 : BitVec 32) : Fin 3 → Nat :=
  let c0_i32_130 : BitVec 32 := 0#32
  let c0_i32_131 : BitVec 32 := 0#32
  ![v181.toNat, 0, 0]

def k0_chk2 (i : grid0.Coords) (v0 : BitVec 32) (v3 : BitVec 32) (v32 : BitVec 32) (v47 : BitVec 32) (v181 : BitVec 32) : Prop :=
  (∀ (k0_h1 : k0_cond1 i v3 = 1#1), ∀ (k0_h2 : k0_cond2 i v32 v47 = 1#1), ∀ (k0_h3 : k0_cond3 v32 = 1#1), ∀ (k0_h5 : k0_cond5 v0 = 1#1), ∀ a, (k0_off5 v181) a + S1x2048x512.size a ≤ S32x2048x512.size a) ∧
  (∀ (k0_h1 : k0_cond1 i v3 = 1#1), ∀ (k0_h2 : k0_cond2 i v32 v47 = 1#1), ∀ (k0_h3 : k0_cond3 v32 = 1#1), ∀ (k0_h5 : k0_cond5 v0 = 1#1), ∀ a, (k0_off6 v181) a + S1x512x2048.size a ≤ S32x512x2048.size a)
theorem k0_off5_inb : ∀ (i : grid0.Coords) (v0 : BitVec 32) (v3 : BitVec 32) (v32 : BitVec 32) (v47 : BitVec 32) (v181 : BitVec 32) (k0_hw2 : k0_chk2 i v0 v3 v32 v47 v181), ∀ (k0_h1 : k0_cond1 i v3 = 1#1), ∀ (k0_h2 : k0_cond2 i v32 v47 = 1#1), ∀ (k0_h3 : k0_cond3 v32 = 1#1), ∀ (k0_h5 : k0_cond5 v0 = 1#1), ∀ a, (k0_off5 v181) a + S1x2048x512.size a ≤ S32x2048x512.size a := fun i v0 v3 v32 v47 v181 k0_hw2 k0_h1 k0_h2 k0_h3 k0_h5 => k0_hw2.1 k0_h1 k0_h2 k0_h3 k0_h5
theorem k0_off6_inb : ∀ (i : grid0.Coords) (v0 : BitVec 32) (v3 : BitVec 32) (v32 : BitVec 32) (v47 : BitVec 32) (v181 : BitVec 32) (k0_hw2 : k0_chk2 i v0 v3 v32 v47 v181), ∀ (k0_h1 : k0_cond1 i v3 = 1#1), ∀ (k0_h2 : k0_cond2 i v32 v47 = 1#1), ∀ (k0_h3 : k0_cond3 v32 = 1#1), ∀ (k0_h5 : k0_cond5 v0 = 1#1), ∀ a, (k0_off6 v181) a + S1x512x2048.size a ≤ S32x512x2048.size a := fun i v0 v3 v32 v47 v181 k0_hw2 k0_h1 k0_h2 k0_h3 k0_h5 => k0_hw2.2 k0_h1 k0_h2 k0_h3 k0_h5

def k0_off7 (v32 : BitVec 32) : Fin 1 → Nat :=
  let v155 : Index := Scalar.indexCast v32
  ![v155.toNat]

def k0_off8 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_91 : BitVec 32 := 0#32
  ![v42.toNat, 0]
def k0_off9 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_92 : BitVec 32 := 0#32
  let c0_i32_93 : BitVec 32 := 0#32
  ![v42.toNat, 0, 0]
def k0_off10 (v156 : BitVec 32) : Fin 3 → Nat :=
  let c0_i32_94 : BitVec 32 := 0#32
  let c0_i32_95 : BitVec 32 := 0#32
  ![v156.toNat, 0, 0]

def k0_off11 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_96 : BitVec 32 := 1#32
  ![v42.toNat, 1]
def k0_off12 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_97 : BitVec 32 := 0#32
  let c0_i32_98 : BitVec 32 := 0#32
  ![v42.toNat, 0, 0]
def k0_off13 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c2_i32_101 : BitVec 32 := 2#32
  ![v42.toNat, 2]
def k0_off14 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_102 : BitVec 32 := 0#32
  let c0_i32_103 : BitVec 32 := 0#32
  ![v42.toNat, 0, 0]

def k0_chk3 (i : grid0.Coords) (v3 : BitVec 32) (v32 : BitVec 32) (v47 : BitVec 32) : Prop :=
  (∀ (k0_h1 : k0_cond1 i v3 = 1#1), ∀ (k0_h2 : k0_cond2 i v32 v47 = 1#1), ∀ a, (k0_off7 v32) a + S1.size a ≤ S32.size a) ∧
  (∀ (k0_h1 : k0_cond1 i v3 = 1#1), ∀ (k0_h2 : k0_cond2 i v32 v47 = 1#1), ∀ a, (k0_off8 v32) a + S1x1.size a ≤ S2x3.size a) ∧
  (∀ (k0_h1 : k0_cond1 i v3 = 1#1), ∀ (k0_h2 : k0_cond2 i v32 v47 = 1#1), ∀ a, (k0_off9 v32) a + S1x2048x512.size a ≤ S2x2048x512.size a) ∧
  (∀ (k0_h1 : k0_cond1 i v3 = 1#1), ∀ (k0_h2 : k0_cond2 i v32 v47 = 1#1), ∀ a, (k0_off11 v32) a + S1x1.size a ≤ S2x3.size a) ∧
  (∀ (k0_h1 : k0_cond1 i v3 = 1#1), ∀ (k0_h2 : k0_cond2 i v32 v47 = 1#1), ∀ a, (k0_off12 v32) a + S1x2048x512.size a ≤ S2x2048x512.size a) ∧
  (∀ (k0_h1 : k0_cond1 i v3 = 1#1), ∀ (k0_h2 : k0_cond2 i v32 v47 = 1#1), ∀ a, (k0_off13 v32) a + S1x1.size a ≤ S2x3.size a) ∧
  (∀ (k0_h1 : k0_cond1 i v3 = 1#1), ∀ (k0_h2 : k0_cond2 i v32 v47 = 1#1), ∀ a, (k0_off14 v32) a + S1x512x2048.size a ≤ S2x512x2048.size a)
theorem k0_off7_inb : ∀ (i : grid0.Coords) (v3 : BitVec 32) (v32 : BitVec 32) (v47 : BitVec 32) (k0_hw3 : k0_chk3 i v3 v32 v47), ∀ (k0_h1 : k0_cond1 i v3 = 1#1), ∀ (k0_h2 : k0_cond2 i v32 v47 = 1#1), ∀ a, (k0_off7 v32) a + S1.size a ≤ S32.size a := fun i v3 v32 v47 k0_hw3 k0_h1 k0_h2 => k0_hw3.1 k0_h1 k0_h2
theorem k0_off8_inb : ∀ (i : grid0.Coords) (v3 : BitVec 32) (v32 : BitVec 32) (v47 : BitVec 32) (k0_hw3 : k0_chk3 i v3 v32 v47), ∀ (k0_h1 : k0_cond1 i v3 = 1#1), ∀ (k0_h2 : k0_cond2 i v32 v47 = 1#1), ∀ a, (k0_off8 v32) a + S1x1.size a ≤ S2x3.size a := fun i v3 v32 v47 k0_hw3 k0_h1 k0_h2 => k0_hw3.2.1 k0_h1 k0_h2
theorem k0_off9_inb : ∀ (i : grid0.Coords) (v3 : BitVec 32) (v32 : BitVec 32) (v47 : BitVec 32) (k0_hw3 : k0_chk3 i v3 v32 v47), ∀ (k0_h1 : k0_cond1 i v3 = 1#1), ∀ (k0_h2 : k0_cond2 i v32 v47 = 1#1), ∀ a, (k0_off9 v32) a + S1x2048x512.size a ≤ S2x2048x512.size a := fun i v3 v32 v47 k0_hw3 k0_h1 k0_h2 => k0_hw3.2.2.1 k0_h1 k0_h2
theorem k0_off11_inb : ∀ (i : grid0.Coords) (v3 : BitVec 32) (v32 : BitVec 32) (v47 : BitVec 32) (k0_hw3 : k0_chk3 i v3 v32 v47), ∀ (k0_h1 : k0_cond1 i v3 = 1#1), ∀ (k0_h2 : k0_cond2 i v32 v47 = 1#1), ∀ a, (k0_off11 v32) a + S1x1.size a ≤ S2x3.size a := fun i v3 v32 v47 k0_hw3 k0_h1 k0_h2 => k0_hw3.2.2.2.1 k0_h1 k0_h2
theorem k0_off12_inb : ∀ (i : grid0.Coords) (v3 : BitVec 32) (v32 : BitVec 32) (v47 : BitVec 32) (k0_hw3 : k0_chk3 i v3 v32 v47), ∀ (k0_h1 : k0_cond1 i v3 = 1#1), ∀ (k0_h2 : k0_cond2 i v32 v47 = 1#1), ∀ a, (k0_off12 v32) a + S1x2048x512.size a ≤ S2x2048x512.size a := fun i v3 v32 v47 k0_hw3 k0_h1 k0_h2 => k0_hw3.2.2.2.2.1 k0_h1 k0_h2
theorem k0_off13_inb : ∀ (i : grid0.Coords) (v3 : BitVec 32) (v32 : BitVec 32) (v47 : BitVec 32) (k0_hw3 : k0_chk3 i v3 v32 v47), ∀ (k0_h1 : k0_cond1 i v3 = 1#1), ∀ (k0_h2 : k0_cond2 i v32 v47 = 1#1), ∀ a, (k0_off13 v32) a + S1x1.size a ≤ S2x3.size a := fun i v3 v32 v47 k0_hw3 k0_h1 k0_h2 => k0_hw3.2.2.2.2.2.1 k0_h1 k0_h2
theorem k0_off14_inb : ∀ (i : grid0.Coords) (v3 : BitVec 32) (v32 : BitVec 32) (v47 : BitVec 32) (k0_hw3 : k0_chk3 i v3 v32 v47), ∀ (k0_h1 : k0_cond1 i v3 = 1#1), ∀ (k0_h2 : k0_cond2 i v32 v47 = 1#1), ∀ a, (k0_off14 v32) a + S1x512x2048.size a ≤ S2x512x2048.size a := fun i v3 v32 v47 k0_hw3 k0_h1 k0_h2 => k0_hw3.2.2.2.2.2.2 k0_h1 k0_h2

def k0_off15 (v156 : BitVec 32) : Fin 3 → Nat :=
  let c0_i32_104 : BitVec 32 := 0#32
  let c0_i32_105 : BitVec 32 := 0#32
  ![v156.toNat, 0, 0]

def k0_chk4 (i : grid0.Coords) (v3 : BitVec 32) (v32 : BitVec 32) (v47 : BitVec 32) (v156 : BitVec 32) : Prop :=
  (∀ (k0_h1 : k0_cond1 i v3 = 1#1), ∀ (k0_h2 : k0_cond2 i v32 v47 = 1#1), ∀ a, (k0_off10 v156) a + S1x2048x512.size a ≤ S32x2048x512.size a) ∧
  (∀ (k0_h1 : k0_cond1 i v3 = 1#1), ∀ (k0_h2 : k0_cond2 i v32 v47 = 1#1), ∀ a, (k0_off15 v156) a + S1x512x2048.size a ≤ S32x512x2048.size a)
theorem k0_off10_inb : ∀ (i : grid0.Coords) (v3 : BitVec 32) (v32 : BitVec 32) (v47 : BitVec 32) (v156 : BitVec 32) (k0_hw4 : k0_chk4 i v3 v32 v47 v156), ∀ (k0_h1 : k0_cond1 i v3 = 1#1), ∀ (k0_h2 : k0_cond2 i v32 v47 = 1#1), ∀ a, (k0_off10 v156) a + S1x2048x512.size a ≤ S32x2048x512.size a := fun i v3 v32 v47 v156 k0_hw4 k0_h1 k0_h2 => k0_hw4.1 k0_h1 k0_h2
theorem k0_off15_inb : ∀ (i : grid0.Coords) (v3 : BitVec 32) (v32 : BitVec 32) (v47 : BitVec 32) (v156 : BitVec 32) (k0_hw4 : k0_chk4 i v3 v32 v47 v156), ∀ (k0_h1 : k0_cond1 i v3 = 1#1), ∀ (k0_h2 : k0_cond2 i v32 v47 = 1#1), ∀ a, (k0_off15 v156) a + S1x512x2048.size a ≤ S32x512x2048.size a := fun i v3 v32 v47 v156 k0_hw4 k0_h1 k0_h2 => k0_hw4.2 k0_h1 k0_h2

def k0_off16 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v117 : Index := Scalar.indexCast v42
  let c0_74 : Index := 0#32
  let c0_75 : Index := 0#32
  ![v117.toNat, 0, 0]

def k0_off17 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v131 : Index := Scalar.indexCast v42
  let c0_79 : Index := 0#32
  let c0_80 : Index := 0#32
  ![v131.toNat, 0, 0]

def k0_chk5 (i : grid0.Coords) (v3 : BitVec 32) (v32 : BitVec 32) : Prop :=
  (∀ (k0_h1 : k0_cond1 i v3 = 1#1), ∀ a, (k0_off16 v32) a + S1x2048x512.size a ≤ S2x2048x512.size a) ∧
  (∀ (k0_h1 : k0_cond1 i v3 = 1#1), ∀ a, (k0_off17 v32) a + S1x512x2048.size a ≤ S2x512x2048.size a)
theorem k0_off16_inb : ∀ (i : grid0.Coords) (v3 : BitVec 32) (v32 : BitVec 32) (k0_hw5 : k0_chk5 i v3 v32), ∀ (k0_h1 : k0_cond1 i v3 = 1#1), ∀ a, (k0_off16 v32) a + S1x2048x512.size a ≤ S2x2048x512.size a := fun i v3 v32 k0_hw5 k0_h1 => k0_hw5.1 k0_h1
theorem k0_off17_inb : ∀ (i : grid0.Coords) (v3 : BitVec 32) (v32 : BitVec 32) (k0_hw5 : k0_chk5 i v3 v32), ∀ (k0_h1 : k0_cond1 i v3 = 1#1), ∀ a, (k0_off17 v32) a + S1x512x2048.size a ≤ S2x512x2048.size a := fun i v3 v32 k0_hw5 k0_h1 => k0_hw5.2 k0_h1

def k0_off18 (i : grid0.Coords) : Fin 1 → Nat :=
  let arg0 : BitVec 32 := BitVec.ofNat 32 (i 0).val
  let c3_i32 : BitVec 32 := 3#32
  let v1 : BitVec 32 := Scalar.muli arg0 c3_i32
  let c0_i32 : BitVec 32 := 0#32
  let v2 : BitVec 32 := Scalar.addi v1 c0_i32
  let c1_i32_86 : BitVec 32 := 1#32
  let v141 : BitVec 32 := Scalar.addi v2 c1_i32_86
  let c95_i32 : BitVec 32 := 95#32
  let v142 : BitVec 32 := Scalar.minsi v141 c95_i32
  let v143 : Index := Scalar.indexCast v142
  ![v143.toNat]
def k0_off19 (v32 : BitVec 32) : Fin 1 → Nat :=
  let c2_i32_89 : BitVec 32 := 2#32
  let v152 : BitVec 32 := Scalar.addi v32 c2_i32_89
  let v153 : Index := Scalar.indexCast v152
  ![v153.toNat]
def k0_cond6 (i : grid0.Coords) (v0 : BitVec 32) (v32 : BitVec 32) (v139 : BitVec 32) (v144 : BitVec 32) : BitVec 1 :=
  let arg0 : BitVec 32 := BitVec.ofNat 32 (i 0).val
  let c3_i32 : BitVec 32 := 3#32
  let v1 : BitVec 32 := Scalar.muli arg0 c3_i32
  let c0_i32 : BitVec 32 := 0#32
  let v2 : BitVec 32 := Scalar.addi v1 c0_i32
  let c1_i32_84 : BitVec 32 := 1#32
  let v138 : BitVec 32 := Scalar.addi v2 c1_i32_84
  let v140 : BitVec 1 := Scalar.cmpi .eq v138 v139
  let v145 : BitVec 1 := Scalar.cmpi .ne v32 v144
  let v146 : BitVec 1 := Scalar.ori v140 v145
  let c2_i32_87 : BitVec 32 := 2#32
  let v147 : BitVec 32 := Scalar.addi v32 c2_i32_87
  let v148 : BitVec 1 := Scalar.cmpi .slt v147 v0
  let v149 : BitVec 1 := Scalar.andi v146 v148
  let v150 : BitVec 32 := Scalar.extui v149
  let c0_i32_88 : BitVec 32 := 0#32
  let v151 : BitVec 1 := Scalar.cmpi .ne v150 c0_i32_88
  v151

def k0_off20 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_90 : BitVec 32 := 0#32
  ![v42.toNat, 0]
def k0_off21 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_91 : BitVec 32 := 0#32
  let c0_i32_92 : BitVec 32 := 0#32
  ![v42.toNat, 0, 0]
def k0_off22 (v154 : BitVec 32) : Fin 3 → Nat :=
  let c0_i32_93 : BitVec 32 := 0#32
  let c0_i32_94 : BitVec 32 := 0#32
  ![v154.toNat, 0, 0]

def k0_off23 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_95 : BitVec 32 := 1#32
  ![v42.toNat, 1]
def k0_off24 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_96 : BitVec 32 := 0#32
  let c0_i32_97 : BitVec 32 := 0#32
  ![v42.toNat, 0, 0]
def k0_off25 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c2_i32_100 : BitVec 32 := 2#32
  ![v42.toNat, 2]
def k0_off26 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_101 : BitVec 32 := 0#32
  let c0_i32_102 : BitVec 32 := 0#32
  ![v42.toNat, 0, 0]

def k0_chk6 (i : grid0.Coords) (v0 : BitVec 32) (v3 : BitVec 32) (v32 : BitVec 32) (v139 : BitVec 32) (v144 : BitVec 32) : Prop :=
  (∀ (k0_h1 : k0_cond1 i v3 = 1#1), ∀ (k0_h6 : k0_cond6 i v0 v32 v139 v144 = 1#1), ∀ a, (k0_off19 v32) a + S1.size a ≤ S32.size a) ∧
  (∀ (k0_h1 : k0_cond1 i v3 = 1#1), ∀ (k0_h6 : k0_cond6 i v0 v32 v139 v144 = 1#1), ∀ a, (k0_off20 v32) a + S1x1.size a ≤ S2x3.size a) ∧
  (∀ (k0_h1 : k0_cond1 i v3 = 1#1), ∀ (k0_h6 : k0_cond6 i v0 v32 v139 v144 = 1#1), ∀ a, (k0_off21 v32) a + S1x2048x512.size a ≤ S2x2048x512.size a) ∧
  (∀ (k0_h1 : k0_cond1 i v3 = 1#1), ∀ (k0_h6 : k0_cond6 i v0 v32 v139 v144 = 1#1), ∀ a, (k0_off23 v32) a + S1x1.size a ≤ S2x3.size a) ∧
  (∀ (k0_h1 : k0_cond1 i v3 = 1#1), ∀ (k0_h6 : k0_cond6 i v0 v32 v139 v144 = 1#1), ∀ a, (k0_off24 v32) a + S1x2048x512.size a ≤ S2x2048x512.size a) ∧
  (∀ (k0_h1 : k0_cond1 i v3 = 1#1), ∀ (k0_h6 : k0_cond6 i v0 v32 v139 v144 = 1#1), ∀ a, (k0_off25 v32) a + S1x1.size a ≤ S2x3.size a) ∧
  (∀ (k0_h1 : k0_cond1 i v3 = 1#1), ∀ (k0_h6 : k0_cond6 i v0 v32 v139 v144 = 1#1), ∀ a, (k0_off26 v32) a + S1x512x2048.size a ≤ S2x512x2048.size a)
theorem k0_off19_inb : ∀ (i : grid0.Coords) (v0 : BitVec 32) (v3 : BitVec 32) (v32 : BitVec 32) (v139 : BitVec 32) (v144 : BitVec 32) (k0_hw6 : k0_chk6 i v0 v3 v32 v139 v144), ∀ (k0_h1 : k0_cond1 i v3 = 1#1), ∀ (k0_h6 : k0_cond6 i v0 v32 v139 v144 = 1#1), ∀ a, (k0_off19 v32) a + S1.size a ≤ S32.size a := fun i v0 v3 v32 v139 v144 k0_hw6 k0_h1 k0_h6 => k0_hw6.1 k0_h1 k0_h6
theorem k0_off20_inb : ∀ (i : grid0.Coords) (v0 : BitVec 32) (v3 : BitVec 32) (v32 : BitVec 32) (v139 : BitVec 32) (v144 : BitVec 32) (k0_hw6 : k0_chk6 i v0 v3 v32 v139 v144), ∀ (k0_h1 : k0_cond1 i v3 = 1#1), ∀ (k0_h6 : k0_cond6 i v0 v32 v139 v144 = 1#1), ∀ a, (k0_off20 v32) a + S1x1.size a ≤ S2x3.size a := fun i v0 v3 v32 v139 v144 k0_hw6 k0_h1 k0_h6 => k0_hw6.2.1 k0_h1 k0_h6
theorem k0_off21_inb : ∀ (i : grid0.Coords) (v0 : BitVec 32) (v3 : BitVec 32) (v32 : BitVec 32) (v139 : BitVec 32) (v144 : BitVec 32) (k0_hw6 : k0_chk6 i v0 v3 v32 v139 v144), ∀ (k0_h1 : k0_cond1 i v3 = 1#1), ∀ (k0_h6 : k0_cond6 i v0 v32 v139 v144 = 1#1), ∀ a, (k0_off21 v32) a + S1x2048x512.size a ≤ S2x2048x512.size a := fun i v0 v3 v32 v139 v144 k0_hw6 k0_h1 k0_h6 => k0_hw6.2.2.1 k0_h1 k0_h6
theorem k0_off23_inb : ∀ (i : grid0.Coords) (v0 : BitVec 32) (v3 : BitVec 32) (v32 : BitVec 32) (v139 : BitVec 32) (v144 : BitVec 32) (k0_hw6 : k0_chk6 i v0 v3 v32 v139 v144), ∀ (k0_h1 : k0_cond1 i v3 = 1#1), ∀ (k0_h6 : k0_cond6 i v0 v32 v139 v144 = 1#1), ∀ a, (k0_off23 v32) a + S1x1.size a ≤ S2x3.size a := fun i v0 v3 v32 v139 v144 k0_hw6 k0_h1 k0_h6 => k0_hw6.2.2.2.1 k0_h1 k0_h6
theorem k0_off24_inb : ∀ (i : grid0.Coords) (v0 : BitVec 32) (v3 : BitVec 32) (v32 : BitVec 32) (v139 : BitVec 32) (v144 : BitVec 32) (k0_hw6 : k0_chk6 i v0 v3 v32 v139 v144), ∀ (k0_h1 : k0_cond1 i v3 = 1#1), ∀ (k0_h6 : k0_cond6 i v0 v32 v139 v144 = 1#1), ∀ a, (k0_off24 v32) a + S1x2048x512.size a ≤ S2x2048x512.size a := fun i v0 v3 v32 v139 v144 k0_hw6 k0_h1 k0_h6 => k0_hw6.2.2.2.2.1 k0_h1 k0_h6
theorem k0_off25_inb : ∀ (i : grid0.Coords) (v0 : BitVec 32) (v3 : BitVec 32) (v32 : BitVec 32) (v139 : BitVec 32) (v144 : BitVec 32) (k0_hw6 : k0_chk6 i v0 v3 v32 v139 v144), ∀ (k0_h1 : k0_cond1 i v3 = 1#1), ∀ (k0_h6 : k0_cond6 i v0 v32 v139 v144 = 1#1), ∀ a, (k0_off25 v32) a + S1x1.size a ≤ S2x3.size a := fun i v0 v3 v32 v139 v144 k0_hw6 k0_h1 k0_h6 => k0_hw6.2.2.2.2.2.1 k0_h1 k0_h6
theorem k0_off26_inb : ∀ (i : grid0.Coords) (v0 : BitVec 32) (v3 : BitVec 32) (v32 : BitVec 32) (v139 : BitVec 32) (v144 : BitVec 32) (k0_hw6 : k0_chk6 i v0 v3 v32 v139 v144), ∀ (k0_h1 : k0_cond1 i v3 = 1#1), ∀ (k0_h6 : k0_cond6 i v0 v32 v139 v144 = 1#1), ∀ a, (k0_off26 v32) a + S1x512x2048.size a ≤ S2x512x2048.size a := fun i v0 v3 v32 v139 v144 k0_hw6 k0_h1 k0_h6 => k0_hw6.2.2.2.2.2.2 k0_h1 k0_h6

def k0_off27 (v154 : BitVec 32) : Fin 3 → Nat :=
  let c0_i32_103 : BitVec 32 := 0#32
  let c0_i32_104 : BitVec 32 := 0#32
  ![v154.toNat, 0, 0]

def k0_chk7 (i : grid0.Coords) (v0 : BitVec 32) (v3 : BitVec 32) (v32 : BitVec 32) (v139 : BitVec 32) (v144 : BitVec 32) (v154 : BitVec 32) : Prop :=
  (∀ (k0_h1 : k0_cond1 i v3 = 1#1), ∀ (k0_h6 : k0_cond6 i v0 v32 v139 v144 = 1#1), ∀ a, (k0_off22 v154) a + S1x2048x512.size a ≤ S32x2048x512.size a) ∧
  (∀ (k0_h1 : k0_cond1 i v3 = 1#1), ∀ (k0_h6 : k0_cond6 i v0 v32 v139 v144 = 1#1), ∀ a, (k0_off27 v154) a + S1x512x2048.size a ≤ S32x512x2048.size a)
theorem k0_off22_inb : ∀ (i : grid0.Coords) (v0 : BitVec 32) (v3 : BitVec 32) (v32 : BitVec 32) (v139 : BitVec 32) (v144 : BitVec 32) (v154 : BitVec 32) (k0_hw7 : k0_chk7 i v0 v3 v32 v139 v144 v154), ∀ (k0_h1 : k0_cond1 i v3 = 1#1), ∀ (k0_h6 : k0_cond6 i v0 v32 v139 v144 = 1#1), ∀ a, (k0_off22 v154) a + S1x2048x512.size a ≤ S32x2048x512.size a := fun i v0 v3 v32 v139 v144 v154 k0_hw7 k0_h1 k0_h6 => k0_hw7.1 k0_h1 k0_h6
theorem k0_off27_inb : ∀ (i : grid0.Coords) (v0 : BitVec 32) (v3 : BitVec 32) (v32 : BitVec 32) (v139 : BitVec 32) (v144 : BitVec 32) (v154 : BitVec 32) (k0_hw7 : k0_chk7 i v0 v3 v32 v139 v144 v154), ∀ (k0_h1 : k0_cond1 i v3 = 1#1), ∀ (k0_h6 : k0_cond6 i v0 v32 v139 v144 = 1#1), ∀ a, (k0_off27 v154) a + S1x512x2048.size a ≤ S32x512x2048.size a := fun i v0 v3 v32 v139 v144 v154 k0_hw7 k0_h1 k0_h6 => k0_hw7.2 k0_h1 k0_h6

def k0_off28 (i : grid0.Coords) : Fin 1 → Nat :=
  let arg0 : BitVec 32 := BitVec.ofNat 32 (i 0).val
  let c3_i32_3 : BitVec 32 := 3#32
  let v11 : BitVec 32 := Scalar.muli arg0 c3_i32_3
  let c1_i32 : BitVec 32 := 1#32
  let v12 : BitVec 32 := Scalar.addi v11 c1_i32
  let v31 : Index := Scalar.indexCast v12
  ![v31.toNat]
def k0_off29 (i : grid0.Coords) : Fin 1 → Nat :=
  let arg0 : BitVec 32 := BitVec.ofNat 32 (i 0).val
  let c3_i32_3 : BitVec 32 := 3#32
  let v11 : BitVec 32 := Scalar.muli arg0 c3_i32_3
  let c1_i32 : BitVec 32 := 1#32
  let v12 : BitVec 32 := Scalar.addi v11 c1_i32
  let c1_i32_20 : BitVec 32 := 1#32
  let v44 : BitVec 32 := Scalar.subi v12 c1_i32_20
  let c0_i32_21 : BitVec 32 := 0#32
  let v45 : BitVec 32 := Scalar.maxsi v44 c0_i32_21
  let v46 : Index := Scalar.indexCast v45
  ![v46.toNat]
def k0_off30 (v181 : BitVec 32) : Fin 3 → Nat :=
  let c0_i32_116 : BitVec 32 := 0#32
  let c0_i32_117 : BitVec 32 := 0#32
  ![v181.toNat, 0, 0]
def k0_cond8 (i : grid0.Coords) (v13 : BitVec 32) : BitVec 1 :=
  let arg0 : BitVec 32 := BitVec.ofNat 32 (i 0).val
  let c3_i32_3 : BitVec 32 := 3#32
  let v11 : BitVec 32 := Scalar.muli arg0 c3_i32_3
  let c1_i32 : BitVec 32 := 1#32
  let v12 : BitVec 32 := Scalar.addi v11 c1_i32
  let v14 : BitVec 1 := Scalar.cmpi .slt v12 v13
  let v15 : BitVec 32 := Scalar.extui v14
  let c0_i32_5 : BitVec 32 := 0#32
  let v16 : BitVec 1 := Scalar.cmpi .ne v15 c0_i32_5
  v16

def k0_cond9 (i : grid0.Coords) (v32 : BitVec 32) (v47 : BitVec 32) : BitVec 1 :=
  let arg0 : BitVec 32 := BitVec.ofNat 32 (i 0).val
  let c3_i32_3 : BitVec 32 := 3#32
  let v11 : BitVec 32 := Scalar.muli arg0 c3_i32_3
  let c1_i32 : BitVec 32 := 1#32
  let v12 : BitVec 32 := Scalar.addi v11 c1_i32
  let c0_i32_19 : BitVec 32 := 0#32
  let v43 : BitVec 1 := Scalar.cmpi .eq v12 c0_i32_19
  let v48 : BitVec 1 := Scalar.cmpi .ne v32 v47
  let v49 : BitVec 1 := Scalar.ori v43 v48
  let v50 : BitVec 32 := Scalar.extui v49
  let c0_i32_22 : BitVec 32 := 0#32
  let v51 : BitVec 1 := Scalar.cmpi .ne v50 c0_i32_22
  v51

def k0_cond10 (v32 : BitVec 32) : BitVec 1 :=
  let c0_i32_89 : BitVec 32 := 0#32
  let v152 : BitVec 1 := Scalar.cmpi .eq v32 c0_i32_89
  let v153 : BitVec 32 := Scalar.extui v152
  let c0_i32_90 : BitVec 32 := 0#32
  let v154 : BitVec 1 := Scalar.cmpi .ne v153 c0_i32_90
  v154

def k0_cond11 (v0 : BitVec 32) : BitVec 1 :=
  let c0_i32_106 : BitVec 32 := 0#32
  let v175 : BitVec 1 := Scalar.cmpi .sgt v0 c0_i32_106
  let v176 : BitVec 32 := Scalar.extui v175
  let c0_i32_107 : BitVec 32 := 0#32
  let v177 : BitVec 1 := Scalar.cmpi .ne v176 c0_i32_107
  v177

def k0_off31 (v181 : BitVec 32) : Fin 3 → Nat :=
  let c0_i32_130 : BitVec 32 := 0#32
  let c0_i32_131 : BitVec 32 := 0#32
  ![v181.toNat, 0, 0]

def k0_chk8 (i : grid0.Coords) (v0 : BitVec 32) (v13 : BitVec 32) (v32 : BitVec 32) (v47 : BitVec 32) (v181 : BitVec 32) : Prop :=
  (∀ (k0_h8 : k0_cond8 i v13 = 1#1), ∀ (k0_h9 : k0_cond9 i v32 v47 = 1#1), ∀ (k0_h10 : k0_cond10 v32 = 1#1), ∀ (k0_h11 : k0_cond11 v0 = 1#1), ∀ a, (k0_off30 v181) a + S1x2048x512.size a ≤ S32x2048x512.size a) ∧
  (∀ (k0_h8 : k0_cond8 i v13 = 1#1), ∀ (k0_h9 : k0_cond9 i v32 v47 = 1#1), ∀ (k0_h10 : k0_cond10 v32 = 1#1), ∀ (k0_h11 : k0_cond11 v0 = 1#1), ∀ a, (k0_off31 v181) a + S1x512x2048.size a ≤ S32x512x2048.size a)
theorem k0_off30_inb : ∀ (i : grid0.Coords) (v0 : BitVec 32) (v13 : BitVec 32) (v32 : BitVec 32) (v47 : BitVec 32) (v181 : BitVec 32) (k0_hw8 : k0_chk8 i v0 v13 v32 v47 v181), ∀ (k0_h8 : k0_cond8 i v13 = 1#1), ∀ (k0_h9 : k0_cond9 i v32 v47 = 1#1), ∀ (k0_h10 : k0_cond10 v32 = 1#1), ∀ (k0_h11 : k0_cond11 v0 = 1#1), ∀ a, (k0_off30 v181) a + S1x2048x512.size a ≤ S32x2048x512.size a := fun i v0 v13 v32 v47 v181 k0_hw8 k0_h8 k0_h9 k0_h10 k0_h11 => k0_hw8.1 k0_h8 k0_h9 k0_h10 k0_h11
theorem k0_off31_inb : ∀ (i : grid0.Coords) (v0 : BitVec 32) (v13 : BitVec 32) (v32 : BitVec 32) (v47 : BitVec 32) (v181 : BitVec 32) (k0_hw8 : k0_chk8 i v0 v13 v32 v47 v181), ∀ (k0_h8 : k0_cond8 i v13 = 1#1), ∀ (k0_h9 : k0_cond9 i v32 v47 = 1#1), ∀ (k0_h10 : k0_cond10 v32 = 1#1), ∀ (k0_h11 : k0_cond11 v0 = 1#1), ∀ a, (k0_off31 v181) a + S1x512x2048.size a ≤ S32x512x2048.size a := fun i v0 v13 v32 v47 v181 k0_hw8 k0_h8 k0_h9 k0_h10 k0_h11 => k0_hw8.2 k0_h8 k0_h9 k0_h10 k0_h11

def k0_off32 (v181 : BitVec 32) : Fin 3 → Nat :=
  let c0_i32_116 : BitVec 32 := 0#32
  let c0_i32_117 : BitVec 32 := 0#32
  ![v181.toNat, 0, 0]
def k0_cond12 (v0 : BitVec 32) : BitVec 1 :=
  let c1_i32_108 : BitVec 32 := 1#32
  let v178 : BitVec 1 := Scalar.cmpi .sgt v0 c1_i32_108
  let v179 : BitVec 32 := Scalar.extui v178
  let c0_i32_109 : BitVec 32 := 0#32
  let v180 : BitVec 1 := Scalar.cmpi .ne v179 c0_i32_109
  v180

def k0_off33 (v181 : BitVec 32) : Fin 3 → Nat :=
  let c0_i32_130 : BitVec 32 := 0#32
  let c0_i32_131 : BitVec 32 := 0#32
  ![v181.toNat, 0, 0]

def k0_chk9 (i : grid0.Coords) (v0 : BitVec 32) (v13 : BitVec 32) (v32 : BitVec 32) (v47 : BitVec 32) (v181 : BitVec 32) : Prop :=
  (∀ (k0_h8 : k0_cond8 i v13 = 1#1), ∀ (k0_h9 : k0_cond9 i v32 v47 = 1#1), ∀ (k0_h10 : k0_cond10 v32 = 1#1), ∀ (k0_h12 : k0_cond12 v0 = 1#1), ∀ a, (k0_off32 v181) a + S1x2048x512.size a ≤ S32x2048x512.size a) ∧
  (∀ (k0_h8 : k0_cond8 i v13 = 1#1), ∀ (k0_h9 : k0_cond9 i v32 v47 = 1#1), ∀ (k0_h10 : k0_cond10 v32 = 1#1), ∀ (k0_h12 : k0_cond12 v0 = 1#1), ∀ a, (k0_off33 v181) a + S1x512x2048.size a ≤ S32x512x2048.size a)
theorem k0_off32_inb : ∀ (i : grid0.Coords) (v0 : BitVec 32) (v13 : BitVec 32) (v32 : BitVec 32) (v47 : BitVec 32) (v181 : BitVec 32) (k0_hw9 : k0_chk9 i v0 v13 v32 v47 v181), ∀ (k0_h8 : k0_cond8 i v13 = 1#1), ∀ (k0_h9 : k0_cond9 i v32 v47 = 1#1), ∀ (k0_h10 : k0_cond10 v32 = 1#1), ∀ (k0_h12 : k0_cond12 v0 = 1#1), ∀ a, (k0_off32 v181) a + S1x2048x512.size a ≤ S32x2048x512.size a := fun i v0 v13 v32 v47 v181 k0_hw9 k0_h8 k0_h9 k0_h10 k0_h12 => k0_hw9.1 k0_h8 k0_h9 k0_h10 k0_h12
theorem k0_off33_inb : ∀ (i : grid0.Coords) (v0 : BitVec 32) (v13 : BitVec 32) (v32 : BitVec 32) (v47 : BitVec 32) (v181 : BitVec 32) (k0_hw9 : k0_chk9 i v0 v13 v32 v47 v181), ∀ (k0_h8 : k0_cond8 i v13 = 1#1), ∀ (k0_h9 : k0_cond9 i v32 v47 = 1#1), ∀ (k0_h10 : k0_cond10 v32 = 1#1), ∀ (k0_h12 : k0_cond12 v0 = 1#1), ∀ a, (k0_off33 v181) a + S1x512x2048.size a ≤ S32x512x2048.size a := fun i v0 v13 v32 v47 v181 k0_hw9 k0_h8 k0_h9 k0_h10 k0_h12 => k0_hw9.2 k0_h8 k0_h9 k0_h10 k0_h12

def k0_off34 (v32 : BitVec 32) : Fin 1 → Nat :=
  let v155 : Index := Scalar.indexCast v32
  ![v155.toNat]

def k0_off35 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_91 : BitVec 32 := 0#32
  ![v42.toNat, 0]
def k0_off36 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_92 : BitVec 32 := 0#32
  let c0_i32_93 : BitVec 32 := 0#32
  ![v42.toNat, 0, 0]
def k0_off37 (v156 : BitVec 32) : Fin 3 → Nat :=
  let c0_i32_94 : BitVec 32 := 0#32
  let c0_i32_95 : BitVec 32 := 0#32
  ![v156.toNat, 0, 0]

def k0_off38 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_96 : BitVec 32 := 1#32
  ![v42.toNat, 1]
def k0_off39 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_97 : BitVec 32 := 0#32
  let c0_i32_98 : BitVec 32 := 0#32
  ![v42.toNat, 0, 0]
def k0_off40 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c2_i32_101 : BitVec 32 := 2#32
  ![v42.toNat, 2]
def k0_off41 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_102 : BitVec 32 := 0#32
  let c0_i32_103 : BitVec 32 := 0#32
  ![v42.toNat, 0, 0]

def k0_chk10 (i : grid0.Coords) (v13 : BitVec 32) (v32 : BitVec 32) (v47 : BitVec 32) : Prop :=
  (∀ (k0_h8 : k0_cond8 i v13 = 1#1), ∀ (k0_h9 : k0_cond9 i v32 v47 = 1#1), ∀ a, (k0_off34 v32) a + S1.size a ≤ S32.size a) ∧
  (∀ (k0_h8 : k0_cond8 i v13 = 1#1), ∀ (k0_h9 : k0_cond9 i v32 v47 = 1#1), ∀ a, (k0_off35 v32) a + S1x1.size a ≤ S2x3.size a) ∧
  (∀ (k0_h8 : k0_cond8 i v13 = 1#1), ∀ (k0_h9 : k0_cond9 i v32 v47 = 1#1), ∀ a, (k0_off36 v32) a + S1x2048x512.size a ≤ S2x2048x512.size a) ∧
  (∀ (k0_h8 : k0_cond8 i v13 = 1#1), ∀ (k0_h9 : k0_cond9 i v32 v47 = 1#1), ∀ a, (k0_off38 v32) a + S1x1.size a ≤ S2x3.size a) ∧
  (∀ (k0_h8 : k0_cond8 i v13 = 1#1), ∀ (k0_h9 : k0_cond9 i v32 v47 = 1#1), ∀ a, (k0_off39 v32) a + S1x2048x512.size a ≤ S2x2048x512.size a) ∧
  (∀ (k0_h8 : k0_cond8 i v13 = 1#1), ∀ (k0_h9 : k0_cond9 i v32 v47 = 1#1), ∀ a, (k0_off40 v32) a + S1x1.size a ≤ S2x3.size a) ∧
  (∀ (k0_h8 : k0_cond8 i v13 = 1#1), ∀ (k0_h9 : k0_cond9 i v32 v47 = 1#1), ∀ a, (k0_off41 v32) a + S1x512x2048.size a ≤ S2x512x2048.size a)
theorem k0_off34_inb : ∀ (i : grid0.Coords) (v13 : BitVec 32) (v32 : BitVec 32) (v47 : BitVec 32) (k0_hw10 : k0_chk10 i v13 v32 v47), ∀ (k0_h8 : k0_cond8 i v13 = 1#1), ∀ (k0_h9 : k0_cond9 i v32 v47 = 1#1), ∀ a, (k0_off34 v32) a + S1.size a ≤ S32.size a := fun i v13 v32 v47 k0_hw10 k0_h8 k0_h9 => k0_hw10.1 k0_h8 k0_h9
theorem k0_off35_inb : ∀ (i : grid0.Coords) (v13 : BitVec 32) (v32 : BitVec 32) (v47 : BitVec 32) (k0_hw10 : k0_chk10 i v13 v32 v47), ∀ (k0_h8 : k0_cond8 i v13 = 1#1), ∀ (k0_h9 : k0_cond9 i v32 v47 = 1#1), ∀ a, (k0_off35 v32) a + S1x1.size a ≤ S2x3.size a := fun i v13 v32 v47 k0_hw10 k0_h8 k0_h9 => k0_hw10.2.1 k0_h8 k0_h9
theorem k0_off36_inb : ∀ (i : grid0.Coords) (v13 : BitVec 32) (v32 : BitVec 32) (v47 : BitVec 32) (k0_hw10 : k0_chk10 i v13 v32 v47), ∀ (k0_h8 : k0_cond8 i v13 = 1#1), ∀ (k0_h9 : k0_cond9 i v32 v47 = 1#1), ∀ a, (k0_off36 v32) a + S1x2048x512.size a ≤ S2x2048x512.size a := fun i v13 v32 v47 k0_hw10 k0_h8 k0_h9 => k0_hw10.2.2.1 k0_h8 k0_h9
theorem k0_off38_inb : ∀ (i : grid0.Coords) (v13 : BitVec 32) (v32 : BitVec 32) (v47 : BitVec 32) (k0_hw10 : k0_chk10 i v13 v32 v47), ∀ (k0_h8 : k0_cond8 i v13 = 1#1), ∀ (k0_h9 : k0_cond9 i v32 v47 = 1#1), ∀ a, (k0_off38 v32) a + S1x1.size a ≤ S2x3.size a := fun i v13 v32 v47 k0_hw10 k0_h8 k0_h9 => k0_hw10.2.2.2.1 k0_h8 k0_h9
theorem k0_off39_inb : ∀ (i : grid0.Coords) (v13 : BitVec 32) (v32 : BitVec 32) (v47 : BitVec 32) (k0_hw10 : k0_chk10 i v13 v32 v47), ∀ (k0_h8 : k0_cond8 i v13 = 1#1), ∀ (k0_h9 : k0_cond9 i v32 v47 = 1#1), ∀ a, (k0_off39 v32) a + S1x2048x512.size a ≤ S2x2048x512.size a := fun i v13 v32 v47 k0_hw10 k0_h8 k0_h9 => k0_hw10.2.2.2.2.1 k0_h8 k0_h9
theorem k0_off40_inb : ∀ (i : grid0.Coords) (v13 : BitVec 32) (v32 : BitVec 32) (v47 : BitVec 32) (k0_hw10 : k0_chk10 i v13 v32 v47), ∀ (k0_h8 : k0_cond8 i v13 = 1#1), ∀ (k0_h9 : k0_cond9 i v32 v47 = 1#1), ∀ a, (k0_off40 v32) a + S1x1.size a ≤ S2x3.size a := fun i v13 v32 v47 k0_hw10 k0_h8 k0_h9 => k0_hw10.2.2.2.2.2.1 k0_h8 k0_h9
theorem k0_off41_inb : ∀ (i : grid0.Coords) (v13 : BitVec 32) (v32 : BitVec 32) (v47 : BitVec 32) (k0_hw10 : k0_chk10 i v13 v32 v47), ∀ (k0_h8 : k0_cond8 i v13 = 1#1), ∀ (k0_h9 : k0_cond9 i v32 v47 = 1#1), ∀ a, (k0_off41 v32) a + S1x512x2048.size a ≤ S2x512x2048.size a := fun i v13 v32 v47 k0_hw10 k0_h8 k0_h9 => k0_hw10.2.2.2.2.2.2 k0_h8 k0_h9

def k0_off42 (v156 : BitVec 32) : Fin 3 → Nat :=
  let c0_i32_104 : BitVec 32 := 0#32
  let c0_i32_105 : BitVec 32 := 0#32
  ![v156.toNat, 0, 0]

def k0_chk11 (i : grid0.Coords) (v13 : BitVec 32) (v32 : BitVec 32) (v47 : BitVec 32) (v156 : BitVec 32) : Prop :=
  (∀ (k0_h8 : k0_cond8 i v13 = 1#1), ∀ (k0_h9 : k0_cond9 i v32 v47 = 1#1), ∀ a, (k0_off37 v156) a + S1x2048x512.size a ≤ S32x2048x512.size a) ∧
  (∀ (k0_h8 : k0_cond8 i v13 = 1#1), ∀ (k0_h9 : k0_cond9 i v32 v47 = 1#1), ∀ a, (k0_off42 v156) a + S1x512x2048.size a ≤ S32x512x2048.size a)
theorem k0_off37_inb : ∀ (i : grid0.Coords) (v13 : BitVec 32) (v32 : BitVec 32) (v47 : BitVec 32) (v156 : BitVec 32) (k0_hw11 : k0_chk11 i v13 v32 v47 v156), ∀ (k0_h8 : k0_cond8 i v13 = 1#1), ∀ (k0_h9 : k0_cond9 i v32 v47 = 1#1), ∀ a, (k0_off37 v156) a + S1x2048x512.size a ≤ S32x2048x512.size a := fun i v13 v32 v47 v156 k0_hw11 k0_h8 k0_h9 => k0_hw11.1 k0_h8 k0_h9
theorem k0_off42_inb : ∀ (i : grid0.Coords) (v13 : BitVec 32) (v32 : BitVec 32) (v47 : BitVec 32) (v156 : BitVec 32) (k0_hw11 : k0_chk11 i v13 v32 v47 v156), ∀ (k0_h8 : k0_cond8 i v13 = 1#1), ∀ (k0_h9 : k0_cond9 i v32 v47 = 1#1), ∀ a, (k0_off42 v156) a + S1x512x2048.size a ≤ S32x512x2048.size a := fun i v13 v32 v47 v156 k0_hw11 k0_h8 k0_h9 => k0_hw11.2 k0_h8 k0_h9

def k0_off43 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v117 : Index := Scalar.indexCast v42
  let c0_74 : Index := 0#32
  let c0_75 : Index := 0#32
  ![v117.toNat, 0, 0]

def k0_off44 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v131 : Index := Scalar.indexCast v42
  let c0_79 : Index := 0#32
  let c0_80 : Index := 0#32
  ![v131.toNat, 0, 0]

def k0_chk12 (i : grid0.Coords) (v13 : BitVec 32) (v32 : BitVec 32) : Prop :=
  (∀ (k0_h8 : k0_cond8 i v13 = 1#1), ∀ a, (k0_off43 v32) a + S1x2048x512.size a ≤ S2x2048x512.size a) ∧
  (∀ (k0_h8 : k0_cond8 i v13 = 1#1), ∀ a, (k0_off44 v32) a + S1x512x2048.size a ≤ S2x512x2048.size a)
theorem k0_off43_inb : ∀ (i : grid0.Coords) (v13 : BitVec 32) (v32 : BitVec 32) (k0_hw12 : k0_chk12 i v13 v32), ∀ (k0_h8 : k0_cond8 i v13 = 1#1), ∀ a, (k0_off43 v32) a + S1x2048x512.size a ≤ S2x2048x512.size a := fun i v13 v32 k0_hw12 k0_h8 => k0_hw12.1 k0_h8
theorem k0_off44_inb : ∀ (i : grid0.Coords) (v13 : BitVec 32) (v32 : BitVec 32) (k0_hw12 : k0_chk12 i v13 v32), ∀ (k0_h8 : k0_cond8 i v13 = 1#1), ∀ a, (k0_off44 v32) a + S1x512x2048.size a ≤ S2x512x2048.size a := fun i v13 v32 k0_hw12 k0_h8 => k0_hw12.2 k0_h8

def k0_off45 (i : grid0.Coords) : Fin 1 → Nat :=
  let arg0 : BitVec 32 := BitVec.ofNat 32 (i 0).val
  let c3_i32_3 : BitVec 32 := 3#32
  let v11 : BitVec 32 := Scalar.muli arg0 c3_i32_3
  let c1_i32 : BitVec 32 := 1#32
  let v12 : BitVec 32 := Scalar.addi v11 c1_i32
  let c1_i32_86 : BitVec 32 := 1#32
  let v141 : BitVec 32 := Scalar.addi v12 c1_i32_86
  let c95_i32 : BitVec 32 := 95#32
  let v142 : BitVec 32 := Scalar.minsi v141 c95_i32
  let v143 : Index := Scalar.indexCast v142
  ![v143.toNat]
def k0_off46 (v32 : BitVec 32) : Fin 1 → Nat :=
  let c2_i32_89 : BitVec 32 := 2#32
  let v152 : BitVec 32 := Scalar.addi v32 c2_i32_89
  let v153 : Index := Scalar.indexCast v152
  ![v153.toNat]
def k0_cond13 (i : grid0.Coords) (v0 : BitVec 32) (v32 : BitVec 32) (v139 : BitVec 32) (v144 : BitVec 32) : BitVec 1 :=
  let arg0 : BitVec 32 := BitVec.ofNat 32 (i 0).val
  let c3_i32_3 : BitVec 32 := 3#32
  let v11 : BitVec 32 := Scalar.muli arg0 c3_i32_3
  let c1_i32 : BitVec 32 := 1#32
  let v12 : BitVec 32 := Scalar.addi v11 c1_i32
  let c1_i32_84 : BitVec 32 := 1#32
  let v138 : BitVec 32 := Scalar.addi v12 c1_i32_84
  let v140 : BitVec 1 := Scalar.cmpi .eq v138 v139
  let v145 : BitVec 1 := Scalar.cmpi .ne v32 v144
  let v146 : BitVec 1 := Scalar.ori v140 v145
  let c2_i32_87 : BitVec 32 := 2#32
  let v147 : BitVec 32 := Scalar.addi v32 c2_i32_87
  let v148 : BitVec 1 := Scalar.cmpi .slt v147 v0
  let v149 : BitVec 1 := Scalar.andi v146 v148
  let v150 : BitVec 32 := Scalar.extui v149
  let c0_i32_88 : BitVec 32 := 0#32
  let v151 : BitVec 1 := Scalar.cmpi .ne v150 c0_i32_88
  v151

def k0_off47 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_90 : BitVec 32 := 0#32
  ![v42.toNat, 0]
def k0_off48 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_91 : BitVec 32 := 0#32
  let c0_i32_92 : BitVec 32 := 0#32
  ![v42.toNat, 0, 0]
def k0_off49 (v154 : BitVec 32) : Fin 3 → Nat :=
  let c0_i32_93 : BitVec 32 := 0#32
  let c0_i32_94 : BitVec 32 := 0#32
  ![v154.toNat, 0, 0]

def k0_off50 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_95 : BitVec 32 := 1#32
  ![v42.toNat, 1]
def k0_off51 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_96 : BitVec 32 := 0#32
  let c0_i32_97 : BitVec 32 := 0#32
  ![v42.toNat, 0, 0]
def k0_off52 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c2_i32_100 : BitVec 32 := 2#32
  ![v42.toNat, 2]
def k0_off53 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_101 : BitVec 32 := 0#32
  let c0_i32_102 : BitVec 32 := 0#32
  ![v42.toNat, 0, 0]

def k0_chk13 (i : grid0.Coords) (v0 : BitVec 32) (v13 : BitVec 32) (v32 : BitVec 32) (v139 : BitVec 32) (v144 : BitVec 32) : Prop :=
  (∀ (k0_h8 : k0_cond8 i v13 = 1#1), ∀ (k0_h13 : k0_cond13 i v0 v32 v139 v144 = 1#1), ∀ a, (k0_off46 v32) a + S1.size a ≤ S32.size a) ∧
  (∀ (k0_h8 : k0_cond8 i v13 = 1#1), ∀ (k0_h13 : k0_cond13 i v0 v32 v139 v144 = 1#1), ∀ a, (k0_off47 v32) a + S1x1.size a ≤ S2x3.size a) ∧
  (∀ (k0_h8 : k0_cond8 i v13 = 1#1), ∀ (k0_h13 : k0_cond13 i v0 v32 v139 v144 = 1#1), ∀ a, (k0_off48 v32) a + S1x2048x512.size a ≤ S2x2048x512.size a) ∧
  (∀ (k0_h8 : k0_cond8 i v13 = 1#1), ∀ (k0_h13 : k0_cond13 i v0 v32 v139 v144 = 1#1), ∀ a, (k0_off50 v32) a + S1x1.size a ≤ S2x3.size a) ∧
  (∀ (k0_h8 : k0_cond8 i v13 = 1#1), ∀ (k0_h13 : k0_cond13 i v0 v32 v139 v144 = 1#1), ∀ a, (k0_off51 v32) a + S1x2048x512.size a ≤ S2x2048x512.size a) ∧
  (∀ (k0_h8 : k0_cond8 i v13 = 1#1), ∀ (k0_h13 : k0_cond13 i v0 v32 v139 v144 = 1#1), ∀ a, (k0_off52 v32) a + S1x1.size a ≤ S2x3.size a) ∧
  (∀ (k0_h8 : k0_cond8 i v13 = 1#1), ∀ (k0_h13 : k0_cond13 i v0 v32 v139 v144 = 1#1), ∀ a, (k0_off53 v32) a + S1x512x2048.size a ≤ S2x512x2048.size a)
theorem k0_off46_inb : ∀ (i : grid0.Coords) (v0 : BitVec 32) (v13 : BitVec 32) (v32 : BitVec 32) (v139 : BitVec 32) (v144 : BitVec 32) (k0_hw13 : k0_chk13 i v0 v13 v32 v139 v144), ∀ (k0_h8 : k0_cond8 i v13 = 1#1), ∀ (k0_h13 : k0_cond13 i v0 v32 v139 v144 = 1#1), ∀ a, (k0_off46 v32) a + S1.size a ≤ S32.size a := fun i v0 v13 v32 v139 v144 k0_hw13 k0_h8 k0_h13 => k0_hw13.1 k0_h8 k0_h13
theorem k0_off47_inb : ∀ (i : grid0.Coords) (v0 : BitVec 32) (v13 : BitVec 32) (v32 : BitVec 32) (v139 : BitVec 32) (v144 : BitVec 32) (k0_hw13 : k0_chk13 i v0 v13 v32 v139 v144), ∀ (k0_h8 : k0_cond8 i v13 = 1#1), ∀ (k0_h13 : k0_cond13 i v0 v32 v139 v144 = 1#1), ∀ a, (k0_off47 v32) a + S1x1.size a ≤ S2x3.size a := fun i v0 v13 v32 v139 v144 k0_hw13 k0_h8 k0_h13 => k0_hw13.2.1 k0_h8 k0_h13
theorem k0_off48_inb : ∀ (i : grid0.Coords) (v0 : BitVec 32) (v13 : BitVec 32) (v32 : BitVec 32) (v139 : BitVec 32) (v144 : BitVec 32) (k0_hw13 : k0_chk13 i v0 v13 v32 v139 v144), ∀ (k0_h8 : k0_cond8 i v13 = 1#1), ∀ (k0_h13 : k0_cond13 i v0 v32 v139 v144 = 1#1), ∀ a, (k0_off48 v32) a + S1x2048x512.size a ≤ S2x2048x512.size a := fun i v0 v13 v32 v139 v144 k0_hw13 k0_h8 k0_h13 => k0_hw13.2.2.1 k0_h8 k0_h13
theorem k0_off50_inb : ∀ (i : grid0.Coords) (v0 : BitVec 32) (v13 : BitVec 32) (v32 : BitVec 32) (v139 : BitVec 32) (v144 : BitVec 32) (k0_hw13 : k0_chk13 i v0 v13 v32 v139 v144), ∀ (k0_h8 : k0_cond8 i v13 = 1#1), ∀ (k0_h13 : k0_cond13 i v0 v32 v139 v144 = 1#1), ∀ a, (k0_off50 v32) a + S1x1.size a ≤ S2x3.size a := fun i v0 v13 v32 v139 v144 k0_hw13 k0_h8 k0_h13 => k0_hw13.2.2.2.1 k0_h8 k0_h13
theorem k0_off51_inb : ∀ (i : grid0.Coords) (v0 : BitVec 32) (v13 : BitVec 32) (v32 : BitVec 32) (v139 : BitVec 32) (v144 : BitVec 32) (k0_hw13 : k0_chk13 i v0 v13 v32 v139 v144), ∀ (k0_h8 : k0_cond8 i v13 = 1#1), ∀ (k0_h13 : k0_cond13 i v0 v32 v139 v144 = 1#1), ∀ a, (k0_off51 v32) a + S1x2048x512.size a ≤ S2x2048x512.size a := fun i v0 v13 v32 v139 v144 k0_hw13 k0_h8 k0_h13 => k0_hw13.2.2.2.2.1 k0_h8 k0_h13
theorem k0_off52_inb : ∀ (i : grid0.Coords) (v0 : BitVec 32) (v13 : BitVec 32) (v32 : BitVec 32) (v139 : BitVec 32) (v144 : BitVec 32) (k0_hw13 : k0_chk13 i v0 v13 v32 v139 v144), ∀ (k0_h8 : k0_cond8 i v13 = 1#1), ∀ (k0_h13 : k0_cond13 i v0 v32 v139 v144 = 1#1), ∀ a, (k0_off52 v32) a + S1x1.size a ≤ S2x3.size a := fun i v0 v13 v32 v139 v144 k0_hw13 k0_h8 k0_h13 => k0_hw13.2.2.2.2.2.1 k0_h8 k0_h13
theorem k0_off53_inb : ∀ (i : grid0.Coords) (v0 : BitVec 32) (v13 : BitVec 32) (v32 : BitVec 32) (v139 : BitVec 32) (v144 : BitVec 32) (k0_hw13 : k0_chk13 i v0 v13 v32 v139 v144), ∀ (k0_h8 : k0_cond8 i v13 = 1#1), ∀ (k0_h13 : k0_cond13 i v0 v32 v139 v144 = 1#1), ∀ a, (k0_off53 v32) a + S1x512x2048.size a ≤ S2x512x2048.size a := fun i v0 v13 v32 v139 v144 k0_hw13 k0_h8 k0_h13 => k0_hw13.2.2.2.2.2.2 k0_h8 k0_h13

def k0_off54 (v154 : BitVec 32) : Fin 3 → Nat :=
  let c0_i32_103 : BitVec 32 := 0#32
  let c0_i32_104 : BitVec 32 := 0#32
  ![v154.toNat, 0, 0]

def k0_chk14 (i : grid0.Coords) (v0 : BitVec 32) (v13 : BitVec 32) (v32 : BitVec 32) (v139 : BitVec 32) (v144 : BitVec 32) (v154 : BitVec 32) : Prop :=
  (∀ (k0_h8 : k0_cond8 i v13 = 1#1), ∀ (k0_h13 : k0_cond13 i v0 v32 v139 v144 = 1#1), ∀ a, (k0_off49 v154) a + S1x2048x512.size a ≤ S32x2048x512.size a) ∧
  (∀ (k0_h8 : k0_cond8 i v13 = 1#1), ∀ (k0_h13 : k0_cond13 i v0 v32 v139 v144 = 1#1), ∀ a, (k0_off54 v154) a + S1x512x2048.size a ≤ S32x512x2048.size a)
theorem k0_off49_inb : ∀ (i : grid0.Coords) (v0 : BitVec 32) (v13 : BitVec 32) (v32 : BitVec 32) (v139 : BitVec 32) (v144 : BitVec 32) (v154 : BitVec 32) (k0_hw14 : k0_chk14 i v0 v13 v32 v139 v144 v154), ∀ (k0_h8 : k0_cond8 i v13 = 1#1), ∀ (k0_h13 : k0_cond13 i v0 v32 v139 v144 = 1#1), ∀ a, (k0_off49 v154) a + S1x2048x512.size a ≤ S32x2048x512.size a := fun i v0 v13 v32 v139 v144 v154 k0_hw14 k0_h8 k0_h13 => k0_hw14.1 k0_h8 k0_h13
theorem k0_off54_inb : ∀ (i : grid0.Coords) (v0 : BitVec 32) (v13 : BitVec 32) (v32 : BitVec 32) (v139 : BitVec 32) (v144 : BitVec 32) (v154 : BitVec 32) (k0_hw14 : k0_chk14 i v0 v13 v32 v139 v144 v154), ∀ (k0_h8 : k0_cond8 i v13 = 1#1), ∀ (k0_h13 : k0_cond13 i v0 v32 v139 v144 = 1#1), ∀ a, (k0_off54 v154) a + S1x512x2048.size a ≤ S32x512x2048.size a := fun i v0 v13 v32 v139 v144 v154 k0_hw14 k0_h8 k0_h13 => k0_hw14.2 k0_h8 k0_h13

def k0_off55 (i : grid0.Coords) : Fin 1 → Nat :=
  let arg0 : BitVec 32 := BitVec.ofNat 32 (i 0).val
  let c3_i32_8 : BitVec 32 := 3#32
  let v21 : BitVec 32 := Scalar.muli arg0 c3_i32_8
  let c2_i32 : BitVec 32 := 2#32
  let v22 : BitVec 32 := Scalar.addi v21 c2_i32
  let v31 : Index := Scalar.indexCast v22
  ![v31.toNat]
def k0_off56 (i : grid0.Coords) : Fin 1 → Nat :=
  let arg0 : BitVec 32 := BitVec.ofNat 32 (i 0).val
  let c3_i32_8 : BitVec 32 := 3#32
  let v21 : BitVec 32 := Scalar.muli arg0 c3_i32_8
  let c2_i32 : BitVec 32 := 2#32
  let v22 : BitVec 32 := Scalar.addi v21 c2_i32
  let c1_i32_20 : BitVec 32 := 1#32
  let v44 : BitVec 32 := Scalar.subi v22 c1_i32_20
  let c0_i32_21 : BitVec 32 := 0#32
  let v45 : BitVec 32 := Scalar.maxsi v44 c0_i32_21
  let v46 : Index := Scalar.indexCast v45
  ![v46.toNat]
def k0_off57 (v181 : BitVec 32) : Fin 3 → Nat :=
  let c0_i32_116 : BitVec 32 := 0#32
  let c0_i32_117 : BitVec 32 := 0#32
  ![v181.toNat, 0, 0]
def k0_cond15 (i : grid0.Coords) (v23 : BitVec 32) : BitVec 1 :=
  let arg0 : BitVec 32 := BitVec.ofNat 32 (i 0).val
  let c3_i32_8 : BitVec 32 := 3#32
  let v21 : BitVec 32 := Scalar.muli arg0 c3_i32_8
  let c2_i32 : BitVec 32 := 2#32
  let v22 : BitVec 32 := Scalar.addi v21 c2_i32
  let v24 : BitVec 1 := Scalar.cmpi .slt v22 v23
  let v25 : BitVec 32 := Scalar.extui v24
  let c0_i32_10 : BitVec 32 := 0#32
  let v26 : BitVec 1 := Scalar.cmpi .ne v25 c0_i32_10
  v26

def k0_cond16 (i : grid0.Coords) (v32 : BitVec 32) (v47 : BitVec 32) : BitVec 1 :=
  let arg0 : BitVec 32 := BitVec.ofNat 32 (i 0).val
  let c3_i32_8 : BitVec 32 := 3#32
  let v21 : BitVec 32 := Scalar.muli arg0 c3_i32_8
  let c2_i32 : BitVec 32 := 2#32
  let v22 : BitVec 32 := Scalar.addi v21 c2_i32
  let c0_i32_19 : BitVec 32 := 0#32
  let v43 : BitVec 1 := Scalar.cmpi .eq v22 c0_i32_19
  let v48 : BitVec 1 := Scalar.cmpi .ne v32 v47
  let v49 : BitVec 1 := Scalar.ori v43 v48
  let v50 : BitVec 32 := Scalar.extui v49
  let c0_i32_22 : BitVec 32 := 0#32
  let v51 : BitVec 1 := Scalar.cmpi .ne v50 c0_i32_22
  v51

def k0_cond17 (v32 : BitVec 32) : BitVec 1 :=
  let c0_i32_89 : BitVec 32 := 0#32
  let v152 : BitVec 1 := Scalar.cmpi .eq v32 c0_i32_89
  let v153 : BitVec 32 := Scalar.extui v152
  let c0_i32_90 : BitVec 32 := 0#32
  let v154 : BitVec 1 := Scalar.cmpi .ne v153 c0_i32_90
  v154

def k0_cond18 (v0 : BitVec 32) : BitVec 1 :=
  let c0_i32_106 : BitVec 32 := 0#32
  let v175 : BitVec 1 := Scalar.cmpi .sgt v0 c0_i32_106
  let v176 : BitVec 32 := Scalar.extui v175
  let c0_i32_107 : BitVec 32 := 0#32
  let v177 : BitVec 1 := Scalar.cmpi .ne v176 c0_i32_107
  v177

def k0_off58 (v181 : BitVec 32) : Fin 3 → Nat :=
  let c0_i32_130 : BitVec 32 := 0#32
  let c0_i32_131 : BitVec 32 := 0#32
  ![v181.toNat, 0, 0]

def k0_chk15 (i : grid0.Coords) (v0 : BitVec 32) (v23 : BitVec 32) (v32 : BitVec 32) (v47 : BitVec 32) (v181 : BitVec 32) : Prop :=
  (∀ (k0_h15 : k0_cond15 i v23 = 1#1), ∀ (k0_h16 : k0_cond16 i v32 v47 = 1#1), ∀ (k0_h17 : k0_cond17 v32 = 1#1), ∀ (k0_h18 : k0_cond18 v0 = 1#1), ∀ a, (k0_off57 v181) a + S1x2048x512.size a ≤ S32x2048x512.size a) ∧
  (∀ (k0_h15 : k0_cond15 i v23 = 1#1), ∀ (k0_h16 : k0_cond16 i v32 v47 = 1#1), ∀ (k0_h17 : k0_cond17 v32 = 1#1), ∀ (k0_h18 : k0_cond18 v0 = 1#1), ∀ a, (k0_off58 v181) a + S1x512x2048.size a ≤ S32x512x2048.size a)
theorem k0_off57_inb : ∀ (i : grid0.Coords) (v0 : BitVec 32) (v23 : BitVec 32) (v32 : BitVec 32) (v47 : BitVec 32) (v181 : BitVec 32) (k0_hw15 : k0_chk15 i v0 v23 v32 v47 v181), ∀ (k0_h15 : k0_cond15 i v23 = 1#1), ∀ (k0_h16 : k0_cond16 i v32 v47 = 1#1), ∀ (k0_h17 : k0_cond17 v32 = 1#1), ∀ (k0_h18 : k0_cond18 v0 = 1#1), ∀ a, (k0_off57 v181) a + S1x2048x512.size a ≤ S32x2048x512.size a := fun i v0 v23 v32 v47 v181 k0_hw15 k0_h15 k0_h16 k0_h17 k0_h18 => k0_hw15.1 k0_h15 k0_h16 k0_h17 k0_h18
theorem k0_off58_inb : ∀ (i : grid0.Coords) (v0 : BitVec 32) (v23 : BitVec 32) (v32 : BitVec 32) (v47 : BitVec 32) (v181 : BitVec 32) (k0_hw15 : k0_chk15 i v0 v23 v32 v47 v181), ∀ (k0_h15 : k0_cond15 i v23 = 1#1), ∀ (k0_h16 : k0_cond16 i v32 v47 = 1#1), ∀ (k0_h17 : k0_cond17 v32 = 1#1), ∀ (k0_h18 : k0_cond18 v0 = 1#1), ∀ a, (k0_off58 v181) a + S1x512x2048.size a ≤ S32x512x2048.size a := fun i v0 v23 v32 v47 v181 k0_hw15 k0_h15 k0_h16 k0_h17 k0_h18 => k0_hw15.2 k0_h15 k0_h16 k0_h17 k0_h18

def k0_off59 (v181 : BitVec 32) : Fin 3 → Nat :=
  let c0_i32_116 : BitVec 32 := 0#32
  let c0_i32_117 : BitVec 32 := 0#32
  ![v181.toNat, 0, 0]
def k0_cond19 (v0 : BitVec 32) : BitVec 1 :=
  let c1_i32_108 : BitVec 32 := 1#32
  let v178 : BitVec 1 := Scalar.cmpi .sgt v0 c1_i32_108
  let v179 : BitVec 32 := Scalar.extui v178
  let c0_i32_109 : BitVec 32 := 0#32
  let v180 : BitVec 1 := Scalar.cmpi .ne v179 c0_i32_109
  v180

def k0_off60 (v181 : BitVec 32) : Fin 3 → Nat :=
  let c0_i32_130 : BitVec 32 := 0#32
  let c0_i32_131 : BitVec 32 := 0#32
  ![v181.toNat, 0, 0]

def k0_chk16 (i : grid0.Coords) (v0 : BitVec 32) (v23 : BitVec 32) (v32 : BitVec 32) (v47 : BitVec 32) (v181 : BitVec 32) : Prop :=
  (∀ (k0_h15 : k0_cond15 i v23 = 1#1), ∀ (k0_h16 : k0_cond16 i v32 v47 = 1#1), ∀ (k0_h17 : k0_cond17 v32 = 1#1), ∀ (k0_h19 : k0_cond19 v0 = 1#1), ∀ a, (k0_off59 v181) a + S1x2048x512.size a ≤ S32x2048x512.size a) ∧
  (∀ (k0_h15 : k0_cond15 i v23 = 1#1), ∀ (k0_h16 : k0_cond16 i v32 v47 = 1#1), ∀ (k0_h17 : k0_cond17 v32 = 1#1), ∀ (k0_h19 : k0_cond19 v0 = 1#1), ∀ a, (k0_off60 v181) a + S1x512x2048.size a ≤ S32x512x2048.size a)
theorem k0_off59_inb : ∀ (i : grid0.Coords) (v0 : BitVec 32) (v23 : BitVec 32) (v32 : BitVec 32) (v47 : BitVec 32) (v181 : BitVec 32) (k0_hw16 : k0_chk16 i v0 v23 v32 v47 v181), ∀ (k0_h15 : k0_cond15 i v23 = 1#1), ∀ (k0_h16 : k0_cond16 i v32 v47 = 1#1), ∀ (k0_h17 : k0_cond17 v32 = 1#1), ∀ (k0_h19 : k0_cond19 v0 = 1#1), ∀ a, (k0_off59 v181) a + S1x2048x512.size a ≤ S32x2048x512.size a := fun i v0 v23 v32 v47 v181 k0_hw16 k0_h15 k0_h16 k0_h17 k0_h19 => k0_hw16.1 k0_h15 k0_h16 k0_h17 k0_h19
theorem k0_off60_inb : ∀ (i : grid0.Coords) (v0 : BitVec 32) (v23 : BitVec 32) (v32 : BitVec 32) (v47 : BitVec 32) (v181 : BitVec 32) (k0_hw16 : k0_chk16 i v0 v23 v32 v47 v181), ∀ (k0_h15 : k0_cond15 i v23 = 1#1), ∀ (k0_h16 : k0_cond16 i v32 v47 = 1#1), ∀ (k0_h17 : k0_cond17 v32 = 1#1), ∀ (k0_h19 : k0_cond19 v0 = 1#1), ∀ a, (k0_off60 v181) a + S1x512x2048.size a ≤ S32x512x2048.size a := fun i v0 v23 v32 v47 v181 k0_hw16 k0_h15 k0_h16 k0_h17 k0_h19 => k0_hw16.2 k0_h15 k0_h16 k0_h17 k0_h19

def k0_off61 (v32 : BitVec 32) : Fin 1 → Nat :=
  let v155 : Index := Scalar.indexCast v32
  ![v155.toNat]

def k0_off62 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_91 : BitVec 32 := 0#32
  ![v42.toNat, 0]
def k0_off63 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_92 : BitVec 32 := 0#32
  let c0_i32_93 : BitVec 32 := 0#32
  ![v42.toNat, 0, 0]
def k0_off64 (v156 : BitVec 32) : Fin 3 → Nat :=
  let c0_i32_94 : BitVec 32 := 0#32
  let c0_i32_95 : BitVec 32 := 0#32
  ![v156.toNat, 0, 0]

def k0_off65 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_96 : BitVec 32 := 1#32
  ![v42.toNat, 1]
def k0_off66 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_97 : BitVec 32 := 0#32
  let c0_i32_98 : BitVec 32 := 0#32
  ![v42.toNat, 0, 0]
def k0_off67 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c2_i32_101 : BitVec 32 := 2#32
  ![v42.toNat, 2]
def k0_off68 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_102 : BitVec 32 := 0#32
  let c0_i32_103 : BitVec 32 := 0#32
  ![v42.toNat, 0, 0]

def k0_chk17 (i : grid0.Coords) (v23 : BitVec 32) (v32 : BitVec 32) (v47 : BitVec 32) : Prop :=
  (∀ (k0_h15 : k0_cond15 i v23 = 1#1), ∀ (k0_h16 : k0_cond16 i v32 v47 = 1#1), ∀ a, (k0_off61 v32) a + S1.size a ≤ S32.size a) ∧
  (∀ (k0_h15 : k0_cond15 i v23 = 1#1), ∀ (k0_h16 : k0_cond16 i v32 v47 = 1#1), ∀ a, (k0_off62 v32) a + S1x1.size a ≤ S2x3.size a) ∧
  (∀ (k0_h15 : k0_cond15 i v23 = 1#1), ∀ (k0_h16 : k0_cond16 i v32 v47 = 1#1), ∀ a, (k0_off63 v32) a + S1x2048x512.size a ≤ S2x2048x512.size a) ∧
  (∀ (k0_h15 : k0_cond15 i v23 = 1#1), ∀ (k0_h16 : k0_cond16 i v32 v47 = 1#1), ∀ a, (k0_off65 v32) a + S1x1.size a ≤ S2x3.size a) ∧
  (∀ (k0_h15 : k0_cond15 i v23 = 1#1), ∀ (k0_h16 : k0_cond16 i v32 v47 = 1#1), ∀ a, (k0_off66 v32) a + S1x2048x512.size a ≤ S2x2048x512.size a) ∧
  (∀ (k0_h15 : k0_cond15 i v23 = 1#1), ∀ (k0_h16 : k0_cond16 i v32 v47 = 1#1), ∀ a, (k0_off67 v32) a + S1x1.size a ≤ S2x3.size a) ∧
  (∀ (k0_h15 : k0_cond15 i v23 = 1#1), ∀ (k0_h16 : k0_cond16 i v32 v47 = 1#1), ∀ a, (k0_off68 v32) a + S1x512x2048.size a ≤ S2x512x2048.size a)
theorem k0_off61_inb : ∀ (i : grid0.Coords) (v23 : BitVec 32) (v32 : BitVec 32) (v47 : BitVec 32) (k0_hw17 : k0_chk17 i v23 v32 v47), ∀ (k0_h15 : k0_cond15 i v23 = 1#1), ∀ (k0_h16 : k0_cond16 i v32 v47 = 1#1), ∀ a, (k0_off61 v32) a + S1.size a ≤ S32.size a := fun i v23 v32 v47 k0_hw17 k0_h15 k0_h16 => k0_hw17.1 k0_h15 k0_h16
theorem k0_off62_inb : ∀ (i : grid0.Coords) (v23 : BitVec 32) (v32 : BitVec 32) (v47 : BitVec 32) (k0_hw17 : k0_chk17 i v23 v32 v47), ∀ (k0_h15 : k0_cond15 i v23 = 1#1), ∀ (k0_h16 : k0_cond16 i v32 v47 = 1#1), ∀ a, (k0_off62 v32) a + S1x1.size a ≤ S2x3.size a := fun i v23 v32 v47 k0_hw17 k0_h15 k0_h16 => k0_hw17.2.1 k0_h15 k0_h16
theorem k0_off63_inb : ∀ (i : grid0.Coords) (v23 : BitVec 32) (v32 : BitVec 32) (v47 : BitVec 32) (k0_hw17 : k0_chk17 i v23 v32 v47), ∀ (k0_h15 : k0_cond15 i v23 = 1#1), ∀ (k0_h16 : k0_cond16 i v32 v47 = 1#1), ∀ a, (k0_off63 v32) a + S1x2048x512.size a ≤ S2x2048x512.size a := fun i v23 v32 v47 k0_hw17 k0_h15 k0_h16 => k0_hw17.2.2.1 k0_h15 k0_h16
theorem k0_off65_inb : ∀ (i : grid0.Coords) (v23 : BitVec 32) (v32 : BitVec 32) (v47 : BitVec 32) (k0_hw17 : k0_chk17 i v23 v32 v47), ∀ (k0_h15 : k0_cond15 i v23 = 1#1), ∀ (k0_h16 : k0_cond16 i v32 v47 = 1#1), ∀ a, (k0_off65 v32) a + S1x1.size a ≤ S2x3.size a := fun i v23 v32 v47 k0_hw17 k0_h15 k0_h16 => k0_hw17.2.2.2.1 k0_h15 k0_h16
theorem k0_off66_inb : ∀ (i : grid0.Coords) (v23 : BitVec 32) (v32 : BitVec 32) (v47 : BitVec 32) (k0_hw17 : k0_chk17 i v23 v32 v47), ∀ (k0_h15 : k0_cond15 i v23 = 1#1), ∀ (k0_h16 : k0_cond16 i v32 v47 = 1#1), ∀ a, (k0_off66 v32) a + S1x2048x512.size a ≤ S2x2048x512.size a := fun i v23 v32 v47 k0_hw17 k0_h15 k0_h16 => k0_hw17.2.2.2.2.1 k0_h15 k0_h16
theorem k0_off67_inb : ∀ (i : grid0.Coords) (v23 : BitVec 32) (v32 : BitVec 32) (v47 : BitVec 32) (k0_hw17 : k0_chk17 i v23 v32 v47), ∀ (k0_h15 : k0_cond15 i v23 = 1#1), ∀ (k0_h16 : k0_cond16 i v32 v47 = 1#1), ∀ a, (k0_off67 v32) a + S1x1.size a ≤ S2x3.size a := fun i v23 v32 v47 k0_hw17 k0_h15 k0_h16 => k0_hw17.2.2.2.2.2.1 k0_h15 k0_h16
theorem k0_off68_inb : ∀ (i : grid0.Coords) (v23 : BitVec 32) (v32 : BitVec 32) (v47 : BitVec 32) (k0_hw17 : k0_chk17 i v23 v32 v47), ∀ (k0_h15 : k0_cond15 i v23 = 1#1), ∀ (k0_h16 : k0_cond16 i v32 v47 = 1#1), ∀ a, (k0_off68 v32) a + S1x512x2048.size a ≤ S2x512x2048.size a := fun i v23 v32 v47 k0_hw17 k0_h15 k0_h16 => k0_hw17.2.2.2.2.2.2 k0_h15 k0_h16

def k0_off69 (v156 : BitVec 32) : Fin 3 → Nat :=
  let c0_i32_104 : BitVec 32 := 0#32
  let c0_i32_105 : BitVec 32 := 0#32
  ![v156.toNat, 0, 0]

def k0_chk18 (i : grid0.Coords) (v23 : BitVec 32) (v32 : BitVec 32) (v47 : BitVec 32) (v156 : BitVec 32) : Prop :=
  (∀ (k0_h15 : k0_cond15 i v23 = 1#1), ∀ (k0_h16 : k0_cond16 i v32 v47 = 1#1), ∀ a, (k0_off64 v156) a + S1x2048x512.size a ≤ S32x2048x512.size a) ∧
  (∀ (k0_h15 : k0_cond15 i v23 = 1#1), ∀ (k0_h16 : k0_cond16 i v32 v47 = 1#1), ∀ a, (k0_off69 v156) a + S1x512x2048.size a ≤ S32x512x2048.size a)
theorem k0_off64_inb : ∀ (i : grid0.Coords) (v23 : BitVec 32) (v32 : BitVec 32) (v47 : BitVec 32) (v156 : BitVec 32) (k0_hw18 : k0_chk18 i v23 v32 v47 v156), ∀ (k0_h15 : k0_cond15 i v23 = 1#1), ∀ (k0_h16 : k0_cond16 i v32 v47 = 1#1), ∀ a, (k0_off64 v156) a + S1x2048x512.size a ≤ S32x2048x512.size a := fun i v23 v32 v47 v156 k0_hw18 k0_h15 k0_h16 => k0_hw18.1 k0_h15 k0_h16
theorem k0_off69_inb : ∀ (i : grid0.Coords) (v23 : BitVec 32) (v32 : BitVec 32) (v47 : BitVec 32) (v156 : BitVec 32) (k0_hw18 : k0_chk18 i v23 v32 v47 v156), ∀ (k0_h15 : k0_cond15 i v23 = 1#1), ∀ (k0_h16 : k0_cond16 i v32 v47 = 1#1), ∀ a, (k0_off69 v156) a + S1x512x2048.size a ≤ S32x512x2048.size a := fun i v23 v32 v47 v156 k0_hw18 k0_h15 k0_h16 => k0_hw18.2 k0_h15 k0_h16

def k0_off70 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v117 : Index := Scalar.indexCast v42
  let c0_74 : Index := 0#32
  let c0_75 : Index := 0#32
  ![v117.toNat, 0, 0]

def k0_off71 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v131 : Index := Scalar.indexCast v42
  let c0_79 : Index := 0#32
  let c0_80 : Index := 0#32
  ![v131.toNat, 0, 0]

def k0_chk19 (i : grid0.Coords) (v23 : BitVec 32) (v32 : BitVec 32) : Prop :=
  (∀ (k0_h15 : k0_cond15 i v23 = 1#1), ∀ a, (k0_off70 v32) a + S1x2048x512.size a ≤ S2x2048x512.size a) ∧
  (∀ (k0_h15 : k0_cond15 i v23 = 1#1), ∀ a, (k0_off71 v32) a + S1x512x2048.size a ≤ S2x512x2048.size a)
theorem k0_off70_inb : ∀ (i : grid0.Coords) (v23 : BitVec 32) (v32 : BitVec 32) (k0_hw19 : k0_chk19 i v23 v32), ∀ (k0_h15 : k0_cond15 i v23 = 1#1), ∀ a, (k0_off70 v32) a + S1x2048x512.size a ≤ S2x2048x512.size a := fun i v23 v32 k0_hw19 k0_h15 => k0_hw19.1 k0_h15
theorem k0_off71_inb : ∀ (i : grid0.Coords) (v23 : BitVec 32) (v32 : BitVec 32) (k0_hw19 : k0_chk19 i v23 v32), ∀ (k0_h15 : k0_cond15 i v23 = 1#1), ∀ a, (k0_off71 v32) a + S1x512x2048.size a ≤ S2x512x2048.size a := fun i v23 v32 k0_hw19 k0_h15 => k0_hw19.2 k0_h15

def k0_off72 (i : grid0.Coords) : Fin 1 → Nat :=
  let arg0 : BitVec 32 := BitVec.ofNat 32 (i 0).val
  let c3_i32_8 : BitVec 32 := 3#32
  let v21 : BitVec 32 := Scalar.muli arg0 c3_i32_8
  let c2_i32 : BitVec 32 := 2#32
  let v22 : BitVec 32 := Scalar.addi v21 c2_i32
  let c1_i32_86 : BitVec 32 := 1#32
  let v141 : BitVec 32 := Scalar.addi v22 c1_i32_86
  let c95_i32 : BitVec 32 := 95#32
  let v142 : BitVec 32 := Scalar.minsi v141 c95_i32
  let v143 : Index := Scalar.indexCast v142
  ![v143.toNat]
def k0_off73 (v32 : BitVec 32) : Fin 1 → Nat :=
  let c2_i32_89 : BitVec 32 := 2#32
  let v152 : BitVec 32 := Scalar.addi v32 c2_i32_89
  let v153 : Index := Scalar.indexCast v152
  ![v153.toNat]
def k0_cond20 (i : grid0.Coords) (v0 : BitVec 32) (v32 : BitVec 32) (v139 : BitVec 32) (v144 : BitVec 32) : BitVec 1 :=
  let arg0 : BitVec 32 := BitVec.ofNat 32 (i 0).val
  let c3_i32_8 : BitVec 32 := 3#32
  let v21 : BitVec 32 := Scalar.muli arg0 c3_i32_8
  let c2_i32 : BitVec 32 := 2#32
  let v22 : BitVec 32 := Scalar.addi v21 c2_i32
  let c1_i32_84 : BitVec 32 := 1#32
  let v138 : BitVec 32 := Scalar.addi v22 c1_i32_84
  let v140 : BitVec 1 := Scalar.cmpi .eq v138 v139
  let v145 : BitVec 1 := Scalar.cmpi .ne v32 v144
  let v146 : BitVec 1 := Scalar.ori v140 v145
  let c2_i32_87 : BitVec 32 := 2#32
  let v147 : BitVec 32 := Scalar.addi v32 c2_i32_87
  let v148 : BitVec 1 := Scalar.cmpi .slt v147 v0
  let v149 : BitVec 1 := Scalar.andi v146 v148
  let v150 : BitVec 32 := Scalar.extui v149
  let c0_i32_88 : BitVec 32 := 0#32
  let v151 : BitVec 1 := Scalar.cmpi .ne v150 c0_i32_88
  v151

def k0_off74 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_90 : BitVec 32 := 0#32
  ![v42.toNat, 0]
def k0_off75 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_91 : BitVec 32 := 0#32
  let c0_i32_92 : BitVec 32 := 0#32
  ![v42.toNat, 0, 0]
def k0_off76 (v154 : BitVec 32) : Fin 3 → Nat :=
  let c0_i32_93 : BitVec 32 := 0#32
  let c0_i32_94 : BitVec 32 := 0#32
  ![v154.toNat, 0, 0]

def k0_off77 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_95 : BitVec 32 := 1#32
  ![v42.toNat, 1]
def k0_off78 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_96 : BitVec 32 := 0#32
  let c0_i32_97 : BitVec 32 := 0#32
  ![v42.toNat, 0, 0]
def k0_off79 (v32 : BitVec 32) : Fin 2 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c2_i32_100 : BitVec 32 := 2#32
  ![v42.toNat, 2]
def k0_off80 (v32 : BitVec 32) : Fin 3 → Nat :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c0_i32_101 : BitVec 32 := 0#32
  let c0_i32_102 : BitVec 32 := 0#32
  ![v42.toNat, 0, 0]

def k0_chk20 (i : grid0.Coords) (v0 : BitVec 32) (v23 : BitVec 32) (v32 : BitVec 32) (v139 : BitVec 32) (v144 : BitVec 32) : Prop :=
  (∀ (k0_h15 : k0_cond15 i v23 = 1#1), ∀ (k0_h20 : k0_cond20 i v0 v32 v139 v144 = 1#1), ∀ a, (k0_off73 v32) a + S1.size a ≤ S32.size a) ∧
  (∀ (k0_h15 : k0_cond15 i v23 = 1#1), ∀ (k0_h20 : k0_cond20 i v0 v32 v139 v144 = 1#1), ∀ a, (k0_off74 v32) a + S1x1.size a ≤ S2x3.size a) ∧
  (∀ (k0_h15 : k0_cond15 i v23 = 1#1), ∀ (k0_h20 : k0_cond20 i v0 v32 v139 v144 = 1#1), ∀ a, (k0_off75 v32) a + S1x2048x512.size a ≤ S2x2048x512.size a) ∧
  (∀ (k0_h15 : k0_cond15 i v23 = 1#1), ∀ (k0_h20 : k0_cond20 i v0 v32 v139 v144 = 1#1), ∀ a, (k0_off77 v32) a + S1x1.size a ≤ S2x3.size a) ∧
  (∀ (k0_h15 : k0_cond15 i v23 = 1#1), ∀ (k0_h20 : k0_cond20 i v0 v32 v139 v144 = 1#1), ∀ a, (k0_off78 v32) a + S1x2048x512.size a ≤ S2x2048x512.size a) ∧
  (∀ (k0_h15 : k0_cond15 i v23 = 1#1), ∀ (k0_h20 : k0_cond20 i v0 v32 v139 v144 = 1#1), ∀ a, (k0_off79 v32) a + S1x1.size a ≤ S2x3.size a) ∧
  (∀ (k0_h15 : k0_cond15 i v23 = 1#1), ∀ (k0_h20 : k0_cond20 i v0 v32 v139 v144 = 1#1), ∀ a, (k0_off80 v32) a + S1x512x2048.size a ≤ S2x512x2048.size a)
theorem k0_off73_inb : ∀ (i : grid0.Coords) (v0 : BitVec 32) (v23 : BitVec 32) (v32 : BitVec 32) (v139 : BitVec 32) (v144 : BitVec 32) (k0_hw20 : k0_chk20 i v0 v23 v32 v139 v144), ∀ (k0_h15 : k0_cond15 i v23 = 1#1), ∀ (k0_h20 : k0_cond20 i v0 v32 v139 v144 = 1#1), ∀ a, (k0_off73 v32) a + S1.size a ≤ S32.size a := fun i v0 v23 v32 v139 v144 k0_hw20 k0_h15 k0_h20 => k0_hw20.1 k0_h15 k0_h20
theorem k0_off74_inb : ∀ (i : grid0.Coords) (v0 : BitVec 32) (v23 : BitVec 32) (v32 : BitVec 32) (v139 : BitVec 32) (v144 : BitVec 32) (k0_hw20 : k0_chk20 i v0 v23 v32 v139 v144), ∀ (k0_h15 : k0_cond15 i v23 = 1#1), ∀ (k0_h20 : k0_cond20 i v0 v32 v139 v144 = 1#1), ∀ a, (k0_off74 v32) a + S1x1.size a ≤ S2x3.size a := fun i v0 v23 v32 v139 v144 k0_hw20 k0_h15 k0_h20 => k0_hw20.2.1 k0_h15 k0_h20
theorem k0_off75_inb : ∀ (i : grid0.Coords) (v0 : BitVec 32) (v23 : BitVec 32) (v32 : BitVec 32) (v139 : BitVec 32) (v144 : BitVec 32) (k0_hw20 : k0_chk20 i v0 v23 v32 v139 v144), ∀ (k0_h15 : k0_cond15 i v23 = 1#1), ∀ (k0_h20 : k0_cond20 i v0 v32 v139 v144 = 1#1), ∀ a, (k0_off75 v32) a + S1x2048x512.size a ≤ S2x2048x512.size a := fun i v0 v23 v32 v139 v144 k0_hw20 k0_h15 k0_h20 => k0_hw20.2.2.1 k0_h15 k0_h20
theorem k0_off77_inb : ∀ (i : grid0.Coords) (v0 : BitVec 32) (v23 : BitVec 32) (v32 : BitVec 32) (v139 : BitVec 32) (v144 : BitVec 32) (k0_hw20 : k0_chk20 i v0 v23 v32 v139 v144), ∀ (k0_h15 : k0_cond15 i v23 = 1#1), ∀ (k0_h20 : k0_cond20 i v0 v32 v139 v144 = 1#1), ∀ a, (k0_off77 v32) a + S1x1.size a ≤ S2x3.size a := fun i v0 v23 v32 v139 v144 k0_hw20 k0_h15 k0_h20 => k0_hw20.2.2.2.1 k0_h15 k0_h20
theorem k0_off78_inb : ∀ (i : grid0.Coords) (v0 : BitVec 32) (v23 : BitVec 32) (v32 : BitVec 32) (v139 : BitVec 32) (v144 : BitVec 32) (k0_hw20 : k0_chk20 i v0 v23 v32 v139 v144), ∀ (k0_h15 : k0_cond15 i v23 = 1#1), ∀ (k0_h20 : k0_cond20 i v0 v32 v139 v144 = 1#1), ∀ a, (k0_off78 v32) a + S1x2048x512.size a ≤ S2x2048x512.size a := fun i v0 v23 v32 v139 v144 k0_hw20 k0_h15 k0_h20 => k0_hw20.2.2.2.2.1 k0_h15 k0_h20
theorem k0_off79_inb : ∀ (i : grid0.Coords) (v0 : BitVec 32) (v23 : BitVec 32) (v32 : BitVec 32) (v139 : BitVec 32) (v144 : BitVec 32) (k0_hw20 : k0_chk20 i v0 v23 v32 v139 v144), ∀ (k0_h15 : k0_cond15 i v23 = 1#1), ∀ (k0_h20 : k0_cond20 i v0 v32 v139 v144 = 1#1), ∀ a, (k0_off79 v32) a + S1x1.size a ≤ S2x3.size a := fun i v0 v23 v32 v139 v144 k0_hw20 k0_h15 k0_h20 => k0_hw20.2.2.2.2.2.1 k0_h15 k0_h20
theorem k0_off80_inb : ∀ (i : grid0.Coords) (v0 : BitVec 32) (v23 : BitVec 32) (v32 : BitVec 32) (v139 : BitVec 32) (v144 : BitVec 32) (k0_hw20 : k0_chk20 i v0 v23 v32 v139 v144), ∀ (k0_h15 : k0_cond15 i v23 = 1#1), ∀ (k0_h20 : k0_cond20 i v0 v32 v139 v144 = 1#1), ∀ a, (k0_off80 v32) a + S1x512x2048.size a ≤ S2x512x2048.size a := fun i v0 v23 v32 v139 v144 k0_hw20 k0_h15 k0_h20 => k0_hw20.2.2.2.2.2.2 k0_h15 k0_h20

def k0_off81 (v154 : BitVec 32) : Fin 3 → Nat :=
  let c0_i32_103 : BitVec 32 := 0#32
  let c0_i32_104 : BitVec 32 := 0#32
  ![v154.toNat, 0, 0]

def k0_chk21 (i : grid0.Coords) (v0 : BitVec 32) (v23 : BitVec 32) (v32 : BitVec 32) (v139 : BitVec 32) (v144 : BitVec 32) (v154 : BitVec 32) : Prop :=
  (∀ (k0_h15 : k0_cond15 i v23 = 1#1), ∀ (k0_h20 : k0_cond20 i v0 v32 v139 v144 = 1#1), ∀ a, (k0_off76 v154) a + S1x2048x512.size a ≤ S32x2048x512.size a) ∧
  (∀ (k0_h15 : k0_cond15 i v23 = 1#1), ∀ (k0_h20 : k0_cond20 i v0 v32 v139 v144 = 1#1), ∀ a, (k0_off81 v154) a + S1x512x2048.size a ≤ S32x512x2048.size a)
theorem k0_off76_inb : ∀ (i : grid0.Coords) (v0 : BitVec 32) (v23 : BitVec 32) (v32 : BitVec 32) (v139 : BitVec 32) (v144 : BitVec 32) (v154 : BitVec 32) (k0_hw21 : k0_chk21 i v0 v23 v32 v139 v144 v154), ∀ (k0_h15 : k0_cond15 i v23 = 1#1), ∀ (k0_h20 : k0_cond20 i v0 v32 v139 v144 = 1#1), ∀ a, (k0_off76 v154) a + S1x2048x512.size a ≤ S32x2048x512.size a := fun i v0 v23 v32 v139 v144 v154 k0_hw21 k0_h15 k0_h20 => k0_hw21.1 k0_h15 k0_h20
theorem k0_off81_inb : ∀ (i : grid0.Coords) (v0 : BitVec 32) (v23 : BitVec 32) (v32 : BitVec 32) (v139 : BitVec 32) (v144 : BitVec 32) (v154 : BitVec 32) (k0_hw21 : k0_chk21 i v0 v23 v32 v139 v144 v154), ∀ (k0_h15 : k0_cond15 i v23 = 1#1), ∀ (k0_h20 : k0_cond20 i v0 v32 v139 v144 = 1#1), ∀ a, (k0_off81 v154) a + S1x512x2048.size a ≤ S32x512x2048.size a := fun i v0 v23 v32 v139 v144 v154 k0_hw21 k0_h15 k0_h20 => k0_hw21.2 k0_h15 k0_h20

def k0_cond7 (i : grid0.Coords) (v7 : BitVec 32) : BitVec 1 :=
  let arg0 : BitVec 32 := BitVec.ofNat 32 (i 0).val
  let c3_i32 : BitVec 32 := 3#32
  let v1 : BitVec 32 := Scalar.muli arg0 c3_i32
  let c0_i32 : BitVec 32 := 0#32
  let v2 : BitVec 32 := Scalar.addi v1 c0_i32
  let v8 : BitVec 1 := Scalar.cmpi .sge v2 v7
  let v9 : BitVec 32 := Scalar.extui v8
  let c0_i32_2 : BitVec 32 := 0#32
  let v10 : BitVec 1 := Scalar.cmpi .ne v9 c0_i32_2
  v10

def k0_cond14 (i : grid0.Coords) (v17 : BitVec 32) : BitVec 1 :=
  let arg0 : BitVec 32 := BitVec.ofNat 32 (i 0).val
  let c3_i32_3 : BitVec 32 := 3#32
  let v11 : BitVec 32 := Scalar.muli arg0 c3_i32_3
  let c1_i32 : BitVec 32 := 1#32
  let v12 : BitVec 32 := Scalar.addi v11 c1_i32
  let v18 : BitVec 1 := Scalar.cmpi .sge v12 v17
  let v19 : BitVec 32 := Scalar.extui v18
  let c0_i32_7 : BitVec 32 := 0#32
  let v20 : BitVec 1 := Scalar.cmpi .ne v19 c0_i32_7
  v20

def k0_cond21 (i : grid0.Coords) (v27 : BitVec 32) : BitVec 1 :=
  let arg0 : BitVec 32 := BitVec.ofNat 32 (i 0).val
  let c3_i32_8 : BitVec 32 := 3#32
  let v21 : BitVec 32 := Scalar.muli arg0 c3_i32_8
  let c2_i32 : BitVec 32 := 2#32
  let v22 : BitVec 32 := Scalar.addi v21 c2_i32
  let v28 : BitVec 1 := Scalar.cmpi .sge v22 v27
  let v29 : BitVec 32 := Scalar.extui v28
  let c0_i32_12 : BitVec 32 := 0#32
  let v30 : BitVec 1 := Scalar.cmpi .ne v29 c0_i32_12
  v30

def cc0_transform_0 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S2) ![0] S1.size inb_S2_S1_0) numel1_S1
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.divsi v2 c3_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c3_i32 c0_i32_2
  let v10 : BitVec 32 := Scalar.extui v9
  let c0_i32_3 : BitVec 32 := 0#32
  let v11 : BitVec 1 := Scalar.cmpi .slt c3_i32 c0_i32_3
  let v12 : BitVec 32 := Scalar.extui v11
  let v13 : BitVec 32 := Scalar.subi v10 v12
  let v14 : BitVec 1 := Scalar.cmpi .ne v8 v13
  let v15 : BitVec 32 := Scalar.remsi v2 c3_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg0 v19
  let c0_i32_6 : BitVec 32 := 0#32
  let c0_i32_7 : BitVec 32 := 0#32
  ![v20.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S96 : Shape := ⟨1, ![96]⟩
abbrev S32 : Shape := ⟨1, ![32]⟩
abbrev S2 : Shape := ⟨1, ![2]⟩
abbrev S24576x2048 : Shape := ⟨2, ![24576, 2048]⟩
abbrev S32x2048x512 : Shape := ⟨3, ![32, 2048, 512]⟩
abbrev S32x512x2048 : Shape := ⟨3, ![32, 512, 2048]⟩
abbrev S_ : Shape := ⟨0, ![]⟩
abbrev S96x1 : Shape := ⟨2, ![96, 1]⟩
abbrev S1x32 : Shape := ⟨2, ![1, 32]⟩
abbrev S96x32 : Shape := ⟨2, ![96, 32]⟩
abbrev S1 : Shape := ⟨1, ![1]⟩
abbrev S96x256x32 : Shape := ⟨3, ![96, 256, 32]⟩
abbrev S24576x32 : Shape := ⟨2, ![24576, 32]⟩
abbrev S24576x32x512 : Shape := ⟨3, ![24576, 32, 512]⟩
abbrev S24576x32x1 : Shape := ⟨3, ![24576, 32, 1]⟩

abbrev nBuf : Space → Nat
  | .hbm => 51
  | .vmem => 0
  | .smem => 0
  | _ => 0

abbrev bufTy : (tb : Table) → Fin (tcTables nBuf tb) → BufTy
  | .hbm, ⟨0, _⟩ => ⟨S96, .i32⟩
  | .hbm, ⟨1, _⟩ => ⟨S32, .i32⟩
  | .hbm, ⟨2, _⟩ => ⟨S2, .i32⟩
  | .hbm, ⟨3, _⟩ => ⟨S24576x2048, .bf16⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S_, .i32⟩
  | .hbm, ⟨8, _⟩ => ⟨S96, .i32⟩
  | .hbm, ⟨9, _⟩ => ⟨S96, .i1⟩
  | .hbm, ⟨10, _⟩ => ⟨S_, .i32⟩
  | .hbm, ⟨11, _⟩ => ⟨S96, .i32⟩
  | .hbm, ⟨12, _⟩ => ⟨S96, .i32⟩
  | .hbm, ⟨13, _⟩ => ⟨S96, .i32⟩
  | .hbm, ⟨14, _⟩ => ⟨S96x1, .i32⟩
  | .hbm, ⟨15, _⟩ => ⟨S96, .i32⟩
  | .hbm, ⟨16, _⟩ => ⟨S96x1, .i32⟩
  | .hbm, ⟨17, _⟩ => ⟨S1x32, .i32⟩
  | .hbm, ⟨18, _⟩ => ⟨S96x32, .i32⟩
  | .hbm, ⟨19, _⟩ => ⟨S96x32, .i32⟩
  | .hbm, ⟨20, _⟩ => ⟨S96x32, .i1⟩
  | .hbm, ⟨21, _⟩ => ⟨S96x32, .f32⟩
  | .hbm, ⟨22, _⟩ => ⟨S96, .i32⟩
  | .hbm, ⟨23, _⟩ => ⟨S1, .i32⟩
  | .hbm, ⟨24, _⟩ => ⟨S_, .i32⟩
  | .hbm, ⟨25, _⟩ => ⟨S96, .i32⟩
  | .hbm, ⟨26, _⟩ => ⟨S96, .i1⟩
  | .hbm, ⟨27, _⟩ => ⟨S96x1, .i1⟩
  | .hbm, ⟨28, _⟩ => ⟨S96x1, .f32⟩
  | .hbm, ⟨29, _⟩ => ⟨S96x32, .f32⟩
  | .hbm, ⟨30, _⟩ => ⟨S96x32, .f32⟩
  | .hbm, ⟨31, _⟩ => ⟨S96x256x32, .f32⟩
  | .hbm, ⟨32, _⟩ => ⟨S24576x32, .f32⟩
  | .hbm, ⟨33, _⟩ => ⟨S24576x2048, .f32⟩
  | .hbm, ⟨34, _⟩ => ⟨S24576x32x512, .f32⟩
  | .hbm, ⟨35, _⟩ => ⟨S24576x32x512, .f32⟩
  | .hbm, ⟨36, _⟩ => ⟨S24576x32x512, .f32⟩
  | .hbm, ⟨37, _⟩ => ⟨S24576x32x512, .f32⟩
  | .hbm, ⟨38, _⟩ => ⟨S_, .f32⟩
  | .hbm, ⟨39, _⟩ => ⟨S24576x32x512, .f32⟩
  | .hbm, ⟨40, _⟩ => ⟨S24576x32x512, .f32⟩
  | .hbm, ⟨41, _⟩ => ⟨S_, .f32⟩
  | .hbm, ⟨42, _⟩ => ⟨S24576x32x512, .f32⟩
  | .hbm, ⟨43, _⟩ => ⟨S24576x32x512, .f32⟩
  | .hbm, ⟨44, _⟩ => ⟨S24576x32x512, .f32⟩
  | .hbm, ⟨45, _⟩ => ⟨S24576x32x512, .f32⟩
  | .hbm, ⟨46, _⟩ => ⟨S24576x32x1, .f32⟩
  | .hbm, ⟨47, _⟩ => ⟨S24576x32x512, .f32⟩
  | .hbm, ⟨48, _⟩ => ⟨S24576x32x512, .f32⟩
  | .hbm, ⟨49, _⟩ => ⟨S24576x2048, .f32⟩
  | .hbm, ⟨50, _⟩ => ⟨S24576x2048, .bf16⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Proof.Pre.lean ====
/- What the precondition says of an argument: every element is a real number. -/
module

public import proofs.«01_k».proof.Defs
public import Idealize.ShloMosaic.Lib.Pointwise
public import Idealize.ShloMosaic.Lib.ReduceAll

@[expose] public section

set_option maxRecDepth 16384

noncomputable section

namespace Cert.Pre_finite

open Idealize.ShloMosaic

/-- The shape conditions of the precondition. -/
theorem shapes : Facts := ⟨by decide, by decide, by decide, by decide, by decide⟩

/-- The single-precision word of infinity. -/
theorem top_eq : Ideal.ofBits .f32 0x7F800000#32 = (⊤ : EReal) := by
  simp [Ideal.ofBits, Ideal.ieee]

/-- An extended real whose absolute value is below infinity is real. -/
theorem real_of_lt (x : EReal) (h : Ideal.cmp .olt (max x (-x)) (Ideal.ofBits .f32 0x7F800000#32) = 1#1) : ∃ y : ℝ, x = y := by
  have h' : max x (-x) < ⊤ := by
    rw [top_eq] at h
    exact (Ideal.cmp_olt_eq_one _ _).1 h
  have h1 : x ≠ ⊤ := fun e => by simp [e] at h'
  have h2 : x ≠ ⊥ := fun e => by simp [e] at h'
  exact ⟨x.toReal, (EReal.coe_toReal h1 h2).symm⟩

/-- A flag that is one where every element of an array is real. -/
theorem all_real {s : Shape} {axes : List (Fin s.rank)} (x : s.Idx → EReal) (dims : Fin 0 → Fin s.rank) (hb : S_.BroadcastsInDim s dims)
    (hr : s.ReducesTo axes S_) (hu : 0 < S_.numel) (j : S_.Idx)
    (e : Host.reduce IntOp.andi (cmpf (F := Ideal) .olt (Host.absf (F := Ideal) (φ := .f32) x) (broadcastInDim s dims hb (constant (F := Ideal) S_ .f32 0x7F800000#32)))
      (constantI S_ 1 1#1) hr hu j = 1#1) (i : s.Idx) : ∃ y : ℝ, x i = y :=
  haveI : Subsingleton S_.Idx := ⟨fun a b => funext fun k => k.elim0⟩
  real_of_lt _ (Host.reduce_andi_all _ _ hr hu j e i)

/-- The precondition, element by element. -/
theorem reals [Facts] (x0 : S2x4096x6144.Idx → EReal) (x1 x2 x3 x4 : S1x128.Idx → EReal) (x5 : S1x256.Idx → EReal)
    (h : fn (F := Ideal) x0 x1 x2 x3 x4 x5 = fun _ => 1#1) :
    (∀ i, ∃ y : ℝ, x0 i = y) ∧ (∀ i, ∃ y : ℝ, x1 i = y) ∧ (∀ i, ∃ y : ℝ, x2 i = y) ∧ (∀ i, ∃ y : ℝ, x3 i = y) ∧ ∀ i, ∃ y : ℝ, x4 i = y := by
  have e := congrFun h (fun i => i.elim0)
  dsimp only [fn, fn_part1] at e
  clear h
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  clear e
  exact ⟨all_real x0 _ _ _ _ _ e0, all_real x1 _ _ _ _ _ e1, all_real x2 _ _ _ _ _ e2, all_real x3 _ _ _ _ _ e3, all_real x4 _ _ _ _ _ e4⟩

end Cert.Pre_finite

end
-- ==== Proof.Words.lean ====
/- The words the experts kernel computes of its tables' words: offsets and conditions, as naturals. -/
module

public import proofs.«01_k».proof.Kernel3Ideal
public import Idealize.ShloMosaic.Lib.WordCmp

@[expose] public section

set_option maxRecDepth 16384

namespace Cert.Kernel3Ideal.Words

open Cert.Kernel3Ideal Idealize.ShloMosaic

/-- A bit widened and tested against zero is the bit. -/
theorem ne_zero (b : BitVec 1) : Scalar.cmpi .ne (Scalar.extui b) 0#32 = b := by
  revert b
  decide

theorem slt_iff {a b : ℕ} (ha : a < 2 ^ 31) (hb : b < 2 ^ 31) :
    Scalar.cmpi .slt (BitVec.ofNat 32 a) (BitVec.ofNat 32 b) = 1#1 ↔ a < b := by
  unfold Scalar.cmpi
  simp (disch := omega) only [hlo_ix]

theorem sgt_iff {a b : ℕ} (ha : a < 2 ^ 31) (hb : b < 2 ^ 31) :
    Scalar.cmpi .sgt (BitVec.ofNat 32 a) (BitVec.ofNat 32 b) = 1#1 ↔ b < a := by
  unfold Scalar.cmpi
  simp (disch := omega) only [hlo_ix]

theorem sge_iff {a b : ℕ} (ha : a < 2 ^ 31) (hb : b < 2 ^ 31) :
    Scalar.cmpi .sge (BitVec.ofNat 32 a) (BitVec.ofNat 32 b) = 1#1 ↔ b ≤ a := by
  unfold Scalar.cmpi
  simp (disch := omega) only [hlo_ix]

theorem eq_iff {a b : ℕ} (ha : a < 2 ^ 32) (hb : b < 2 ^ 32) :
    Scalar.cmpi .eq (BitVec.ofNat 32 a) (BitVec.ofNat 32 b) = 1#1 ↔ a = b := by
  unfold Scalar.cmpi
  simp (disch := omega) only [hlo_ix]

theorem ne_iff {a b : ℕ} (ha : a < 2 ^ 32) (hb : b < 2 ^ 32) :
    Scalar.cmpi .ne (BitVec.ofNat 32 a) (BitVec.ofNat 32 b) = 1#1 ↔ a ≠ b := by
  unfold Scalar.cmpi
  simp (disch := omega) only [hlo_ix, ne_eq, bne_iff_ne, decide_not, Bool.not_eq_true', decide_eq_false_iff_not]

theorem or_iff (a b : BitVec 1) : Scalar.ori a b = 1#1 ↔ a = 1#1 ∨ b = 1#1 := by
  revert a b
  decide

theorem and_iff (a b : BitVec 1) : Scalar.andi a b = 1#1 ↔ a = 1#1 ∧ b = 1#1 := by
  revert a b
  decide

theorem addi_ofNat (a b : ℕ) : Scalar.addi (BitVec.ofNat 32 a) (BitVec.ofNat 32 b) = BitVec.ofNat 32 (a + b) :=
  (BitVec.ofNat_add a b).symm

theorem muli_ofNat (a b : ℕ) : Scalar.muli (BitVec.ofNat 32 a) (BitVec.ofNat 32 b) = BitVec.ofNat 32 (a * b) :=
  (BitVec.ofNat_mul a b).symm

variable (i : grid0.Coords)

theorem row_lt : (i 0).val < 32 := (i 0).isLt

/-! ## Tile 0 of a block -/

theorem cond1_iff {n : ℕ} (hn : n ≤ 96) : k0_cond1 i (BitVec.ofNat 32 n) = 1#1 ↔ 3 * (i 0).val < n := by
  have := row_lt i
  simp only [k0_cond1, ne_zero, muli_ofNat, addi_ofNat]
  rw [slt_iff (by omega) (by omega)]
  omega

theorem cond7_iff {n : ℕ} (hn : n ≤ 96) : k0_cond7 i (BitVec.ofNat 32 n) = 1#1 ↔ n ≤ 3 * (i 0).val := by
  have := row_lt i
  simp only [k0_cond7, ne_zero, muli_ofNat, addi_ofNat]
  rw [sge_iff (by omega) (by omega)]
  omega

theorem cond2_iff {k p : ℕ} (hk : k < 32) (hp : p < 2 ^ 32) :
    k0_cond2 i (BitVec.ofNat 32 k) (BitVec.ofNat 32 p) = 1#1 ↔ 3 * (i 0).val = 0 ∨ k ≠ p := by
  have := row_lt i
  simp only [k0_cond2, ne_zero, muli_ofNat, addi_ofNat]
  rw [or_iff, eq_iff (by omega) (by omega), ne_iff (by omega) (by omega)]
  omega

theorem cond3_iff {k : ℕ} (hk : k < 32) : k0_cond3 (BitVec.ofNat 32 k) = 1#1 ↔ k = 0 := by
  simp only [k0_cond3, ne_zero]
  exact eq_iff (by omega) (by omega)

theorem cond4_iff {e : ℕ} (he : e ≤ 32) : k0_cond4 (BitVec.ofNat 32 e) = 1#1 ↔ 0 < e := by
  simp only [k0_cond4, ne_zero]
  exact sgt_iff (by omega) (by omega)

theorem cond5_iff {e : ℕ} (he : e ≤ 32) : k0_cond5 (BitVec.ofNat 32 e) = 1#1 ↔ 1 < e := by
  simp only [k0_cond5, ne_zero]
  exact sgt_iff (by omega) (by omega)

theorem cond6_iff {e k n x : ℕ} (he : e ≤ 32) (hk : k < 32) (hn : n ≤ 96) (hx : x < 2 ^ 32) :
    k0_cond6 i (BitVec.ofNat 32 e) (BitVec.ofNat 32 k) (BitVec.ofNat 32 n) (BitVec.ofNat 32 x) = 1#1 ↔
      (3 * (i 0).val + 1 = n ∨ k ≠ x) ∧ k + 2 < e := by
  have := row_lt i
  simp only [k0_cond6, ne_zero, muli_ofNat, addi_ofNat]
  rw [and_iff, or_iff, eq_iff (by omega) (by omega), ne_iff (by omega) (by omega), slt_iff (by omega) (by omega)]
  omega

theorem off1_eq : k0_off1 i = ![3 * (i 0).val] := by
  revert i
  decide +kernel

theorem off2_eq : k0_off2 i = ![3 * (i 0).val - 1] := by
  revert i
  decide +kernel

theorem off18_eq : k0_off18 i = ![min (3 * (i 0).val + 1) 95] := by
  revert i
  decide +kernel

theorem off7_eq {k : ℕ} (hk : k < 32) : k0_off7 (BitVec.ofNat 32 k) = ![k] := by
  have h : ∀ k : Fin 32, k0_off7 (BitVec.ofNat 32 k.val) = ![k.val] := by decide +kernel
  exact h ⟨k, hk⟩

theorem off19_eq {k : ℕ} (hk : k < 32) : k0_off19 (BitVec.ofNat 32 k) = ![k + 2] := by
  have h : ∀ k : Fin 32, k0_off19 (BitVec.ofNat 32 k.val) = ![k.val + 2] := by decide +kernel
  exact h ⟨k, hk⟩

theorem off8_eq {k : ℕ} (hk : k < 32) : k0_off8 (BitVec.ofNat 32 k) = ![k % 2, 0] := by
  have h : ∀ k : Fin 32, k0_off8 (BitVec.ofNat 32 k.val) = ![k.val % 2, 0] := by decide +kernel
  exact h ⟨k, hk⟩

theorem off11_eq {k : ℕ} (hk : k < 32) : k0_off11 (BitVec.ofNat 32 k) = ![k % 2, 1] := by
  have h : ∀ k : Fin 32, k0_off11 (BitVec.ofNat 32 k.val) = ![k.val % 2, 1] := by decide +kernel
  exact h ⟨k, hk⟩

theorem off13_eq {k : ℕ} (hk : k < 32) : k0_off13 (BitVec.ofNat 32 k) = ![k % 2, 2] := by
  have h : ∀ k : Fin 32, k0_off13 (BitVec.ofNat 32 k.val) = ![k.val % 2, 2] := by decide +kernel
  exact h ⟨k, hk⟩

theorem off20_eq {k : ℕ} (hk : k < 32) : k0_off20 (BitVec.ofNat 32 k) = ![k % 2, 0] := by
  have h : ∀ k : Fin 32, k0_off20 (BitVec.ofNat 32 k.val) = ![k.val % 2, 0] := by decide +kernel
  exact h ⟨k, hk⟩

theorem off23_eq {k : ℕ} (hk : k < 32) : k0_off23 (BitVec.ofNat 32 k) = ![k % 2, 1] := by
  have h : ∀ k : Fin 32, k0_off23 (BitVec.ofNat 32 k.val) = ![k.val % 2, 1] := by decide +kernel
  exact h ⟨k, hk⟩

theorem off25_eq {k : ℕ} (hk : k < 32) : k0_off25 (BitVec.ofNat 32 k) = ![k % 2, 2] := by
  have h : ∀ k : Fin 32, k0_off25 (BitVec.ofNat 32 k.val) = ![k.val % 2, 2] := by decide +kernel
  exact h ⟨k, hk⟩

theorem off9_eq {k : ℕ} (hk : k < 32) : k0_off9 (BitVec.ofNat 32 k) = ![k % 2, 0, 0] := by
  have h : ∀ k : Fin 32, k0_off9 (BitVec.ofNat 32 k.val) = ![k.val % 2, 0, 0] := by decide +kernel
  exact h ⟨k, hk⟩

theorem off12_eq {k : ℕ} (hk : k < 32) : k0_off12 (BitVec.ofNat 32 k) = ![k % 2, 0, 0] := by
  have h : ∀ k : Fin 32, k0_off12 (BitVec.ofNat 32 k.val) = ![k.val % 2, 0, 0] := by decide +kernel
  exact h ⟨k, hk⟩

theorem off14_eq {k : ℕ} (hk : k < 32) : k0_off14 (BitVec.ofNat 32 k) = ![k % 2, 0, 0] := by
  have h : ∀ k : Fin 32, k0_off14 (BitVec.ofNat 32 k.val) = ![k.val % 2, 0, 0] := by decide +kernel
  exact h ⟨k, hk⟩

theorem off21_eq {k : ℕ} (hk : k < 32) : k0_off21 (BitVec.ofNat 32 k) = ![k % 2, 0, 0] := by
  have h : ∀ k : Fin 32, k0_off21 (BitVec.ofNat 32 k.val) = ![k.val % 2, 0, 0] := by decide +kernel
  exact h ⟨k, hk⟩

theorem off24_eq {k : ℕ} (hk : k < 32) : k0_off24 (BitVec.ofNat 32 k) = ![k % 2, 0, 0] := by
  have h : ∀ k : Fin 32, k0_off24 (BitVec.ofNat 32 k.val) = ![k.val % 2, 0, 0] := by decide +kernel
  exact h ⟨k, hk⟩

theorem off26_eq {k : ℕ} (hk : k < 32) : k0_off26 (BitVec.ofNat 32 k) = ![k % 2, 0, 0] := by
  have h : ∀ k : Fin 32, k0_off26 (BitVec.ofNat 32 k.val) = ![k.val % 2, 0, 0] := by decide +kernel
  exact h ⟨k, hk⟩

theorem off16_eq {k : ℕ} (hk : k < 32) : k0_off16 (BitVec.ofNat 32 k) = ![k % 2, 0, 0] := by
  have h : ∀ k : Fin 32, k0_off16 (BitVec.ofNat 32 k.val) = ![k.val % 2, 0, 0] := by decide +kernel
  exact h ⟨k, hk⟩

theorem off17_eq {k : ℕ} (hk : k < 32) : k0_off17 (BitVec.ofNat 32 k) = ![k % 2, 0, 0] := by
  have h : ∀ k : Fin 32, k0_off17 (BitVec.ofNat 32 k.val) = ![k.val % 2, 0, 0] := by decide +kernel
  exact h ⟨k, hk⟩

theorem off3_eq {k : ℕ} (hk : k < 32) : k0_off3 (BitVec.ofNat 32 k) = ![k, 0, 0] := by
  have h : ∀ k : Fin 32, k0_off3 (BitVec.ofNat 32 k.val) = ![k.val, 0, 0] := by decide +kernel
  exact h ⟨k, hk⟩

theorem off4_eq {k : ℕ} (hk : k < 32) : k0_off4 (BitVec.ofNat 32 k) = ![k, 0, 0] := by
  have h : ∀ k : Fin 32, k0_off4 (BitVec.ofNat 32 k.val) = ![k.val, 0, 0] := by decide +kernel
  exact h ⟨k, hk⟩

theorem off5_eq {k : ℕ} (hk : k < 32) : k0_off5 (BitVec.ofNat 32 k) = ![k, 0, 0] := by
  have h : ∀ k : Fin 32, k0_off5 (BitVec.ofNat 32 k.val) = ![k.val, 0, 0] := by decide +kernel
  exact h ⟨k, hk⟩

theorem off6_eq {k : ℕ} (hk : k < 32) : k0_off6 (BitVec.ofNat 32 k) = ![k, 0, 0] := by
  have h : ∀ k : Fin 32, k0_off6 (BitVec.ofNat 32 k.val) = ![k.val, 0, 0] := by decide +kernel
  exact h ⟨k, hk⟩

theorem off10_eq {k : ℕ} (hk : k < 32) : k0_off10 (BitVec.ofNat 32 k) = ![k, 0, 0] := by
  have h : ∀ k : Fin 32, k0_off10 (BitVec.ofNat 32 k.val) = ![k.val, 0, 0] := by decide +kernel
  exact h ⟨k, hk⟩

theorem off15_eq {k : ℕ} (hk : k < 32) : k0_off15 (BitVec.ofNat 32 k) = ![k, 0, 0] := by
  have h : ∀ k : Fin 32, k0_off15 (BitVec.ofNat 32 k.val) = ![k.val, 0, 0] := by decide +kernel
  exact h ⟨k, hk⟩

theorem off22_eq {k : ℕ} (hk : k < 32) : k0_off22 (BitVec.ofNat 32 k) = ![k, 0, 0] := by
  have h : ∀ k : Fin 32, k0_off22 (BitVec.ofNat 32 k.val) = ![k.val, 0, 0] := by decide +kernel
  exact h ⟨k, hk⟩

theorem off27_eq {k : ℕ} (hk : k < 32) : k0_off27 (BitVec.ofNat 32 k) = ![k, 0, 0] := by
  have h : ∀ k : Fin 32, k0_off27 (BitVec.ofNat 32 k.val) = ![k.val, 0, 0] := by decide +kernel
  exact h ⟨k, hk⟩

/-! ## Tile 1 of a block -/

theorem cond8_iff {n : ℕ} (hn : n ≤ 96) : k0_cond8 i (BitVec.ofNat 32 n) = 1#1 ↔ 3 * (i 0).val + 1 < n := by
  have := row_lt i
  simp only [k0_cond8, ne_zero, muli_ofNat, addi_ofNat]
  rw [slt_iff (by omega) (by omega)]
  omega

theorem cond14_iff {n : ℕ} (hn : n ≤ 96) : k0_cond14 i (BitVec.ofNat 32 n) = 1#1 ↔ n ≤ 3 * (i 0).val + 1 := by
  have := row_lt i
  simp only [k0_cond14, ne_zero, muli_ofNat, addi_ofNat]
  rw [sge_iff (by omega) (by omega)]
  omega

theorem cond9_iff {k p : ℕ} (hk : k < 32) (hp : p < 2 ^ 32) :
    k0_cond9 i (BitVec.ofNat 32 k) (BitVec.ofNat 32 p) = 1#1 ↔ 3 * (i 0).val + 1 = 0 ∨ k ≠ p := by
  have := row_lt i
  simp only [k0_cond9, ne_zero, muli_ofNat, addi_ofNat]
  rw [or_iff, eq_iff (by omega) (by omega), ne_iff (by omega) (by omega)]
  omega

theorem cond10_iff {k : ℕ} (hk : k < 32) : k0_cond10 (BitVec.ofNat 32 k) = 1#1 ↔ k = 0 := by
  simp only [k0_cond10, ne_zero]
  exact eq_iff (by omega) (by omega)

theorem cond11_iff {e : ℕ} (he : e ≤ 32) : k0_cond11 (BitVec.ofNat 32 e) = 1#1 ↔ 0 < e := by
  simp only [k0_cond11, ne_zero]
  exact sgt_iff (by omega) (by omega)

theorem cond12_iff {e : ℕ} (he : e ≤ 32) : k0_cond12 (BitVec.ofNat 32 e) = 1#1 ↔ 1 < e := by
  simp only [k0_cond12, ne_zero]
  exact sgt_iff (by omega) (by omega)

theorem cond13_iff {e k n x : ℕ} (he : e ≤ 32) (hk : k < 32) (hn : n ≤ 96) (hx : x < 2 ^ 32) :
    k0_cond13 i (BitVec.ofNat 32 e) (BitVec.ofNat 32 k) (BitVec.ofNat 32 n) (BitVec.ofNat 32 x) = 1#1 ↔
      (3 * (i 0).val + 1 + 1 = n ∨ k ≠ x) ∧ k + 2 < e := by
  have := row_lt i
  simp only [k0_cond13, ne_zero, muli_ofNat, addi_ofNat]
  rw [and_iff, or_iff, eq_iff (by omega) (by omega), ne_iff (by omega) (by omega), slt_iff (by omega) (by omega)]
  omega

theorem off28_eq : k0_off28 i = ![3 * (i 0).val + 1] := by
  revert i
  decide +kernel

theorem off29_eq : k0_off29 i = ![3 * (i 0).val + 1 - 1] := by
  revert i
  decide +kernel

theorem off45_eq : k0_off45 i = ![min (3 * (i 0).val + 1 + 1) 95] := by
  revert i
  decide +kernel

theorem off34_eq {k : ℕ} (hk : k < 32) : k0_off34 (BitVec.ofNat 32 k) = ![k] := by
  have h : ∀ k : Fin 32, k0_off34 (BitVec.ofNat 32 k.val) = ![k.val] := by decide +kernel
  exact h ⟨k, hk⟩

theorem off46_eq {k : ℕ} (hk : k < 32) : k0_off46 (BitVec.ofNat 32 k) = ![k + 2] := by
  have h : ∀ k : Fin 32, k0_off46 (BitVec.ofNat 32 k.val) = ![k.val + 2] := by decide +kernel
  exact h ⟨k, hk⟩

theorem off35_eq {k : ℕ} (hk : k < 32) : k0_off35 (BitVec.ofNat 32 k) = ![k % 2, 0] := by
  have h : ∀ k : Fin 32, k0_off35 (BitVec.ofNat 32 k.val) = ![k.val % 2, 0] := by decide +kernel
  exact h ⟨k, hk⟩

theorem off38_eq {k : ℕ} (hk : k < 32) : k0_off38 (BitVec.ofNat 32 k) = ![k % 2, 1] := by
  have h : ∀ k : Fin 32, k0_off38 (BitVec.ofNat 32 k.val) = ![k.val % 2, 1] := by decide +kernel
  exact h ⟨k, hk⟩

theorem off40_eq {k : ℕ} (hk : k < 32) : k0_off40 (BitVec.ofNat 32 k) = ![k % 2, 2] := by
  have h : ∀ k : Fin 32, k0_off40 (BitVec.ofNat 32 k.val) = ![k.val % 2, 2] := by decide +kernel
  exact h ⟨k, hk⟩

theorem off47_eq {k : ℕ} (hk : k < 32) : k0_off47 (BitVec.ofNat 32 k) = ![k % 2, 0] := by
  have h : ∀ k : Fin 32, k0_off47 (BitVec.ofNat 32 k.val) = ![k.val % 2, 0] := by decide +kernel
  exact h ⟨k, hk⟩

theorem off50_eq {k : ℕ} (hk : k < 32) : k0_off50 (BitVec.ofNat 32 k) = ![k % 2, 1] := by
  have h : ∀ k : Fin 32, k0_off50 (BitVec.ofNat 32 k.val) = ![k.val % 2, 1] := by decide +kernel
  exact h ⟨k, hk⟩

theorem off52_eq {k : ℕ} (hk : k < 32) : k0_off52 (BitVec.ofNat 32 k) = ![k % 2, 2] := by
  have h : ∀ k : Fin 32, k0_off52 (BitVec.ofNat 32 k.val) = ![k.val % 2, 2] := by decide +kernel
  exact h ⟨k, hk⟩

theorem off36_eq {k : ℕ} (hk : k < 32) : k0_off36 (BitVec.ofNat 32 k) = ![k % 2, 0, 0] := by
  have h : ∀ k : Fin 32, k0_off36 (BitVec.ofNat 32 k.val) = ![k.val % 2, 0, 0] := by decide +kernel
  exact h ⟨k, hk⟩

theorem off39_eq {k : ℕ} (hk : k < 32) : k0_off39 (BitVec.ofNat 32 k) = ![k % 2, 0, 0] := by
  have h : ∀ k : Fin 32, k0_off39 (BitVec.ofNat 32 k.val) = ![k.val % 2, 0, 0] := by decide +kernel
  exact h ⟨k, hk⟩

theorem off41_eq {k : ℕ} (hk : k < 32) : k0_off41 (BitVec.ofNat 32 k) = ![k % 2, 0, 0] := by
  have h : ∀ k : Fin 32, k0_off41 (BitVec.ofNat 32 k.val) = ![k.val % 2, 0, 0] := by decide +kernel
  exact h ⟨k, hk⟩

theorem off48_eq {k : ℕ} (hk : k < 32) : k0_off48 (BitVec.ofNat 32 k) = ![k % 2, 0, 0] := by
  have h : ∀ k : Fin 32, k0_off48 (BitVec.ofNat 32 k.val) = ![k.val % 2, 0, 0] := by decide +kernel
  exact h ⟨k, hk⟩

theorem off51_eq {k : ℕ} (hk : k < 32) : k0_off51 (BitVec.ofNat 32 k) = ![k % 2, 0, 0] := by
  have h : ∀ k : Fin 32, k0_off51 (BitVec.ofNat 32 k.val) = ![k.val % 2, 0, 0] := by decide +kernel
  exact h ⟨k, hk⟩

theorem off53_eq {k : ℕ} (hk : k < 32) : k0_off53 (BitVec.ofNat 32 k) = ![k % 2, 0, 0] := by
  have h : ∀ k : Fin 32, k0_off53 (BitVec.ofNat 32 k.val) = ![k.val % 2, 0, 0] := by decide +kernel
  exact h ⟨k, hk⟩

theorem off43_eq {k : ℕ} (hk : k < 32) : k0_off43 (BitVec.ofNat 32 k) = ![k % 2, 0, 0] := by
  have h : ∀ k : Fin 32, k0_off43 (BitVec.ofNat 32 k.val) = ![k.val % 2, 0, 0] := by decide +kernel
  exact h ⟨k, hk⟩

theorem off44_eq {k : ℕ} (hk : k < 32) : k0_off44 (BitVec.ofNat 32 k) = ![k % 2, 0, 0] := by
  have h : ∀ k : Fin 32, k0_off44 (BitVec.ofNat 32 k.val) = ![k.val % 2, 0, 0] := by decide +kernel
  exact h ⟨k, hk⟩

theorem off30_eq {k : ℕ} (hk : k < 32) : k0_off30 (BitVec.ofNat 32 k) = ![k, 0, 0] := by
  have h : ∀ k : Fin 32, k0_off30 (BitVec.ofNat 32 k.val) = ![k.val, 0, 0] := by decide +kernel
  exact h ⟨k, hk⟩

theorem off31_eq {k : ℕ} (hk : k < 32) : k0_off31 (BitVec.ofNat 32 k) = ![k, 0, 0] := by
  have h : ∀ k : Fin 32, k0_off31 (BitVec.ofNat 32 k.val) = ![k.val, 0, 0] := by decide +kernel
  exact h ⟨k, hk⟩

theorem off32_eq {k : ℕ} (hk : k < 32) : k0_off32 (BitVec.ofNat 32 k) = ![k, 0, 0] := by
  have h : ∀ k : Fin 32, k0_off32 (BitVec.ofNat 32 k.val) = ![k.val, 0, 0] := by decide +kernel
  exact h ⟨k, hk⟩

theorem off33_eq {k : ℕ} (hk : k < 32) : k0_off33 (BitVec.ofNat 32 k) = ![k, 0, 0] := by
  have h : ∀ k : Fin 32, k0_off33 (BitVec.ofNat 32 k.val) = ![k.val, 0, 0] := by decide +kernel
  exact h ⟨k, hk⟩

theorem off37_eq {k : ℕ} (hk : k < 32) : k0_off37 (BitVec.ofNat 32 k) = ![k, 0, 0] := by
  have h : ∀ k : Fin 32, k0_off37 (BitVec.ofNat 32 k.val) = ![k.val, 0, 0] := by decide +kernel
  exact h ⟨k, hk⟩

theorem off42_eq {k : ℕ} (hk : k < 32) : k0_off42 (BitVec.ofNat 32 k) = ![k, 0, 0] := by
  have h : ∀ k : Fin 32, k0_off42 (BitVec.ofNat 32 k.val) = ![k.val, 0, 0] := by decide +kernel
  exact h ⟨k, hk⟩

theorem off49_eq {k : ℕ} (hk : k < 32) : k0_off49 (BitVec.ofNat 32 k) = ![k, 0, 0] := by
  have h : ∀ k : Fin 32, k0_off49 (BitVec.ofNat 32 k.val) = ![k.val, 0, 0] := by decide +kernel
  exact h ⟨k, hk⟩

theorem off54_eq {k : ℕ} (hk : k < 32) : k0_off54 (BitVec.ofNat 32 k) = ![k, 0, 0] := by
  have h : ∀ k : Fin 32, k0_off54 (BitVec.ofNat 32 k.val) = ![k.val, 0, 0] := by decide +kernel
  exact h ⟨k, hk⟩

/-! ## Tile 2 of a block -/

theorem cond15_iff {n : ℕ} (hn : n ≤ 96) : k0_cond15 i (BitVec.ofNat 32 n) = 1#1 ↔ 3 * (i 0).val + 2 < n := by
  have := row_lt i
  simp only [k0_cond15, ne_zero, muli_ofNat, addi_ofNat]
  rw [slt_iff (by omega) (by omega)]
  omega

theorem cond21_iff {n : ℕ} (hn : n ≤ 96) : k0_cond21 i (BitVec.ofNat 32 n) = 1#1 ↔ n ≤ 3 * (i 0).val + 2 := by
  have := row_lt i
  simp only [k0_cond21, ne_zero, muli_ofNat, addi_ofNat]
  rw [sge_iff (by omega) (by omega)]
  omega

theorem cond16_iff {k p : ℕ} (hk : k < 32) (hp : p < 2 ^ 32) :
    k0_cond16 i (BitVec.ofNat 32 k) (BitVec.ofNat 32 p) = 1#1 ↔ 3 * (i 0).val + 2 = 0 ∨ k ≠ p := by
  have := row_lt i
  simp only [k0_cond16, ne_zero, muli_ofNat, addi_ofNat]
  rw [or_iff, eq_iff (by omega) (by omega), ne_iff (by omega) (by omega)]
  omega

theorem cond17_iff {k : ℕ} (hk : k < 32) : k0_cond17 (BitVec.ofNat 32 k) = 1#1 ↔ k = 0 := by
  simp only [k0_cond17, ne_zero]
  exact eq_iff (by omega) (by omega)

theorem cond18_iff {e : ℕ} (he : e ≤ 32) : k0_cond18 (BitVec.ofNat 32 e) = 1#1 ↔ 0 < e := by
  simp only [k0_cond18, ne_zero]
  exact sgt_iff (by omega) (by omega)

theorem cond19_iff {e : ℕ} (he : e ≤ 32) : k0_cond19 (BitVec.ofNat 32 e) = 1#1 ↔ 1 < e := by
  simp only [k0_cond19, ne_zero]
  exact sgt_iff (by omega) (by omega)

theorem cond20_iff {e k n x : ℕ} (he : e ≤ 32) (hk : k < 32) (hn : n ≤ 96) (hx : x < 2 ^ 32) :
    k0_cond20 i (BitVec.ofNat 32 e) (BitVec.ofNat 32 k) (BitVec.ofNat 32 n) (BitVec.ofNat 32 x) = 1#1 ↔
      (3 * (i 0).val + 2 + 1 = n ∨ k ≠ x) ∧ k + 2 < e := by
  have := row_lt i
  simp only [k0_cond20, ne_zero, muli_ofNat, addi_ofNat]
  rw [and_iff, or_iff, eq_iff (by omega) (by omega), ne_iff (by omega) (by omega), slt_iff (by omega) (by omega)]
  omega

theorem off55_eq : k0_off55 i = ![3 * (i 0).val + 2] := by
  revert i
  decide +kernel

theorem off56_eq : k0_off56 i = ![3 * (i 0).val + 2 - 1] := by
  revert i
  decide +kernel

theorem off72_eq : k0_off72 i = ![min (3 * (i 0).val + 2 + 1) 95] := by
  revert i
  decide +kernel

theorem off61_eq {k : ℕ} (hk : k < 32) : k0_off61 (BitVec.ofNat 32 k) = ![k] := by
  have h : ∀ k : Fin 32, k0_off61 (BitVec.ofNat 32 k.val) = ![k.val] := by decide +kernel
  exact h ⟨k, hk⟩

theorem off73_eq {k : ℕ} (hk : k < 32) : k0_off73 (BitVec.ofNat 32 k) = ![k + 2] := by
  have h : ∀ k : Fin 32, k0_off73 (BitVec.ofNat 32 k.val) = ![k.val + 2] := by decide +kernel
  exact h ⟨k, hk⟩

theorem off62_eq {k : ℕ} (hk : k < 32) : k0_off62 (BitVec.ofNat 32 k) = ![k % 2, 0] := by
  have h : ∀ k : Fin 32, k0_off62 (BitVec.ofNat 32 k.val) = ![k.val % 2, 0] := by decide +kernel
  exact h ⟨k, hk⟩

theorem off65_eq {k : ℕ} (hk : k < 32) : k0_off65 (BitVec.ofNat 32 k) = ![k % 2, 1] := by
  have h : ∀ k : Fin 32, k0_off65 (BitVec.ofNat 32 k.val) = ![k.val % 2, 1] := by decide +kernel
  exact h ⟨k, hk⟩

theorem off67_eq {k : ℕ} (hk : k < 32) : k0_off67 (BitVec.ofNat 32 k) = ![k % 2, 2] := by
  have h : ∀ k : Fin 32, k0_off67 (BitVec.ofNat 32 k.val) = ![k.val % 2, 2] := by decide +kernel
  exact h ⟨k, hk⟩

theorem off74_eq {k : ℕ} (hk : k < 32) : k0_off74 (BitVec.ofNat 32 k) = ![k % 2, 0] := by
  have h : ∀ k : Fin 32, k0_off74 (BitVec.ofNat 32 k.val) = ![k.val % 2, 0] := by decide +kernel
  exact h ⟨k, hk⟩

theorem off77_eq {k : ℕ} (hk : k < 32) : k0_off77 (BitVec.ofNat 32 k) = ![k % 2, 1] := by
  have h : ∀ k : Fin 32, k0_off77 (BitVec.ofNat 32 k.val) = ![k.val % 2, 1] := by decide +kernel
  exact h ⟨k, hk⟩

theorem off79_eq {k : ℕ} (hk : k < 32) : k0_off79 (BitVec.ofNat 32 k) = ![k % 2, 2] := by
  have h : ∀ k : Fin 32, k0_off79 (BitVec.ofNat 32 k.val) = ![k.val % 2, 2] := by decide +kernel
  exact h ⟨k, hk⟩

theorem off63_eq {k : ℕ} (hk : k < 32) : k0_off63 (BitVec.ofNat 32 k) = ![k % 2, 0, 0] := by
  have h : ∀ k : Fin 32, k0_off63 (BitVec.ofNat 32 k.val) = ![k.val % 2, 0, 0] := by decide +kernel
  exact h ⟨k, hk⟩

theorem off66_eq {k : ℕ} (hk : k < 32) : k0_off66 (BitVec.ofNat 32 k) = ![k % 2, 0, 0] := by
  have h : ∀ k : Fin 32, k0_off66 (BitVec.ofNat 32 k.val) = ![k.val % 2, 0, 0] := by decide +kernel
  exact h ⟨k, hk⟩

theorem off68_eq {k : ℕ} (hk : k < 32) : k0_off68 (BitVec.ofNat 32 k) = ![k % 2, 0, 0] := by
  have h : ∀ k : Fin 32, k0_off68 (BitVec.ofNat 32 k.val) = ![k.val % 2, 0, 0] := by decide +kernel
  exact h ⟨k, hk⟩

theorem off75_eq {k : ℕ} (hk : k < 32) : k0_off75 (BitVec.ofNat 32 k) = ![k % 2, 0, 0] := by
  have h : ∀ k : Fin 32, k0_off75 (BitVec.ofNat 32 k.val) = ![k.val % 2, 0, 0] := by decide +kernel
  exact h ⟨k, hk⟩

theorem off78_eq {k : ℕ} (hk : k < 32) : k0_off78 (BitVec.ofNat 32 k) = ![k % 2, 0, 0] := by
  have h : ∀ k : Fin 32, k0_off78 (BitVec.ofNat 32 k.val) = ![k.val % 2, 0, 0] := by decide +kernel
  exact h ⟨k, hk⟩

theorem off80_eq {k : ℕ} (hk : k < 32) : k0_off80 (BitVec.ofNat 32 k) = ![k % 2, 0, 0] := by
  have h : ∀ k : Fin 32, k0_off80 (BitVec.ofNat 32 k.val) = ![k.val % 2, 0, 0] := by decide +kernel
  exact h ⟨k, hk⟩

theorem off70_eq {k : ℕ} (hk : k < 32) : k0_off70 (BitVec.ofNat 32 k) = ![k % 2, 0, 0] := by
  have h : ∀ k : Fin 32, k0_off70 (BitVec.ofNat 32 k.val) = ![k.val % 2, 0, 0] := by decide +kernel
  exact h ⟨k, hk⟩

theorem off71_eq {k : ℕ} (hk : k < 32) : k0_off71 (BitVec.ofNat 32 k) = ![k % 2, 0, 0] := by
  have h : ∀ k : Fin 32, k0_off71 (BitVec.ofNat 32 k.val) = ![k.val % 2, 0, 0] := by decide +kernel
  exact h ⟨k, hk⟩

theorem off57_eq {k : ℕ} (hk : k < 32) : k0_off57 (BitVec.ofNat 32 k) = ![k, 0, 0] := by
  have h : ∀ k : Fin 32, k0_off57 (BitVec.ofNat 32 k.val) = ![k.val, 0, 0] := by decide +kernel
  exact h ⟨k, hk⟩

theorem off58_eq {k : ℕ} (hk : k < 32) : k0_off58 (BitVec.ofNat 32 k) = ![k, 0, 0] := by
  have h : ∀ k : Fin 32, k0_off58 (BitVec.ofNat 32 k.val) = ![k.val, 0, 0] := by decide +kernel
  exact h ⟨k, hk⟩

theorem off59_eq {k : ℕ} (hk : k < 32) : k0_off59 (BitVec.ofNat 32 k) = ![k, 0, 0] := by
  have h : ∀ k : Fin 32, k0_off59 (BitVec.ofNat 32 k.val) = ![k.val, 0, 0] := by decide +kernel
  exact h ⟨k, hk⟩

theorem off60_eq {k : ℕ} (hk : k < 32) : k0_off60 (BitVec.ofNat 32 k) = ![k, 0, 0] := by
  have h : ∀ k : Fin 32, k0_off60 (BitVec.ofNat 32 k.val) = ![k.val, 0, 0] := by decide +kernel
  exact h ⟨k, hk⟩

theorem off64_eq {k : ℕ} (hk : k < 32) : k0_off64 (BitVec.ofNat 32 k) = ![k, 0, 0] := by
  have h : ∀ k : Fin 32, k0_off64 (BitVec.ofNat 32 k.val) = ![k.val, 0, 0] := by decide +kernel
  exact h ⟨k, hk⟩

theorem off69_eq {k : ℕ} (hk : k < 32) : k0_off69 (BitVec.ofNat 32 k) = ![k, 0, 0] := by
  have h : ∀ k : Fin 32, k0_off69 (BitVec.ofNat 32 k.val) = ![k.val, 0, 0] := by decide +kernel
  exact h ⟨k, hk⟩

theorem off76_eq {k : ℕ} (hk : k < 32) : k0_off76 (BitVec.ofNat 32 k) = ![k, 0, 0] := by
  have h : ∀ k : Fin 32, k0_off76 (BitVec.ofNat 32 k.val) = ![k.val, 0, 0] := by decide +kernel
  exact h ⟨k, hk⟩

theorem off81_eq {k : ℕ} (hk : k < 32) : k0_off81 (BitVec.ofNat 32 k) = ![k, 0, 0] := by
  have h : ∀ k : Fin 32, k0_off81 (BitVec.ofNat 32 k.val) = ![k.val, 0, 0] := by decide +kernel
  exact h ⟨k, hk⟩

end Cert.Kernel3Ideal.Words

end
-- ==== Proof.Slot.lean ====
/- A slot of the three weight buffers of the experts kernel: free, being filled, or filled; starting and awaiting its copies. -/
module

public import proofs.«01_k».proof.Proof.Words
public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Tactic
public import Idealize.ShloMosaic.Lib.Transfers

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rank-three index of three coordinates. -/
def at3 {a b c : ℕ} (i : Fin a) (j : Fin b) (k : Fin c) : (⟨3, ![a, b, c]⟩ : Shape).Idx := fun
  | 0 => i
  | 1 => j
  | 2 => k

/-- The elements of a slot of a two-slot buffer. -/
def slotSet {b c : ℕ} (s : Fin 2) : Finset (⟨3, ![2, b, c]⟩ : Shape).Idx := Finset.univ.filter fun x => (x 0).val = s.val

theorem slotSet_disjoint {b c : ℕ} {s s' : Fin 2} (h : s ≠ s') : Disjoint (slotSet (b := b) (c := c) s) (slotSet s') :=
  Finset.disjoint_filter.2 fun _ _ e e' => h (Fin.ext (e.symm.trans e'))

theorem slotSet_union {b c : ℕ} : slotSet (b := b) (c := c) 0 ∪ slotSet 1 = Finset.univ := by
  ext x
  have h := (x 0).isLt
  change (x 0).val < 2 at h
  simp only [slotSet, Finset.mem_union, Finset.mem_filter, Finset.mem_univ, true_and, iff_true]
  change (x 0).val = 0 ∨ (x 0).val = 1
  omega

/-- The unit rectangle of slot `s` has the slot's elements. -/
theorem set_slot {b c : ℕ} {off : Fin 3 → ℕ} {s : Fin 2} (h : off = ![s.val, 0, 0])
    (inb : ∀ a : Fin 3, off a + (![1, b, c] : Fin 3 → ℕ) a ≤ (⟨3, ![2, b, c]⟩ : Shape).size a) :
    (Rect.unit (s := ⟨3, ![2, b, c]⟩) off ![1, b, c] inb).set = slotSet s := by
  subst h
  ext x
  have h1 := (x 1).isLt
  have h2 := (x 2).isLt
  change (x 1).val < b at h1
  change (x 2).val < c at h2
  rw [Rect.mem_set_unit, Fin.forall_fin_succ, Fin.forall_fin_succ, Fin.forall_fin_one]
  simp only [slotSet, Finset.mem_filter, Finset.mem_univ, true_and]
  constructor
  · rintro ⟨⟨h, h'⟩, -⟩
    change s.val ≤ (x 0).val at h
    change (x 0).val < s.val + 1 at h'
    omega
  · intro h0
    refine ⟨⟨?_, ?_⟩, ⟨?_, ?_⟩, ?_, ?_⟩
    · change s.val ≤ (x 0).val; omega
    · change (x 0).val < s.val + 1; omega
    · exact Nat.zero_le _
    · change (x 1).val < 0 + b; omega
    · exact Nat.zero_le _
    · change (x 2).val < 0 + c; omega

/-- Expert `e`'s matrix, in every slot. -/
def ofRow {α : Type} {n b c : ℕ} (w : (⟨3, ![n, b, c]⟩ : Shape).Idx → α) (e : Fin n) (x : (⟨3, ![2, b, c]⟩ : Shape).Idx) : α :=
  w (at3 e (x 1) (x 2))

/-- The place in a slot and the place in an expert's row of one index of the copied matrix. -/
theorem row_slot {α : Type} {n b c : ℕ} (w : (⟨3, ![n, b, c]⟩ : Shape).Idx → α) {s' : Shape}
    {off off' : Fin 3 → ℕ} {s : Fin 2} {e : Fin n} (h : off = ![s.val, 0, 0]) (h' : off' = ![e.val, 0, 0])
    (inb : ∀ a : Fin 3, off a + (![1, b, c] : Fin 3 → ℕ) a ≤ (⟨3, ![2, b, c]⟩ : Shape).size a)
    (inb' : ∀ a : Fin 3, off' a + (![1, b, c] : Fin 3 → ℕ) a ≤ (⟨3, ![n, b, c]⟩ : Shape).size a)
    (y : (⟨3, ![1, b, c]⟩ : Shape).Idx) :
    w ((Rect.unit (s := ⟨3, ![n, b, c]⟩) off' ![1, b, c] inb').emb y) =
      ofRow w e ((Rect.unit (s := ⟨3, ![2, b, c]⟩) off ![1, b, c] inb).emb y) := by
  subst h h'
  unfold ofRow
  congr 1
  have h0 := (y 0).isLt
  change (y 0).val < 1 at h0
  funext a
  apply Fin.ext
  match a with
  | 0 =>
    change e.val + 1 * (y 0).val = e.val
    omega
  | 1 => rfl
  | 2 => rfl

/-- The share of the weights a slot's copies read. -/
def half : Fin 2 → PosShare TreeShare
  | 0 => fullShare.left
  | 1 => fullShare.right

/-- The semaphore of slot `s` and matrix `n`. -/
def semAt (s : Fin 2) (n : Fin 3) : DmaSem sig := ⟨4 + (3 * s.val + n.val), by have := s.isLt; have := n.isLt; change _ < 10; omega⟩

theorem sem_at {off : Fin 2 → ℕ} {s : Fin 2} {n : Fin 3} (h : off = ![s.val, n.val])
    (inb : ∀ a : Fin 2, off a + S1x1.size a ≤ S2x3.size a) :
    ((cc0_scratch4.slice (Rect.unit (s := S2x3) off S1x1.size inb)).squeeze S_ squeezes_S1x1_S_).sem = semAt s n := by
  subst h
  have h : ∀ (s : Fin 2) (n : Fin 3) (inb : ∀ a : Fin 2, (![s.val, n.val] : Fin 2 → ℕ) a + S1x1.size a ≤ S2x3.size a),
      ((cc0_scratch4.slice (Rect.unit (s := S2x3) ![s.val, n.val] S1x1.size inb)).squeeze S_ squeezes_S1x1_S_).sem = semAt s n := by
    decide +kernel
  exact h s n inb

/-! ## One copy, of any two arrays -/

section Copy

variable (c : Dev nD) {ℓB ℓW : Loc nD τ sig} (sm : DmaSem sig) (N : ℕ) (I : Finset (Idx ℓB)) (ld : Buf (Elt F) ℓB) (q : PosShare TreeShare) (w : Buf (Elt F) ℓW)

/-- A copy under way: at its wait it delivers the slot filled and the share of its source. -/
def flying : sProp 𝕄 :=
  iprop(∃ J : Finset (Idx ℓW),
    Transfers.Flight (countersEmb (U := Pipeline.UD sig nD τ)) (c : Thread nD τ) (.dma sm) () N iprop((ℓB ↦[I]{fullShare} ld) ∗ (ℓW ↦[J]{q} w)) ∗ (ℓW ↦[Finset.univ \ J]{q} w))

/-- A slot with nothing under way. -/
def resting : sProp 𝕄 :=
  iprop((∃ f : Buf (Elt F) ℓB, ℓB ↦[I]{fullShare} f) ∗ semVal ((c : Thread nD τ), .dma sm) 0 ∗ (ℓW ↦{q} w))

/-- A slot filled. -/
def filled : sProp 𝕄 :=
  iprop((ℓB ↦[I]{fullShare} ld) ∗ semVal ((c : Thread nD τ), .dma sm) 0 ∗ (ℓW ↦{q} w))

theorem filled_resting : (filled c sm I ld q w : sProp 𝕄) ⊢ resting c sm I q w := by
  unfold filled resting
  iintro ⟨H, H'⟩
  isplitl [H]
  · iexists ld; iexact H
  · iexact H'

end Copy

variable (𝒱 : Variants) (c : Dev nD)

theorem start_gen {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) sp (.dma sm) (.here (p := Proc.tc) dst)}
    {α : Type} {k : PUnit → Prog (TpuEff nD τ sig (Elt F) Λ₀ .tc) α} {Q : α → sProp 𝕄}
    {N : ℕ} (hN : dst.view.dmaCredit = N) (hN0 : 0 < s.numel) {I : Finset (Idx (dst.view.loc (c : Thread nD τ)))} (hI : dst.view.set = I)
    {ld : Buf (Elt F) (dst.view.loc (c : Thread nD τ))} {w : Buf (Elt F) (src.view.loc (c : Thread nD τ))} {q : PosShare TreeShare}
    (hv : ∀ f : Buf (Elt F) (dst.view.loc (c : Thread nD τ)), ∀ i ∈ I, dst.view.write (Elt F) f (src.view.read (Elt F) w) Finset.univ i = ld i) :
    (resting c sm I q w : sProp 𝕄)
      ⊢ iprop((flying c sm N I ld q w -∗ wp frame (wpE defs₀ 𝒱 (c : Thread nD τ) none) Set.univ (k ⟨⟩) Q)
          -∗ wp frame (wpE defs₀ 𝒱 (c : Thread nD τ) none) Set.univ (.op (.enqueueDma src (.here dst) (.dma sm) hsrc hdst hsem) k) Q) := by
  unfold resting
  iintro ⟨⟨%f, HB⟩, Hs, HW⟩ Hk
  icases (pointsTo_split_subset (Finset.subset_univ src.view.set)).1 $$ HW with ⟨HW, HW'⟩
  iapply (Transfers.wp_dmaLocal (countersEmb (U := Pipeline.UD sig nD τ)) 𝒱 (c : Thread nD τ) none (via := .same) () N (by rw [View.amount_dma]; exact hN)
    (by rw [← hN]; exact View.dmaCredit_pos _ hN0) (Sd := I) hI.le) $$ [HB Hs HW]
  · isplitl [HW]; · iexact HW
    isplitl [HB]; · iexact HB
    iexact Hs
  iintro Hf
  iapply Hk
  unfold flying
  iexists src.view.set
  isplitl [Hf]
  · iapply (Transfers.Flight_mono (countersEmb (U := Pipeline.UD sig nD τ)) (c : Thread nD τ) ?_) $$ Hf
    · rw [pointsTo_congr (hv f)]
  · iexact HW'

theorem wait_gen {sp sp' : Space} {s : Shape} {e : EltTy} {src : Memref sig .tc sp s e} {dst : Memref sig .tc sp' s e} {sm : DmaSem sig}
    {hsrc : src.view.WordExact} {hdst : dst.view.WordExact}
    {α : Type} {k : PUnit → Prog (TpuEff nD τ sig (Elt F) Λ₀ .tc) α} {Q : α → sProp 𝕄}
    {N : ℕ} (hN : dst.view.dmaCredit = N) {ℓB ℓW : Loc nD τ sig} {I : Finset (Idx ℓB)}
    {ld : Buf (Elt F) ℓB} {w : Buf (Elt F) ℓW} {q : PosShare TreeShare} {W : Waits sig Unit} :
    iprop(flying c sm N I ld q w ∗ owes (c : Thread nD τ) 0 W : sProp 𝕄)
      ⊢ iprop((iprop(filled c sm I ld q w ∗ ∃ W', owes (c : Thread nD τ) 0 W') -∗ wp frame (wpE defs₀ 𝒱 (c : Thread nD τ) none) Set.univ (k ⟨⟩) Q)
          -∗ wp frame (wpE defs₀ 𝒱 (c : Thread nD τ) none) Set.univ (.op (.waitDma2 sm src dst hsrc hdst) k) Q) := by
  unfold flying filled
  iintro ⟨⟨%J, Hf, HW'⟩, Ho⟩ Hk
  iapply (Transfers.wp_waitLocal (countersEmb (U := Pipeline.UD sig nD τ)) 𝒱 (c : Thread nD τ) none () hN) $$ [Hf Ho]
  · isplitl [Hf]; · iexact Hf
    iexact Ho
  iintro ⟨⟨HB, HW⟩, Hs, Ho⟩
  iapply Hk
  isplitr [Ho]
  · isplitl [HB]; · iexact HB
    isplitl [Hs]; · iexact Hs
    iapply (pointsTo_split_subset (Finset.subset_univ J)).2
    isplitl [HW]; · iexact HW
    iexact HW'
  · iexists _; iexact Ho

/-! ## The three arrays -/

/-- What a slot is at: nothing under way, an expert's matrices on their way, or there. -/
inductive Slot where
  | free
  | fly (e : Fin 32)
  | held (e : Fin 32)

/-- The window of matrix 1's buffer at an offset, and of its source. -/
abbrev dst1 (off : Fin 3 → ℕ) (inb : ∀ a : Fin 3, off a + S1x2048x512.size a ≤ S2x2048x512.size a) : Memref sig .tc .vmem S2048x512 .f32 :=
  ((Memref.whole cc0_scratch0).slice (Rect.unit (s := S2x2048x512) off S1x2048x512.size inb) (fun _ => rfl)).squeeze S2048x512 squeezes_S1x2048x512_S2048x512
abbrev src1 (off : Fin 3 → ℕ) (inb : ∀ a : Fin 3, off a + S1x2048x512.size a ≤ S32x2048x512.size a) : Memref sig .tc .hbm S2048x512 .f32 :=
  ((Memref.whole main_arg4).slice (Rect.unit (s := S32x2048x512) off S1x2048x512.size inb) (fun _ => rfl)).squeeze S2048x512 squeezes_S1x2048x512_S2048x512
/-- What a copy of matrix 1 credits its semaphore with. -/
def credit1 : ℕ := (dst1 ![0, 0, 0] inb_S2x2048x512_S1x2048x512_0_0_0).view.dmaCredit

/-- The window of matrix 2's buffer at an offset, and of its source. -/
abbrev dst2 (off : Fin 3 → ℕ) (inb : ∀ a : Fin 3, off a + S1x2048x512.size a ≤ S2x2048x512.size a) : Memref sig .tc .vmem S2048x512 .f32 :=
  ((Memref.whole cc0_scratch1).slice (Rect.unit (s := S2x2048x512) off S1x2048x512.size inb) (fun _ => rfl)).squeeze S2048x512 squeezes_S1x2048x512_S2048x512
abbrev src2 (off : Fin 3 → ℕ) (inb : ∀ a : Fin 3, off a + S1x2048x512.size a ≤ S32x2048x512.size a) : Memref sig .tc .hbm S2048x512 .f32 :=
  ((Memref.whole main_arg5).slice (Rect.unit (s := S32x2048x512) off S1x2048x512.size inb) (fun _ => rfl)).squeeze S2048x512 squeezes_S1x2048x512_S2048x512
/-- What a copy of matrix 2 credits its semaphore with. -/
def credit2 : ℕ := (dst2 ![0, 0, 0] inb_S2x2048x512_S1x2048x512_0_0_0).view.dmaCredit

/-- The window of matrix 3's buffer at an offset, and of its source. -/
abbrev dst3 (off : Fin 3 → ℕ) (inb : ∀ a : Fin 3, off a + S1x512x2048.size a ≤ S2x512x2048.size a) : Memref sig .tc .vmem S512x2048 .f32 :=
  ((Memref.whole cc0_scratch2).slice (Rect.unit (s := S2x512x2048) off S1x512x2048.size inb) (fun _ => rfl)).squeeze S512x2048 squeezes_S1x512x2048_S512x2048
abbrev src3 (off : Fin 3 → ℕ) (inb : ∀ a : Fin 3, off a + S1x512x2048.size a ≤ S32x512x2048.size a) : Memref sig .tc .hbm S512x2048 .f32 :=
  ((Memref.whole main_arg6).slice (Rect.unit (s := S32x512x2048) off S1x512x2048.size inb) (fun _ => rfl)).squeeze S512x2048 squeezes_S1x512x2048_S512x2048
/-- What a copy of matrix 3 credits its semaphore with. -/
def credit3 : ℕ := (dst3 ![0, 0, 0] inb_S2x512x2048_S1x512x2048_0_0_0).view.dmaCredit

/-- The window of the semaphores at an offset. -/
abbrev semOf (off : Fin 2 → ℕ) (inb : ∀ a : Fin 2, off a + S1x1.size a ≤ S2x3.size a) : DmaSem sig :=
  ((cc0_scratch4.slice (Rect.unit (s := S2x3) off S1x1.size inb)).squeeze S_ squeezes_S1x1_S_).sem

section Three

variable (w1 : Buf (Elt F) ((c : Thread nD τ).loc main_arg4)) (w2 : Buf (Elt F) ((c : Thread nD τ).loc main_arg5)) (w3 : Buf (Elt F) ((c : Thread nD τ).loc main_arg6))

/-- A slot's resources. -/
def slot (s : Fin 2) : Slot → sProp 𝕄
  | .free => iprop(resting (ℓB := (c : Thread nD τ).loc cc0_scratch0) c (semAt s 0) (slotSet s) (half s) w1
      ∗ resting (ℓB := (c : Thread nD τ).loc cc0_scratch1) c (semAt s 1) (slotSet s) (half s) w2
      ∗ resting (ℓB := (c : Thread nD τ).loc cc0_scratch2) c (semAt s 2) (slotSet s) (half s) w3)
  | .fly e => iprop(flying (ℓB := (c : Thread nD τ).loc cc0_scratch0) c (semAt s 0) credit1 (slotSet s) (ofRow (n := 32) w1 e) (half s) w1
      ∗ flying (ℓB := (c : Thread nD τ).loc cc0_scratch1) c (semAt s 1) credit2 (slotSet s) (ofRow (n := 32) w2 e) (half s) w2
      ∗ flying (ℓB := (c : Thread nD τ).loc cc0_scratch2) c (semAt s 2) credit3 (slotSet s) (ofRow (n := 32) w3 e) (half s) w3)
  | .held e => iprop(filled (ℓB := (c : Thread nD τ).loc cc0_scratch0) c (semAt s 0) (slotSet s) (ofRow (n := 32) w1 e) (half s) w1
      ∗ filled (ℓB := (c : Thread nD τ).loc cc0_scratch1) c (semAt s 1) (slotSet s) (ofRow (n := 32) w2 e) (half s) w2
      ∗ filled (ℓB := (c : Thread nD τ).loc cc0_scratch2) c (semAt s 2) (slotSet s) (ofRow (n := 32) w3 e) (half s) w3)

/-- A filled slot may be filled again. -/
theorem held_free (s : Fin 2) (e : Fin 32) : (slot c w1 w2 w3 s (.held e) : sProp 𝕄) ⊢ slot c w1 w2 w3 s .free := by
  unfold slot
  iintro ⟨H1, H2, H3⟩
  isplitl [H1]; · iapply filled_resting $$ H1
  isplitl [H2]; · iapply filled_resting $$ H2
  iapply filled_resting $$ H3

theorem start1 {s : Fin 2} {e : Fin 32} {om : Fin 2 → ℕ} {od os : Fin 3 → ℕ}
    {im : ∀ a : Fin 2, om a + S1x1.size a ≤ S2x3.size a} {id : ∀ a : Fin 3, od a + S1x2048x512.size a ≤ S2x2048x512.size a} {is : ∀ a : Fin 3, os a + S1x2048x512.size a ≤ S32x2048x512.size a}
    (hm : om = ![s.val, 0]) (hd : od = ![s.val, 0, 0]) (hs : os = ![e.val, 0, 0])
    {h1 : (src1 os is).view.WordExact} {h2 : (dst1 od id).view.WordExact} {h3 : DmaTarget.Typed (nD := nD) (τ := τ) Space.hbm (.dma (semOf om im)) (.here (p := Proc.tc) (dst1 od id))}
    {α : Type} {k : PUnit → Prog (TpuEff nD τ sig (Elt F) Λ₀ .tc) α} {Q : α → sProp 𝕄} :
    (resting (ℓB := (c : Thread nD τ).loc cc0_scratch0) c (semAt s 0) (slotSet s) (half s) w1 : sProp 𝕄)
      ⊢ iprop((flying (ℓB := (c : Thread nD τ).loc cc0_scratch0) c (semAt s 0) credit1 (slotSet s) (ofRow (n := 32) w1 e) (half s) w1 -∗ wp frame (wpE defs₀ 𝒱 (c : Thread nD τ) none) Set.univ (k ⟨⟩) Q)
          -∗ wp frame (wpE defs₀ 𝒱 (c : Thread nD τ) none) Set.univ (.op (.enqueueDma (src1 os is) (.here (dst1 od id)) (.dma (semOf om im)) h1 h2 h3) k) Q) := by
  have he : semOf om im = semAt s 0 := sem_at (n := 0) hm im
  rw [← he]
  have hset : (dst1 od id).view.set = slotSet s :=
    (View.set_reshape _ _).trans ((View.set_slice_whole cc0_scratch0 _).trans (set_slot hd id))
  have hN : (dst1 od id).view.dmaCredit = credit1 := rfl
  have hp : 0 < S2048x512.numel := by decide +kernel
  refine start_gen 𝒱 c (src := src1 os is) (dst := dst1 od id) (hsrc := h1) (hdst := h2) (hsem := h3) hN hp hset fun f i hi => ?_
  obtain ⟨x, -, rfl⟩ := Finset.mem_map.1 (hset ▸ hi)
  rw [View.write_emb_of_mem _ _ (Finset.mem_univ x)]
  exact row_slot w1 (s' := S2048x512) hd hs id is (Shape.reshapeEquiv _ x)

theorem wait1 {s : Fin 2} {e : Fin 32} {om : Fin 2 → ℕ} {od os : Fin 3 → ℕ}
    {im : ∀ a : Fin 2, om a + S1x1.size a ≤ S2x3.size a} {id : ∀ a : Fin 3, od a + S1x2048x512.size a ≤ S2x2048x512.size a} {is : ∀ a : Fin 3, os a + S1x2048x512.size a ≤ S32x2048x512.size a}
    (hm : om = ![s.val, 0]) {h1 : (src1 os is).view.WordExact} {h2 : (dst1 od id).view.WordExact}
    {α : Type} {k : PUnit → Prog (TpuEff nD τ sig (Elt F) Λ₀ .tc) α} {Q : α → sProp 𝕄} :
    iprop(flying (ℓB := (c : Thread nD τ).loc cc0_scratch0) c (semAt s 0) credit1 (slotSet s) (ofRow (n := 32) w1 e) (half s) w1 ∗ ∃ W, owes (c : Thread nD τ) 0 W : sProp 𝕄)
      ⊢ iprop((iprop(filled (ℓB := (c : Thread nD τ).loc cc0_scratch0) c (semAt s 0) (slotSet s) (ofRow (n := 32) w1 e) (half s) w1 ∗ ∃ W, owes (c : Thread nD τ) 0 W) -∗ wp frame (wpE defs₀ 𝒱 (c : Thread nD τ) none) Set.univ (k ⟨⟩) Q)
          -∗ wp frame (wpE defs₀ 𝒱 (c : Thread nD τ) none) Set.univ (.op (.waitDma2 (semOf om im) (src1 os is) (dst1 od id) h1 h2) k) Q) := by
  have he : semOf om im = semAt s 0 := sem_at (n := 0) hm im
  rw [← he]
  iintro ⟨Hf, %W, Ho⟩ Hk
  have hN : (dst1 od id).view.dmaCredit = credit1 := rfl
  iapply (wait_gen 𝒱 c (src := src1 os is) (dst := dst1 od id) (hsrc := h1) (hdst := h2) hN) $$ [Hf Ho]
  · isplitl [Hf]; · iexact Hf
    iexact Ho
  iexact Hk

theorem start2 {s : Fin 2} {e : Fin 32} {om : Fin 2 → ℕ} {od os : Fin 3 → ℕ}
    {im : ∀ a : Fin 2, om a + S1x1.size a ≤ S2x3.size a} {id : ∀ a : Fin 3, od a + S1x2048x512.size a ≤ S2x2048x512.size a} {is : ∀ a : Fin 3, os a + S1x2048x512.size a ≤ S32x2048x512.size a}
    (hm : om = ![s.val, 1]) (hd : od = ![s.val, 0, 0]) (hs : os = ![e.val, 0, 0])
    {h1 : (src2 os is).view.WordExact} {h2 : (dst2 od id).view.WordExact} {h3 : DmaTarget.Typed (nD := nD) (τ := τ) Space.hbm (.dma (semOf om im)) (.here (p := Proc.tc) (dst2 od id))}
    {α : Type} {k : PUnit → Prog (TpuEff nD τ sig (Elt F) Λ₀ .tc) α} {Q : α → sProp 𝕄} :
    (resting (ℓB := (c : Thread nD τ).loc cc0_scratch1) c (semAt s 1) (slotSet s) (half s) w2 : sProp 𝕄)
      ⊢ iprop((flying (ℓB := (c : Thread nD τ).loc cc0_scratch1) c (semAt s 1) credit2 (slotSet s) (ofRow (n := 32) w2 e) (half s) w2 -∗ wp frame (wpE defs₀ 𝒱 (c : Thread nD τ) none) Set.univ (k ⟨⟩) Q)
          -∗ wp frame (wpE defs₀ 𝒱 (c : Thread nD τ) none) Set.univ (.op (.enqueueDma (src2 os is) (.here (dst2 od id)) (.dma (semOf om im)) h1 h2 h3) k) Q) := by
  have he : semOf om im = semAt s 1 := sem_at (n := 1) hm im
  rw [← he]
  have hset : (dst2 od id).view.set = slotSet s :=
    (View.set_reshape _ _).trans ((View.set_slice_whole cc0_scratch1 _).trans (set_slot hd id))
  have hN : (dst2 od id).view.dmaCredit = credit2 := rfl
  have hp : 0 < S2048x512.numel := by decide +kernel
  refine start_gen 𝒱 c (src := src2 os is) (dst := dst2 od id) (hsrc := h1) (hdst := h2) (hsem := h3) hN hp hset fun f i hi => ?_
  obtain ⟨x, -, rfl⟩ := Finset.mem_map.1 (hset ▸ hi)
  rw [View.write_emb_of_mem _ _ (Finset.mem_univ x)]
  exact row_slot w2 (s' := S2048x512) hd hs id is (Shape.reshapeEquiv _ x)

theorem wait2 {s : Fin 2} {e : Fin 32} {om : Fin 2 → ℕ} {od os : Fin 3 → ℕ}
    {im : ∀ a : Fin 2, om a + S1x1.size a ≤ S2x3.size a} {id : ∀ a : Fin 3, od a + S1x2048x512.size a ≤ S2x2048x512.size a} {is : ∀ a : Fin 3, os a + S1x2048x512.size a ≤ S32x2048x512.size a}
    (hm : om = ![s.val, 1]) {h1 : (src2 os is).view.WordExact} {h2 : (dst2 od id).view.WordExact}
    {α : Type} {k : PUnit → Prog (TpuEff nD τ sig (Elt F) Λ₀ .tc) α} {Q : α → sProp 𝕄} :
    iprop(flying (ℓB := (c : Thread nD τ).loc cc0_scratch1) c (semAt s 1) credit2 (slotSet s) (ofRow (n := 32) w2 e) (half s) w2 ∗ ∃ W, owes (c : Thread nD τ) 0 W : sProp 𝕄)
      ⊢ iprop((iprop(filled (ℓB := (c : Thread nD τ).loc cc0_scratch1) c (semAt s 1) (slotSet s) (ofRow (n := 32) w2 e) (half s) w2 ∗ ∃ W, owes (c : Thread nD τ) 0 W) -∗ wp frame (wpE defs₀ 𝒱 (c : Thread nD τ) none) Set.univ (k ⟨⟩) Q)
          -∗ wp frame (wpE defs₀ 𝒱 (c : Thread nD τ) none) Set.univ (.op (.waitDma2 (semOf om im) (src2 os is) (dst2 od id) h1 h2) k) Q) := by
  have he : semOf om im = semAt s 1 := sem_at (n := 1) hm im
  rw [← he]
  iintro ⟨Hf, %W, Ho⟩ Hk
  have hN : (dst2 od id).view.dmaCredit = credit2 := rfl
  iapply (wait_gen 𝒱 c (src := src2 os is) (dst := dst2 od id) (hsrc := h1) (hdst := h2) hN) $$ [Hf Ho]
  · isplitl [Hf]; · iexact Hf
    iexact Ho
  iexact Hk

theorem start3' {s : Fin 2} {e : Fin 32} {om : Fin 2 → ℕ} {od os : Fin 3 → ℕ}
    {im : ∀ a : Fin 2, om a + S1x1.size a ≤ S2x3.size a} {id : ∀ a : Fin 3, od a + S1x512x2048.size a ≤ S2x512x2048.size a} {is : ∀ a : Fin 3, os a + S1x512x2048.size a ≤ S32x512x2048.size a}
    (hm : om = ![s.val, 2]) (hd : od = ![s.val, 0, 0]) (hs : os = ![e.val, 0, 0])
    {h1 : (src3 os is).view.WordExact} {h2 : (dst3 od id).view.WordExact} {h3 : DmaTarget.Typed (nD := nD) (τ := τ) Space.hbm (.dma (semOf om im)) (.here (p := Proc.tc) (dst3 od id))}
    {α : Type} {k : PUnit → Prog (TpuEff nD τ sig (Elt F) Λ₀ .tc) α} {Q : α → sProp 𝕄} :
    (resting (ℓB := (c : Thread nD τ).loc cc0_scratch2) c (semAt s 2) (slotSet s) (half s) w3 : sProp 𝕄)
      ⊢ iprop((flying (ℓB := (c : Thread nD τ).loc cc0_scratch2) c (semAt s 2) credit3 (slotSet s) (ofRow (n := 32) w3 e) (half s) w3 -∗ wp frame (wpE defs₀ 𝒱 (c : Thread nD τ) none) Set.univ (k ⟨⟩) Q)
          -∗ wp frame (wpE defs₀ 𝒱 (c : Thread nD τ) none) Set.univ (.op (.enqueueDma (src3 os is) (.here (dst3 od id)) (.dma (semOf om im)) h1 h2 h3) k) Q) := by
  have he : semOf om im = semAt s 2 := sem_at (n := 2) hm im
  rw [← he]
  have hset : (dst3 od id).view.set = slotSet s :=
    (View.set_reshape _ _).trans ((View.set_slice_whole cc0_scratch2 _).trans (set_slot hd id))
  have hN : (dst3 od id).view.dmaCredit = credit3 := rfl
  have hp : 0 < S512x2048.numel := by decide +kernel
  refine start_gen 𝒱 c (src := src3 os is) (dst := dst3 od id) (hsrc := h1) (hdst := h2) (hsem := h3) hN hp hset fun f i hi => ?_
  obtain ⟨x, -, rfl⟩ := Finset.mem_map.1 (hset ▸ hi)
  rw [View.write_emb_of_mem _ _ (Finset.mem_univ x)]
  exact row_slot w3 (s' := S512x2048) hd hs id is (Shape.reshapeEquiv _ x)

theorem wait3' {s : Fin 2} {e : Fin 32} {om : Fin 2 → ℕ} {od os : Fin 3 → ℕ}
    {im : ∀ a : Fin 2, om a + S1x1.size a ≤ S2x3.size a} {id : ∀ a : Fin 3, od a + S1x512x2048.size a ≤ S2x512x2048.size a} {is : ∀ a : Fin 3, os a + S1x512x2048.size a ≤ S32x512x2048.size a}
    (hm : om = ![s.val, 2]) {h1 : (src3 os is).view.WordExact} {h2 : (dst3 od id).view.WordExact}
    {α : Type} {k : PUnit → Prog (TpuEff nD τ sig (Elt F) Λ₀ .tc) α} {Q : α → sProp 𝕄} :
    iprop(flying (ℓB := (c : Thread nD τ).loc cc0_scratch2) c (semAt s 2) credit3 (slotSet s) (ofRow (n := 32) w3 e) (half s) w3 ∗ ∃ W, owes (c : Thread nD τ) 0 W : sProp 𝕄)
      ⊢ iprop((iprop(filled (ℓB := (c : Thread nD τ).loc cc0_scratch2) c (semAt s 2) (slotSet s) (ofRow (n := 32) w3 e) (half s) w3 ∗ ∃ W, owes (c : Thread nD τ) 0 W) -∗ wp frame (wpE defs₀ 𝒱 (c : Thread nD τ) none) Set.univ (k ⟨⟩) Q)
          -∗ wp frame (wpE defs₀ 𝒱 (c : Thread nD τ) none) Set.univ (.op (.waitDma2 (semOf om im) (src3 os is) (dst3 od id) h1 h2) k) Q) := by
  have he : semOf om im = semAt s 2 := sem_at (n := 2) hm im
  rw [← he]
  iintro ⟨Hf, %W, Ho⟩ Hk
  have hN : (dst3 od id).view.dmaCredit = credit3 := rfl
  iapply (wait_gen 𝒱 c (src := src3 os is) (dst := dst3 od id) (hsrc := h1) (hdst := h2) hN) $$ [Hf Ho]
  · isplitl [Hf]; · iexact Hf
    iexact Ho
  iexact Hk

/-- Starting the three copies of an expert into a slot with nothing under way. -/
theorem start3 {s : Fin 2} {e : Fin 32}
    {om1 : Fin 2 → ℕ} {od1 os1 : Fin 3 → ℕ} {im1 : ∀ a : Fin 2, om1 a + S1x1.size a ≤ S2x3.size a} {id1 : ∀ a : Fin 3, od1 a + S1x2048x512.size a ≤ S2x2048x512.size a} {is1 : ∀ a : Fin 3, os1 a + S1x2048x512.size a ≤ S32x2048x512.size a}
    {a1 : (src1 os1 is1).view.WordExact} {b1 : (dst1 od1 id1).view.WordExact}
    {om2 : Fin 2 → ℕ} {od2 os2 : Fin 3 → ℕ} {im2 : ∀ a : Fin 2, om2 a + S1x1.size a ≤ S2x3.size a} {id2 : ∀ a : Fin 3, od2 a + S1x2048x512.size a ≤ S2x2048x512.size a} {is2 : ∀ a : Fin 3, os2 a + S1x2048x512.size a ≤ S32x2048x512.size a}
    {a2 : (src2 os2 is2).view.WordExact} {b2 : (dst2 od2 id2).view.WordExact}
    {om3 : Fin 2 → ℕ} {od3 os3 : Fin 3 → ℕ} {im3 : ∀ a : Fin 2, om3 a + S1x1.size a ≤ S2x3.size a} {id3 : ∀ a : Fin 3, od3 a + S1x512x2048.size a ≤ S2x512x2048.size a} {is3 : ∀ a : Fin 3, os3 a + S1x512x2048.size a ≤ S32x512x2048.size a}
    {a3 : (src3 os3 is3).view.WordExact} {b3 : (dst3 od3 id3).view.WordExact}
    {c1 : DmaTarget.Typed (nD := nD) (τ := τ) Space.hbm (.dma (semOf om1 im1)) (.here (p := Proc.tc) (dst1 od1 id1))}
    {c2 : DmaTarget.Typed (nD := nD) (τ := τ) Space.hbm (.dma (semOf om2 im2)) (.here (p := Proc.tc) (dst2 od2 id2))}
    {c3 : DmaTarget.Typed (nD := nD) (τ := τ) Space.hbm (.dma (semOf om3 im3)) (.here (p := Proc.tc) (dst3 od3 id3))}
    (hm1 : om1 = ![s.val, 0]) (hd1 : od1 = ![s.val, 0, 0]) (hs1 : os1 = ![e.val, 0, 0])
    (hm2 : om2 = ![s.val, 1]) (hd2 : od2 = ![s.val, 0, 0]) (hs2 : os2 = ![e.val, 0, 0])
    (hm3 : om3 = ![s.val, 2]) (hd3 : od3 = ![s.val, 0, 0]) (hs3 : os3 = ![e.val, 0, 0])
    {α : Type} {k : PUnit → Prog (TpuEff nD τ sig (Elt F) Λ₀ .tc) α} {Q : α → sProp 𝕄} :
    (slot c w1 w2 w3 s .free : sProp 𝕄)
      ⊢ iprop((slot c w1 w2 w3 s (.fly e) -∗ wp frame (wpE defs₀ 𝒱 (c : Thread nD τ) none) Set.univ (k ⟨⟩) Q)
          -∗ wp frame (wpE defs₀ 𝒱 (c : Thread nD τ) none) Set.univ (.op (.enqueueDma (src1 os1 is1) (.here (dst1 od1 id1)) (.dma (semOf om1 im1)) a1 b1 c1) fun _ => .op (.enqueueDma (src2 os2 is2) (.here (dst2 od2 id2)) (.dma (semOf om2 im2)) a2 b2 c2) fun _ => .op (.enqueueDma (src3 os3 is3) (.here (dst3 od3 id3)) (.dma (semOf om3 im3)) a3 b3 c3) k) Q) := by
  unfold slot
  iintro ⟨H1, H2, H3⟩ Hk
  iapply (start1 𝒱 c w1 hm1 hd1 hs1) $$ H1
  iintro H1
  iapply (start2 𝒱 c w2 hm2 hd2 hs2) $$ H2
  iintro H2
  iapply (start3' 𝒱 c w3 hm3 hd3 hs3) $$ H3
  iintro H3
  iapply Hk
  isplitl [H1]; · iexact H1
  isplitl [H2]; · iexact H2
  iexact H3

/-- Awaiting the three copies under way into a slot. -/
theorem wait3 {s : Fin 2} {e : Fin 32}
    {om1 : Fin 2 → ℕ} {od1 os1 : Fin 3 → ℕ} {im1 : ∀ a : Fin 2, om1 a + S1x1.size a ≤ S2x3.size a} {id1 : ∀ a : Fin 3, od1 a + S1x2048x512.size a ≤ S2x2048x512.size a} {is1 : ∀ a : Fin 3, os1 a + S1x2048x512.size a ≤ S32x2048x512.size a}
    {a1 : (src1 os1 is1).view.WordExact} {b1 : (dst1 od1 id1).view.WordExact}
    {om2 : Fin 2 → ℕ} {od2 os2 : Fin 3 → ℕ} {im2 : ∀ a : Fin 2, om2 a + S1x1.size a ≤ S2x3.size a} {id2 : ∀ a : Fin 3, od2 a + S1x2048x512.size a ≤ S2x2048x512.size a} {is2 : ∀ a : Fin 3, os2 a + S1x2048x512.size a ≤ S32x2048x512.size a}
    {a2 : (src2 os2 is2).view.WordExact} {b2 : (dst2 od2 id2).view.WordExact}
    {om3 : Fin 2 → ℕ} {od3 os3 : Fin 3 → ℕ} {im3 : ∀ a : Fin 2, om3 a + S1x1.size a ≤ S2x3.size a} {id3 : ∀ a : Fin 3, od3 a + S1x512x2048.size a ≤ S2x512x2048.size a} {is3 : ∀ a : Fin 3, os3 a + S1x512x2048.size a ≤ S32x512x2048.size a}
    {a3 : (src3 os3 is3).view.WordExact} {b3 : (dst3 od3 id3).view.WordExact}
    (hm1 : om1 = ![s.val, 0]) (hm2 : om2 = ![s.val, 1]) (hm3 : om3 = ![s.val, 2])
    {α : Type} {k : PUnit → Prog (TpuEff nD τ sig (Elt F) Λ₀ .tc) α} {Q : α → sProp 𝕄} :
    iprop(slot c w1 w2 w3 s (.fly e) ∗ ∃ W, owes (c : Thread nD τ) 0 W : sProp 𝕄)
      ⊢ iprop((iprop(slot c w1 w2 w3 s (.held e) ∗ ∃ W, owes (c : Thread nD τ) 0 W) -∗ wp frame (wpE defs₀ 𝒱 (c : Thread nD τ) none) Set.univ (k ⟨⟩) Q)
          -∗ wp frame (wpE defs₀ 𝒱 (c : Thread nD τ) none) Set.univ (.op (.waitDma2 (semOf om1 im1) (src1 os1 is1) (dst1 od1 id1) a1 b1) fun _ => .op (.waitDma2 (semOf om2 im2) (src2 os2 is2) (dst2 od2 id2) a2 b2) fun _ => .op (.waitDma2 (semOf om3 im3) (src3 os3 is3) (dst3 od3 id3) a3 b3) k) Q) := by
  unfold slot
  iintro ⟨⟨H1, H2, H3⟩, Ho⟩ Hk
  iapply (wait1 𝒱 c w1 hm1) $$ [H1 Ho]
  · isplitl [H1]; · iexact H1
    iexact Ho
  iintro ⟨H1, Ho⟩
  iapply (wait2 𝒱 c w2 hm2) $$ [H2 Ho]
  · isplitl [H2]; · iexact H2
    iexact Ho
  iintro ⟨H2, Ho⟩
  iapply (wait3' 𝒱 c w3 hm3) $$ [H3 Ho]
  · isplitl [H3]; · iexact H3
    iexact Ho
  iintro ⟨H3, Ho⟩
  iapply Hk
  isplitr [Ho]
  · isplitl [H1]; · iexact H1
    isplitl [H2]; · iexact H2
    iexact H3
  · iexact Ho

end Three

end Cert.Kernel3Ideal.Experts

end
-- ==== Proof.Book.lean ====
/- What the experts kernel's tables say, the slots' states tile by tile, and the reads of a tile's words, chunks and matrices. -/
module

public import proofs.«01_k».proof.Proof.Slot

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tables as naturals: the position of each tile's expert among those in use, the expert at each position, how many
    tiles and how many experts are in use. -/
structure Book where
  κ : ℕ → ℕ
  ξ : ℕ → ℕ
  n : ℕ
  E : ℕ

/-- What the launch is told of them. -/
structure Book.Ok (b : Book) : Prop where
  n_le : b.n ≤ 96
  E_le : b.E ≤ 32
  word : ∀ t, b.κ t < 2 ^ 32
  lt : ∀ t, t < b.n → b.κ t < b.E
  zero : 0 < b.n → b.κ 0 = 0
  step : ∀ t, t + 1 < b.n → b.κ (t + 1) = b.κ t ∨ b.κ (t + 1) = b.κ t + 1
  last : ∀ t, t + 1 = b.n → b.κ t + 1 = b.E
  expert : ∀ k, k < b.E → b.ξ k < 32

/-- The words of the tables. -/
structure Book.Reads (b : Book) (T0 : S96.Idx → BitVec 32) (T1 : S32.Idx → BitVec 32) (T2 : S2.Idx → BitVec 32) : Prop where
  tile : ∀ x, T0 x = BitVec.ofNat 32 (b.κ (x 0).val)
  seq : ∀ x, T1 x = BitVec.ofNat 32 (b.ξ (x 0).val)
  used : ∀ x, (x 0).val = 0 → T2 x = BitVec.ofNat 32 b.n
  experts : ∀ x, (x 0).val = 1 → T2 x = BitVec.ofNat 32 b.E

namespace Book

variable (b : Book)

/-- The expert at a position. -/
def ex (k : ℕ) : Fin 32 := ⟨b.ξ k % 32, Nat.mod_lt _ (by decide)⟩

theorem ex_val (h : b.Ok) {k : ℕ} (hk : k < b.E) : (b.ex k).val = b.ξ k := Nat.mod_eq_of_lt (h.expert k hk)

/-- The slots while position `k` is worked on: its own at `σ`, the other filling for the next position. -/
def on (k : ℕ) (σ : Slot) (s : Fin 2) : Slot := if s.val = k % 2 then σ else if k + 1 < b.E then .fly (b.ex (k + 1)) else .free

/-- The slots before tile `t`. -/
def before (t : ℕ) (s : Fin 2) : Slot :=
  if t = 0 ∨ b.n ≤ t then .free
  else if b.κ t = b.κ (t - 1) then b.on (b.κ t) (.held (b.ex (b.κ t))) s else b.on (b.κ t) (.fly (b.ex (b.κ t))) s

/-- The slots while tile `t` is worked on. -/
def during (t : ℕ) (s : Fin 2) : Slot := b.on (b.κ t) (.held (b.ex (b.κ t))) s

theorem before_first (s : Fin 2) : b.before 0 s = .free := if_pos (.inl rfl)

theorem before_unused {t : ℕ} (h : b.n ≤ t) (s : Fin 2) : b.before t s = .free := if_pos (.inr h)

theorem before_same {t : ℕ} (h0 : t ≠ 0) (h : t < b.n) (e : b.κ t = b.κ (t - 1)) (s : Fin 2) : b.before t s = b.during t s := by
  unfold before during
  rw [if_neg (by omega), if_pos e]

theorem before_fresh {t : ℕ} (h0 : t ≠ 0) (h : t < b.n) (e : b.κ t ≠ b.κ (t - 1)) (s : Fin 2) :
    b.before t s = b.on (b.κ t) (.fly (b.ex (b.κ t))) s := by
  unfold before
  rw [if_neg (by omega), if_neg e]

end Book

/-- The other slot. -/
def other (s : Fin 2) : Fin 2 := ⟨1 - s.val, by omega⟩

/-- The slot of a position. -/
def slotOf (k : ℕ) : Fin 2 := ⟨k % 2, Nat.mod_lt _ (by decide)⟩

theorem Book.on_self (b : Book) (k : ℕ) (σ : Slot) : b.on k σ (slotOf k) = σ := if_pos rfl
theorem Book.on_other (b : Book) (k : ℕ) (σ : Slot) : b.on k σ (other (slotOf k)) = if k + 1 < b.E then .fly (b.ex (k + 1)) else .free :=
  if_neg (by unfold other slotOf; dsimp only; omega)

section Mem

variable (c : Dev nD)
variable (T0 : Buf (Elt F) ((c : Thread nD τ).loc main_arg0)) (T1 : Buf (Elt F) ((c : Thread nD τ).loc main_arg1)) (T2 : Buf (Elt F) ((c : Thread nD τ).loc main_arg2))
variable (w1 : Buf (Elt F) ((c : Thread nD τ).loc main_arg4)) (w2 : Buf (Elt F) ((c : Thread nD τ).loc main_arg5)) (w3 : Buf (Elt F) ((c : Thread nD τ).loc main_arg6))

/-- The tables, readable. -/
def tabs : sProp 𝕄 :=
  iprop(((c : Thread nD τ).loc main_arg0 ↦{fullShare.right} T0) ∗ ((c : Thread nD τ).loc main_arg1 ↦{fullShare.right} T1) ∗ ((c : Thread nD τ).loc main_arg2 ↦{fullShare.right} T2))

/-- Both slots. -/
def slots (σ : Fin 2 → Slot) : sProp 𝕄 := iprop(slot c w1 w2 w3 0 (σ 0) ∗ slot c w1 w2 w3 1 (σ 1))

/-- The two slots, one named. -/
theorem slots_split (σ : Fin 2 → Slot) (s : Fin 2) : (slots c w1 w2 w3 σ : sProp 𝕄) ⊢ iprop(slot c w1 w2 w3 s (σ s) ∗ slot c w1 w2 w3 (other s) (σ (other s))) := by
  unfold slots
  match s with
  | 0 => exact .rfl
  | 1 => exact sep_comm

theorem slots_join (σ : Fin 2 → Slot) (s : Fin 2) : iprop(slot c w1 w2 w3 s (σ s) ∗ slot c w1 w2 w3 (other s) (σ (other s)) : sProp 𝕄) ⊢ slots c w1 w2 w3 σ := by
  unfold slots
  match s with
  | 0 => exact .rfl
  | 1 => exact sep_comm

variable (𝒱 : Variants) {b : Book} {T0 T1 T2}

theorem read_word {s : Shape} (m : Memref sig .tc .smem s .i32) {r : Rect s} {h1 : r.shape.numel = 1} {h2 : EltTy.i32.packing = 1}
    {q : PosShare TreeShare} {f : Buf (Elt F) ((m.access r).loc (c : Thread nD τ))} {v : BitVec 32}
    (hv : (m.access r).read (Elt F) f (Shape.Idx.first (h1.symm ▸ Nat.one_pos)) = v)
    {α : Type} {k : BitVec 32 → Prog (TpuEff nD τ sig (Elt F) Λ₀ .tc) α} {Q : α → sProp 𝕄} :
    ((m.access r).loc (c : Thread nD τ) ↦{q} f : sProp 𝕄) ⊢ iprop((((m.access r).loc (c : Thread nD τ) ↦{q} f) -∗ wp frame (wpE (defs₀ (F := F)) 𝒱 (c : Thread nD τ) none) Set.univ (k v) Q)
      -∗ wp frame (wpE (defs₀ (F := F)) 𝒱 (c : Thread nD τ) none) Set.univ (smemLoad (p := .tc) m r h1 h2 >>= k) Q) := by
  subst hv
  exact wp_load_rect 𝒱 (c : Thread nD τ) none Set.univ (m := m) (r := r) (k := fun f => k (f (Shape.Idx.first (h1.symm ▸ Nat.one_pos)))) (Finset.subset_univ _)

theorem read_tile (hb : b.Reads T0 T1 T2) {off : Fin 1 → ℕ} {inb : ∀ a : Fin 1, off a + S1.size a ≤ S96.size a} {t : ℕ} (h : off = ![t])
    {h1 : (Rect.unit (s := S96) off S1.size inb).shape.numel = 1} {h2 : EltTy.i32.packing = 1}
    {α : Type} {k : BitVec 32 → Prog (TpuEff nD τ sig (Elt F) Λ₀ .tc) α} {Q : α → sProp 𝕄} :
    (tabs c T0 T1 T2 : sProp 𝕄) ⊢ iprop((tabs c T0 T1 T2 -∗ wp frame (wpE (defs₀ (F := F)) 𝒱 (c : Thread nD τ) none) Set.univ (k (BitVec.ofNat 32 (b.κ t))) Q)
      -∗ wp frame (wpE (defs₀ (F := F)) 𝒱 (c : Thread nD τ) none) Set.univ (smemLoad (p := .tc) (Memref.whole main_arg0) (Rect.unit (s := S96) off S1.size inb) h1 h2 >>= k) Q) := by
  subst h
  unfold tabs
  iintro ⟨H0, H1, H2⟩ Hk
  iapply (read_word c 𝒱 (Memref.whole main_arg0) (r := Rect.unit (s := S96) ![t] S1.size inb) (h1 := h1) (f := T0) (v := BitVec.ofNat 32 (b.κ t)) (hb.tile _)) $$ H0
  iintro H0
  iapply Hk
  isplitl [H0]; · iexact H0
  isplitl [H1]; · iexact H1
  iexact H2

theorem read_seq (hb : b.Reads T0 T1 T2) {off : Fin 1 → ℕ} {inb : ∀ a : Fin 1, off a + S1.size a ≤ S32.size a} {t : ℕ} (h : off = ![t])
    {h1 : (Rect.unit (s := S32) off S1.size inb).shape.numel = 1} {h2 : EltTy.i32.packing = 1}
    {α : Type} {k : BitVec 32 → Prog (TpuEff nD τ sig (Elt F) Λ₀ .tc) α} {Q : α → sProp 𝕄} :
    (tabs c T0 T1 T2 : sProp 𝕄) ⊢ iprop((tabs c T0 T1 T2 -∗ wp frame (wpE (defs₀ (F := F)) 𝒱 (c : Thread nD τ) none) Set.univ (k (BitVec.ofNat 32 (b.ξ t))) Q)
      -∗ wp frame (wpE (defs₀ (F := F)) 𝒱 (c : Thread nD τ) none) Set.univ (smemLoad (p := .tc) (Memref.whole main_arg1) (Rect.unit (s := S32) off S1.size inb) h1 h2 >>= k) Q) := by
  subst h
  unfold tabs
  iintro ⟨H0, H1, H2⟩ Hk
  iapply (read_word c 𝒱 (Memref.whole main_arg1) (r := Rect.unit (s := S32) ![t] S1.size inb) (h1 := h1) (f := T1) (v := BitVec.ofNat 32 (b.ξ t)) (hb.seq _)) $$ H1
  iintro H1
  iapply Hk
  isplitl [H0]; · iexact H0
  isplitl [H1]; · iexact H1
  iexact H2

theorem read_used (hb : b.Reads T0 T1 T2) {off : Fin 1 → ℕ} {inb : ∀ a : Fin 1, off a + S1.size a ≤ S2.size a} (h : off = ![0])
    {h1 : (Rect.unit (s := S2) off S1.size inb).shape.numel = 1} {h2 : EltTy.i32.packing = 1}
    {α : Type} {k : BitVec 32 → Prog (TpuEff nD τ sig (Elt F) Λ₀ .tc) α} {Q : α → sProp 𝕄} :
    (tabs c T0 T1 T2 : sProp 𝕄) ⊢ iprop((tabs c T0 T1 T2 -∗ wp frame (wpE (defs₀ (F := F)) 𝒱 (c : Thread nD τ) none) Set.univ (k (BitVec.ofNat 32 b.n)) Q)
      -∗ wp frame (wpE (defs₀ (F := F)) 𝒱 (c : Thread nD τ) none) Set.univ (smemLoad (p := .tc) (Memref.whole main_arg2) (Rect.unit (s := S2) off S1.size inb) h1 h2 >>= k) Q) := by
  subst h
  unfold tabs
  iintro ⟨H0, H1, H2⟩ Hk
  iapply (read_word c 𝒱 (Memref.whole main_arg2) (r := Rect.unit (s := S2) ![0] S1.size inb) (h1 := h1) (f := T2) (v := BitVec.ofNat 32 b.n) (hb.used _ rfl)) $$ H2
  iintro H2
  iapply Hk
  isplitl [H0]; · iexact H0
  isplitl [H1]; · iexact H1
  iexact H2

theorem read_experts (hb : b.Reads T0 T1 T2) {off : Fin 1 → ℕ} {inb : ∀ a : Fin 1, off a + S1.size a ≤ S2.size a} (h : off = ![1])
    {h1 : (Rect.unit (s := S2) off S1.size inb).shape.numel = 1} {h2 : EltTy.i32.packing = 1}
    {α : Type} {k : BitVec 32 → Prog (TpuEff nD τ sig (Elt F) Λ₀ .tc) α} {Q : α → sProp 𝕄} :
    (tabs c T0 T1 T2 : sProp 𝕄) ⊢ iprop((tabs c T0 T1 T2 -∗ wp frame (wpE (defs₀ (F := F)) 𝒱 (c : Thread nD τ) none) Set.univ (k (BitVec.ofNat 32 b.E)) Q)
      -∗ wp frame (wpE (defs₀ (F := F)) 𝒱 (c : Thread nD τ) none) Set.univ (smemLoad (p := .tc) (Memref.whole main_arg2) (Rect.unit (s := S2) off S1.size inb) h1 h2 >>= k) Q) := by
  subst h
  unfold tabs
  iintro ⟨H0, H1, H2⟩ Hk
  iapply (read_word c 𝒱 (Memref.whole main_arg2) (r := Rect.unit (s := S2) ![1] S1.size inb) (h1 := h1) (f := T2) (v := BitVec.ofNat 32 b.E) (hb.experts _ rfl)) $$ H2
  iintro H2
  iapply Hk
  isplitl [H0]; · iexact H0
  isplitl [H1]; · iexact H1
  iexact H2

end Mem

theorem Idx.ext2 {a b : ℕ} {x y : (⟨2, ![a, b]⟩ : Shape).Idx} (h0 : (x 0).val = (y 0).val) (h1 : (x 1).val = (y 1).val) : x = y := by
  funext i
  match i with
  | 0 => exact Fin.ext h0
  | 1 => exact Fin.ext h1

theorem zero_add_mul (n : ℕ) : 0 + 1 * n = n := by omega

/-! ## The matrices of a filled slot -/

section Load

variable (𝒱 : Variants) (c : Dev nD)
variable (w1 : Buf (Elt F) ((c : Thread nD τ).loc main_arg4)) (w2 : Buf (Elt F) ((c : Thread nD τ).loc main_arg5)) (w3 : Buf (Elt F) ((c : Thread nD τ).loc main_arg6))

/-- An expert's first matrices, under a leading one. -/
def matA (w : S32x2048x512.Idx → F .f32) (e : Fin 32) : Vec F S1x2048x512 .f32 := fun x => w (at3 e (x 1) (x 2))
/-- An expert's last matrix, under a leading one. -/
def matC (w : S32x512x2048.Idx → F .f32) (e : Fin 32) : Vec F S1x512x2048 .f32 := fun x => w (at3 e (x 1) (x 2))

theorem load1 {s : Fin 2} {e : Fin 32} {off : Fin 3 → ℕ} {inb : ∀ a : Fin 3, off a + S1x2048x512.size a ≤ S2x2048x512.size a} (h : off = ![s.val, 0, 0])
    {hl : ((Memref.whole cc0_scratch0).view).LoadsAt (Rect.unit (s := S2x2048x512) off S1x2048x512.size inb).toLoadRect}
    {α : Type} {k : Vec F S1x2048x512 .f32 → Prog (TpuEff nD τ sig (Elt F) Λ₀ .tc) α} {Q : α → sProp 𝕄} :
    (slot c w1 w2 w3 s (.held e) : sProp 𝕄)
      ⊢ iprop((slot c w1 w2 w3 s (.held e) -∗ wp frame (wpE (defs₀ (F := F)) 𝒱 (c : Thread nD τ) none) Set.univ (k (matA w1 e)) Q)
        -∗ wp frame (wpE (defs₀ (F := F)) 𝒱 (c : Thread nD τ) none) Set.univ (.op (.load (Memref.whole cc0_scratch0) (Rect.unit (s := S2x2048x512) off S1x2048x512.size inb).toLoadRect hl) k) Q) := by
  subst h
  have hset : ((Memref.whole cc0_scratch0).access (Rect.unit (s := S2x2048x512) ![s.val, 0, 0] S1x2048x512.size inb)).set = slotSet s :=
    (View.set_slice_whole _ _).trans (set_slot rfl inb)
  unfold slot filled
  iintro ⟨H1, H2, H3⟩ Hk
  icases H1 with ⟨Hp, Hr⟩
  iapply (wp_load_rect 𝒱 (c : Thread nD τ) none Set.univ (m := Memref.whole cc0_scratch0) (r := Rect.unit (s := S2x2048x512) ![s.val, 0, 0] S1x2048x512.size inb) (S := slotSet s) (f := ofRow (n := 32) w1 e) hset.subset) $$ Hp
  iintro Hp
  rw [show ((Memref.whole cc0_scratch0).access (Rect.unit (s := S2x2048x512) ![s.val, 0, 0] S1x2048x512.size inb)).read (Elt F) (ofRow (n := 32) w1 e) = matA w1 e from
    funext fun x => congrArg w1 (congrArg₂ (at3 e) (Fin.ext (zero_add_mul _)) (Fin.ext (zero_add_mul _)))]
  iapply Hk
  isplitl [Hp Hr]; · isplitl [Hp]; iexact Hp; iexact Hr
  isplitl [H2]; · iexact H2
  iexact H3
theorem load2 {s : Fin 2} {e : Fin 32} {off : Fin 3 → ℕ} {inb : ∀ a : Fin 3, off a + S1x2048x512.size a ≤ S2x2048x512.size a} (h : off = ![s.val, 0, 0])
    {hl : ((Memref.whole cc0_scratch1).view).LoadsAt (Rect.unit (s := S2x2048x512) off S1x2048x512.size inb).toLoadRect}
    {α : Type} {k : Vec F S1x2048x512 .f32 → Prog (TpuEff nD τ sig (Elt F) Λ₀ .tc) α} {Q : α → sProp 𝕄} :
    (slot c w1 w2 w3 s (.held e) : sProp 𝕄)
      ⊢ iprop((slot c w1 w2 w3 s (.held e) -∗ wp frame (wpE (defs₀ (F := F)) 𝒱 (c : Thread nD τ) none) Set.univ (k (matA w2 e)) Q)
        -∗ wp frame (wpE (defs₀ (F := F)) 𝒱 (c : Thread nD τ) none) Set.univ (.op (.load (Memref.whole cc0_scratch1) (Rect.unit (s := S2x2048x512) off S1x2048x512.size inb).toLoadRect hl) k) Q) := by
  subst h
  have hset : ((Memref.whole cc0_scratch1).access (Rect.unit (s := S2x2048x512) ![s.val, 0, 0] S1x2048x512.size inb)).set = slotSet s :=
    (View.set_slice_whole _ _).trans (set_slot rfl inb)
  unfold slot filled
  iintro ⟨H1, H2, H3⟩ Hk
  icases H2 with ⟨Hp, Hr⟩
  iapply (wp_load_rect 𝒱 (c : Thread nD τ) none Set.univ (m := Memref.whole cc0_scratch1) (r := Rect.unit (s := S2x2048x512) ![s.val, 0, 0] S1x2048x512.size inb) (S := slotSet s) (f := ofRow (n := 32) w2 e) hset.subset) $$ Hp
  iintro Hp
  rw [show ((Memref.whole cc0_scratch1).access (Rect.unit (s := S2x2048x512) ![s.val, 0, 0] S1x2048x512.size inb)).read (Elt F) (ofRow (n := 32) w2 e) = matA w2 e from
    funext fun x => congrArg w2 (congrArg₂ (at3 e) (Fin.ext (zero_add_mul _)) (Fin.ext (zero_add_mul _)))]
  iapply Hk
  isplitl [H1]; · iexact H1
  isplitl [Hp Hr]; · isplitl [Hp]; iexact Hp; iexact Hr
  iexact H3
theorem load3 {s : Fin 2} {e : Fin 32} {off : Fin 3 → ℕ} {inb : ∀ a : Fin 3, off a + S1x512x2048.size a ≤ S2x512x2048.size a} (h : off = ![s.val, 0, 0])
    {hl : ((Memref.whole cc0_scratch2).view).LoadsAt (Rect.unit (s := S2x512x2048) off S1x512x2048.size inb).toLoadRect}
    {α : Type} {k : Vec F S1x512x2048 .f32 → Prog (TpuEff nD τ sig (Elt F) Λ₀ .tc) α} {Q : α → sProp 𝕄} :
    (slot c w1 w2 w3 s (.held e) : sProp 𝕄)
      ⊢ iprop((slot c w1 w2 w3 s (.held e) -∗ wp frame (wpE (defs₀ (F := F)) 𝒱 (c : Thread nD τ) none) Set.univ (k (matC w3 e)) Q)
        -∗ wp frame (wpE (defs₀ (F := F)) 𝒱 (c : Thread nD τ) none) Set.univ (.op (.load (Memref.whole cc0_scratch2) (Rect.unit (s := S2x512x2048) off S1x512x2048.size inb).toLoadRect hl) k) Q) := by
  subst h
  have hset : ((Memref.whole cc0_scratch2).access (Rect.unit (s := S2x512x2048) ![s.val, 0, 0] S1x512x2048.size inb)).set = slotSet s :=
    (View.set_slice_whole _ _).trans (set_slot rfl inb)
  unfold slot filled
  iintro ⟨H1, H2, H3⟩ Hk
  icases H3 with ⟨Hp, Hr⟩
  iapply (wp_load_rect 𝒱 (c : Thread nD τ) none Set.univ (m := Memref.whole cc0_scratch2) (r := Rect.unit (s := S2x512x2048) ![s.val, 0, 0] S1x512x2048.size inb) (S := slotSet s) (f := ofRow (n := 32) w3 e) hset.subset) $$ Hp
  iintro Hp
  rw [show ((Memref.whole cc0_scratch2).access (Rect.unit (s := S2x512x2048) ![s.val, 0, 0] S1x512x2048.size inb)).read (Elt F) (ofRow (n := 32) w3 e) = matC w3 e from
    funext fun x => congrArg w3 (congrArg₂ (at3 e) (Fin.ext (zero_add_mul _)) (Fin.ext (zero_add_mul _)))]
  iapply Hk
  isplitl [H1]; · iexact H1
  isplitl [H2]; · iexact H2
  isplitl [Hp]; · iexact Hp
  iexact Hr

end Load

/-! ## The rows gathered for a tile, chunk by chunk, and the tile's result rows -/

section Rows

variable (𝒱 : Variants) (c : Dev nD)

/-- The rank-two index of two coordinates. -/
def at2 {a b : ℕ} (i : Fin a) (j : Fin b) : (⟨2, ![a, b]⟩ : Shape).Idx := fun
  | 0 => i
  | 1 => j

/-- The rows of tile `s` of a step's block. -/
def rowsOf {A : Type} (X : S768x2048.Idx → A) (s : Fin 3) : S256x2048.Idx → A :=
  fun x => X (at2 ⟨256 * s.val + (x 0).val, by have h := (x 0).isLt; change (x 0).val < 256 at h; omega⟩ (x 1))

/-- A chunk of rows. -/
def chunkOf {A : Type} (g : S256x2048.Idx → A) (d : Fin 16) : S256x128.Idx → A :=
  fun x => g (at2 (x 0) ⟨128 * d.val + (x 1).val, by have h := (x 1).isLt; change (x 1).val < 128 at h; omega⟩)

/-- The row buffer with its first `d` chunks in place. -/
def scratch (g : Vec F S256x2048 .bf16) (d : ℕ) : sProp 𝕄 :=
  iprop(∃ f : Buf (Elt F) ((c : Thread nD τ).loc cc0_scratch3), ⌜∀ x : S256x2048.Idx, (x 1).val < 128 * d → f x = g x⌝ ∗ ((c : Thread nD τ).loc cc0_scratch3 ↦{fullShare} f))

theorem load_chunk {arg : Memref sig .tc .vmem S768x2048 .bf16} {q : PosShare TreeShare} {X : Vec F S768x2048 .bf16} (s : Fin 3) (d : Fin 16) {off : Fin 2 → ℕ}
    (h : off = ![256 * s.val, 128 * d.val]) {inb : ∀ a : Fin 2, off a + S256x128.size a ≤ S768x2048.size a} {hl : arg.view.LoadsAt (Rect.unit (s := S768x2048) off S256x128.size inb).toLoadRect}
    {α : Type} {k : Vec F S256x128 .bf16 → Prog (TpuEff nD τ sig (Elt F) Λ₀ .tc) α} {Q : α → sProp 𝕄} :
    (owns (c : Thread nD τ) arg q X : sProp 𝕄)
      ⊢ iprop((owns (c : Thread nD τ) arg q X -∗ wp frame (wpE (defs₀ (F := F)) 𝒱 (c : Thread nD τ) none) Set.univ (k (chunkOf (rowsOf X s) d)) Q)
        -∗ wp frame (wpE (defs₀ (F := F)) 𝒱 (c : Thread nD τ) none) Set.univ (.op (.load arg (Rect.unit (s := S768x2048) off S256x128.size inb).toLoadRect hl) k) Q) := by
  subst h
  unfold owns
  iintro ⟨%f, %hf, H⟩ Hk
  iapply (wp_load_rect 𝒱 (c : Thread nD τ) none Set.univ (m := arg) (r := Rect.unit (s := S768x2048) ![256 * s.val, 128 * d.val] S256x128.size inb) (View.set_slice_subset _ _)) $$ H
  iintro H
  rw [show (arg.access (Rect.unit (s := S768x2048) ![256 * s.val, 128 * d.val] S256x128.size inb)).read (Elt F) f = chunkOf (rowsOf X s) d from by
    subst hf
    funext x
    refine congrArg (arg.view.read (Elt F) f) (Idx.ext2 ?_ ?_)
    · change 256 * s.val + 1 * (x 0).val = 256 * s.val + (x 0).val; omega
    · change 128 * d.val + 1 * (x 1).val = 128 * d.val + (x 1).val; omega]
  iapply Hk
  iexists f
  isplitr; · ipureintro; exact hf
  iexact H

theorem peek_chunk {g : Vec F S256x2048 .bf16} {d : ℕ} {r : Rect S256x2048} {hl : (Memref.whole cc0_scratch3).view.LoadsAt r.toLoadRect}
    {α : Type} {k : Vec F r.shape .bf16 → Prog (TpuEff nD τ sig (Elt F) Λ₀ .tc) α} {Q : α → sProp 𝕄} :
    (scratch c g d : sProp 𝕄)
      ⊢ iprop((∀ w, scratch c g d -∗ wp frame (wpE (defs₀ (F := F)) 𝒱 (c : Thread nD τ) none) Set.univ (k w) Q)
        -∗ wp frame (wpE (defs₀ (F := F)) 𝒱 (c : Thread nD τ) none) Set.univ (.op (.load (Memref.whole cc0_scratch3) r.toLoadRect hl) k) Q) := by
  unfold scratch
  iintro ⟨%f, %hf, H⟩ Hk
  iapply (wp_load_rect 𝒱 (c : Thread nD τ) none Set.univ (m := Memref.whole cc0_scratch3) (r := r) (Finset.subset_univ _)) $$ H
  iintro H
  iapply Hk
  iexists f
  isplitr; · ipureintro; exact hf
  iexact H

theorem store_chunk {g : Vec F S256x2048 .bf16} (d : ℕ) (hd : d < 16) {off : Fin 2 → ℕ} (h : off = ![0, 128 * d])
    {inb : ∀ a : Fin 2, off a + S256x128.size a ≤ S256x2048.size a} {v : Vec F S256x128 .bf16} (hv : v = chunkOf g ⟨d, hd⟩)
    {hx : ((Memref.whole cc0_scratch3).access (Rect.unit (s := S256x2048) off S256x128.size inb)).Stores Finset.univ}
    {hm : (Finset.univ : Finset S256x128.Idx) = Finset.univ ∨ ∀ a, (Rect.unit (s := S256x2048) off S256x128.size inb).stride a = 1}
    {α : Type} {k : PUnit → Prog (TpuEff nD τ sig (Elt F) Λ₀ .tc) α} {Q : α → sProp 𝕄} :
    (scratch c g d : sProp 𝕄)
      ⊢ iprop((scratch c g (d + 1) -∗ wp frame (wpE (defs₀ (F := F)) 𝒱 (c : Thread nD τ) none) Set.univ (k ⟨⟩) Q)
        -∗ wp frame (wpE (defs₀ (F := F)) 𝒱 (c : Thread nD τ) none) Set.univ (.op (.store (Memref.whole cc0_scratch3) (Rect.unit (s := S256x2048) off S256x128.size inb) v Finset.univ hx hm) k) Q) := by
  subst h hv
  unfold scratch
  iintro ⟨%f, %hf, H⟩ Hk
  iapply (wp_store 𝒱 (c : Thread nD τ) none Set.univ (m := Memref.whole cc0_scratch3) (r := Rect.unit (s := S256x2048) ![0, 128 * d] S256x128.size inb) (Finset.subset_univ _)) $$ H
  iintro H
  iapply Hk
  iexists _
  isplitr; swap; · iexact H
  ipureintro
  intro x hx'
  have h0 := (x 0).isLt
  have h1 := (x 1).isLt
  change (x 0).val < 256 at h0
  change (x 1).val < 2048 at h1
  by_cases hlt : (x 1).val < 128 * d
  · refine (View.read_slice_write_of_not_mem (v := (Memref.whole cc0_scratch3).view) (Rect.unit (s := S256x2048) ![0, 128 * d] S256x128.size inb) f (chunkOf g ⟨d, hd⟩) Finset.univ (y := x) ?_).trans (hf x hlt)
    intro hm'
    obtain ⟨j, -, hj⟩ := Finset.mem_map.1 hm'
    have := congrArg (fun z : S256x2048.Idx => (z 1).val) hj
    change 128 * d + 1 * (j 1).val = (x 1).val at this
    omega
  · have hx'' : x = (Rect.unit (s := S256x2048) ![0, 128 * d] S256x128.size inb).emb (at2 ⟨(x 0).val, h0⟩ ⟨(x 1).val - 128 * d, by omega⟩ : S256x128.Idx) := by
      refine Idx.ext2 ?_ ?_
      · change (x 0).val = 0 + 1 * (x 0).val; omega
      · change (x 1).val = 128 * d + 1 * ((x 1).val - 128 * d); omega
    conv_lhs => rw [hx'']
    refine (View.read_slice_write_emb (v := (Memref.whole cc0_scratch3).view) (Rect.unit (s := S256x2048) ![0, 128 * d] S256x128.size inb) f (chunkOf g ⟨d, hd⟩) (Finset.mem_univ _)).trans ?_
    unfold chunkOf
    refine congrArg g (Idx.ext2 rfl ?_)
    change 128 * d + ((x 1).val - 128 * d) = (x 1).val
    omega

/-- The row buffer, all of it in place, is read whole. -/
theorem load_rows {g : Vec F S256x2048 .bf16} {off : Fin 2 → ℕ} (h : off = ![0, 0]) {inb : ∀ a : Fin 2, off a + S256x2048.size a ≤ S256x2048.size a}
    {hl : (Memref.whole cc0_scratch3).view.LoadsAt (Rect.unit (s := S256x2048) off S256x2048.size inb).toLoadRect}
    {α : Type} {k : Vec F S256x2048 .bf16 → Prog (TpuEff nD τ sig (Elt F) Λ₀ .tc) α} {Q : α → sProp 𝕄} :
    (scratch c g 16 : sProp 𝕄)
      ⊢ iprop((scratch c g 0 -∗ wp frame (wpE (defs₀ (F := F)) 𝒱 (c : Thread nD τ) none) Set.univ (k g) Q)
        -∗ wp frame (wpE (defs₀ (F := F)) 𝒱 (c : Thread nD τ) none) Set.univ (.op (.load (Memref.whole cc0_scratch3) (Rect.unit (s := S256x2048) off S256x2048.size inb).toLoadRect hl) k) Q) := by
  subst h
  unfold scratch
  iintro ⟨%f, %hf, H⟩ Hk
  iapply (wp_load_rect 𝒱 (c : Thread nD τ) none Set.univ (m := Memref.whole cc0_scratch3) (r := Rect.unit (s := S256x2048) ![0, 0] S256x2048.size inb) (Finset.subset_univ _)) $$ H
  iintro H
  rw [show ((Memref.whole cc0_scratch3).access (Rect.unit (s := S256x2048) ![0, 0] S256x2048.size inb)).read (Elt F) f = g from by
    funext x
    have h1 := (x 1).isLt
    change (x 1).val < 2048 at h1
    refine Eq.trans (congrArg f (Idx.ext2 ?_ ?_)) (hf x (by omega))
    · change 0 + 1 * (x 0).val = (x 0).val; omega
    · change 0 + 1 * (x 1).val = (x 1).val; omega]
  iapply Hk
  iexists f
  isplitr; · ipureintro; intro x hx; omega
  iexact H

/-- The step's result block with its first `p` tiles in place. -/
def results (arg : Memref sig .tc .vmem S768x2048 .bf16) (G : Fin 3 → Vec F S256x2048 .bf16) (p : ℕ) : sProp 𝕄 :=
  iprop(∃ Y : Vec F S768x2048 .bf16, ⌜∀ s : Fin 3, s.val < p → rowsOf Y s = G s⌝ ∗ owns (c : Thread nD τ) arg fullShare Y)

theorem peek_rows {arg : Memref sig .tc .vmem S768x2048 .bf16} {G : Fin 3 → Vec F S256x2048 .bf16} {p : ℕ} {r : Rect S768x2048} {hl : arg.view.LoadsAt r.toLoadRect}
    {α : Type} {k : Vec F r.shape .bf16 → Prog (TpuEff nD τ sig (Elt F) Λ₀ .tc) α} {Q : α → sProp 𝕄} :
    (results c arg G p : sProp 𝕄)
      ⊢ iprop((∀ w, results c arg G p -∗ wp frame (wpE (defs₀ (F := F)) 𝒱 (c : Thread nD τ) none) Set.univ (k w) Q)
        -∗ wp frame (wpE (defs₀ (F := F)) 𝒱 (c : Thread nD τ) none) Set.univ (.op (.load arg r.toLoadRect hl) k) Q) := by
  unfold results owns
  iintro ⟨%Y, %hY, %f, %hf, H⟩ Hk
  iapply (wp_load_rect 𝒱 (c : Thread nD τ) none Set.univ (m := arg) (r := r) (View.set_slice_subset _ _)) $$ H
  iintro H
  iapply Hk
  iexists Y
  isplitr; · ipureintro; exact hY
  iexists f
  isplitr; · ipureintro; exact hf
  iexact H

theorem store_rows {arg : Memref sig .tc .vmem S768x2048 .bf16} {G : Fin 3 → Vec F S256x2048 .bf16} (s : ℕ) (hs : s < 3) {off : Fin 2 → ℕ} (h : off = ![256 * s, 0])
    {inb : ∀ a : Fin 2, off a + S256x2048.size a ≤ S768x2048.size a} {v : Vec F S256x2048 .bf16} (hv : v = G ⟨s, hs⟩)
    {hx : (arg.access (Rect.unit (s := S768x2048) off S256x2048.size inb)).Stores Finset.univ}
    {hm : (Finset.univ : Finset S256x2048.Idx) = Finset.univ ∨ ∀ a, (Rect.unit (s := S768x2048) off S256x2048.size inb).stride a = 1}
    {α : Type} {k : PUnit → Prog (TpuEff nD τ sig (Elt F) Λ₀ .tc) α} {Q : α → sProp 𝕄} :
    (results c arg G s : sProp 𝕄)
      ⊢ iprop((results c arg G (s + 1) -∗ wp frame (wpE (defs₀ (F := F)) 𝒱 (c : Thread nD τ) none) Set.univ (k ⟨⟩) Q)
        -∗ wp frame (wpE (defs₀ (F := F)) 𝒱 (c : Thread nD τ) none) Set.univ (.op (.store arg (Rect.unit (s := S768x2048) off S256x2048.size inb) v Finset.univ hx hm) k) Q) := by
  subst h hv
  unfold results owns
  iintro ⟨%Y, %hY, %f, %hf, H⟩ Hk
  iapply (wp_store 𝒱 (c : Thread nD τ) none Set.univ (m := arg) (r := Rect.unit (s := S768x2048) ![256 * s, 0] S256x2048.size inb) (View.set_slice_subset _ _)) $$ H
  iintro H
  iapply Hk
  iexists _
  isplitr; swap
  · iexists _
    isplitr; swap; · iexact H
    ipureintro; rfl
  ipureintro
  subst hf
  intro s' hs'
  funext x
  have h0 := (x 0).isLt
  change (x 0).val < 256 at h0
  by_cases hlt : s' = ⟨s, hs⟩
  · subst hlt
    have hx'' : (at2 ⟨256 * s + (x 0).val, by omega⟩ (x 1) : S768x2048.Idx) = (Rect.unit (s := S768x2048) ![256 * s, 0] S256x2048.size inb).emb x := by
      refine Idx.ext2 ?_ ?_
      · change 256 * s + (x 0).val = 256 * s + 1 * (x 0).val; omega
      · change (x 1).val = 0 + 1 * (x 1).val; omega
    unfold rowsOf
    rw [hx'']
    exact View.read_slice_write_emb (v := arg.view) (Rect.unit (s := S768x2048) ![256 * s, 0] S256x2048.size inb) f (G ⟨s, hs⟩) (Finset.mem_univ _)
  · have hne : s'.val ≠ s := fun h => hlt (Fin.ext h)
    refine Eq.trans ?_ (congrFun (hY s' (by omega)) x)
    refine View.read_slice_write_of_not_mem (v := arg.view) (Rect.unit (s := S768x2048) ![256 * s, 0] S256x2048.size inb) f (G ⟨s, hs⟩) Finset.univ ?_
    intro hm'
    obtain ⟨j, -, hj⟩ := Finset.mem_map.1 hm'
    have := congrArg (fun z : S768x2048.Idx => (z 0).val) hj
    change 256 * s + 1 * (j 0).val = 256 * s'.val + (x 0).val at this
    omega

end Rows

end Cert.Kernel3Ideal.Experts

end
-- ==== Proof.Opening.lean ====
/- The first part of a tile of the experts kernel: its expert's matrices brought in, its first rows gathered. -/
module

public import proofs.«01_k».proof.Proof.Book
public import Idealize.ShloMosaic.Lib.Pointwise.Reshape

@[expose] public section

set_option maxRecDepth 16384

noncomputable section

namespace Cert.Kernel3Ideal.Experts

open Cert.Kernel3Ideal Cert.Kernel3Ideal.Gen Cert.Kernel3Ideal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Offsets in bounds -/

theorem fit_seq {k : ℕ} {off : Fin 1 → ℕ} (h : off = ![k]) (hk : k < 32) : ∀ a : Fin 1, off a + S1.size a ≤ S32.size a := by
  subst h
  intro a
  match a with
  | 0 => change k + 1 ≤ 32; omega

theorem fit_sem {k n : ℕ} {off : Fin 2 → ℕ} (h : off = ![k % 2, n]) (hn : n < 3) : ∀ a : Fin 2, off a + S1x1.size a ≤ S2x3.size a := by
  subst h
  intro a
  match a with
  | 0 => change k % 2 + 1 ≤ 2; omega
  | 1 => change n + 1 ≤ 3; omega

theorem fit_row {N b c k : ℕ} {off : Fin 3 → ℕ} (h : off = ![k, 0, 0]) (hk : k < N) : ∀ a : Fin 3, off a + (![1, b, c] : Fin 3 → ℕ) a ≤ (![N, b, c] : Fin 3 → ℕ) a := by
  subst h
  intro a
  match a with
  | 0 => change k + 1 ≤ N; omega
  | 1 => change 0 + b ≤ b; omega
  | 2 => change 0 + c ≤ c; omega

/-- A chunk is recorded as it is read. -/
theorem cast_self (v : Vec F S256x128 .bf16) : (shapeCast S256x128 v shapeCasts_S256x128_S256x128 : FVec F S256x128 .bf16) = v := shapeCast_id _ _

theorem slots_congr (c : Dev nD) (w1 : Buf (Elt F) ((c : Thread nD τ).loc main_arg4)) (w2 : Buf (Elt F) ((c : Thread nD τ).loc main_arg5)) (w3 : Buf (Elt F) ((c : Thread nD τ).loc main_arg6))
    {σ σ' : Fin 2 → Slot} (h : ∀ s, σ s = σ' s) : (slots c w1 w2 w3 σ : sProp 𝕄) ⊢ slots c w1 w2 w3 σ' := by
  rw [show σ = σ' from funext h]

/-- The slots as the first tile starts them. -/
theorem slots_zero (c : Dev nD) (w1 : Buf (Elt F) ((c : Thread nD τ).loc main_arg4)) (w2 : Buf (Elt F) ((c : Thread nD τ).loc main_arg5)) (w3 : Buf (Elt F) ((c : Thread nD τ).loc main_arg6))
    (b : Book) {k : ℕ} (h : k = 0) :
    iprop(slot c w1 w2 w3 0 (.fly (b.ex 0)) ∗ slot c w1 w2 w3 1 (if 1 < b.E then .fly (b.ex 1) else .free) : sProp 𝕄) ⊢ slots c w1 w2 w3 (b.on k (.fly (b.ex k))) := by
  subst h
  exact .rfl

section Parts

variable (𝒱 : Variants) (c : Dev nD)
variable {T0 : Buf (Elt F) ((c : Thread nD τ).loc main_arg0)} {T1 : Buf (Elt F) ((c : Thread nD τ).loc main_arg1)} {T2 : Buf (Elt F) ((c : Thread nD τ).loc main_arg2)}
variable (w1 : Buf (Elt F) ((c : Thread nD τ).loc main_arg4)) (w2 : Buf (Elt F) ((c : Thread nD τ).loc main_arg5)) (w3 : Buf (Elt F) ((c : Thread nD τ).loc main_arg6))
variable {b : Book} (hb : b.Reads T0 T1 T2) (ok : b.Ok)

/-- The tables, the slots and the record of waits. -/
def gear (T0 : Buf (Elt F) ((c : Thread nD τ).loc main_arg0)) (T1 : Buf (Elt F) ((c : Thread nD τ).loc main_arg1)) (T2 : Buf (Elt F) ((c : Thread nD τ).loc main_arg2)) (σ : Fin 2 → Slot) : sProp 𝕄 :=
  iprop(tabs c T0 T1 T2 ∗ slots c w1 w2 w3 σ ∗ ∃ W, owes (c : Thread nD τ) 0 W)

theorem gear_open (σ : Fin 2 → Slot) : (gear c w1 w2 w3 T0 T1 T2 σ : sProp 𝕄) ⊢ iprop(tabs c T0 T1 T2 ∗ slots c w1 w2 w3 σ ∗ ∃ W, owes (c : Thread nD τ) 0 W) := .rfl

/-! ### Tile 0 of a step -/

set_option maxHeartbeats 1000000 in
include hb ok in
theorem opening0 (i : grid0.Coords) {t : ℕ} (ht : 3 * (i 0).val = t) (hn : t < b.n) {v2 : BitVec 32} (h1 : k0_cond1 i (BitVec.ofNat 32 b.n) = 1#1)
    {arg4 arg8 : Memref sig .tc .vmem S768x2048 .bf16} {harg4 : arg4.IsWhole} {harg8 : arg8.IsWhole} {X : Vec F S768x2048 .bf16} {g : Vec F S256x2048 .bf16} (hg : g = rowsOf X 0)
    {Q : (Σ' (v32 : Elt F .i32) (_ : k0_chk5 i (BitVec.ofNat 32 b.n) v32) (_ : BitVec 32), FVec F S256x128 .bf16) → sProp 𝕄} :
    iprop(gear c w1 w2 w3 T0 T1 T2 (b.before t) ∗ owns (c : Thread nD τ) arg4 fullShare X ∗ scratch c g 0 : sProp 𝕄)
      ⊢ iprop((∀ hw v, iprop(gear c w1 w2 w3 T0 T1 T2 (b.during t) ∗ owns (c : Thread nD τ) arg4 fullShare X ∗ scratch c g 2) -∗ Q ⟨BitVec.ofNat 32 (b.κ t), hw, v, k0_pay9 (chunkOf g 2)⟩)
        -∗ wp frame (wpE (defs₀ (F := F)) 𝒱 (c : Thread nD τ) none) Set.univ (k0_part1 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 b.E) v2 (BitVec.ofNat 32 b.n) h1) Q) := by
  have hkE : b.κ t < b.E := ok.lt t hn
  have hE := ok.E_le
  have hk : b.κ t < 32 := by omega
  subst hg
  rw [k0_part1_eq_skeleton]
  unfold k0_part1_skel
  iintro ⟨Hg, Hx, Hr⟩ Hk
  icases (gear_open c w1 w2 w3 _) $$ Hg with ⟨Ht, Hs, Ho⟩
  iapply (read_tile c 𝒱 hb (t := t) (off1_eq i |>.trans (by rw [ht]))) $$ Ht
  iintro Ht
  simp -zeta only [Prog.bind_lift, Prog.bind_op, Prog.bind_ret, Prog.pure_eq_ret]
  have hw5 : k0_chk5 i (BitVec.ofNat 32 b.n) (BitVec.ofNat 32 (b.κ t)) :=
    ⟨fun _ => fit_row (off16_eq hk) (Nat.mod_lt _ (by decide)), fun _ => fit_row (off17_eq hk) (Nat.mod_lt _ (by decide))⟩
  iapply (wp_assume 𝒱 (c : Thread nD τ) none Set.univ hw5)
  iapply (read_tile c 𝒱 hb (t := t - 1) (off2_eq i |>.trans (by rw [ht]))) $$ Ht
  iintro Ht
  have hw3 : k0_chk3 i (BitVec.ofNat 32 b.n) (BitVec.ofNat 32 (b.κ t)) (BitVec.ofNat 32 (b.κ (t - 1))) :=
    ⟨fun _ _ => fit_seq (off7_eq hk) hk, fun _ _ => fit_sem (off8_eq hk) (by decide), fun _ _ => fit_row (off9_eq hk) (Nat.mod_lt _ (by decide)),
      fun _ _ => fit_sem (off11_eq hk) (by decide), fun _ _ => fit_row (off12_eq hk) (Nat.mod_lt _ (by decide)),
      fun _ _ => fit_sem (off13_eq hk) (by decide), fun _ _ => fit_row (off14_eq hk) (Nat.mod_lt _ (by decide))⟩
  iapply (wp_assume 𝒱 (c : Thread nD τ) none Set.univ hw3)
  extract_lets +onlyGivenNames hw jp
  have hj : iprop(gear c w1 w2 w3 T0 T1 T2 (b.during t) ∗ owns (c : Thread nD τ) arg4 fullShare X ∗ scratch c (rowsOf X 0) 0 : sProp 𝕄)
      ⊢ iprop((∀ hw v, iprop(gear c w1 w2 w3 T0 T1 T2 (b.during t) ∗ owns (c : Thread nD τ) arg4 fullShare X ∗ scratch c (rowsOf X 0) 2) -∗ Q ⟨BitVec.ofNat 32 (b.κ t), hw, v, k0_pay9 (chunkOf (rowsOf X 0) 2)⟩)
        -∗ wp frame (wpE (defs₀ (F := F)) 𝒱 (c : Thread nD τ) none) Set.univ (jp ⟨⟩) Q) := by
    iintro ⟨Hg, Hx, Hr⟩ Hk
    iapply (load_chunk 𝒱 c 0 0 rfl) $$ Hx
    iintro Hx
    iapply (peek_chunk 𝒱 c) $$ Hr
    iintro %_ Hr
    iapply (store_chunk 𝒱 c (g := rowsOf X 0) 0 (by decide) rfl (cast_self _)) $$ Hr
    iintro Hr
    iapply (load_chunk 𝒱 c 0 1 rfl) $$ Hx
    iintro Hx
    iapply (peek_chunk 𝒱 c) $$ Hr
    iintro %_ Hr
    iapply (store_chunk 𝒱 c (g := rowsOf X 0) 1 (by decide) rfl (cast_self _)) $$ Hr
    iintro Hr
    iapply (load_chunk 𝒱 c 0 2 rfl) $$ Hx
    iintro Hx
    iapply (peek_chunk 𝒱 c) $$ Hr
    iintro %_ Hr
    iapply (le_wp_ret _ _ _ _ _)
    iapply Hk
    isplitl [Hg]; · iexact Hg
    isplitl [Hx]; · iexact Hx
    iexact Hr
  clear_value jp
  have hb2 : k0_cond2 i (BitVec.ofNat 32 (b.κ t)) (BitVec.ofNat 32 (b.κ (t - 1))) = 1#1 ↔ t = 0 ∨ b.κ t ≠ b.κ (t - 1) := by
    rw [cond2_iff i hk (ok.word _), ht]
  by_cases hc : k0_cond2 i (BitVec.ofNat 32 (b.κ t)) (BitVec.ofNat 32 (b.κ (t - 1))) = 1#1
  · rw [dif_pos hc]
    extract_lets +onlyGivenNames -underBinder jp'
    have hj' : iprop(tabs c T0 T1 T2 ∗ slots c w1 w2 w3 (b.on (b.κ t) (.fly (b.ex (b.κ t)))) ∗ (∃ W, owes (c : Thread nD τ) 0 W) ∗ owns (c : Thread nD τ) arg4 fullShare X ∗ scratch c (rowsOf X 0) 0 : sProp 𝕄)
        ⊢ iprop((∀ hw v, iprop(gear c w1 w2 w3 T0 T1 T2 (b.during t) ∗ owns (c : Thread nD τ) arg4 fullShare X ∗ scratch c (rowsOf X 0) 2) -∗ Q ⟨BitVec.ofNat 32 (b.κ t), hw, v, k0_pay9 (chunkOf (rowsOf X 0) 2)⟩)
          -∗ wp frame (wpE (defs₀ (F := F)) 𝒱 (c : Thread nD τ) none) Set.univ (jp' ⟨⟩) Q) := by
      iintro ⟨Ht, Hs, Ho, Hx, Hr⟩ Hk
      iapply (read_seq c 𝒱 hb (t := b.κ t) (off7_eq hk)) $$ Ht
      iintro Ht
      have hw4 : k0_chk4 i (BitVec.ofNat 32 b.n) (BitVec.ofNat 32 (b.κ t)) (BitVec.ofNat 32 (b.κ (t - 1))) (BitVec.ofNat 32 (b.ξ (b.κ t))) :=
        ⟨fun _ _ => fit_row (off10_eq (ok.expert _ hkE)) (ok.expert _ hkE), fun _ _ => fit_row (off15_eq (ok.expert _ hkE)) (ok.expert _ hkE)⟩
      iapply (wp_assume 𝒱 (c : Thread nD τ) none Set.univ hw4)
      ihave Hs := (slots_split c w1 w2 w3 _ (slotOf (b.κ t))) $$ Hs
      icases Hs with ⟨Hs, Hs'⟩
      rw [b.on_self, b.on_other]
      iapply (wait3 𝒱 c w1 w2 w3 (s := slotOf (b.κ t)) (e := b.ex (b.κ t)) (off8_eq hk) (off11_eq hk) (off13_eq hk)) $$ [Hs Ho]
      · isplitl [Hs]; · iexact Hs
        iexact Ho
      iintro ⟨Hs, Ho⟩
      iapply hj $$ [Ht Hs Hs' Ho Hx Hr] Hk
      unfold gear
      isplitl [Ht Hs Hs' Ho]
      · isplitl [Ht]; · iexact Ht
        isplitl [Hs Hs']
        · iapply (slots_join c w1 w2 w3 _ (slotOf (b.κ t)))
          unfold Book.during
          rw [b.on_self, b.on_other]
          isplitl [Hs]; · iexact Hs
          iexact Hs'
        iexact Ho
      isplitl [Hx]; · iexact Hx
      iexact Hr
    clear_value jp'
    by_cases h3 : k0_cond3 (BitVec.ofNat 32 (b.κ t)) = 1#1
    · rw [dif_pos h3]
      have hκ : b.κ t = 0 := (cond3_iff hk).1 h3
      have h0 : t = 0 := by
        by_contra h0
        have hne := (hb2.1 hc).resolve_left h0
        have h := ok.step (t - 1) (by omega)
        rw [Nat.sub_add_cancel (by omega)] at h
        omega
      have hE0 : 0 < b.E := by omega
      ihave Hs := (slots_congr c w1 w2 w3 (σ' := fun _ => .free) (fun s => by rw [h0]; exact b.before_first s)) $$ Hs
      ihave Hs := (slots_split c w1 w2 w3 _ 0) $$ Hs
      icases Hs with ⟨Hs, Hs'⟩
      extract_lets +onlyGivenNames -underBinder jp3
      have hj3 : iprop(tabs c T0 T1 T2 ∗ slot c w1 w2 w3 0 (.fly (b.ex 0)) ∗ slot c w1 w2 w3 1 .free ∗ (∃ W, owes (c : Thread nD τ) 0 W) ∗ owns (c : Thread nD τ) arg4 fullShare X ∗ scratch c (rowsOf X 0) 0 : sProp 𝕄)
          ⊢ iprop((∀ hw v, iprop(gear c w1 w2 w3 T0 T1 T2 (b.during t) ∗ owns (c : Thread nD τ) arg4 fullShare X ∗ scratch c (rowsOf X 0) 2) -∗ Q ⟨BitVec.ofNat 32 (b.κ t), hw, v, k0_pay9 (chunkOf (rowsOf X 0) 2)⟩)
            -∗ wp frame (wpE (defs₀ (F := F)) 𝒱 (c : Thread nD τ) none) Set.univ (jp3 ⟨⟩) Q) := by
        iintro ⟨Ht, Hs, Hs', Ho, Hx, Hr⟩ Hk
        by_cases h5 : k0_cond5 (BitVec.ofNat 32 b.E) = 1#1
        · have h5E : 1 < b.E := (cond5_iff hE).1 h5
          dsimp only [jp3]
          rw [dif_pos h5]
          iapply (read_seq c 𝒱 hb (t := 1) rfl) $$ Ht
          iintro Ht
          have hw2 : k0_chk2 i (BitVec.ofNat 32 b.E) (BitVec.ofNat 32 b.n) (BitVec.ofNat 32 (b.κ t)) (BitVec.ofNat 32 (b.κ (t - 1))) (BitVec.ofNat 32 (b.ξ 1)) :=
            ⟨fun _ _ _ _ => fit_row (off5_eq (ok.expert _ h5E)) (ok.expert _ h5E), fun _ _ _ _ => fit_row (off6_eq (ok.expert _ h5E)) (ok.expert _ h5E)⟩
          iapply (wp_assume 𝒱 (c : Thread nD τ) none Set.univ hw2)
          iapply (start3 𝒱 c w1 w2 w3 (s := 1) (e := b.ex 1) rfl rfl (by rw [b.ex_val ok h5E]; exact off5_eq (ok.expert _ h5E)) rfl rfl (by rw [b.ex_val ok h5E]; exact off5_eq (ok.expert _ h5E)) rfl rfl (by rw [b.ex_val ok h5E]; exact off6_eq (ok.expert _ h5E))) $$ Hs'
          iintro Hs'
          iapply hj' $$ [Ht Hs Hs' Ho Hx Hr] Hk
          isplitl [Ht]; · iexact Ht
          isplitl [Hs Hs']
          · iapply (slots_zero c w1 w2 w3 b hκ)
            rw [if_pos h5E]
            isplitl [Hs]; · iexact Hs
            iexact Hs'
          isplitl [Ho]; · iexact Ho
          isplitl [Hx]; · iexact Hx
          iexact Hr
        · have h5E : ¬ 1 < b.E := fun h => h5 ((cond5_iff hE).2 h)
          dsimp only [jp3]
          rw [dif_neg h5]
          iapply hj' $$ [Ht Hs Hs' Ho Hx Hr] Hk
          isplitl [Ht]; · iexact Ht
          isplitl [Hs Hs']
          · iapply (slots_zero c w1 w2 w3 b hκ)
            rw [if_neg h5E]
            isplitl [Hs]; · iexact Hs
            iexact Hs'
          isplitl [Ho]; · iexact Ho
          isplitl [Hx]; · iexact Hx
          iexact Hr
      clear_value jp3
      rw [dif_pos ((cond4_iff hE).2 hE0)]
      iapply (read_seq c 𝒱 hb (t := 0) rfl) $$ Ht
      iintro Ht
      have hw1 : k0_chk1 i (BitVec.ofNat 32 b.E) (BitVec.ofNat 32 b.n) (BitVec.ofNat 32 (b.κ t)) (BitVec.ofNat 32 (b.κ (t - 1))) (BitVec.ofNat 32 (b.ξ 0)) :=
        ⟨fun _ _ _ _ => fit_row (off3_eq (ok.expert _ hE0)) (ok.expert _ hE0), fun _ _ _ _ => fit_row (off4_eq (ok.expert _ hE0)) (ok.expert _ hE0)⟩
      iapply (wp_assume 𝒱 (c : Thread nD τ) none Set.univ hw1)
      iapply (start3 𝒱 c w1 w2 w3 (s := 0) (e := b.ex 0) rfl rfl (by rw [b.ex_val ok hE0]; exact off3_eq (ok.expert _ hE0)) rfl rfl (by rw [b.ex_val ok hE0]; exact off3_eq (ok.expert _ hE0)) rfl rfl (by rw [b.ex_val ok hE0]; exact off4_eq (ok.expert _ hE0))) $$ Hs
      iintro Hs
      iapply hj3 $$ [Ht Hs Hs' Ho Hx Hr] Hk
      isplitl [Ht]; · iexact Ht
      isplitl [Hs]; · iexact Hs
      isplitl [Hs']; · iexact Hs'
      isplitl [Ho]; · iexact Ho
      isplitl [Hx]; · iexact Hx
      iexact Hr
    · rw [dif_neg h3]
      have hκ : b.κ t ≠ 0 := fun h => h3 ((cond3_iff hk).2 h)
      have h0 : t ≠ 0 := fun h => hκ (h ▸ ok.zero (by omega))
      ihave Hs := (slots_congr c w1 w2 w3 (b.before_fresh h0 hn ((hb2.1 hc).resolve_left h0))) $$ Hs
      iapply hj' $$ [Ht Hs Ho Hx Hr] Hk
      isplitl [Ht]; · iexact Ht
      isplitl [Hs]; · iexact Hs
      isplitl [Ho]; · iexact Ho
      isplitl [Hx]; · iexact Hx
      iexact Hr
  · rw [dif_neg hc]
    rw [hb2, not_or, not_not] at hc
    ihave Hs := (slots_congr c w1 w2 w3 (b.before_same hc.1 hn hc.2)) $$ Hs
    iapply hj $$ [Ht Hs Ho Hx Hr] Hk
    unfold gear
    isplitl [Ht Hs Ho]
    · isplitl [Ht]; · iexact Ht
      isplitl [Hs]; · iexact Hs
      iexact Ho
    isplitl [Hx]; · iexact Hx
    iexact Hr

/-! ### Tile 1 of a step -/

set_option maxHeartbeats 1000000 in
include hb ok in
theorem opening1 (i : grid0.Coords) {t : ℕ} (ht : 3 * (i 0).val + 1 = t) (hn : t < b.n) {v2 : BitVec 32} (h1 : k0_cond8 i (BitVec.ofNat 32 b.n) = 1#1)
    {arg4 arg8 : Memref sig .tc .vmem S768x2048 .bf16} {harg4 : arg4.IsWhole} {harg8 : arg8.IsWhole} {X : Vec F S768x2048 .bf16} {g : Vec F S256x2048 .bf16} (hg : g = rowsOf X 1)
    {Q : (Σ' (v32 : Elt F .i32) (_ : k0_chk12 i (BitVec.ofNat 32 b.n) v32) (_ : BitVec 32), FVec F S256x128 .bf16) → sProp 𝕄} :
    iprop(gear c w1 w2 w3 T0 T1 T2 (b.before t) ∗ owns (c : Thread nD τ) arg4 fullShare X ∗ scratch c g 0 : sProp 𝕄)
      ⊢ iprop((∀ hw v, iprop(gear c w1 w2 w3 T0 T1 T2 (b.during t) ∗ owns (c : Thread nD τ) arg4 fullShare X ∗ scratch c g 2) -∗ Q ⟨BitVec.ofNat 32 (b.κ t), hw, v, k0_pay25 (chunkOf g 2)⟩)
        -∗ wp frame (wpE (defs₀ (F := F)) 𝒱 (c : Thread nD τ) none) Set.univ (k0_part4 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 b.E) v2 (BitVec.ofNat 32 b.n) h1) Q) := by
  have hkE : b.κ t < b.E := ok.lt t hn
  have hE := ok.E_le
  have hk : b.κ t < 32 := by omega
  subst hg
  rw [k0_part4_eq_skeleton]
  unfold k0_part4_skel
  iintro ⟨Hg, Hx, Hr⟩ Hk
  icases (gear_open c w1 w2 w3 _) $$ Hg with ⟨Ht, Hs, Ho⟩
  iapply (read_tile c 𝒱 hb (t := t) (off28_eq i |>.trans (by rw [ht]))) $$ Ht
  iintro Ht
  simp -zeta only [Prog.bind_lift, Prog.bind_op, Prog.bind_ret, Prog.pure_eq_ret]
  have hw5 : k0_chk12 i (BitVec.ofNat 32 b.n) (BitVec.ofNat 32 (b.κ t)) :=
    ⟨fun _ => fit_row (off43_eq hk) (Nat.mod_lt _ (by decide)), fun _ => fit_row (off44_eq hk) (Nat.mod_lt _ (by decide))⟩
  iapply (wp_assume 𝒱 (c : Thread nD τ) none Set.univ hw5)
  iapply (read_tile c 𝒱 hb (t := t - 1) (off29_eq i |>.trans (by rw [ht]))) $$ Ht
  iintro Ht
  have hw3 : k0_chk10 i (BitVec.ofNat 32 b.n) (BitVec.ofNat 32 (b.κ t)) (BitVec.ofNat 32 (b.κ (t - 1))) :=
    ⟨fun _ _ => fit_seq (off34_eq hk) hk, fun _ _ => fit_sem (off35_eq hk) (by decide), fun _ _ => fit_row (off36_eq hk) (Nat.mod_lt _ (by decide)),
      fun _ _ => fit_sem (off38_eq hk) (by decide), fun _ _ => fit_row (off39_eq hk) (Nat.mod_lt _ (by decide)),
      fun _ _ => fit_sem (off40_eq hk) (by decide), fun _ _ => fit_row (off41_eq hk) (Nat.mod_lt _ (by decide))⟩
  iapply (wp_assume 𝒱 (c : Thread nD τ) none Set.univ hw3)
  extract_lets +onlyGivenNames hw jp
  have hj : iprop(gear c w1 w2 w3 T0 T1 T2 (b.during t) ∗ owns (c : Thread nD τ) arg4 fullShare X ∗ scratch c (rowsOf X 1) 0 : sProp 𝕄)
      ⊢ iprop((∀ hw v, iprop(gear c w1 w2 w3 T0 T1 T2 (b.during t) ∗ owns (c : Thread nD τ) arg4 fullShare X ∗ scratch c (rowsOf X 1) 2) -∗ Q ⟨BitVec.ofNat 32 (b.κ t), hw, v, k0_pay25 (chunkOf (rowsOf X 1) 2)⟩)
        -∗ wp frame (wpE (defs₀ (F := F)) 𝒱 (c : Thread nD τ) none) Set.univ (jp ⟨⟩) Q) := by
    iintro ⟨Hg, Hx, Hr⟩ Hk
    iapply (load_chunk 𝒱 c 1 0 rfl) $$ Hx
    iintro Hx
    iapply (peek_chunk 𝒱 c) $$ Hr
    iintro %_ Hr
    iapply (store_chunk 𝒱 c (g := rowsOf X 1) 0 (by decide) rfl (cast_self _)) $$ Hr
    iintro Hr
    iapply (load_chunk 𝒱 c 1 1 rfl) $$ Hx
    iintro Hx
    iapply (peek_chunk 𝒱 c) $$ Hr
    iintro %_ Hr
    iapply (store_chunk 𝒱 c (g := rowsOf X 1) 1 (by decide) rfl (cast_self _)) $$ Hr
    iintro Hr
    iapply (load_chunk 𝒱 c 1 2 rfl) $$ Hx
    iintro Hx
    iapply (peek_chunk 𝒱 c) $$ Hr
    iintro %_ Hr
    iapply (le_wp_ret _ _ _ _ _)
    iapply Hk
    isplitl [Hg]; · iexact Hg
    isplitl [Hx]; · iexact Hx
    iexact Hr
  clear_value jp
  have hb2 : k0_cond9 i (BitVec.ofNat 32 (b.κ t)) (BitVec.ofNat 32 (b.κ (t - 1))) = 1#1 ↔ t = 0 ∨ b.κ t ≠ b.κ (t - 1) := by
    rw [cond9_iff i hk (ok.word _), ht]
  by_cases hc : k0_cond9 i (BitVec.ofNat 32 (b.κ t)) (BitVec.ofNat 32 (b.κ (t - 1))) = 1#1
  · rw [dif_pos hc]
    extract_lets +onlyGivenNames -underBinder jp'
    have hj' : iprop(tabs c T0 T1 T2 ∗ slots c w1 w2 w3 (b.on (b.κ t) (.fly (b.ex (b.κ t)))) ∗ (∃ W, owes (c : Thread nD τ) 0 W) ∗ owns (c : Thread nD τ) arg4 fullShare X ∗ scratch c (rowsOf X 1) 0 : sProp 𝕄)
        ⊢ iprop((∀ hw v, iprop(gear c w1 w2 w3 T0 T1 T2 (b.during t) ∗ owns (c : Thread nD τ) arg4 fullShare X ∗ scratch c (rowsOf X 1) 2) -∗ Q ⟨BitVec.ofNat 32 (b.κ t), hw, v, k0_pay25 (chunkOf (rowsOf X 1) 2)⟩)
          -∗ wp frame (wpE (defs₀ (F := F)) 𝒱 (c : Thread nD τ) none) Set.univ (jp' ⟨⟩) Q) := by
      iintro ⟨Ht, Hs, Ho, Hx, Hr⟩ Hk
      iapply (read_seq c 𝒱 hb (t := b.κ t) (off34_eq hk)) $$ Ht
      iintro Ht
      have hw4 : k0_chk11 i (BitVec.ofNat 32 b.n) (BitVec.ofNat 32 (b.κ t)) (BitVec.ofNat 32 (b.κ (t - 1))) (BitVec.ofNat 32 (b.ξ (b.κ t))) :=
        ⟨fun _ _ => fit_row (off37_eq (ok.expert _ hkE)) (ok.expert _ hkE), fun _ _ => fit_row (off42_eq (ok.expert _ hkE)) (ok.expert _ hkE)⟩
      iapply (wp_assume 𝒱 (c : Thread nD τ) none Set.univ hw4)
      ihave Hs := (slots_split c w1 w2 w3 _ (slotOf (b.κ t))) $$ Hs
      icases Hs with ⟨Hs, Hs'⟩
      rw [b.on_self, b.on_other]
      iapply (wait3 𝒱 c w1 w2 w3 (s := slotOf (b.κ t)) (e := b.ex (b.κ t)) (off35_eq hk) (off38_eq hk) (off40_eq hk)) $$ [Hs Ho]
      · isplitl [Hs]; · iexact Hs
        iexact Ho
      iintro ⟨Hs, Ho⟩
      iapply hj $$ [Ht Hs Hs' Ho Hx Hr] Hk
      unfold gear
      isplitl [Ht Hs Hs' Ho]
      · isplitl [Ht]; · iexact Ht
        isplitl [Hs Hs']
        · iapply (slots_join c w1 w2 w3 _ (slotOf (b.κ t)))
          unfold Book.during
          rw [b.on_self, b.on_other]
          isplitl [Hs]; · iexact Hs
          iexact Hs'
        iexact Ho
      isplitl [Hx]; · iexact Hx
      iexact Hr
    clear_value jp'
    by_cases h3 : k0_cond10 (BitVec.ofNat 32 (b.κ t)) = 1#1
    · rw [dif_pos h3]
      have hκ : b.κ t = 0 := (cond10_iff hk).1 h3
      have h0 : t = 0 := by
        by_contra h0
        have hne := (hb2.1 hc).resolve_left h0
        have h := ok.step (t - 1) (by omega)
        rw [Nat.sub_add_cancel (by omega)] at h
        omega
      have hE0 : 0 < b.E := by omega
      ihave Hs := (slots_congr c w1 w2 w3 (σ' := fun _ => .free) (fun s => by rw [h0]; exact b.before_first s)) $$ Hs
      ihave Hs := (slots_split c w1 w2 w3 _ 0) $$ Hs
      icases Hs with ⟨Hs, Hs'⟩
      extract_lets +onlyGivenNames -underBinder jp3
      have hj3 : iprop(tabs c T0 T1 T2 ∗ slot c w1 w2 w3 0 (.fly (b.ex 0)) ∗ slot c w1 w2 w3 1 .free ∗ (∃ W, owes (c : Thread nD τ) 0 W) ∗ owns (c : Thread nD τ) arg4 fullShare X ∗ scratch c (rowsOf X 1) 0 : sProp 𝕄)
          ⊢ iprop((∀ hw v, iprop(gear c w1 w2 w3 T0 T1 T2 (b.during t) ∗ owns (c : Thread nD τ) arg4 fullShare X ∗ scratch c (rowsOf X 1) 2) -∗ Q ⟨BitVec.ofNat 32 (b.κ t), hw, v, k0_pay25 (chunkOf (rowsOf X 1) 2)⟩)
            -∗ wp frame (wpE (defs₀ (F := F)) 𝒱 (c : Thread nD τ) none) Set.univ (jp3 ⟨⟩) Q) := by
        iintro ⟨Ht, Hs, Hs', Ho, Hx, Hr⟩ Hk
        by_cases h5 : k0_cond12 (BitVec.ofNat 32 b.E) = 1#1
        · have h5E : 1 < b.E := (cond12_iff hE).1 h5
          dsimp only [jp3]
          rw [dif_pos h5]
          iapply (read_seq c 𝒱 hb (t := 1) rfl) $$ Ht
          iintro Ht
          have hw2 : k0_chk9 i (BitVec.ofNat 32 b.E) (BitVec.ofNat 32 b.n) (BitVec.ofNat 32 (b.κ t)) (BitVec.ofNat 32 (b.κ (t - 1))) (BitVec.ofNat 32 (b.ξ 1)) :=
            ⟨fun _ _ _ _ => fit_row (off32_eq (ok.expert _ h5E)) (ok.expert _ h5E), fun _ _ _ _ => fit_row (off33_eq (ok.expert _ h5E)) (ok.expert _ h5E)⟩
          iapply (wp_assume 𝒱 (c : Thread nD τ) none Set.univ hw2)
          iapply (start3 𝒱 c w1 w2 w3 (s := 1) (e := b.ex 1) rfl rfl (by rw [b.ex_val ok h5E]; exact off32_eq (ok.expert _ h5E)) rfl rfl (by rw [b.ex_val ok h5E]; exact off32_eq (ok.expert _ h5E)) rfl rfl (by rw [b.ex_val ok h5E]; exact off33_eq (ok.expert _ h5E))) $$ Hs'
          iintro Hs'
          iapply hj' $$ [Ht Hs Hs' Ho Hx Hr] Hk
          isplitl [Ht]; · iexact Ht
          isplitl [Hs Hs']
          · iapply (slots_zero c w1 w2 w3 b hκ)
            rw [if_pos h5E]
            isplitl [Hs]; · iexact Hs
            iexact Hs'
          isplitl [Ho]; · iexact Ho
          isplitl [Hx]; · iexact Hx
          iexact Hr
        · have h5E : ¬ 1 < b.E := fun h => h5 ((cond12_iff hE).2 h)
          dsimp only [jp3]
          rw [dif_neg h5]
          iapply hj' $$ [Ht Hs Hs' Ho Hx Hr] Hk
          isplitl [Ht]; · iexact Ht
          isplitl [Hs Hs']
          · iapply (slots_zero c w1 w2 w3 b hκ)
            rw [if_neg h5E]
            isplitl [Hs]; · iexact Hs
            iexact Hs'
          isplitl [Ho]; · iexact Ho
          isplitl [Hx]; · iexact Hx
          iexact Hr
      clear_value jp3
      rw [dif_pos ((cond11_iff hE).2 hE0)]
      iapply (read_seq c 𝒱 hb (t := 0) rfl) $$ Ht
      iintro Ht
      have hw1 : k0_chk8 i (BitVec.ofNat 32 b.E) (BitVec.ofNat 32 b.n) (BitVec.ofNat 32 (b.κ t)) (BitVec.ofNat 32 (b.κ (t - 1))) (BitVec.ofNat 32 (b.ξ 0)) :=
        ⟨fun _ _ _ _ => fit_row (off30_eq (ok.expert _ hE0)) (ok.expert _ hE0), fun _ _ _ _ => fit_row (off31_eq (ok.expert _ hE0)) (ok.expert _ hE0)⟩
      iapply (wp_assume 𝒱 (c : Thread nD τ) none Set.univ hw1)
      iapply (start3 𝒱 c w1 w2 w3 (s := 0) (e := b.ex 0) rfl rfl (by rw [b.ex_val ok hE0]; exact off30_eq (ok.expert _ hE0)) rfl rfl (by rw [b.ex_val ok hE0]; exact off30_eq (ok.expert _ hE0)) rfl rfl (by rw [b.ex_val ok hE0]; exact off31_eq (ok.expert _ hE0))) $$ Hs
      iintro Hs
      iapply hj3 $$ [Ht Hs Hs' Ho Hx Hr] Hk
      isplitl [Ht]; · iexact Ht
      isplitl [Hs]; · iexact Hs
      isplitl [Hs']; · iexact Hs'
      isplitl [Ho]; · iexact Ho
      isplitl [Hx]; · iexact Hx
      iexact Hr
    · rw [dif_neg h3]
      have hκ : b.κ t ≠ 0 := fun h => h3 ((cond10_iff hk).2 h)
      have h0 : t ≠ 0 := fun h => hκ (h ▸ ok.zero (by omega))
      ihave Hs := (slots_congr c w1 w2 w3 (b.before_fresh h0 hn ((hb2.1 hc).resolve_left h0))) $$ Hs
      iapply hj' $$ [Ht Hs Ho Hx Hr] Hk
      isplitl [Ht]; · iexact Ht
      isplitl [Hs]; · iexact Hs
      isplitl [Ho]; · iexact Ho
      isplitl [Hx]; · iexact Hx
      iexact Hr
  · rw [dif_neg hc]
    rw [hb2, not_or, not_not] at hc
    ihave Hs := (slots_congr c w1 w2 w3 (b.before_same hc.1 hn hc.2)) $$ Hs
    iapply hj $$ [Ht Hs Ho Hx Hr] Hk
    unfold gear
    isplitl [Ht Hs Ho]
    · isplitl [Ht]; · iexact Ht
      isplitl [Hs]; · iexact Hs
      iexact Ho
    isplitl [Hx]; · iexact Hx
    iexact Hr

/-! ### Tile 2 of a step -/

set_option maxHeartbeats 1000000 in
include hb ok in
theorem opening2 (i : grid0.Coords) {t : ℕ} (ht : 3 * (i 0).val + 2 = t) (hn : t < b.n) {v2 : BitVec 32} (h1 : k0_cond15 i (BitVec.ofNat 32 b.n) = 1#1)
    {arg4 arg8 : Memref sig .tc .vmem S768x2048 .bf16} {harg4 : arg4.IsWhole} {harg8 : arg8.IsWhole} {X : Vec F S768x2048 .bf16} {g : Vec F S256x2048 .bf16} (hg : g = rowsOf X 2)
    {Q : (Σ' (v32 : Elt F .i32) (_ : k0_chk19 i (BitVec.ofNat 32 b.n) v32) (_ : BitVec 32), FVec F S256x128 .bf16) → sProp 𝕄} :
    iprop(gear c w1 w2 w3 T0 T1 T2 (b.before t) ∗ owns (c : Thread nD τ) arg4 fullShare X ∗ scratch c g 0 : sProp 𝕄)
      ⊢ iprop((∀ hw v, iprop(gear c w1 w2 w3 T0 T1 T2 (b.during t) ∗ owns (c : Thread nD τ) arg4 fullShare X ∗ scratch c g 2) -∗ Q ⟨BitVec.ofNat 32 (b.κ t), hw, v, k0_pay41 (chunkOf g 2)⟩)
        -∗ wp frame (wpE (defs₀ (F := F)) 𝒱 (c : Thread nD τ) none) Set.univ (k0_part7 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 b.E) v2 (BitVec.ofNat 32 b.n) h1) Q) := by
  have hkE : b.κ t < b.E := ok.lt t hn
  have hE := ok.E_le
  have hk : b.κ t < 32 := by omega
  subst hg
  rw [k0_part7_eq_skeleton]
  unfold k0_part7_skel
  iintro ⟨Hg, Hx, Hr⟩ Hk
  icases (gear_open c w1 w2 w3 _) $$ Hg with ⟨Ht, Hs, Ho⟩
  iapply (read_tile c 𝒱 hb (t := t) (off55_eq i |>.trans (by rw [ht]))) $$ Ht
  iintro Ht
  simp -zeta only [Prog.bind_lift, Prog.bind_op, Prog.bind_ret, Prog.pure_eq_ret]
  have hw5 : k0_chk19 i (BitVec.ofNat 32 b.n) (BitVec.ofNat 32 (b.κ t)) :=
    ⟨fun _ => fit_row (off70_eq hk) (Nat.mod_lt _ (by decide)), fun _ => fit_row (off71_eq hk) (Nat.mod_lt _ (by decide))⟩
  iapply (wp_assume 𝒱 (c : Thread nD τ) none Set.univ hw5)
  iapply (read_tile c 𝒱 hb (t := t - 1) (off56_eq i |>.trans (by rw [ht]))) $$ Ht
  iintro Ht
  have hw3 : k0_chk17 i (BitVec.ofNat 32 b.n) (BitVec.ofNat 32 (b.κ t)) (BitVec.ofNat 32 (b.κ (t - 1))) :=
    ⟨fun _ _ => fit_seq (off61_eq hk) hk, fun _ _ => fit_sem (off62_eq hk) (by decide), fun _ _ => fit_row (off63_eq hk) (Nat.mod_lt _ (by decide)),
      fun _ _ => fit_sem (off65_eq hk) (by decide), fun _ _ => fit_row (off66_eq hk) (Nat.mod_lt _ (by decide)),
      fun _ _ => fit_sem (off67_eq hk) (by decide), fun _ _ => fit_row (off68_eq hk) (Nat.mod_lt _ (by decide))⟩
  iapply (wp_assume 𝒱 (c : Thread nD τ) none Set.univ hw3)
  extract_lets +onlyGivenNames hw jp
  have hj : iprop(gear c w1 w2 w3 T0 T1 T2 (b.during t) ∗ owns (c : Thread nD τ) arg4 fullShare X ∗ scratch c (rowsOf X 2) 0 : sProp 𝕄)
      ⊢ iprop((∀ hw v, iprop(gear c w1 w2 w3 T0 T1 T2 (b.during t) ∗ owns (c : Thread nD τ) arg4 fullShare X ∗ scratch c (rowsOf X 2) 2) -∗ Q ⟨BitVec.ofNat 32 (b.κ t), hw, v, k0_pay41 (chunkOf (rowsOf X 2) 2)⟩)
        -∗ wp frame (wpE (defs₀ (F := F)) 𝒱 (c : Thread nD τ) none) Set.univ (jp ⟨⟩) Q) := by
    iintro ⟨Hg, Hx, Hr⟩ Hk
    iapply (load_chunk 𝒱 c 2 0 rfl) $$ Hx
    iintro Hx
    iapply (peek_chunk 𝒱 c) $$ Hr
    iintro %_ Hr
    iapply (store_chunk 𝒱 c (g := rowsOf X 2) 0 (by decide) rfl (cast_self _)) $$ Hr
    iintro Hr
    iapply (load_chunk 𝒱 c 2 1 rfl) $$ Hx
    iintro Hx
    iapply (peek_chunk 𝒱 c) $$ Hr
    iintro %_ Hr
    iapply (store_chunk 𝒱 c (g := rowsOf X 2) 1 (by decide) rfl (cast_self _)) $$ Hr
    iintro Hr
    iapply (load_chunk 𝒱 c 2 2 rfl) $$ Hx
    iintro Hx
    iapply (peek_chunk 𝒱 c) $$ Hr
    iintro %_ Hr
    iapply (le_wp_ret _ _ _ _ _)
    iapply Hk
    isplitl [Hg]; · iexact Hg
    isplitl [Hx]; · iexact Hx
    iexact Hr
  clear_value jp
  have hb2 : k0_cond16 i (BitVec.ofNat 32 (b.κ t)) (BitVec.ofNat 32 (b.κ (t - 1))) = 1#1 ↔ t = 0 ∨ b.κ t ≠ b.κ (t - 1) := by
    rw [cond16_iff i hk (ok.word _), ht]
  by_cases hc : k0_cond16 i (BitVec.ofNat 32 (b.κ t)) (BitVec.ofNat 32 (b.κ (t - 1))) = 1#1
  · rw [dif_pos hc]
    extract_lets +onlyGivenNames -underBinder jp'
    have hj' : iprop(tabs c T0 T1 T2 ∗ slots c w1 w2 w3 (b.on (b.κ t) (.fly (b.ex (b.κ t)))) ∗ (∃ W, owes (c : Thread nD τ) 0 W) ∗ owns (c : Thread nD τ) arg4 fullShare X ∗ scratch c (rowsOf X 2) 0 : sProp 𝕄)
        ⊢ iprop((∀ hw v, iprop(gear c w1 w2 w3 T0 T1 T2 (b.during t) ∗ owns (c : Thread nD τ) arg4 fullShare X ∗ scratch c (rowsOf X 2) 2) -∗ Q ⟨BitVec.ofNat 32 (b.κ t), hw, v, k0_pay41 (chunkOf (rowsOf X 2) 2)⟩)
          -∗ wp frame (wpE (defs₀ (F := F)) 𝒱 (c : Thread nD τ) none) Set.univ (jp' ⟨⟩) Q) := by
      iintro ⟨Ht, Hs, Ho, Hx, Hr⟩ Hk
      iapply (read_seq c 𝒱 hb (t := b.κ t) (off61_eq hk)) $$ Ht
      iintro Ht
      have hw4 : k0_chk18 i (BitVec.ofNat 32 b.n) (BitVec.ofNat 32 (b.κ t)) (BitVec.ofNat 32 (b.κ (t - 1))) (BitVec.ofNat 32 (b.ξ (b.κ t))) :=
        ⟨fun _ _ => fit_row (off64_eq (ok.expert _ hkE)) (ok.expert _ hkE), fun _ _ => fit_row (off69_eq (ok.expert _ hkE)) (ok.expert _ hkE)⟩
      iapply (wp_assume 𝒱 (c : Thread nD τ) none Set.univ hw4)
      ihave Hs := (slots_split c w1 w2 w3 _ (slotOf (b.κ t))) $$ Hs
      icases Hs with ⟨Hs, Hs'⟩
      rw [b.on_self, b.on_other]
      iapply (wait3 𝒱 c w1 w2 w3 (s := slotOf (b.κ t)) (e := b.ex (b.κ t)) (off62_eq hk) (off65_eq hk) (off67_eq hk)) $$ [Hs Ho]
      · isplitl [Hs]; · iexact Hs
        iexact Ho
      iintro ⟨Hs, Ho⟩
      iapply hj $$ [Ht Hs Hs' Ho Hx Hr] Hk
      unfold gear
      isplitl [Ht Hs Hs' Ho]
      · isplitl [Ht]; · iexact Ht
        isplitl [Hs Hs']
        · iapply (slots_join c w1 w2 w3 _ (slotOf (b.κ t)))
          unfold Book.during
          rw [b.on_self, b.on_other]
          isplitl [Hs]; · iexact Hs
          iexact Hs'
        iexact Ho
      isplitl [Hx]; · iexact Hx
      iexact Hr
    clear_value jp'
    by_cases h3 : k0_cond17 (BitVec.ofNat 32 (b.κ t)) = 1#1
    · rw [dif_pos h3]
      have hκ : b.κ t = 0 := (cond17_iff hk).1 h3
      have h0 : t = 0 := by
        by_contra h0
        have hne := (hb2.1 hc).resolve_left h0
        have h := ok.step (t - 1) (by omega)
        rw [Nat.sub_add_cancel (by omega)] at h
        omega
      have hE0 : 0 < b.E := by omega
      ihave Hs := (slots_congr c w1 w2 w3 (σ' := fun _ => .free) (fun s => by rw [h0]; exact b.before_first s)) $$ Hs
      ihave Hs := (slots_split c w1 w2 w3 _ 0) $$ Hs
      icases Hs with ⟨Hs, Hs'⟩
      extract_lets +onlyGivenNames -underBinder jp3
      have hj3 : iprop(tabs c T0 T1 T2 ∗ slot c w1 w2 w3 0 (.fly (b.ex 0)) ∗ slot c w1 w2 w3 1 .free ∗ (∃ W, owes (c : Thread nD τ) 0 W) ∗ owns (c : Thread nD τ) arg4 fullShare X ∗ scratch c (rowsOf X 2) 0 : sProp 𝕄)
          ⊢ iprop((∀ hw v, iprop(gear c w1 w2 w3 T0 T1 T2 (b.during t) ∗ owns (c : Thread nD τ) arg4 fullShare X ∗ scratch c (rowsOf X 2) 2) -∗ Q ⟨BitVec.ofNat 32 (b.κ t), hw, v, k0_pay41 (chunkOf (rowsOf X 2) 2)⟩)
            -∗ wp frame (wpE (defs₀ (F := F)) 𝒱 (c : Thread nD τ) none) Set.univ (jp3 ⟨⟩) Q) := by
        iintro ⟨Ht, Hs, Hs', Ho, Hx, Hr⟩ Hk
        by_cases h5 : k0_cond19 (BitVec.ofNat 32 b.E) = 1#1
        · have h5E : 1 < b.E := (cond19_iff hE).1 h5
          dsimp only [jp3]
          rw [dif_pos h5]
          iapply (read_seq c 𝒱 hb (t := 1) rfl) $$ Ht
          iintro Ht
          have hw2 : k0_chk16 i (BitVec.ofNat 32 b.E) (BitVec.ofNat 32 b.n) (BitVec.ofNat 32 (b.κ t)) (BitVec.ofNat 32 (b.κ (t - 1))) (BitVec.ofNat 32 (b.ξ 1)) :=
            ⟨fun _ _ _ _ => fit_row (off59_eq (ok.expert _ h5E)) (ok.expert _ h5E), fun _ _ _ _ => fit_row (off60_eq (ok.expert _ h5E)) (ok.expert _ h5E)⟩
          iapply (wp_assume 𝒱 (c : Thread nD τ) none Set.univ hw2)
          iapply (start3 𝒱 c w1 w2 w3 (s := 1) (e := b.ex 1) rfl rfl (by rw [b.ex_val ok h5E]; exact off59_eq (ok.expert _ h5E)) rfl rfl (by rw [b.ex_val ok h5E]; exact off59_eq (ok.expert _ h5E)) rfl rfl (by rw [b.ex_val ok h5E]; exact off60_eq (ok.expert _ h5E))) $$ Hs'
          iintro Hs'
          iapply hj' $$ [Ht Hs Hs' Ho Hx Hr] Hk
          isplitl [Ht]; · iexact Ht
          isplitl [Hs Hs']
          · iapply (slots_zero c w1 w2 w3 b hκ)
            rw [if_pos h5E]
            isplitl [Hs]; · iexact Hs
            iexact Hs'
          isplitl [Ho]; · iexact Ho
          isplitl [Hx]; · iexact Hx
          iexact Hr
        · have h5E : ¬ 1 < b.E := fun h => h5 ((cond19_iff hE).2 h)
          dsimp only [jp3]
          rw [dif_neg h5]
          iapply hj' $$ [Ht Hs Hs' Ho Hx Hr] Hk
          isplitl [Ht]; · iexact Ht
          isplitl [Hs Hs']
          · iapply (slots_zero c w1 w2 w3 b hκ)
            rw [if_neg h5E]
            isplitl [Hs]; · iexact Hs
            iexact Hs'
          isplitl [Ho]; · iexact Ho
          isplitl [Hx]; · iexact Hx
          iexact Hr
      clear_value jp3
      rw [dif_pos ((cond18_iff hE).2 hE0)]
      iapply (read_seq c 𝒱 hb (t := 0) rfl) $$ Ht
      iintro Ht
      have hw1 : k0_chk15 i (BitVec.ofNat 32 b.E) (BitVec.ofNat 32 b.n) (BitVec.ofNat 32 (b.κ t)) (BitVec.ofNat 32 (b.κ (t - 1))) (BitVec.ofNat 32 (b.ξ 0)) :=
        ⟨fun _ _ _ _ => fit_row (off57_eq (ok.expert _ hE0)) (ok.expert _ hE0), fun _ _ _ _ => fit_row (off58_eq (ok.expert _ hE0)) (ok.expert _ hE0)⟩
      iapply (wp_assume 𝒱 (c : Thread nD τ) none Set.univ hw1)
      iapply (start3 𝒱 c w1 w2 w3 (s := 0) (e := b.ex 0) rfl rfl (by rw [b.ex_val ok hE0]; exact off57_eq (ok.expert _ hE0)) rfl rfl (by rw [b.ex_val ok hE0]; exact off57_eq (ok.expert _ hE0)) rfl rfl (by rw [b.ex_val ok hE0]; exact off58_eq (ok.expert _ hE0))) $$ Hs
      iintro Hs
      iapply hj3 $$ [Ht Hs Hs' Ho Hx Hr] Hk
      isplitl [Ht]; · iexact Ht
      isplitl [Hs]; · iexact Hs
      isplitl [Hs']; · iexact Hs'
      isplitl [Ho]; · iexact Ho
      isplitl [Hx]; · iexact Hx
      iexact Hr
    · rw [dif_neg h3]
      have hκ : b.κ t ≠ 0 := fun h => h3 ((cond17_iff hk).2 h)
      have h0 : t ≠ 0 := fun h => hκ (h ▸ ok.zero (by omega))
      ihave Hs := (slots_congr c w1 w2 w3 (b.before_fresh h0 hn ((hb2.1 hc).resolve_left h0))) $$ Hs
      iapply hj' $$ [Ht Hs Ho Hx Hr] Hk
      isplitl [Ht]; · iexact Ht
      isplitl [Hs]; · iexact Hs
      isplitl [Ho]; · iexact Ho
      isplitl [Hx]; · iexact Hx
      iexact Hr
  · rw [dif_neg hc]
    rw [hb2, not_or, not_not] at hc
    ihave Hs := (slots_congr c w1 w2 w3 (b.before_same hc.1 hn hc.2)) $$ Hs
    iapply hj $$ [Ht Hs Ho Hx Hr] Hk
    unfold gear
    isplitl [Ht Hs Ho]
    · isplitl [Ht]; · iexact Ht
      isplitl [Hs]; · iexact Hs
      iexact Ho
    isplitl [Hx]; · iexact Hx
    iexact Hr

end Parts

end Cert.Kernel3Ideal.Experts

end
-- ==== Proof.Body.lean ====
/- A step of the experts kernel: three tiles, each its expert's matrices on its rows, or zeros. -/
module

public import proofs.«01_k».proof.Proof.Opening

@[expose] public section

set_option maxRecDepth 16384

noncomputable section

namespace Cert.Kernel3Ideal.Experts

open Cert.Kernel3Ideal Cert.Kernel3Ideal.Gen Cert.Kernel3Ideal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## From a tile to the next -/

theorem slotOf_succ (k : ℕ) : slotOf (k + 1) = other (slotOf k) := Fin.ext (by unfold other slotOf; dsimp only; omega)
theorem other_succ (k : ℕ) : other (slotOf (k + 1)) = slotOf k := Fin.ext (by unfold other slotOf; dsimp only; omega)

namespace Book

variable {b : Book}

/-- Whether a tile, done, lets its slot start on the position after next. -/
def Starts (b : Book) (t : ℕ) : Prop := (t + 1 = b.n ∨ b.κ t ≠ b.κ (min (t + 1) 95)) ∧ b.κ t + 2 < b.E

theorem Starts.facts (ok : b.Ok) {t : ℕ} (hn : t < b.n) (h : b.Starts t) : t + 1 < b.n ∧ b.κ (t + 1) = b.κ t + 1 ∧ b.κ t + 2 < b.E := by
  obtain ⟨h, hE⟩ := h
  have hlast := ok.last t
  have h96 := ok.n_le
  have hlt : t + 1 < b.n := by omega
  have hs := ok.step t hlt
  rw [show min (t + 1) 95 = t + 1 by omega] at h
  exact ⟨hlt, by omega, hE⟩

theorem next_fresh {t k : ℕ} (hlt : t + 1 < b.n) (h : b.κ (t + 1) = b.κ t + 1) (hk : b.κ t = k) (s : Fin 2) :
    b.before (t + 1) s = b.on (k + 1) (.fly (b.ex (k + 1))) s := by
  rw [b.before_fresh (t := t + 1) (Nat.succ_ne_zero t) hlt (by rw [Nat.add_sub_cancel]; omega), h, hk]

theorem before_done (ok : b.Ok) {t : ℕ} (h : b.n ≤ t) (s : Fin 2) : b.before t s = b.before (t + 1) s := by
  rw [b.before_unused h, b.before_unused (by omega)]

end Book

section Turn

variable (c : Dev nD)
variable (w1 : Buf (Elt F) ((c : Thread nD τ).loc main_arg4)) (w2 : Buf (Elt F) ((c : Thread nD τ).loc main_arg5)) (w3 : Buf (Elt F) ((c : Thread nD τ).loc main_arg6))
variable {b : Book} (ok : b.Ok)

include ok in
/-- Nothing to start: the slots are as the next tile finds them. -/
theorem slots_next {t t' : ℕ} (ht : t + 1 = t') (hn : t < b.n) (h : ¬ b.Starts t) : (slots c w1 w2 w3 (b.during t) : sProp 𝕄) ⊢ slots c w1 w2 w3 (b.before t') := by
  subst ht
  have hlast := ok.last t
  have h96 := ok.n_le
  by_cases hlt : t + 1 < b.n
  · have hs := ok.step t hlt
    rcases hs with hs | hs
    · refine slots_congr c w1 w2 w3 fun s => ?_
      rw [b.before_same (t := t + 1) (Nat.succ_ne_zero t) hlt (by rw [Nat.add_sub_cancel]; exact hs)]
      unfold Book.during
      rw [hs]
    · have hE : ¬ b.κ t + 2 < b.E := fun hE => h ⟨.inr (by rw [show min (t + 1) 95 = t + 1 by omega]; omega), hE⟩
      refine (slots_split c w1 w2 w3 _ (slotOf (b.κ t))).trans (.trans ?_ (slots_join c w1 w2 w3 _ (slotOf (b.κ t))))
      rw [Book.next_fresh hlt hs rfl, Book.next_fresh hlt hs rfl, ← slotOf_succ, b.on_self, ← other_succ, b.on_other, other_succ, slotOf_succ]
      unfold Book.during
      rw [b.on_self, b.on_other, if_pos (by have := ok.lt (t + 1) hlt; omega), if_neg (by omega)]
      iintro ⟨H, H'⟩
      isplitl [H]; · iapply held_free $$ H
      iexact H'
  · refine (slots_split c w1 w2 w3 _ (slotOf (b.κ t))).trans (.trans ?_ (slots_join c w1 w2 w3 _ (slotOf (b.κ t))))
    rw [b.before_unused (by omega), b.before_unused (by omega)]
    unfold Book.during
    rw [b.on_self, b.on_other, if_neg (by omega)]
    iintro ⟨H, H'⟩
    isplitl [H]; · iapply held_free $$ H
    iexact H'

include ok in
/-- The tile's slot freed. -/
theorem slots_open {t : ℕ} (hn : t < b.n) (h : b.Starts t) :
    (slots c w1 w2 w3 (b.during t) : sProp 𝕄) ⊢ iprop(slot c w1 w2 w3 (slotOf (b.κ t)) .free ∗ slot c w1 w2 w3 (other (slotOf (b.κ t))) (.fly (b.ex (b.κ t + 1)))) := by
  obtain ⟨hlt, hs, hE⟩ := h.facts ok hn
  refine (slots_split c w1 w2 w3 _ (slotOf (b.κ t))).trans ?_
  unfold Book.during
  rw [b.on_self, b.on_other, if_pos (by omega)]
  iintro ⟨H, H'⟩
  isplitl [H]; · iapply held_free $$ H
  iexact H'

include ok in
/-- The tile's slot started. -/
theorem slots_close {t t' : ℕ} (ht : t + 1 = t') (hn : t < b.n) (h : b.Starts t) :
    iprop(slot c w1 w2 w3 (slotOf (b.κ t)) (.fly (b.ex (b.κ t + 2))) ∗ slot c w1 w2 w3 (other (slotOf (b.κ t))) (.fly (b.ex (b.κ t + 1))) : sProp 𝕄)
      ⊢ slots c w1 w2 w3 (b.before t') := by
  subst ht
  obtain ⟨hlt, hs, hE⟩ := h.facts ok hn
  refine .trans ?_ (slots_join c w1 w2 w3 _ (slotOf (b.κ t)))
  rw [Book.next_fresh hlt hs rfl, Book.next_fresh hlt hs rfl, ← slotOf_succ, b.on_self, ← other_succ, b.on_other, if_pos (by omega), other_succ, slotOf_succ]

theorem during_held (b : Book) (t : ℕ) : (slot c w1 w2 w3 (slotOf (b.κ t)) (b.during t (slotOf (b.κ t))) : sProp 𝕄) ⊢ slot c w1 w2 w3 (slotOf (b.κ t)) (.held (b.ex (b.κ t))) := by
  unfold Book.during
  rw [b.on_self]

theorem held_during (b : Book) (t : ℕ) : (slot c w1 w2 w3 (slotOf (b.κ t)) (.held (b.ex (b.κ t))) : sProp 𝕄) ⊢ slot c w1 w2 w3 (slotOf (b.κ t)) (b.during t (slotOf (b.κ t))) := by
  unfold Book.during
  rw [b.on_self]

theorem scratch_any {g g' : Vec F S256x2048 .bf16} : (scratch c g 0 : sProp 𝕄) ⊢ scratch c g' 0 := by
  unfold scratch
  iintro ⟨%f, -, H⟩
  iexists f
  isplitr; · ipureintro; intro x hx; omega
  iexact H

end Turn

/-- A tile's result rows. -/
def tileVal (b : Book) (w1 w2 : S32x2048x512.Idx → F .f32) (w3 : S32x512x2048.Idx → F .f32) (x : Vec F S256x2048 .bf16) (t : ℕ) : Vec F S256x2048 .bf16 :=
  if t < b.n then k0_pay1 x (matA w1 (b.ex (b.κ t))) (matA w2 (b.ex (b.κ t))) (matC w3 (b.ex (b.κ t))) else k0_pay2

theorem tileVal_live {b : Book} {w1 w2 : S32x2048x512.Idx → F .f32} {w3 : S32x512x2048.Idx → F .f32} {x : Vec F S256x2048 .bf16} {t : ℕ} (h : t < b.n) :
    tileVal b w1 w2 w3 x t = k0_pay1 x (matA w1 (b.ex (b.κ t))) (matA w2 (b.ex (b.κ t))) (matC w3 (b.ex (b.κ t))) := if_pos h

theorem tileVal_dead {b : Book} {w1 w2 : S32x2048x512.Idx → F .f32} {w3 : S32x512x2048.Idx → F .f32} {x : Vec F S256x2048 .bf16} {t : ℕ} (h : b.n ≤ t) :
    tileVal b w1 w2 w3 x t = k0_pay2 := if_neg (by omega)

section Parts

variable (𝒱 : Variants) (c : Dev nD)
variable {T0 : Buf (Elt F) ((c : Thread nD τ).loc main_arg0)} {T1 : Buf (Elt F) ((c : Thread nD τ).loc main_arg1)} {T2 : Buf (Elt F) ((c : Thread nD τ).loc main_arg2)}
variable (w1 : Buf (Elt F) ((c : Thread nD τ).loc main_arg4)) (w2 : Buf (Elt F) ((c : Thread nD τ).loc main_arg5)) (w3 : Buf (Elt F) ((c : Thread nD τ).loc main_arg6))
variable {b : Book} (hb : b.Reads T0 T1 T2) (ok : b.Ok)

set_option maxHeartbeats 1000000 in
theorem middle0 (i : grid0.Coords) {arg4 arg8 : Memref sig .tc .vmem S768x2048 .bf16} {harg4 : arg4.IsWhole} {harg8 : arg8.IsWhole} {X : Vec F S768x2048 .bf16} {Q : FVec F S256x128 .bf16 → sProp 𝕄} :
    iprop(owns (c : Thread nD τ) arg4 fullShare X ∗ scratch c (rowsOf X 0) 2 : sProp 𝕄)
      ⊢ iprop((iprop(owns (c : Thread nD τ) arg4 fullShare X ∗ scratch c (rowsOf X 0) 9) -∗ Q (chunkOf (rowsOf X 0) 9))
        -∗ wp frame (wpE (defs₀ (F := F)) 𝒱 (c : Thread nD τ) none) Set.univ (k0_part2 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (k0_pay9 (chunkOf (rowsOf X 0) 2))) Q) := by
  rw [k0_part2_eq_skeleton]
  unfold k0_part2_skel
  simp -zeta only [Prog.bind_lift, Prog.bind_op, Prog.bind_ret, Prog.pure_eq_ret]
  iintro ⟨Hx, Hr⟩ Hk
  iapply (store_chunk 𝒱 c (g := rowsOf X 0) 2 (by decide) rfl (cast_self _)) $$ Hr
  iintro Hr
  iapply (load_chunk 𝒱 c 0 3 rfl) $$ Hx
  iintro Hx
  iapply (peek_chunk 𝒱 c) $$ Hr
  iintro %_ Hr
  iapply (store_chunk 𝒱 c (g := rowsOf X 0) 3 (by decide) rfl (cast_self _)) $$ Hr
  iintro Hr
  iapply (load_chunk 𝒱 c 0 4 rfl) $$ Hx
  iintro Hx
  iapply (peek_chunk 𝒱 c) $$ Hr
  iintro %_ Hr
  iapply (store_chunk 𝒱 c (g := rowsOf X 0) 4 (by decide) rfl (cast_self _)) $$ Hr
  iintro Hr
  iapply (load_chunk 𝒱 c 0 5 rfl) $$ Hx
  iintro Hx
  iapply (peek_chunk 𝒱 c) $$ Hr
  iintro %_ Hr
  iapply (store_chunk 𝒱 c (g := rowsOf X 0) 5 (by decide) rfl (cast_self _)) $$ Hr
  iintro Hr
  iapply (load_chunk 𝒱 c 0 6 rfl) $$ Hx
  iintro Hx
  iapply (peek_chunk 𝒱 c) $$ Hr
  iintro %_ Hr
  iapply (store_chunk 𝒱 c (g := rowsOf X 0) 6 (by decide) rfl (cast_self _)) $$ Hr
  iintro Hr
  iapply (load_chunk 𝒱 c 0 7 rfl) $$ Hx
  iintro Hx
  iapply (peek_chunk 𝒱 c) $$ Hr
  iintro %_ Hr
  iapply (store_chunk 𝒱 c (g := rowsOf X 0) 7 (by decide) rfl (cast_self _)) $$ Hr
  iintro Hr
  iapply (load_chunk 𝒱 c 0 8 rfl) $$ Hx
  iintro Hx
  iapply (peek_chunk 𝒱 c) $$ Hr
  iintro %_ Hr
  iapply (store_chunk 𝒱 c (g := rowsOf X 0) 8 (by decide) rfl (cast_self _)) $$ Hr
  iintro Hr
  iapply (load_chunk 𝒱 c 0 9 rfl) $$ Hx
  iintro Hx
  iapply (le_wp_ret _ _ _ _ _)
  iapply Hk
  isplitl [Hx]; · iexact Hx
  iexact Hr

set_option maxHeartbeats 1000000 in
theorem ending0 (i : grid0.Coords) {arg4 arg8 : Memref sig .tc .vmem S768x2048 .bf16} {harg4 : arg4.IsWhole} {harg8 : arg8.IsWhole} {X : Vec F S768x2048 .bf16} {Q : PUnit → sProp 𝕄} :
    iprop(owns (c : Thread nD τ) arg4 fullShare X ∗ scratch c (rowsOf X 0) 9 : sProp 𝕄)
      ⊢ iprop((iprop(owns (c : Thread nD τ) arg4 fullShare X ∗ scratch c (rowsOf X 0) 16) -∗ Q ⟨⟩)
        -∗ wp frame (wpE (defs₀ (F := F)) 𝒱 (c : Thread nD τ) none) Set.univ (k0_part3 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (chunkOf (rowsOf X 0) 9)) Q) := by
  rw [k0_part3_eq_skeleton]
  unfold k0_part3_skel
  simp -zeta only [Prog.bind_lift, Prog.bind_op, Prog.bind_ret, Prog.pure_eq_ret]
  iintro ⟨Hx, Hr⟩ Hk
  iapply (peek_chunk 𝒱 c) $$ Hr
  iintro %_ Hr
  iapply (store_chunk 𝒱 c (g := rowsOf X 0) 9 (by decide) rfl (cast_self _)) $$ Hr
  iintro Hr
  iapply (load_chunk 𝒱 c 0 10 rfl) $$ Hx
  iintro Hx
  iapply (peek_chunk 𝒱 c) $$ Hr
  iintro %_ Hr
  iapply (store_chunk 𝒱 c (g := rowsOf X 0) 10 (by decide) rfl (cast_self _)) $$ Hr
  iintro Hr
  iapply (load_chunk 𝒱 c 0 11 rfl) $$ Hx
  iintro Hx
  iapply (peek_chunk 𝒱 c) $$ Hr
  iintro %_ Hr
  iapply (store_chunk 𝒱 c (g := rowsOf X 0) 11 (by decide) rfl (cast_self _)) $$ Hr
  iintro Hr
  iapply (load_chunk 𝒱 c 0 12 rfl) $$ Hx
  iintro Hx
  iapply (peek_chunk 𝒱 c) $$ Hr
  iintro %_ Hr
  iapply (store_chunk 𝒱 c (g := rowsOf X 0) 12 (by decide) rfl (cast_self _)) $$ Hr
  iintro Hr
  iapply (load_chunk 𝒱 c 0 13 rfl) $$ Hx
  iintro Hx
  iapply (peek_chunk 𝒱 c) $$ Hr
  iintro %_ Hr
  iapply (store_chunk 𝒱 c (g := rowsOf X 0) 13 (by decide) rfl (cast_self _)) $$ Hr
  iintro Hr
  iapply (load_chunk 𝒱 c 0 14 rfl) $$ Hx
  iintro Hx
  iapply (peek_chunk 𝒱 c) $$ Hr
  iintro %_ Hr
  iapply (store_chunk 𝒱 c (g := rowsOf X 0) 14 (by decide) rfl (cast_self _)) $$ Hr
  iintro Hr
  iapply (load_chunk 𝒱 c 0 15 rfl) $$ Hx
  iintro Hx
  iapply (peek_chunk 𝒱 c) $$ Hr
  iintro %_ Hr
  iapply (store_chunk 𝒱 c (g := rowsOf X 0) 15 (by decide) rfl (cast_self _)) $$ Hr
  iintro Hr
  iapply (le_wp_ret _ _ _ _ _)
  iapply Hk
  isplitl [Hx]; · iexact Hx
  iexact Hr

set_option maxHeartbeats 1000000 in
theorem middle1 (i : grid0.Coords) {arg4 arg8 : Memref sig .tc .vmem S768x2048 .bf16} {harg4 : arg4.IsWhole} {harg8 : arg8.IsWhole} {X : Vec F S768x2048 .bf16} {Q : FVec F S256x128 .bf16 → sProp 𝕄} :
    iprop(owns (c : Thread nD τ) arg4 fullShare X ∗ scratch c (rowsOf X 1) 2 : sProp 𝕄)
      ⊢ iprop((iprop(owns (c : Thread nD τ) arg4 fullShare X ∗ scratch c (rowsOf X 1) 9) -∗ Q (chunkOf (rowsOf X 1) 9))
        -∗ wp frame (wpE (defs₀ (F := F)) 𝒱 (c : Thread nD τ) none) Set.univ (k0_part5 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (k0_pay25 (chunkOf (rowsOf X 1) 2))) Q) := by
  rw [k0_part5_eq_skeleton]
  unfold k0_part5_skel
  simp -zeta only [Prog.bind_lift, Prog.bind_op, Prog.bind_ret, Prog.pure_eq_ret]
  iintro ⟨Hx, Hr⟩ Hk
  iapply (store_chunk 𝒱 c (g := rowsOf X 1) 2 (by decide) rfl (cast_self _)) $$ Hr
  iintro Hr
  iapply (load_chunk 𝒱 c 1 3 rfl) $$ Hx
  iintro Hx
  iapply (peek_chunk 𝒱 c) $$ Hr
  iintro %_ Hr
  iapply (store_chunk 𝒱 c (g := rowsOf X 1) 3 (by decide) rfl (cast_self _)) $$ Hr
  iintro Hr
  iapply (load_chunk 𝒱 c 1 4 rfl) $$ Hx
  iintro Hx
  iapply (peek_chunk 𝒱 c) $$ Hr
  iintro %_ Hr
  iapply (store_chunk 𝒱 c (g := rowsOf X 1) 4 (by decide) rfl (cast_self _)) $$ Hr
  iintro Hr
  iapply (load_chunk 𝒱 c 1 5 rfl) $$ Hx
  iintro Hx
  iapply (peek_chunk 𝒱 c) $$ Hr
  iintro %_ Hr
  iapply (store_chunk 𝒱 c (g := rowsOf X 1) 5 (by decide) rfl (cast_self _)) $$ Hr
  iintro Hr
  iapply (load_chunk 𝒱 c 1 6 rfl) $$ Hx
  iintro Hx
  iapply (peek_chunk 𝒱 c) $$ Hr
  iintro %_ Hr
  iapply (store_chunk 𝒱 c (g := rowsOf X 1) 6 (by decide) rfl (cast_self _)) $$ Hr
  iintro Hr
  iapply (load_chunk 𝒱 c 1 7 rfl) $$ Hx
  iintro Hx
  iapply (peek_chunk 𝒱 c) $$ Hr
  iintro %_ Hr
  iapply (store_chunk 𝒱 c (g := rowsOf X 1) 7 (by decide) rfl (cast_self _)) $$ Hr
  iintro Hr
  iapply (load_chunk 𝒱 c 1 8 rfl) $$ Hx
  iintro Hx
  iapply (peek_chunk 𝒱 c) $$ Hr
  iintro %_ Hr
  iapply (store_chunk 𝒱 c (g := rowsOf X 1) 8 (by decide) rfl (cast_self _)) $$ Hr
  iintro Hr
  iapply (load_chunk 𝒱 c 1 9 rfl) $$ Hx
  iintro Hx
  iapply (le_wp_ret _ _ _ _ _)
  iapply Hk
  isplitl [Hx]; · iexact Hx
  iexact Hr

set_option maxHeartbeats 1000000 in
theorem ending1 (i : grid0.Coords) {arg4 arg8 : Memref sig .tc .vmem S768x2048 .bf16} {harg4 : arg4.IsWhole} {harg8 : arg8.IsWhole} {X : Vec F S768x2048 .bf16} {Q : PUnit → sProp 𝕄} :
    iprop(owns (c : Thread nD τ) arg4 fullShare X ∗ scratch c (rowsOf X 1) 9 : sProp 𝕄)
      ⊢ iprop((iprop(owns (c : Thread nD τ) arg4 fullShare X ∗ scratch c (rowsOf X 1) 16) -∗ Q ⟨⟩)
        -∗ wp frame (wpE (defs₀ (F := F)) 𝒱 (c : Thread nD τ) none) Set.univ (k0_part6 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (chunkOf (rowsOf X 1) 9)) Q) := by
  rw [k0_part6_eq_skeleton]
  unfold k0_part6_skel
  simp -zeta only [Prog.bind_lift, Prog.bind_op, Prog.bind_ret, Prog.pure_eq_ret]
  iintro ⟨Hx, Hr⟩ Hk
  iapply (peek_chunk 𝒱 c) $$ Hr
  iintro %_ Hr
  iapply (store_chunk 𝒱 c (g := rowsOf X 1) 9 (by decide) rfl (cast_self _)) $$ Hr
  iintro Hr
  iapply (load_chunk 𝒱 c 1 10 rfl) $$ Hx
  iintro Hx
  iapply (peek_chunk 𝒱 c) $$ Hr
  iintro %_ Hr
  iapply (store_chunk 𝒱 c (g := rowsOf X 1) 10 (by decide) rfl (cast_self _)) $$ Hr
  iintro Hr
  iapply (load_chunk 𝒱 c 1 11 rfl) $$ Hx
  iintro Hx
  iapply (peek_chunk 𝒱 c) $$ Hr
  iintro %_ Hr
  iapply (store_chunk 𝒱 c (g := rowsOf X 1) 11 (by decide) rfl (cast_self _)) $$ Hr
  iintro Hr
  iapply (load_chunk 𝒱 c 1 12 rfl) $$ Hx
  iintro Hx
  iapply (peek_chunk 𝒱 c) $$ Hr
  iintro %_ Hr
  iapply (store_chunk 𝒱 c (g := rowsOf X 1) 12 (by decide) rfl (cast_self _)) $$ Hr
  iintro Hr
  iapply (load_chunk 𝒱 c 1 13 rfl) $$ Hx
  iintro Hx
  iapply (peek_chunk 𝒱 c) $$ Hr
  iintro %_ Hr
  iapply (store_chunk 𝒱 c (g := rowsOf X 1) 13 (by decide) rfl (cast_self _)) $$ Hr
  iintro Hr
  iapply (load_chunk 𝒱 c 1 14 rfl) $$ Hx
  iintro Hx
  iapply (peek_chunk 𝒱 c) $$ Hr
  iintro %_ Hr
  iapply (store_chunk 𝒱 c (g := rowsOf X 1) 14 (by decide) rfl (cast_self _)) $$ Hr
  iintro Hr
  iapply (load_chunk 𝒱 c 1 15 rfl) $$ Hx
  iintro Hx
  iapply (peek_chunk 𝒱 c) $$ Hr
  iintro %_ Hr
  iapply (store_chunk 𝒱 c (g := rowsOf X 1) 15 (by decide) rfl (cast_self _)) $$ Hr
  iintro Hr
  iapply (le_wp_ret _ _ _ _ _)
  iapply Hk
  isplitl [Hx]; · iexact Hx
  iexact Hr

set_option maxHeartbeats 1000000 in
theorem middle2 (i : grid0.Coords) {arg4 arg8 : Memref sig .tc .vmem S768x2048 .bf16} {harg4 : arg4.IsWhole} {harg8 : arg8.IsWhole} {X : Vec F S768x2048 .bf16} {Q : FVec F S256x128 .bf16 → sProp 𝕄} :
    iprop(owns (c : Thread nD τ) arg4 fullShare X ∗ scratch c (rowsOf X 2) 2 : sProp 𝕄)
      ⊢ iprop((iprop(owns (c : Thread nD τ) arg4 fullShare X ∗ scratch c (rowsOf X 2) 9) -∗ Q (chunkOf (rowsOf X 2) 9))
        -∗ wp frame (wpE (defs₀ (F := F)) 𝒱 (c : Thread nD τ) none) Set.univ (k0_part8 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (k0_pay41 (chunkOf (rowsOf X 2) 2))) Q) := by
  rw [k0_part8_eq_skeleton]
  unfold k0_part8_skel
  simp -zeta only [Prog.bind_lift, Prog.bind_op, Prog.bind_ret, Prog.pure_eq_ret]
  iintro ⟨Hx, Hr⟩ Hk
  iapply (store_chunk 𝒱 c (g := rowsOf X 2) 2 (by decide) rfl (cast_self _)) $$ Hr
  iintro Hr
  iapply (load_chunk 𝒱 c 2 3 rfl) $$ Hx
  iintro Hx
  iapply (peek_chunk 𝒱 c) $$ Hr
  iintro %_ Hr
  iapply (store_chunk 𝒱 c (g := rowsOf X 2) 3 (by decide) rfl (cast_self _)) $$ Hr
  iintro Hr
  iapply (load_chunk 𝒱 c 2 4 rfl) $$ Hx
  iintro Hx
  iapply (peek_chunk 𝒱 c) $$ Hr
  iintro %_ Hr
  iapply (store_chunk 𝒱 c (g := rowsOf X 2) 4 (by decide) rfl (cast_self _)) $$ Hr
  iintro Hr
  iapply (load_chunk 𝒱 c 2 5 rfl) $$ Hx
  iintro Hx
  iapply (peek_chunk 𝒱 c) $$ Hr
  iintro %_ Hr
  iapply (store_chunk 𝒱 c (g := rowsOf X 2) 5 (by decide) rfl (cast_self _)) $$ Hr
  iintro Hr
  iapply (load_chunk 𝒱 c 2 6 rfl) $$ Hx
  iintro Hx
  iapply (peek_chunk 𝒱 c) $$ Hr
  iintro %_ Hr
  iapply (store_chunk 𝒱 c (g := rowsOf X 2) 6 (by decide) rfl (cast_self _)) $$ Hr
  iintro Hr
  iapply (load_chunk 𝒱 c 2 7 rfl) $$ Hx
  iintro Hx
  iapply (peek_chunk 𝒱 c) $$ Hr
  iintro %_ Hr
  iapply (store_chunk 𝒱 c (g := rowsOf X 2) 7 (by decide) rfl (cast_self _)) $$ Hr
  iintro Hr
  iapply (load_chunk 𝒱 c 2 8 rfl) $$ Hx
  iintro Hx
  iapply (peek_chunk 𝒱 c) $$ Hr
  iintro %_ Hr
  iapply (store_chunk 𝒱 c (g := rowsOf X 2) 8 (by decide) rfl (cast_self _)) $$ Hr
  iintro Hr
  iapply (load_chunk 𝒱 c 2 9 rfl) $$ Hx
  iintro Hx
  iapply (le_wp_ret _ _ _ _ _)
  iapply Hk
  isplitl [Hx]; · iexact Hx
  iexact Hr

set_option maxHeartbeats 1000000 in
theorem ending2 (i : grid0.Coords) {arg4 arg8 : Memref sig .tc .vmem S768x2048 .bf16} {harg4 : arg4.IsWhole} {harg8 : arg8.IsWhole} {X : Vec F S768x2048 .bf16} {Q : PUnit → sProp 𝕄} :
    iprop(owns (c : Thread nD τ) arg4 fullShare X ∗ scratch c (rowsOf X 2) 9 : sProp 𝕄)
      ⊢ iprop((iprop(owns (c : Thread nD τ) arg4 fullShare X ∗ scratch c (rowsOf X 2) 16) -∗ Q ⟨⟩)
        -∗ wp frame (wpE (defs₀ (F := F)) 𝒱 (c : Thread nD τ) none) Set.univ (k0_part9 i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (chunkOf (rowsOf X 2) 9)) Q) := by
  rw [k0_part9_eq_skeleton]
  unfold k0_part9_skel
  simp -zeta only [Prog.bind_lift, Prog.bind_op, Prog.bind_ret, Prog.pure_eq_ret]
  iintro ⟨Hx, Hr⟩ Hk
  iapply (peek_chunk 𝒱 c) $$ Hr
  iintro %_ Hr
  iapply (store_chunk 𝒱 c (g := rowsOf X 2) 9 (by decide) rfl (cast_self _)) $$ Hr
  iintro Hr
  iapply (load_chunk 𝒱 c 2 10 rfl) $$ Hx
  iintro Hx
  iapply (peek_chunk 𝒱 c) $$ Hr
  iintro %_ Hr
  iapply (store_chunk 𝒱 c (g := rowsOf X 2) 10 (by decide) rfl (cast_self _)) $$ Hr
  iintro Hr
  iapply (load_chunk 𝒱 c 2 11 rfl) $$ Hx
  iintro Hx
  iapply (peek_chunk 𝒱 c) $$ Hr
  iintro %_ Hr
  iapply (store_chunk 𝒱 c (g := rowsOf X 2) 11 (by decide) rfl (cast_self _)) $$ Hr
  iintro Hr
  iapply (load_chunk 𝒱 c 2 12 rfl) $$ Hx
  iintro Hx
  iapply (peek_chunk 𝒱 c) $$ Hr
  iintro %_ Hr
  iapply (store_chunk 𝒱 c (g := rowsOf X 2) 12 (by decide) rfl (cast_self _)) $$ Hr
  iintro Hr
  iapply (load_chunk 𝒱 c 2 13 rfl) $$ Hx
  iintro Hx
  iapply (peek_chunk 𝒱 c) $$ Hr
  iintro %_ Hr
  iapply (store_chunk 𝒱 c (g := rowsOf X 2) 13 (by decide) rfl (cast_self _)) $$ Hr
  iintro Hr
  iapply (load_chunk 𝒱 c 2 14 rfl) $$ Hx
  iintro Hx
  iapply (peek_chunk 𝒱 c) $$ Hr
  iintro %_ Hr
  iapply (store_chunk 𝒱 c (g := rowsOf X 2) 14 (by decide) rfl (cast_self _)) $$ Hr
  iintro Hr
  iapply (load_chunk 𝒱 c 2 15 rfl) $$ Hx
  iintro Hx
  iapply (peek_chunk 𝒱 c) $$ Hr
  iintro %_ Hr
  iapply (store_chunk 𝒱 c (g := rowsOf X 2) 15 (by decide) rfl (cast_self _)) $$ Hr
  iintro Hr
  iapply (le_wp_ret _ _ _ _ _)
  iapply Hk
  isplitl [Hx]; · iexact Hx
  iexact Hr

/-! ### The step -/

set_option maxHeartbeats 4000000 in
include hb ok in
/-- A step of the kernel. -/
theorem step (i : grid0.Coords) {t0 t1 t2 t3 : ℕ} (e0 : 3 * (i 0).val = t0) (e1 : 3 * (i 0).val + 1 = t1) (e2 : 3 * (i 0).val + 2 = t2) (e3 : 3 * (i 0).val + 3 = t3)
    {arg4 arg8 : Memref sig .tc .vmem S768x2048 .bf16} {harg4 : arg4.IsWhole} {harg8 : arg8.IsWhole} {X : Vec F S768x2048 .bf16} {G : Fin 3 → Vec F S256x2048 .bf16}
    (hG : ∀ (s : Fin 3) (t : ℕ), 3 * (i 0).val + s.val = t → G s = tileVal b w1 w2 w3 (rowsOf X s) t) {Q : PUnit → sProp 𝕄} :
    iprop(gear c w1 w2 w3 T0 T1 T2 (b.before t0) ∗ owns (c : Thread nD τ) arg4 fullShare X ∗ scratch c (rowsOf X 0) 0 ∗ results c arg8 G 0 : sProp 𝕄)
      ⊢ iprop((iprop(gear c w1 w2 w3 T0 T1 T2 (b.before t3) ∗ owns (c : Thread nD τ) arg4 fullShare X ∗ scratch c (rowsOf X 0) 0 ∗ results c arg8 G 3) -∗ Q ⟨⟩) -∗ wp frame (wpE (defs₀ (F := F)) 𝒱 (c : Thread nD τ) none) Set.univ (cc0_experts i (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) Q) := by
  rw [cc0_experts_eq_skeleton]
  unfold cc0_experts_skel
  iintro ⟨Hg, Hx, Hr, Hy⟩ Hk
  icases (gear_open c w1 w2 w3 _) $$ Hg with ⟨Ht, Hs, Ho⟩
  iapply (read_experts c 𝒱 hb rfl) $$ Ht
  iintro Ht
  iapply (read_used c 𝒱 hb rfl) $$ Ht
  iintro Ht
  simp -zeta only [Prog.bind_lift, Prog.bind_op, Prog.bind_ret, Prog.pure_eq_ret]
  extract_lets +onlyGivenNames -underBinder jp0
  have hj0 : iprop(gear c w1 w2 w3 T0 T1 T2 (b.before t1) ∗ owns (c : Thread nD τ) arg4 fullShare X ∗ scratch c (rowsOf X 0) 0 ∗ results c arg8 G (if t0 < b.n then 1 else 0) : sProp 𝕄)
      ⊢ iprop((iprop(gear c w1 w2 w3 T0 T1 T2 (b.before t3) ∗ owns (c : Thread nD τ) arg4 fullShare X ∗ scratch c (rowsOf X 0) 0 ∗ results c arg8 G 3) -∗ Q ⟨⟩) -∗ wp frame (wpE (defs₀ (F := F)) 𝒱 (c : Thread nD τ) none) Set.univ (jp0 ⟨⟩) Q) := by
    iintro ⟨Hg, Hx, Hr, Hy⟩ Hk
    icases (gear_open c w1 w2 w3 _) $$ Hg with ⟨Ht, Hs, Ho⟩
    dsimp -zeta only [jp0]
    iapply (read_used c 𝒱 hb rfl) $$ Ht
    iintro Ht
    extract_lets +onlyGivenNames -underBinder kp0
    have hk0 : iprop(gear c w1 w2 w3 T0 T1 T2 (b.before t1) ∗ owns (c : Thread nD τ) arg4 fullShare X ∗ scratch c (rowsOf X 0) 0 ∗ results c arg8 G 1 : sProp 𝕄)
        ⊢ iprop((iprop(gear c w1 w2 w3 T0 T1 T2 (b.before t3) ∗ owns (c : Thread nD τ) arg4 fullShare X ∗ scratch c (rowsOf X 0) 0 ∗ results c arg8 G 3) -∗ Q ⟨⟩) -∗ wp frame (wpE (defs₀ (F := F)) 𝒱 (c : Thread nD τ) none) Set.univ (kp0 ⟨⟩) Q) := by
      iintro ⟨Hg, Hx, Hr, Hy⟩ Hk
      dsimp -zeta only [kp0]
      icases (gear_open c w1 w2 w3 _) $$ Hg with ⟨Ht, Hs, Ho⟩
      iapply (read_used c 𝒱 hb rfl) $$ Ht
      iintro Ht
      extract_lets +onlyGivenNames -underBinder jp1
      have hj1 : iprop(gear c w1 w2 w3 T0 T1 T2 (b.before t2) ∗ owns (c : Thread nD τ) arg4 fullShare X ∗ scratch c (rowsOf X 0) 0 ∗ results c arg8 G (if t1 < b.n then 2 else 1) : sProp 𝕄)
          ⊢ iprop((iprop(gear c w1 w2 w3 T0 T1 T2 (b.before t3) ∗ owns (c : Thread nD τ) arg4 fullShare X ∗ scratch c (rowsOf X 0) 0 ∗ results c arg8 G 3) -∗ Q ⟨⟩) -∗ wp frame (wpE (defs₀ (F := F)) 𝒱 (c : Thread nD τ) none) Set.univ (jp1 ⟨⟩) Q) := by
        iintro ⟨Hg, Hx, Hr, Hy⟩ Hk
        icases (gear_open c w1 w2 w3 _) $$ Hg with ⟨Ht, Hs, Ho⟩
        dsimp -zeta only [jp1]
        iapply (read_used c 𝒱 hb rfl) $$ Ht
        iintro Ht
        extract_lets +onlyGivenNames -underBinder kp1
        have hk1 : iprop(gear c w1 w2 w3 T0 T1 T2 (b.before t2) ∗ owns (c : Thread nD τ) arg4 fullShare X ∗ scratch c (rowsOf X 0) 0 ∗ results c arg8 G 2 : sProp 𝕄)
            ⊢ iprop((iprop(gear c w1 w2 w3 T0 T1 T2 (b.before t3) ∗ owns (c : Thread nD τ) arg4 fullShare X ∗ scratch c (rowsOf X 0) 0 ∗ results c arg8 G 3) -∗ Q ⟨⟩) -∗ wp frame (wpE (defs₀ (F := F)) 𝒱 (c : Thread nD τ) none) Set.univ (kp1 ⟨⟩) Q) := by
          iintro ⟨Hg, Hx, Hr, Hy⟩ Hk
          dsimp -zeta only [kp1]
          icases (gear_open c w1 w2 w3 _) $$ Hg with ⟨Ht, Hs, Ho⟩
          iapply (read_used c 𝒱 hb rfl) $$ Ht
          iintro Ht
          extract_lets +onlyGivenNames -underBinder jp2
          have hj2 : iprop(gear c w1 w2 w3 T0 T1 T2 (b.before t3) ∗ owns (c : Thread nD τ) arg4 fullShare X ∗ scratch c (rowsOf X 0) 0 ∗ results c arg8 G (if t2 < b.n then 3 else 2) : sProp 𝕄)
              ⊢ iprop((iprop(gear c w1 w2 w3 T0 T1 T2 (b.before t3) ∗ owns (c : Thread nD τ) arg4 fullShare X ∗ scratch c (rowsOf X 0) 0 ∗ results c arg8 G 3) -∗ Q ⟨⟩) -∗ wp frame (wpE (defs₀ (F := F)) 𝒱 (c : Thread nD τ) none) Set.univ (jp2 ⟨⟩) Q) := by
            iintro ⟨Hg, Hx, Hr, Hy⟩ Hk
            icases (gear_open c w1 w2 w3 _) $$ Hg with ⟨Ht, Hs, Ho⟩
            dsimp -zeta only [jp2]
            iapply (read_used c 𝒱 hb rfl) $$ Ht
            iintro Ht
            by_cases hz : k0_cond21 i (BitVec.ofNat 32 b.n) = 1#1
            · have hzn := (cond21_iff i ok.n_le).1 hz
              rw [dif_pos hz, if_neg (by omega)]
              iapply (peek_rows 𝒱 c) $$ Hy
              iintro %_ Hy
              iapply (store_rows 𝒱 c 2 (by decide) rfl ((hG ⟨2, by decide⟩ t2 e2).trans (tileVal_dead (by omega))).symm) $$ Hy
              iintro Hy
              iapply (le_wp_ret _ _ _ _ _)
              iapply Hk
              isplitl [Ht Hs Ho]
              · unfold gear
                isplitl [Ht]; · iexact Ht
                isplitl [Hs]; · iexact Hs
                iexact Ho
              isplitl [Hx]; · iexact Hx
              isplitl [Hr]; · iexact Hr
              iexact Hy
            · have hzn : ¬ b.n ≤ t2 := fun h => hz ((cond21_iff i ok.n_le).2 (by omega))
              rw [dif_neg hz, if_pos (by omega)]
              iapply (le_wp_ret _ _ _ _ _)
              iapply Hk
              isplitl [Ht Hs Ho]
              · unfold gear
                isplitl [Ht]; · iexact Ht
                isplitl [Hs]; · iexact Hs
                iexact Ho
              isplitl [Hx]; · iexact Hx
              isplitl [Hr]; · iexact Hr
              iexact Hy
          clear_value jp2
          by_cases hc2 : k0_cond15 i (BitVec.ofNat 32 b.n) = 1#1
          · have hn2 : t2 < b.n := by have := (cond15_iff i ok.n_le).1 hc2; omega
            have hkE : b.κ t2 < b.E := ok.lt t2 hn2
            have hE := ok.E_le
            have hk : b.κ t2 < 32 := by omega
            rw [if_pos hn2] at hj2
            rw [dif_pos hc2, wp_bind]
            iapply (opening2 𝒱 c w1 w2 w3 hb ok i e2 hn2 hc2 (g := rowsOf X 2) rfl) $$ [Ht Hs Ho Hx Hr]
            · isplitl [Ht Hs Ho]
              · unfold gear
                isplitl [Ht]; · iexact Ht
                isplitl [Hs]; · iexact Hs
                iexact Ho
              isplitl [Hx]; · iexact Hx
              iapply (scratch_any c) $$ Hr
            iintro %hw %_ ⟨Hg, Hx, Hr⟩
            dsimp -zeta only []
            rw [wp_bind]
            iapply (middle2 𝒱 c i) $$ [Hx Hr]
            · isplitl [Hx]; · iexact Hx
              iexact Hr
            iintro ⟨Hx, Hr⟩
            rw [wp_bind]
            iapply (ending2 𝒱 c i) $$ [Hx Hr]
            · isplitl [Hx]; · iexact Hx
              iexact Hr
            iintro ⟨Hx, Hr⟩
            iapply (load_rows 𝒱 c rfl) $$ Hr
            iintro Hr
            ihave Hr := (scratch_any c (g' := rowsOf X 0)) $$ Hr
            icases (gear_open c w1 w2 w3 _) $$ Hg with ⟨Ht, Hs, Ho⟩
            ihave Hs := (slots_split c w1 w2 w3 _ (slotOf (b.κ t2))) $$ Hs
            icases Hs with ⟨Hs, Hs'⟩
            ihave Hs := (during_held c w1 w2 w3 b t2) $$ Hs
            iapply (load1 𝒱 c w1 w2 w3 (off70_eq hk)) $$ Hs
            iintro Hs
            iapply (load2 𝒱 c w1 w2 w3 (off70_eq hk)) $$ Hs
            iintro Hs
            iapply (load3 𝒱 c w1 w2 w3 (off71_eq hk)) $$ Hs
            iintro Hs
            ihave Hs := (held_during c w1 w2 w3 b t2) $$ Hs
            ihave Hs := (slots_join c w1 w2 w3 (b.during t2) (slotOf (b.κ t2))) $$ [Hs Hs']
            · isplitl [Hs]; · iexact Hs
              iexact Hs'
            iapply (peek_rows 𝒱 c) $$ Hy
            iintro %_ Hy
            iapply (store_rows 𝒱 c 2 (by decide) rfl ((hG ⟨2, by decide⟩ t2 e2).trans (tileVal_live hn2)).symm) $$ Hy
            iintro Hy
            iapply (read_used c 𝒱 hb rfl) $$ Ht
            iintro Ht
            iapply (read_tile c 𝒱 hb (t := min (t2 + 1) 95) (off72_eq i |>.trans (by rw [e2]))) $$ Ht
            iintro Ht
            have hx := cond20_iff i hE hk ok.n_le (ok.word (min (t2 + 1) 95))
            rw [e2] at hx
            have hw6 : k0_chk20 i (BitVec.ofNat 32 b.E) (BitVec.ofNat 32 b.n) (BitVec.ofNat 32 (b.κ t2)) (BitVec.ofNat 32 b.n) (BitVec.ofNat 32 (b.κ (min (t2 + 1) 95))) :=
              ⟨fun _ h => fit_seq (off73_eq hk) (by have := (hx.1 h).2; omega), fun _ _ => fit_sem (off74_eq hk) (by decide), fun _ _ => fit_row (off75_eq hk) (Nat.mod_lt _ (by decide)),
                fun _ _ => fit_sem (off77_eq hk) (by decide), fun _ _ => fit_row (off78_eq hk) (Nat.mod_lt _ (by decide)),
                fun _ _ => fit_sem (off79_eq hk) (by decide), fun _ _ => fit_row (off80_eq hk) (Nat.mod_lt _ (by decide))⟩
            iapply (wp_assume 𝒱 (c : Thread nD τ) none Set.univ hw6)
            by_cases h6 : k0_cond20 i (BitVec.ofNat 32 b.E) (BitVec.ofNat 32 (b.κ t2)) (BitVec.ofNat 32 b.n) (BitVec.ofNat 32 (b.κ (min (t2 + 1) 95))) = 1#1
            · rw [dif_pos h6]
              have hst : b.Starts t2 := hx.1 h6
              have hk2 : b.κ t2 + 2 < b.E := hst.2
              iapply (read_seq c 𝒱 hb (t := b.κ t2 + 2) (off73_eq hk)) $$ Ht
              iintro Ht
              have hw7 : k0_chk21 i (BitVec.ofNat 32 b.E) (BitVec.ofNat 32 b.n) (BitVec.ofNat 32 (b.κ t2)) (BitVec.ofNat 32 b.n) (BitVec.ofNat 32 (b.κ (min (t2 + 1) 95))) (BitVec.ofNat 32 (b.ξ (b.κ t2 + 2))) :=
                ⟨fun _ _ => fit_row (off76_eq (ok.expert _ hk2)) (ok.expert _ hk2), fun _ _ => fit_row (off81_eq (ok.expert _ hk2)) (ok.expert _ hk2)⟩
              iapply (wp_assume 𝒱 (c : Thread nD τ) none Set.univ hw7)
              ihave Hs := (slots_open c w1 w2 w3 ok hn2 hst) $$ Hs
              icases Hs with ⟨Hs, Hs'⟩
              iapply (start3 𝒱 c w1 w2 w3 (s := slotOf (b.κ t2)) (e := b.ex (b.κ t2 + 2)) (off74_eq hk) (off75_eq hk) (by rw [b.ex_val ok hk2]; exact off76_eq (ok.expert _ hk2)) (off77_eq hk) (off78_eq hk) (by rw [b.ex_val ok hk2]; exact off76_eq (ok.expert _ hk2)) (off79_eq hk) (off80_eq hk) (by rw [b.ex_val ok hk2]; exact off81_eq (ok.expert _ hk2))) $$ Hs
              iintro Hs
              ihave Hs := (slots_close c w1 w2 w3 ok (t' := t3) (by omega) hn2 hst) $$ [Hs Hs']
              · isplitl [Hs]; · iexact Hs
                iexact Hs'
              iapply hj2 $$ [Ht Hs Ho Hx Hr Hy] Hk
              isplitl [Ht Hs Ho]
              · unfold gear
                isplitl [Ht]; · iexact Ht
                isplitl [Hs]; · iexact Hs
                iexact Ho
              isplitl [Hx]; · iexact Hx
              isplitl [Hr]; · iexact Hr
              iexact Hy
            · rw [dif_neg h6]
              ihave Hs := (slots_next c w1 w2 w3 ok (t' := t3) (by omega) hn2 (fun h => h6 (hx.2 h))) $$ Hs
              iapply hj2 $$ [Ht Hs Ho Hx Hr Hy] Hk
              isplitl [Ht Hs Ho]
              · unfold gear
                isplitl [Ht]; · iexact Ht
                isplitl [Hs]; · iexact Hs
                iexact Ho
              isplitl [Hx]; · iexact Hx
              isplitl [Hr]; · iexact Hr
              iexact Hy
          · have hn2 : ¬ t2 < b.n := fun h => hc2 ((cond15_iff i ok.n_le).2 (by omega))
            rw [if_neg hn2] at hj2
            rw [dif_neg hc2]
            ihave Hs := (slots_congr c w1 w2 w3 (σ' := b.before t3) (fun s => (b.before_done ok (by omega) s).trans (by rw [show t2 + 1 = t3 by omega]))) $$ Hs
            iapply hj2 $$ [Ht Hs Ho Hx Hr Hy] Hk
            isplitl [Ht Hs Ho]
            · unfold gear
              isplitl [Ht]; · iexact Ht
              isplitl [Hs]; · iexact Hs
              iexact Ho
            isplitl [Hx]; · iexact Hx
            isplitl [Hr]; · iexact Hr
            iexact Hy
        clear_value kp1
        by_cases hz : k0_cond14 i (BitVec.ofNat 32 b.n) = 1#1
        · have hzn := (cond14_iff i ok.n_le).1 hz
          rw [dif_pos hz, if_neg (by omega)]
          iapply (peek_rows 𝒱 c) $$ Hy
          iintro %_ Hy
          iapply (store_rows 𝒱 c 1 (by decide) rfl ((hG ⟨1, by decide⟩ t1 e1).trans (tileVal_dead (by omega))).symm) $$ Hy
          iintro Hy
          iapply hk1 $$ [Ht Hs Ho Hx Hr Hy] Hk
          isplitl [Ht Hs Ho]
          · unfold gear
            isplitl [Ht]; · iexact Ht
            isplitl [Hs]; · iexact Hs
            iexact Ho
          isplitl [Hx]; · iexact Hx
          isplitl [Hr]; · iexact Hr
          iexact Hy
        · have hzn : ¬ b.n ≤ t1 := fun h => hz ((cond14_iff i ok.n_le).2 (by omega))
          rw [dif_neg hz, if_pos (by omega)]
          iapply hk1 $$ [Ht Hs Ho Hx Hr Hy] Hk
          isplitl [Ht Hs Ho]
          · unfold gear
            isplitl [Ht]; · iexact Ht
            isplitl [Hs]; · iexact Hs
            iexact Ho
          isplitl [Hx]; · iexact Hx
          isplitl [Hr]; · iexact Hr
          iexact Hy
      clear_value jp1
      by_cases hc1 : k0_cond8 i (BitVec.ofNat 32 b.n) = 1#1
      · have hn1 : t1 < b.n := by have := (cond8_iff i ok.n_le).1 hc1; omega
        have hkE : b.κ t1 < b.E := ok.lt t1 hn1
        have hE := ok.E_le
        have hk : b.κ t1 < 32 := by omega
        rw [if_pos hn1] at hj1
        rw [dif_pos hc1, wp_bind]
        iapply (opening1 𝒱 c w1 w2 w3 hb ok i e1 hn1 hc1 (g := rowsOf X 1) rfl) $$ [Ht Hs Ho Hx Hr]
        · isplitl [Ht Hs Ho]
          · unfold gear
            isplitl [Ht]; · iexact Ht
            isplitl [Hs]; · iexact Hs
            iexact Ho
          isplitl [Hx]; · iexact Hx
          iapply (scratch_any c) $$ Hr
        iintro %hw %_ ⟨Hg, Hx, Hr⟩
        dsimp -zeta only []
        rw [wp_bind]
        iapply (middle1 𝒱 c i) $$ [Hx Hr]
        · isplitl [Hx]; · iexact Hx
          iexact Hr
        iintro ⟨Hx, Hr⟩
        rw [wp_bind]
        iapply (ending1 𝒱 c i) $$ [Hx Hr]
        · isplitl [Hx]; · iexact Hx
          iexact Hr
        iintro ⟨Hx, Hr⟩
        iapply (load_rows 𝒱 c rfl) $$ Hr
        iintro Hr
        ihave Hr := (scratch_any c (g' := rowsOf X 0)) $$ Hr
        icases (gear_open c w1 w2 w3 _) $$ Hg with ⟨Ht, Hs, Ho⟩
        ihave Hs := (slots_split c w1 w2 w3 _ (slotOf (b.κ t1))) $$ Hs
        icases Hs with ⟨Hs, Hs'⟩
        ihave Hs := (during_held c w1 w2 w3 b t1) $$ Hs
        iapply (load1 𝒱 c w1 w2 w3 (off43_eq hk)) $$ Hs
        iintro Hs
        iapply (load2 𝒱 c w1 w2 w3 (off43_eq hk)) $$ Hs
        iintro Hs
        iapply (load3 𝒱 c w1 w2 w3 (off44_eq hk)) $$ Hs
        iintro Hs
        ihave Hs := (held_during c w1 w2 w3 b t1) $$ Hs
        ihave Hs := (slots_join c w1 w2 w3 (b.during t1) (slotOf (b.κ t1))) $$ [Hs Hs']
        · isplitl [Hs]; · iexact Hs
          iexact Hs'
        iapply (peek_rows 𝒱 c) $$ Hy
        iintro %_ Hy
        iapply (store_rows 𝒱 c 1 (by decide) rfl ((hG ⟨1, by decide⟩ t1 e1).trans (tileVal_live hn1)).symm) $$ Hy
        iintro Hy
        iapply (read_used c 𝒱 hb rfl) $$ Ht
        iintro Ht
        iapply (read_tile c 𝒱 hb (t := min (t1 + 1) 95) (off45_eq i |>.trans (by rw [e1]))) $$ Ht
        iintro Ht
        have hx := cond13_iff i hE hk ok.n_le (ok.word (min (t1 + 1) 95))
        rw [e1] at hx
        have hw6 : k0_chk13 i (BitVec.ofNat 32 b.E) (BitVec.ofNat 32 b.n) (BitVec.ofNat 32 (b.κ t1)) (BitVec.ofNat 32 b.n) (BitVec.ofNat 32 (b.κ (min (t1 + 1) 95))) :=
          ⟨fun _ h => fit_seq (off46_eq hk) (by have := (hx.1 h).2; omega), fun _ _ => fit_sem (off47_eq hk) (by decide), fun _ _ => fit_row (off48_eq hk) (Nat.mod_lt _ (by decide)),
            fun _ _ => fit_sem (off50_eq hk) (by decide), fun _ _ => fit_row (off51_eq hk) (Nat.mod_lt _ (by decide)),
            fun _ _ => fit_sem (off52_eq hk) (by decide), fun _ _ => fit_row (off53_eq hk) (Nat.mod_lt _ (by decide))⟩
        iapply (wp_assume 𝒱 (c : Thread nD τ) none Set.univ hw6)
        by_cases h6 : k0_cond13 i (BitVec.ofNat 32 b.E) (BitVec.ofNat 32 (b.κ t1)) (BitVec.ofNat 32 b.n) (BitVec.ofNat 32 (b.κ (min (t1 + 1) 95))) = 1#1
        · rw [dif_pos h6]
          have hst : b.Starts t1 := hx.1 h6
          have hk2 : b.κ t1 + 2 < b.E := hst.2
          iapply (read_seq c 𝒱 hb (t := b.κ t1 + 2) (off46_eq hk)) $$ Ht
          iintro Ht
          have hw7 : k0_chk14 i (BitVec.ofNat 32 b.E) (BitVec.ofNat 32 b.n) (BitVec.ofNat 32 (b.κ t1)) (BitVec.ofNat 32 b.n) (BitVec.ofNat 32 (b.κ (min (t1 + 1) 95))) (BitVec.ofNat 32 (b.ξ (b.κ t1 + 2))) :=
            ⟨fun _ _ => fit_row (off49_eq (ok.expert _ hk2)) (ok.expert _ hk2), fun _ _ => fit_row (off54_eq (ok.expert _ hk2)) (ok.expert _ hk2)⟩
          iapply (wp_assume 𝒱 (c : Thread nD τ) none Set.univ hw7)
          ihave Hs := (slots_open c w1 w2 w3 ok hn1 hst) $$ Hs
          icases Hs with ⟨Hs, Hs'⟩
          iapply (start3 𝒱 c w1 w2 w3 (s := slotOf (b.κ t1)) (e := b.ex (b.κ t1 + 2)) (off47_eq hk) (off48_eq hk) (by rw [b.ex_val ok hk2]; exact off49_eq (ok.expert _ hk2)) (off50_eq hk) (off51_eq hk) (by rw [b.ex_val ok hk2]; exact off49_eq (ok.expert _ hk2)) (off52_eq hk) (off53_eq hk) (by rw [b.ex_val ok hk2]; exact off54_eq (ok.expert _ hk2))) $$ Hs
          iintro Hs
          ihave Hs := (slots_close c w1 w2 w3 ok (t' := t2) (by omega) hn1 hst) $$ [Hs Hs']
          · isplitl [Hs]; · iexact Hs
            iexact Hs'
          iapply hj1 $$ [Ht Hs Ho Hx Hr Hy] Hk
          isplitl [Ht Hs Ho]
          · unfold gear
            isplitl [Ht]; · iexact Ht
            isplitl [Hs]; · iexact Hs
            iexact Ho
          isplitl [Hx]; · iexact Hx
          isplitl [Hr]; · iexact Hr
          iexact Hy
        · rw [dif_neg h6]
          ihave Hs := (slots_next c w1 w2 w3 ok (t' := t2) (by omega) hn1 (fun h => h6 (hx.2 h))) $$ Hs
          iapply hj1 $$ [Ht Hs Ho Hx Hr Hy] Hk
          isplitl [Ht Hs Ho]
          · unfold gear
            isplitl [Ht]; · iexact Ht
            isplitl [Hs]; · iexact Hs
            iexact Ho
          isplitl [Hx]; · iexact Hx
          isplitl [Hr]; · iexact Hr
          iexact Hy
      · have hn1 : ¬ t1 < b.n := fun h => hc1 ((cond8_iff i ok.n_le).2 (by omega))
        rw [if_neg hn1] at hj1
        rw [dif_neg hc1]
        ihave Hs := (slots_congr c w1 w2 w3 (σ' := b.before t2) (fun s => (b.before_done ok (by omega) s).trans (by rw [show t1 + 1 = t2 by omega]))) $$ Hs
        iapply hj1 $$ [Ht Hs Ho Hx Hr Hy] Hk
        isplitl [Ht Hs Ho]
        · unfold gear
          isplitl [Ht]; · iexact Ht
          isplitl [Hs]; · iexact Hs
          iexact Ho
        isplitl [Hx]; · iexact Hx
        isplitl [Hr]; · iexact Hr
        iexact Hy
    clear_value kp0
    by_cases hz : k0_cond7 i (BitVec.ofNat 32 b.n) = 1#1
    · have hzn := (cond7_iff i ok.n_le).1 hz
      rw [dif_pos hz, if_neg (by omega)]
      iapply (peek_rows 𝒱 c) $$ Hy
      iintro %_ Hy
      iapply (store_rows 𝒱 c 0 (by decide) rfl ((hG ⟨0, by decide⟩ t0 e0).trans (tileVal_dead (by omega))).symm) $$ Hy
      iintro Hy
      iapply hk0 $$ [Ht Hs Ho Hx Hr Hy] Hk
      isplitl [Ht Hs Ho]
      · unfold gear
        isplitl [Ht]; · iexact Ht
        isplitl [Hs]; · iexact Hs
        iexact Ho
      isplitl [Hx]; · iexact Hx
      isplitl [Hr]; · iexact Hr
      iexact Hy
    · have hzn : ¬ b.n ≤ t0 := fun h => hz ((cond7_iff i ok.n_le).2 (by omega))
      rw [dif_neg hz, if_pos (by omega)]
      iapply hk0 $$ [Ht Hs Ho Hx Hr Hy] Hk
      isplitl [Ht Hs Ho]
      · unfold gear
        isplitl [Ht]; · iexact Ht
        isplitl [Hs]; · iexact Hs
        iexact Ho
      isplitl [Hx]; · iexact Hx
      isplitl [Hr]; · iexact Hr
      iexact Hy
  clear_value jp0
  by_cases hc0 : k0_cond1 i (BitVec.ofNat 32 b.n) = 1#1
  · have hn0 : t0 < b.n := by have := (cond1_iff i ok.n_le).1 hc0; omega
    have hkE : b.κ t0 < b.E := ok.lt t0 hn0
    have hE := ok.E_le
    have hk : b.κ t0 < 32 := by omega
    rw [if_pos hn0] at hj0
    rw [dif_pos hc0, wp_bind]
    iapply (opening0 𝒱 c w1 w2 w3 hb ok i e0 hn0 hc0 (g := rowsOf X 0) rfl) $$ [Ht Hs Ho Hx Hr]
    · isplitl [Ht Hs Ho]
      · unfold gear
        isplitl [Ht]; · iexact Ht
        isplitl [Hs]; · iexact Hs
        iexact Ho
      isplitl [Hx]; · iexact Hx
      iapply (scratch_any c) $$ Hr
    iintro %hw %_ ⟨Hg, Hx, Hr⟩
    dsimp -zeta only []
    rw [wp_bind]
    iapply (middle0 𝒱 c i) $$ [Hx Hr]
    · isplitl [Hx]; · iexact Hx
      iexact Hr
    iintro ⟨Hx, Hr⟩
    rw [wp_bind]
    iapply (ending0 𝒱 c i) $$ [Hx Hr]
    · isplitl [Hx]; · iexact Hx
      iexact Hr
    iintro ⟨Hx, Hr⟩
    iapply (load_rows 𝒱 c rfl) $$ Hr
    iintro Hr
    ihave Hr := (scratch_any c (g' := rowsOf X 0)) $$ Hr
    icases (gear_open c w1 w2 w3 _) $$ Hg with ⟨Ht, Hs, Ho⟩
    ihave Hs := (slots_split c w1 w2 w3 _ (slotOf (b.κ t0))) $$ Hs
    icases Hs with ⟨Hs, Hs'⟩
    ihave Hs := (during_held c w1 w2 w3 b t0) $$ Hs
    iapply (load1 𝒱 c w1 w2 w3 (off16_eq hk)) $$ Hs
    iintro Hs
    iapply (load2 𝒱 c w1 w2 w3 (off16_eq hk)) $$ Hs
    iintro Hs
    iapply (load3 𝒱 c w1 w2 w3 (off17_eq hk)) $$ Hs
    iintro Hs
    ihave Hs := (held_during c w1 w2 w3 b t0) $$ Hs
    ihave Hs := (slots_join c w1 w2 w3 (b.during t0) (slotOf (b.κ t0))) $$ [Hs Hs']
    · isplitl [Hs]; · iexact Hs
      iexact Hs'
    iapply (peek_rows 𝒱 c) $$ Hy
    iintro %_ Hy
    iapply (store_rows 𝒱 c 0 (by decide) rfl ((hG ⟨0, by decide⟩ t0 e0).trans (tileVal_live hn0)).symm) $$ Hy
    iintro Hy
    iapply (read_used c 𝒱 hb rfl) $$ Ht
    iintro Ht
    iapply (read_tile c 𝒱 hb (t := min (t0 + 1) 95) (off18_eq i |>.trans (by rw [e0]))) $$ Ht
    iintro Ht
    have hx := cond6_iff i hE hk ok.n_le (ok.word (min (t0 + 1) 95))
    rw [e0] at hx
    have hw6 : k0_chk6 i (BitVec.ofNat 32 b.E) (BitVec.ofNat 32 b.n) (BitVec.ofNat 32 (b.κ t0)) (BitVec.ofNat 32 b.n) (BitVec.ofNat 32 (b.κ (min (t0 + 1) 95))) :=
      ⟨fun _ h => fit_seq (off19_eq hk) (by have := (hx.1 h).2; omega), fun _ _ => fit_sem (off20_eq hk) (by decide), fun _ _ => fit_row (off21_eq hk) (Nat.mod_lt _ (by decide)),
        fun _ _ => fit_sem (off23_eq hk) (by decide), fun _ _ => fit_row (off24_eq hk) (Nat.mod_lt _ (by decide)),
        fun _ _ => fit_sem (off25_eq hk) (by decide), fun _ _ => fit_row (off26_eq hk) (Nat.mod_lt _ (by decide))⟩
    iapply (wp_assume 𝒱 (c : Thread nD τ) none Set.univ hw6)
    by_cases h6 : k0_cond6 i (BitVec.ofNat 32 b.E) (BitVec.ofNat 32 (b.κ t0)) (BitVec.ofNat 32 b.n) (BitVec.ofNat 32 (b.κ (min (t0 + 1) 95))) = 1#1
    · rw [dif_pos h6]
      have hst : b.Starts t0 := hx.1 h6
      have hk2 : b.κ t0 + 2 < b.E := hst.2
      iapply (read_seq c 𝒱 hb (t := b.κ t0 + 2) (off19_eq hk)) $$ Ht
      iintro Ht
      have hw7 : k0_chk7 i (BitVec.ofNat 32 b.E) (BitVec.ofNat 32 b.n) (BitVec.ofNat 32 (b.κ t0)) (BitVec.ofNat 32 b.n) (BitVec.ofNat 32 (b.κ (min (t0 + 1) 95))) (BitVec.ofNat 32 (b.ξ (b.κ t0 + 2))) :=
        ⟨fun _ _ => fit_row (off22_eq (ok.expert _ hk2)) (ok.expert _ hk2), fun _ _ => fit_row (off27_eq (ok.expert _ hk2)) (ok.expert _ hk2)⟩
      iapply (wp_assume 𝒱 (c : Thread nD τ) none Set.univ hw7)
      ihave Hs := (slots_open c w1 w2 w3 ok hn0 hst) $$ Hs
      icases Hs with ⟨Hs, Hs'⟩
      iapply (start3 𝒱 c w1 w2 w3 (s := slotOf (b.κ t0)) (e := b.ex (b.κ t0 + 2)) (off20_eq hk) (off21_eq hk) (by rw [b.ex_val ok hk2]; exact off22_eq (ok.expert _ hk2)) (off23_eq hk) (off24_eq hk) (by rw [b.ex_val ok hk2]; exact off22_eq (ok.expert _ hk2)) (off25_eq hk) (off26_eq hk) (by rw [b.ex_val ok hk2]; exact off27_eq (ok.expert _ hk2))) $$ Hs
      iintro Hs
      ihave Hs := (slots_close c w1 w2 w3 ok (t' := t1) (by omega) hn0 hst) $$ [Hs Hs']
      · isplitl [Hs]; · iexact Hs
        iexact Hs'
      iapply hj0 $$ [Ht Hs Ho Hx Hr Hy] Hk
      isplitl [Ht Hs Ho]
      · unfold gear
        isplitl [Ht]; · iexact Ht
        isplitl [Hs]; · iexact Hs
        iexact Ho
      isplitl [Hx]; · iexact Hx
      isplitl [Hr]; · iexact Hr
      iexact Hy
    · rw [dif_neg h6]
      ihave Hs := (slots_next c w1 w2 w3 ok (t' := t1) (by omega) hn0 (fun h => h6 (hx.2 h))) $$ Hs
      iapply hj0 $$ [Ht Hs Ho Hx Hr Hy] Hk
      isplitl [Ht Hs Ho]
      · unfold gear
        isplitl [Ht]; · iexact Ht
        isplitl [Hs]; · iexact Hs
        iexact Ho
      isplitl [Hx]; · iexact Hx
      isplitl [Hr]; · iexact Hr
      iexact Hy
  · have hn0 : ¬ t0 < b.n := fun h => hc0 ((cond1_iff i ok.n_le).2 (by omega))
    rw [if_neg hn0] at hj0
    rw [dif_neg hc0]
    ihave Hs := (slots_congr c w1 w2 w3 (σ' := b.before t1) (fun s => (b.before_done ok (by omega) s).trans (by rw [show t0 + 1 = t1 by omega]))) $$ Hs
    iapply hj0 $$ [Ht Hs Ho Hx Hr Hy] Hk
    isplitl [Ht Hs Ho]
    · unfold gear
      isplitl [Ht]; · iexact Ht
      isplitl [Hs]; · iexact Hs
      iexact Ho
    isplitl [Hx]; · iexact Hx
    isplitl [Hr]; · iexact Hr
    iexact Hy

end Parts

end Cert.Kernel3Ideal.Experts

end
-- ==== Proof.Run.lean ====
/- The run of the experts kernel: the tables and the slots carried from step to step, and what every step writes back. -/
module

public import proofs.«01_k».proof.Proof.Body

@[expose] public section

set_option maxRecDepth 16384

noncomputable section

namespace Cert.Kernel3Ideal.Experts

open Cert.Kernel3Ideal Cert.Kernel3Ideal.Gen Cert.Kernel3Ideal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! ## The tables -/

/-- The rank-one index of a coordinate. -/
def at1 {n : ℕ} (i : Fin n) : (⟨1, ![n]⟩ : Shape).Idx := fun
  | 0 => i

theorem at1_self {n : ℕ} (x : (⟨1, ![n]⟩ : Shape).Idx) : at1 (x 0) = x := by
  funext a
  match a with
  | 0 => rfl

/-- The tables' words as naturals. -/
def bookOf (T0 : S96.Idx → BitVec 32) (T1 : S32.Idx → BitVec 32) (T2 : S2.Idx → BitVec 32) : Book where
  κ t := if h : t < 96 then (T0 (at1 ⟨t, h⟩)).toNat else 0
  ξ t := if h : t < 32 then (T1 (at1 ⟨t, h⟩)).toNat else 0
  n := (T2 (at1 0)).toNat
  E := (T2 (at1 1)).toNat

theorem bookOf_reads (T0 : S96.Idx → BitVec 32) (T1 : S32.Idx → BitVec 32) (T2 : S2.Idx → BitVec 32) : (bookOf T0 T1 T2).Reads T0 T1 T2 where
  tile x := by
    have h : (x 0).val < 96 := (x 0).isLt
    unfold bookOf
    dsimp only
    rw [dif_pos h, BitVec.ofNat_toNat, BitVec.setWidth_eq]
    exact congrArg T0 (at1_self x).symm
  seq x := by
    have h : (x 0).val < 32 := (x 0).isLt
    unfold bookOf
    dsimp only
    rw [dif_pos h, BitVec.ofNat_toNat, BitVec.setWidth_eq]
    exact congrArg T1 (at1_self x).symm
  used x h := by
    unfold bookOf
    dsimp only
    rw [BitVec.ofNat_toNat, BitVec.setWidth_eq, ← at1_self x]
    exact congrArg (fun i => T2 (at1 i)) (Fin.ext h)
  experts x h := by
    unfold bookOf
    dsimp only
    rw [BitVec.ofNat_toNat, BitVec.setWidth_eq, ← at1_self x]
    exact congrArg (fun i => T2 (at1 i)) (Fin.ext h)

/-- The block of rows a step fetches, of the number of tiles in use and the step. -/
def blockWord (v0 arg0 : BitVec 32) : BitVec 32 :=
  let v2 : BitVec 32 := Scalar.maxsi (Scalar.subi v0 1#32) 0#32
  let v3 : BitVec 32 := Scalar.divsi v2 3#32
  let v4 : BitVec 1 := Scalar.cmpi .sgt v2 0#32
  let v5 : BitVec 32 := Scalar.extui v4
  let v6 : BitVec 1 := Scalar.cmpi .slt v2 0#32
  let v7 : BitVec 32 := Scalar.extui v6
  let v9 : BitVec 1 := Scalar.cmpi .sgt 3#32 0#32
  let v10 : BitVec 32 := Scalar.extui v9
  let v11 : BitVec 1 := Scalar.cmpi .slt 3#32 0#32
  let v12 : BitVec 32 := Scalar.extui v11
  let v14 : BitVec 1 := Scalar.cmpi .ne (Scalar.subi v5 v7) (Scalar.subi v10 v12)
  let v16 : BitVec 1 := Scalar.cmpi .ne (Scalar.remsi v2 3#32) 0#32
  Scalar.minsi arg0 (Scalar.select (Scalar.andi v14 v16) (Scalar.subi v3 1#32) v3)

theorem blockWord_toNat : ∀ (n : Fin 97) (i : Fin 32), (blockWord (BitVec.ofNat 32 n.val) (BitVec.ofNat 32 i.val)).toNat = min i.val ((n.val - 1) / 3) := by
  decide +kernel

section Mem

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables of core `c` as naturals. -/
def book (c : Dev nD) : Book := bookOf (V m c main_arg0) (V m c main_arg1) (V m c main_arg2)

theorem book_reads (c : Dev nD) : (book m c).Reads (V m c main_arg0) (V m c main_arg1) (V m c main_arg2) := bookOf_reads _ _ _

/-- The tables' contents at entry. -/
def tbl : pre0.Contents (Elt F) := fun k => V m 0 (pre0.ref k)

theorem transform_eq (ok : (book m 0).Ok) (i : grid0.Coords) : cc0_transform_0 inb_S2_S1_0 numel1_S1 (tbl m) i = ![min (i 0).val (((book m 0).n - 1) / 3), 0] := by
  have e : (tbl m).at 2 (Rect.unit (s := S2) ![0] S1.size inb_S2_S1_0) numel1_S1 = BitVec.ofNat 32 (book m 0).n := (book_reads m 0).used _ rfl
  have h : (book m 0).n < 97 := Nat.lt_succ_of_le ok.n_le
  change ![(blockWord ((tbl m).at 2 (Rect.unit (s := S2) ![0] S1.size inb_S2_S1_0) numel1_S1) (BitVec.ofNat 32 (i 0).val)).toNat, 0] = _
  rw [e]
  exact congrArg (fun k => ![k, 0]) (blockWord_toNat ⟨_, h⟩ (i 0))

theorem tbl_ok (ok : (book m 0).Ok) : ok0 (tbl m) := by
  intro i
  have hi : (i 0).val < 32 := (i 0).isLt
  refine ⟨fun a => ?_, .inr (Affine.block_words_dvd (of_decide_eq_true rfl) (by decide))⟩
  rw [transform_eq m ok i]
  match a with
  | 0 =>
    change (min (i 0).val (((book m 0).n - 1) / 3) + 1) * 768 ≤ 24576
    have := Nat.min_le_left (i 0).val (((book m 0).n - 1) / 3)
    omega
  | 1 =>
    change (0 + 1) * 2048 ≤ 2048
    omega

variable (ok : ∀ c, (book m c).Ok)

/-- The pipelines at the tables' contents. -/
def adm : (p : Fin 1) → (pcfgs (F := F) p).Adm := fun _ => ⟨tbl m, tbl_ok m (ok 0)⟩

theorem idle_out (i : grid0.Coords) : (cfg0 (adm m ok 0)).idle 1 i = false := by
  have e : ((tbl m).atD 2 (![0] : Fin 1 → ℕ) : BitVec 32) = BitVec.ofNat 32 (book m 0).n :=
    (dif_pos (show ∀ a : Fin 1, (![0] : Fin 1 → ℕ) a + 1 ≤ (![2] : Fin 1 → ℕ) a from by decide)).trans ((book_reads m 0).used _ rfl)
  have hn := (ok 0).n_le
  change (!(k0_cond1 i ((tbl m).atD 2 (![0] : Fin 1 → ℕ)) == 1#1) && !(k0_cond7 i ((tbl m).atD 2 (![0] : Fin 1 → ℕ)) == 1#1) && !(k0_cond8 i ((tbl m).atD 2 (![0] : Fin 1 → ℕ)) == 1#1) && !(k0_cond14 i ((tbl m).atD 2 (![0] : Fin 1 → ℕ)) == 1#1) && !(k0_cond15 i ((tbl m).atD 2 (![0] : Fin 1 → ℕ)) == 1#1) && !(k0_cond21 i ((tbl m).atD 2 (![0] : Fin 1 → ℕ)) == 1#1)) = false
  rw [e]
  by_cases h : 3 * (i 0).val < (book m 0).n
  · rw [(cond1_iff i hn).2 h]; rfl
  · rw [(cond7_iff i hn).2 (by omega)]
    simp

/-! ## Three tiles in a block -/

/-- A block of three tiles. -/
def glue {A : Type} (G : Fin 3 → S256x2048.Idx → A) : S768x2048.Idx → A := fun x =>
  G ⟨(x 0).val / 256, by have h := (x 0).isLt; change (x 0).val < 768 at h; omega⟩ (at2 ⟨(x 0).val % 256, Nat.mod_lt _ (by decide)⟩ (x 1))

theorem eq_glue {A : Type} {G : Fin 3 → S256x2048.Idx → A} {Y : S768x2048.Idx → A} (h : ∀ s, rowsOf Y s = G s) : Y = glue G := by
  funext x
  have hx := (x 0).isLt
  change (x 0).val < 768 at hx
  unfold glue
  rw [← h]
  unfold rowsOf
  congr 1
  refine Idx.ext2 ?_ rfl
  change (x 0).val = 256 * ((x 0).val / 256) + (x 0).val % 256
  omega

/-! ## The slots at rest -/

theorem part_split (c : Dev nD) {ℓB ℓW : Loc nD τ sig} {sm0 sm1 : DmaSem sig} {I J : Finset (Idx ℓB)} (hd : Disjoint I J) (hu : I ∪ J = Finset.univ) (w : Buf (Elt F) ℓW) :
    iprop((∃ f : Buf (Elt F) ℓB, ℓB ↦{fullShare} f) ∗ semVal ((c : Thread nD τ), .dma sm0) 0 ∗ semVal ((c : Thread nD τ), .dma sm1) 0 ∗ (ℓW ↦{fullShare} w) : sProp 𝕄)
      ⊢ iprop(resting (ℓB := ℓB) c sm0 I fullShare.left w ∗ resting (ℓB := ℓB) c sm1 J fullShare.right w) := by
  have hB : ∀ f : Buf (Elt F) ℓB, (ℓB ↦{fullShare} f : sProp 𝕄) ⊢ iprop((ℓB ↦[I]{fullShare} f) ∗ ℓB ↦[J]{fullShare} f) := fun f => by
    rw [← hu]; exact (pointsTo_union hd).1
  unfold resting
  iintro ⟨⟨%f, HB⟩, S0, S1, HW⟩
  icases (hB f) $$ HB with ⟨B0, B1⟩
  icases (pointsTo_share (PosShare.mem_left_op_right fullShare)).1 $$ HW with ⟨W0, W1⟩
  isplitl [B0 S0 W0]
  · isplitl [B0]; · iexists f; iexact B0
    isplitl [S0]; · iexact S0
    iexact W0
  isplitl [B1]; · iexists f; iexact B1
  isplitl [S1]; · iexact S1
  iexact W1

theorem part_join (c : Dev nD) {ℓB ℓW : Loc nD τ sig} {sm0 sm1 : DmaSem sig} {I J : Finset (Idx ℓB)} (hd : Disjoint I J) (hu : I ∪ J = Finset.univ) (w : Buf (Elt F) ℓW) :
    iprop(resting (ℓB := ℓB) c sm0 I fullShare.left w ∗ resting (ℓB := ℓB) c sm1 J fullShare.right w : sProp 𝕄)
      ⊢ iprop((∃ f : Buf (Elt F) ℓB, ℓB ↦{fullShare} f) ∗ semVal ((c : Thread nD τ), .dma sm0) 0 ∗ semVal ((c : Thread nD τ), .dma sm1) 0 ∗ (ℓW ↦{fullShare} w)) := by
  have hB : ∀ f g : Buf (Elt F) ℓB, iprop((ℓB ↦[I]{fullShare} f) ∗ ℓB ↦[J]{fullShare} g : sProp 𝕄) ⊢ iprop(∃ f : Buf (Elt F) ℓB, ℓB ↦{fullShare} f) := fun f g => by
    refine (pointsTo_join hd).trans ?_
    rw [hu]
    iintro H
    iexists _
    iexact H
  unfold resting
  iintro ⟨⟨⟨%f, B0⟩, S0, W0⟩, ⟨%g, B1⟩, S1, W1⟩
  isplitl [B0 B1]
  · iapply (hB f g)
    isplitl [B0]; · iexact B0
    iexact B1
  isplitl [S0]; · iexact S0
  isplitl [S1]; · iexact S1
  iapply (pointsTo_share (PosShare.mem_left_op_right fullShare)).2
  isplitl [W0]; · iexact W0
  iexact W1

/-- The kernel's six semaphores. -/
abbrev osem0 : Fin 6 → SemLoc sig := fun j => (![SemLoc.dma 4, SemLoc.dma 5, SemLoc.dma 6, SemLoc.dma 7, SemLoc.dma 8, SemLoc.dma 9] : Fin 6 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (semAt 0 0)) 0 ∗ semVal ((c : Thread nD τ), .dma (semAt 0 1)) 0 ∗ semVal ((c : Thread nD τ), .dma (semAt 0 2)) 0
          ∗ semVal ((c : Thread nD τ), .dma (semAt 1 0)) 0 ∗ semVal ((c : Thread nD τ), .dma (semAt 1 1)) 0 ∗ semVal ((c : Thread nD τ), .dma (semAt 1 2)) 0) := by
  rw [Pipeline.ownSems0_eq_of_list c osem0 [0, 1, 2, 3, 4, 5] (by decide) (by decide)]; rfl

/-- The weights, left in HBM. -/
def H0 : Finset (Ref sig .tc) := {main_arg4, main_arg5, main_arg6}
theorem H0_sub : H0 ⊆ Pipeline.restRefsP sig pre0 spec0 := by decide
theorem weights_eq (c : Dev nD) :
    (bigSep H0 (fun b => ((c : Thread nD τ).loc b) ↦{fullShare} V m c b) : sProp 𝕄)
      = iprop(((c : Thread nD τ).loc main_arg4 ↦{fullShare} V m c main_arg4) ∗ ((c : Thread nD τ).loc main_arg5 ↦{fullShare} V m c main_arg5) ∗ ((c : Thread nD τ).loc main_arg6 ↦{fullShare} V m c main_arg6)) := by
  rw [BI.bigSep_eq_bigSepL_of_eq [main_arg4, main_arg5, main_arg6] (by decide) (by decide)]; rfl
theorem tables_eq (c : Dev nD) : (Pipeline.ΦT (U := Pipeline.UD sig nD τ) pre0 (tbl m) c : sProp 𝕄) = tabs c (V m c main_arg0) (V m c main_arg1) (V m c main_arg2) := by
  obtain rfl : c = 0 := Subsingleton.elim (α := Fin 1) _ _
  unfold Pipeline.ΦT Pipeline.prefHeld
  rw [BI.bigSep_univ_eq_bigSepL [(0 : Fin 3), (1 : Fin 3), (2 : Fin 3)] (by decide) (by decide)]; rfl

/-- What is carried from step to step: the tables, the slots as the next step finds them, the row buffer and the generator. -/
def carry (c : Dev nD) (n : ℕ) : sProp 𝕄 :=
  iprop(tabs c (V m c main_arg0) (V m c main_arg1) (V m c main_arg2) ∗ slots c (V m c main_arg4) (V m c main_arg5) (V m c main_arg6) ((book m c).before n)
    ∗ (∃ f : Buf (Elt F) ((c : Thread nD τ).loc cc0_scratch3), (c : Thread nD τ).loc cc0_scratch3 ↦{fullShare} f) ∗ ∃ r, prngReg c r)

theorem carry_start (c : Dev nD) : iprop(Pipeline.ΦD osem0 spec0 H0 (V m) c ∗ Pipeline.ΦT pre0 (tbl m) c : sProp 𝕄) ⊢ carry m c 0 := by
  rw [Pipeline.ΦD_eq, scopedRest0_eq, ownSems_eq, weights_eq, tables_eq]
  unfold carry
  iintro ⟨⟨⟨B0, B1, B2, B3⟩, Hg, ⟨S0, S1, S2, S3, S4, S5⟩, ⟨W0, W1, W2⟩⟩, HT⟩
  isplitl [HT]; · iexact HT
  isplitl [B0 B1 B2 S0 S1 S2 S3 S4 S5 W0 W1 W2]
  · iapply (slots_congr c (V m c main_arg4) (V m c main_arg5) (V m c main_arg6) (σ := fun _ => .free) (fun s => ((book m c).before_first s).symm))
    unfold slots slot
    icases (part_split c (ℓB := (c : Thread nD τ).loc cc0_scratch0) (sm0 := semAt 0 0) (sm1 := semAt 1 0) (I := slotSet 0) (J := slotSet 1) (slotSet_disjoint (by decide)) slotSet_union (V m c main_arg4)) $$ [B0 S0 S3 W0] with ⟨P0, Q0⟩
    · isplitl [B0]; · iexact B0
      isplitl [S0]; · iexact S0
      isplitl [S3]; · iexact S3
      iexact W0
    icases (part_split c (ℓB := (c : Thread nD τ).loc cc0_scratch1) (sm0 := semAt 0 1) (sm1 := semAt 1 1) (I := slotSet 0) (J := slotSet 1) (slotSet_disjoint (by decide)) slotSet_union (V m c main_arg5)) $$ [B1 S1 S4 W1] with ⟨P1, Q1⟩
    · isplitl [B1]; · iexact B1
      isplitl [S1]; · iexact S1
      isplitl [S4]; · iexact S4
      iexact W1
    icases (part_split c (ℓB := (c : Thread nD τ).loc cc0_scratch2) (sm0 := semAt 0 2) (sm1 := semAt 1 2) (I := slotSet 0) (J := slotSet 1) (slotSet_disjoint (by decide)) slotSet_union (V m c main_arg6)) $$ [B2 S2 S5 W2] with ⟨P2, Q2⟩
    · isplitl [B2]; · iexact B2
      isplitl [S2]; · iexact S2
      isplitl [S5]; · iexact S5
      iexact W2
    isplitl [P0 P1 P2]
    · isplitl [P0]; · iexact P0
      isplitl [P1]; · iexact P1
      iexact P2
    isplitl [Q0]; · iexact Q0
    isplitl [Q1]; · iexact Q1
    iexact Q2
  isplitl [B3]; · iexact B3
  iexact Hg

theorem carry_finish (c : Dev nD) (ok : (book m c).Ok) : (carry m c 96 : sProp 𝕄) ⊢ Pipeline.ΦD osem0 spec0 H0 (V m) c := by
  rw [Pipeline.ΦD_eq, scopedRest0_eq, ownSems_eq, weights_eq]
  unfold carry
  iintro ⟨-, Hs, B3, Hg⟩
  ihave Hs := (slots_congr c (V m c main_arg4) (V m c main_arg5) (V m c main_arg6) (σ' := fun _ => .free) (fun s => (book m c).before_unused ok.n_le s)) $$ Hs
  unfold slots slot
  icases Hs with ⟨⟨P0, P1, P2⟩, ⟨Q0, Q1, Q2⟩⟩
  icases (part_join c (ℓB := (c : Thread nD τ).loc cc0_scratch0) (sm0 := semAt 0 0) (sm1 := semAt 1 0) (I := slotSet 0) (J := slotSet 1) (slotSet_disjoint (by decide)) slotSet_union (V m c main_arg4)) $$ [P0 Q0] with ⟨B0, S0, S3, W0⟩
  · isplitl [P0]; · iexact P0
    iexact Q0
  icases (part_join c (ℓB := (c : Thread nD τ).loc cc0_scratch1) (sm0 := semAt 0 1) (sm1 := semAt 1 1) (I := slotSet 0) (J := slotSet 1) (slotSet_disjoint (by decide)) slotSet_union (V m c main_arg5)) $$ [P1 Q1] with ⟨B1, S1, S4, W1⟩
  · isplitl [P1]; · iexact P1
    iexact Q1
  icases (part_join c (ℓB := (c : Thread nD τ).loc cc0_scratch2) (sm0 := semAt 0 2) (sm1 := semAt 1 2) (I := slotSet 0) (J := slotSet 1) (slotSet_disjoint (by decide)) slotSet_union (V m c main_arg6)) $$ [P2 Q2] with ⟨B2, S2, S5, W2⟩
  · isplitl [P2]; · iexact P2
    iexact Q2
  isplitl [B0 B1 B2 B3]
  · isplitl [B0]; · iexact B0
    isplitl [B1]; · iexact B1
    isplitl [B2]; · iexact B2
    iexact B3
  isplitl [Hg]; · iexact Hg
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [W0]; · iexact W0
  isplitl [W1]; · iexact W1
  iexact W2

/-! ## A step -/

/-- The rows a step works on. -/
def inBlock (c : Dev nD) (t : Fin grid0.N) : Vec F S768x2048 .bf16 :=
  (((cfg0 (adm m ok 0)).win 0).blk t).view.read (Elt F) (V m c main_arg3)

/-- What a step writes back. -/
def outBlock (c : Dev nD) (t : Fin grid0.N) : Vec F S768x2048 .bf16 :=
  glue fun s => tileVal (book m c) (V m c main_arg4) (V m c main_arg5) (V m c main_arg6) (rowsOf (inBlock m ok c t) s) (3 * t.val + s.val)

def dats (_ : Fin 1) (c : Dev nD) : Dat τ (Elt F) Unit ℕ (Pipeline.UD sig nD τ) ℕ (cfg0 (adm m ok 0)) c where
  A w := V m c (Pipeline.arrRef spec0 w)
  after w t := match w with
    | ⟨0, _⟩ => inBlock m ok c t
    | ⟨1, _⟩ => outBlock m ok c t
    | ⟨_ + 2, h⟩ => absurd h (Nat.not_lt.2 (Nat.le_add_left _ _))
  Φ t := carry m c (3 * t.val)
  q _ := fullShare
  owed _ := 0

theorem A_eq (c : Dev nD) (w : Fin (cfg0 (adm m ok 0)).W) : (dats m ok 0 c).A w = V m c (Pipeline.arrRef spec0 w) := by
  dsimp only [dats]
theorem after_in (c : Dev nD) (t : Fin grid0.N) : (dats m ok 0 c).after 0 t = inBlock m ok c t := rfl
theorem after_out (c : Dev nD) (t : Fin grid0.N) : (dats m ok 0 c).after 1 t = outBlock m ok c t := rfl

theorem before_in (c : Dev nD) (t : Fin grid0.N) (d) : (dats m ok 0 c).before 0 t d = inBlock m ok c t := by
  rw [(dats m ok 0 c).before_in_eq_fetched 0 rfl (fun _ => rfl) (fun _ _ _ => rfl) (fun _ => rfl) t d]
  rfl

theorem coords_val : ∀ t : Fin grid0.N, (grid0.coords t 0).val = t.val := by decide +kernel

theorem defs₀_row (t : Fin grid0.N) :
    (defs₀ (F := F)) .tc (cfg0 (adm m ok 0)).body ((cfg0 (adm m ok 0)).bodyArgs t ((cfg0 (adm m ok 0)).slots t))
      = cc0_experts (grid0.coords t) (Memref.whole main_arg0) (Memref.isWhole_whole _) (Memref.whole main_arg1) (Memref.isWhole_whole _) (Memref.whole main_arg2) (Memref.isWhole_whole _) (spec0_0.stage ((cfg0 (adm m ok 0)).slots t 0)) (hstage0_0 (((cfg0 (adm m ok 0)).slots t 0).cast nbuf0_0)) (Memref.whole main_arg4) (Memref.isWhole_whole _) (Memref.whole main_arg5) (Memref.isWhole_whole _) (Memref.whole main_arg6) (Memref.isWhole_whole _) (spec0_1.stage ((cfg0 (adm m ok 0)).slots t 1)) (hstage0_1 (((cfg0 (adm m ok 0)).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 := by
  unfold defs₀
  rw [Defs.onTc_tc]

theorem sound_body (c : Dev nD) (t : Fin grid0.N) {arg4 arg8 : Memref sig .tc .vmem S768x2048 .bf16} {harg4 : arg4.IsWhole} {harg8 : arg8.IsWhole} {d : Vec F S768x2048 .bf16} {Q : PUnit → sProp 𝕄} :
    iprop(carry m c (3 * t.val) ∗ (∃ W, owes (c : Thread nD τ) 0 W) ∗ owns (c : Thread nD τ) arg4 fullShare (inBlock m ok c t) ∗ owns (c : Thread nD τ) arg8 fullShare d : sProp 𝕄)
      ⊢ iprop((iprop(carry m c (3 * (t.val + 1)) ∗ (∃ W, owes (c : Thread nD τ) 0 W) ∗ owns (c : Thread nD τ) arg4 fullShare (inBlock m ok c t) ∗ owns (c : Thread nD τ) arg8 fullShare (outBlock m ok c t)) -∗ Q ⟨⟩) -∗ wp frame (wpE (defs₀ (F := F)) Variants.none (c : Thread nD τ) none) Set.univ (cc0_experts (grid0.coords t) (Memref.whole main_arg0) (Memref.isWhole_whole _) (Memref.whole main_arg1) (Memref.isWhole_whole _) (Memref.whole main_arg2) (Memref.isWhole_whole _) arg4 harg4 (Memref.whole main_arg4) (Memref.isWhole_whole _) (Memref.whole main_arg5) (Memref.isWhole_whole _) (Memref.whole main_arg6) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) Q) := by
  have hc := coords_val t
  have hs := step (F := F) Variants.none c (V m c main_arg4) (V m c main_arg5) (V m c main_arg6) (book_reads m c) (ok c) (grid0.coords t)
    (t0 := 3 * t.val) (t3 := 3 * (t.val + 1)) (by rw [hc]) rfl rfl (by rw [hc]; rfl) (arg4 := arg4) (arg8 := arg8) (harg4 := harg4) (harg8 := harg8) (X := inBlock m ok c t)
    (G := fun s => tileVal (book m c) (V m c main_arg4) (V m c main_arg5) (V m c main_arg6) (rowsOf (inBlock m ok c t) s) (3 * t.val + s.val))
    (fun s u hu => by rw [hc] at hu; rw [hu])
    (Q := Q)
  unfold carry at hs ⊢
  iintro ⟨⟨HT, Hs, ⟨%f, H3⟩, Hg⟩, HO, HX, HY⟩ HK
  iapply hs $$ [HT Hs H3 HO HX HY]
  · isplitl [HT Hs HO]
    · unfold gear
      isplitl [HT]; · iexact HT
      isplitl [Hs]; · iexact Hs
      iexact HO
    isplitl [HX]; · iexact HX
    isplitl [H3]
    · unfold scratch
      iexists f
      isplitr; · ipureintro; exact fun x h => absurd h (Nat.not_lt_zero _)
      iexact H3
    unfold results
    iexists d
    isplitr; · ipureintro; exact fun s h => absurd h (Nat.not_lt_zero _)
    iexact HY
  iintro ⟨HG, HX, HS, HR⟩
  ihave HG := (gear_open c (V m c main_arg4) (V m c main_arg5) (V m c main_arg6) _) $$ HG
  icases HG with ⟨HT, Hs, HO⟩
  unfold scratch
  icases HS with ⟨%f, -, H3⟩
  unfold results
  icases HR with ⟨%Y, %hY, HY⟩
  iapply HK
  isplitl [HT Hs H3 Hg]
  · isplitl [HT]; · iexact HT
    isplitl [Hs]; · iexact Hs
    isplitl [H3]; · iexists f; iexact H3
    iexact Hg
  isplitl [HO]; · iexact HO
  isplitl [HX]; · iexact HX
  rw [show outBlock m ok c t = Y from (eq_glue fun s => hY s s.isLt).symm]
  iexact HY

theorem body_obligation (c : Dev nD) : BodyObligation (dats m ok 0 c) (defs₀ (F := F)) Variants.none () Set.univ := fun t => by
  have hi : idle0 (adm m ok 0).1 1 ((pcfg0.gridAt (adm m ok 0).1).coords t) = false := idle_out m ok _
  rw [bigSep_W0, bigSep_W0, defs₀_row m ok t]
  unfold Dat.owesAt Pipeline.owesWithin
  rw [show (dats m ok 0 c).owed t.castSucc = 0 from rfl, show (dats m ok 0 c).owed t.succ = 0 from rfl,
    show (dats m ok 0 c).Φ t.castSucc = carry m c (3 * t.val) from rfl, show (dats m ok 0 c).Φ t.succ = carry m c (3 * (t.val + 1)) from congrArg (fun k => carry m c (3 * k)) (Fin.val_succ t)]
  iintro ⟨HC, ⟨%W, -, HO⟩, ⟨%dX, HX⟩, ⟨%dY, HY⟩⟩
  rw [before_in m ok c t dX]
  simp only [hi]
  iapply (sound_body m ok c t) $$ [HC HO HX HY]
  · isplitl [HC]; · iexact HC
    isplitl [HO]; · iexists W; iexact HO
    isplitl [HX]; · iexact HX
    iexact HY
  iintro ⟨HC, ⟨%W', HO⟩, HX, HY⟩
  isplitl [HC]; · iexact HC
  isplitl [HO]
  · iexists W'
    isplitr; · ipureintro; exact fun _ _ => Or.inl trivial
    iexact HO
  isplitl [HX]; · iexact HX
  iexact HY

set_option backward.isDefEq.respectTransparency.types false in
theorem run_main :
    θ_run defs (onTc (τ := τ) (main (F := F))) (s₀ m ρ) (fun r => Pipeline.FramePost (Pipeline.pin pcfgs (adm m ok)) (dats m ok) (0 : Fin 1) (V m) r ∧ r.2.sem = fun _ => 0) :=
  Pipeline.θ_run_frameP_dma (Q' := _) pcfgs (adm m ok) (dats m ok) (0 : Fin 1) launch0 osem0 defs₀ Variants.none ownSemFacts0 H0 H0_sub m ρ main
    (hbody := fun c => (body_obligation m ok c).loose) (hshare := fun c => (dats m ok 0 c).share_full fun _ => rfl) (howed := fun _ _ => rfl)
    (V := V m) (hmain := Pipeline.hmainP_region pcfgs 0 defs₀ Variants.none m main fun c => (main_chain c).trans rfl)
    (hA := A_eq m ok) (hpf := fun c k => by obtain rfl : c = 0 := Subsingleton.elim (α := Fin 1) _ _; rfl)
    (hin := fun c => carry_start m c) (hout := fun c => carry_finish m c (ok c)) (hQ' := fun _ h => h)

end Mem

end Cert.Kernel3Ideal.Experts

end
-- ==== Proof.Experts.lean ====
/- The experts: what the kernel's array holds after the run, in terms of the launched arrays. -/
module

public import proofs.«01_k».proof.Proof.Run
public import Idealize.ShloMosaic.Lib.Pipeline.Covers
public import Idealize.ShloMosaic.Lib.Pipeline.ValueKit
public import Idealize.ShloMosaic.Lib.Pointwise

@[expose] public section

set_option maxRecDepth 16384

noncomputable section

namespace Cert.ExpertSpec

open Idealize.ShloMosaic

/-- The gated activation of a row `x`, at `f`. -/
def gated (x : Fin 2048 → EReal) (g u : Fin 2048 → Fin 512 → EReal) (f : Fin 512) : EReal :=
  (∑ d, x d * g d f) * Ideal.logistic (∑ d, x d * g d f) * ∑ d, x d * u d f

/-- An expert's output for a row `x`, at `C`. -/
def expertAt (x : Fin 2048 → EReal) (g u : Fin 2048 → Fin 512 → EReal) (w : Fin 512 → Fin 2048 → EReal) (C : Fin 2048) : EReal :=
  ∑ f, gated x g u f * w f C

end Cert.ExpertSpec

namespace Cert.Kernel3Ideal.Experts

open Cert.Kernel3Ideal Cert.Kernel3Ideal.Gen Cert.Kernel3Ideal.Words Cert.ExpertSpec
open Idealize.ShloMosaic Idealize.ShloMosaic.TcCoe Idealize.SL.Sem
open Idealize.ShloMosaic.Pipeline (Dat Cfg Window)

/-- An expert's block at an index. -/
theorem pay1_at (X : Vec Ideal S256x2048 .bf16) (g u : Vec Ideal S1x2048x512 .f32) (w : Vec Ideal S1x512x2048 .f32) (r : Fin 256) (C : Fin 2048) :
    (k0_pay1 (F := Ideal) X g u w (ix2 r C) : EReal)
      = expertAt (fun d => X (ix2 r d)) (fun d f => g (ix3 0 d f)) (fun d f => u (ix3 0 d f)) (fun f C => w (ix3 0 f C)) C := by
  unfold expertAt gated
  pointwise [k0_pay1]

theorem pay2_at (r : Fin 256) (C : Fin 2048) : (k0_pay2 (F := Ideal) (ix2 r C) : EReal) = 0 := by
  pointwise [k0_pay2]

variable (m : (ℓ : Loc nD τ sig) → Buf (Elt Ideal) ℓ)

/-- The rows, as launched. -/
def rows (c : Dev nD) (R : Fin 24576) (k : Fin 2048) : EReal := (m ((c : Thread nD τ).loc main_arg3) : S24576x2048.Idx → EReal) (ix2 R k)
/-- The gates' weights. -/
def gates (c : Dev nD) (e : Fin 32) (k : Fin 2048) (f : Fin 512) : EReal := (m ((c : Thread nD τ).loc main_arg4) : S32x2048x512.Idx → EReal) (ix3 e k f)
/-- The up projections' weights. -/
def ups (c : Dev nD) (e : Fin 32) (k : Fin 2048) (f : Fin 512) : EReal := (m ((c : Thread nD τ).loc main_arg5) : S32x2048x512.Idx → EReal) (ix3 e k f)
/-- The down projections' weights. -/
def downs (c : Dev nD) (e : Fin 32) (f : Fin 512) (C : Fin 2048) : EReal := (m ((c : Thread nD τ).loc main_arg6) : S32x512x2048.Idx → EReal) (ix3 e f C)

/-- The kernel's array at row `R` and column `C`: the output of the expert of the row's tile, zero past the tiles in use. -/
def outAt (c : Dev nD) (R : Fin 24576) (C : Fin 2048) : EReal :=
  if R.val / 256 < (book m c).n then
    expertAt (rows m c R) (gates m c ((book m c).ex ((book m c).κ (R.val / 256)))) (ups m c ((book m c).ex ((book m c).κ (R.val / 256)))) (downs m c ((book m c).ex ((book m c).κ (R.val / 256)))) C
  else 0

theorem at2_eq {n k : ℕ} (i : Fin n) (j : Fin k) : at2 i j = ix2 i j := by
  funext a
  match a with
  | ⟨0, _⟩ => rfl
  | ⟨1, _⟩ => rfl

theorem at3_eq {n k l : ℕ} (i : Fin n) (j : Fin k) (p : Fin l) : at3 i j p = ix3 i j p := by
  funext a
  match a with
  | ⟨0, _⟩ => rfl
  | ⟨1, _⟩ => rfl
  | ⟨2, _⟩ => rfl

/-- A tile's values at an index. -/
theorem tile_at (c : Dev nD) (X : Vec Ideal S256x2048 .bf16) (t : ℕ) (r : Fin 256) (C : Fin 2048) :
    (tileVal (book m c) (V m c main_arg4) (V m c main_arg5) (V m c main_arg6) X t (at2 r C) : EReal)
      = if t < (book m c).n then
          expertAt (fun d => X (ix2 r d)) (gates m c ((book m c).ex ((book m c).κ t))) (ups m c ((book m c).ex ((book m c).κ t))) (downs m c ((book m c).ex ((book m c).κ t))) C
        else 0 := by
  rw [at2_eq]
  by_cases h : t < (book m c).n
  · rw [tileVal_live h, if_pos h, pay1_at]
    congr 1
    · funext d f
      exact congrArg (V m c main_arg4) (at3_eq _ _ _)
    · funext d f
      exact congrArg (V m c main_arg5) (at3_eq _ _ _)
    · funext f C
      exact congrArg (V m c main_arg6) (at3_eq _ _ _)
  · rw [tileVal_dead (Nat.le_of_not_lt h), if_neg h, pay2_at]

variable (ok : ∀ c, (book m c).Ok)

theorem idx_in (t : Fin grid0.N) : ((cfg0 (adm m ok 0)).win 0).index t = ![min t.val (((book m 0).n - 1) / 3), 0] :=
  (transform_eq m (ok 0) (grid0.coords t)).trans (by rw [coords_val])

theorem idx_out : ∀ t : Fin grid0.N, cc0_transform_4 (grid0.coords t) = ![t.val, 0] := by decide +kernel

/-- The rows a step works on, at an index. -/
theorem inBlock_at (c : Dev nD) (t : Fin grid0.N) (r : Fin 768) (k : Fin 2048) (h : 768 * min t.val (((book m 0).n - 1) / 3) + r.val < 24576) :
    (inBlock m ok c t (ix2 r k) : EReal) = rows m c ⟨768 * min t.val (((book m 0).n - 1) / 3) + r.val, h⟩ k := by
  refine congrArg (V m c main_arg3) (funext fun a => Fin.ext ?_)
  refine (Window.rect_emb_val ((cfg0 (adm m ok 0)).win 0) t (ix2 r k) a).trans ?_
  rw [idx_in m ok t]
  match a with
  | ⟨0, _⟩ => show min t.val (((book m 0).n - 1) / 3) * 768 + r.val = 768 * min t.val (((book m 0).n - 1) / 3) + r.val; omega
  | ⟨1, _⟩ => show 0 * 2048 + k.val = k.val; omega

/-- What a step writes back, at an index. -/
theorem outBlock_at (c : Dev nD) (t : Fin grid0.N) (r : Fin 768) (C : Fin 2048) (h : 768 * t.val + r.val < 24576) :
    (outBlock m ok c t (ix2 r C) : EReal) = outAt m c ⟨768 * t.val + r.val, h⟩ C := by
  obtain rfl : c = 0 := Subsingleton.elim (α := Fin 1) _ _
  have ht : t.val < 32 := t.isLt
  have hr := r.isLt
  unfold outBlock
  refine (tile_at m 0 _ _ ⟨r.val % 256, Nat.mod_lt _ (by decide)⟩ C).trans ?_
  unfold outAt
  have e : (768 * t.val + r.val) / 256 = 3 * t.val + r.val / 256 := by omega
  dsimp only
  rw [e]
  change (if 3 * t.val + r.val / 256 < (book m 0).n then
      expertAt (fun d => rowsOf (inBlock m ok 0 t) ⟨r.val / 256, by omega⟩ (ix2 ⟨r.val % 256, Nat.mod_lt _ (by decide)⟩ d))
        (gates m 0 ((book m 0).ex ((book m 0).κ (3 * t.val + r.val / 256))))
        (ups m 0 ((book m 0).ex ((book m 0).κ (3 * t.val + r.val / 256))))
        (downs m 0 ((book m 0).ex ((book m 0).κ (3 * t.val + r.val / 256)))) C
    else 0) = _
  by_cases hn : 3 * t.val + r.val / 256 < (book m 0).n
  · rw [if_pos hn, if_pos hn]
    congr 1
    funext d
    have hm : min t.val (((book m 0).n - 1) / 3) = t.val := by omega
    refine (congrArg (inBlock m ok 0 t) (at2_eq (n := 768) (k := 2048) _ _)).trans ?_
    refine (inBlock_at m ok 0 t ⟨256 * (r.val / 256) + r.val % 256, by omega⟩ d (by rw [hm]; dsimp only; omega)).trans ?_
    refine congrArg (fun R => rows m 0 R d) (Fin.ext ?_)
    dsimp only
    rw [hm]
    omega
  · rw [if_neg hn, if_neg hn]

/-- The kernel's array after the run. -/
theorem final (c : Dev nD) :
    (dats m ok 0 c).arrAt 1 (cfg0 (adm m ok 0)).N = fun x : S24576x2048.Idx => outAt m c (x 0) (x 1) := by
  refine (dats m ok 0 c).arrAt_eq_of_cover 1 (fun x : S24576x2048.Idx => outAt m c (x 0) (x 1)) (fun t _ => ?_) (fun i => ?_)
  · refine (after_out m ok c t).trans (funext fun y => ?_)
    obtain ⟨r, C, rfl⟩ : ∃ (r : Fin 768) (C : Fin 2048), y = ix2 r C := ⟨y 0, y 1, eq_ix2 y⟩
    have ht : t.val < 32 := t.isLt
    refine (outBlock_at m ok c t r C (by omega)).trans ?_
    have hv : ∀ a : Fin 2, ((((cfg0 (adm m ok 0)).win 1).rect t).emb (ix2 r C) a : ℕ) = ((cfg0 (adm m ok 0)).win 1).index t a * ((cfg0 (adm m ok 0)).win 1).size a + (ix2 r C a : ℕ) :=
      fun a => Window.rect_emb_val ((cfg0 (adm m ok 0)).win 1) t (ix2 r C) a
    have hi : ((cfg0 (adm m ok 0)).win 1).index t = ![t.val, 0] := idx_out t
    rw [hi] at hv
    change _ = outAt m c ((((cfg0 (adm m ok 0)).win 1).rect t).emb (ix2 r C) (0 : Fin 2)) ((((cfg0 (adm m ok 0)).win 1).rect t).emb (ix2 r C) (1 : Fin 2))
    refine congrArg₂ (outAt m c) (Fin.ext ?_) (Fin.ext ?_)
    · refine Eq.trans ?_ (hv 0).symm
      show 768 * t.val + r.val = t.val * 768 + r.val
      omega
    · refine Eq.trans ?_ (hv 1).symm
      show C.val = 0 * 2048 + C.val
      omega
  · have h0 : (i (0 : Fin 2)).val < 24576 := (i (0 : Fin 2)).isLt
    have h1 : (i (1 : Fin 2)).val < 2048 := (i (1 : Fin 2)).isLt
    obtain ⟨t, -, hf, ht⟩ := Window.exists_flush_same_index ((cfg0 (adm m ok 0)).win 1) rfl (⟨(i (0 : Fin 2)).val / 768, by show _ < 32; omega⟩ : Fin grid0.N)
    have hi : ((cfg0 (adm m ok 0)).win 1).index t = ![(i (0 : Fin 2)).val / 768, 0] := ht.trans (idx_out _)
    refine ⟨t, hf, (Window.emb_mem_blk_iff ((cfg0 (adm m ok 0)).win 1) t i rfl).mpr fun a => ?_⟩
    rw [hi]
    match a with
    | ⟨0, _⟩ => show (i (0 : Fin 2)).val / 768 * 768 ≤ (i (0 : Fin 2)).val ∧ (i (0 : Fin 2)).val < (i (0 : Fin 2)).val / 768 * 768 + 768; omega
    | ⟨1, _⟩ => show 0 * 2048 ≤ (i (1 : Fin 2)).val ∧ (i (1 : Fin 2)).val < 0 * 2048 + 2048; omega

end Cert.Kernel3Ideal.Experts

end
-- ==== Proof.Online.lean ====
/- The online softmax in base two, over the real numbers: the running maximum, the running weight
   sum and the running weighted value sum of one query row, after the keys `0 … n - 1`. -/
module

public import Idealize.ShloMosaic.Lib.Pointwise

@[expose] public section

set_option maxRecDepth 16384

noncomputable section

namespace Cert.Online

open Idealize.ShloMosaic

/-- A finite sum of real numbers, taken in the extended reals. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A maximum over finitely many values none of which is `⊤` is not `⊤`. -/
theorem fold_max_ne_top {ι : Type*} (s : Finset ι) (f : ι → EReal) (b : EReal) (hb : b ≠ ⊤) (hf : ∀ k, f k ≠ ⊤) :
    s.fold max b f ≠ ⊤ := by
  classical
  induction s using Finset.induction_on with
  | empty => simpa using hb
  | insert a s ha ih =>
    rw [Finset.fold_insert ha]
    intro h
    rcases max_eq_top.mp h with h | h
    exacts [hf a h, ih h]

/-- A maximum that takes in one value other than `⊥` is not `⊥`. -/
theorem fold_max_ne_bot {ι : Type*} (s : Finset ι) (f : ι → EReal) (b : EReal) (a : ι) (ha : a ∈ s) (hf : f a ≠ ⊥) :
    s.fold max b f ≠ ⊥ := by
  intro h
  have : f a ≤ s.fold max b f := Finset.le_fold_max (f a) |>.mpr (Or.inr ⟨a, ha, le_rfl⟩)
  rw [h] at this
  exact hf (le_bot_iff.mp this)

/-- The maximum of a real number and of values none of which is `⊤` is a real number. -/
theorem max_fold_real (μ : ℝ) {ι : Type*} (s : Finset ι) (f : ι → EReal) (hf : ∀ k, f k ≠ ⊤) :
    ∃ μ' : ℝ, max (μ : EReal) (s.fold max ⊥ f) = μ' := by
  have h1 : max (μ : EReal) (s.fold max ⊥ f) ≠ ⊤ := by
    intro h
    rcases max_eq_top.mp h with h | h
    exacts [EReal.coe_ne_top μ h, fold_max_ne_top s f ⊥ (by simp) hf h]
  have h2 : max (μ : EReal) (s.fold max ⊥ f) ≠ ⊥ := by
    intro h
    have := le_max_left (μ : EReal) (s.fold max ⊥ f)
    rw [h] at this
    exact EReal.coe_ne_bot μ (le_bot_iff.mp this)
  exact ⟨_, (EReal.coe_toReal h1 h2).symm⟩

/-- One query row after the keys `0 … n - 1`: the reference point `m` is some real number `μ`, `l` is the sum of
    `2 ^ (score - μ)` over those keys, and `acc` the same sum weighted by the values. -/
def State (S : ℕ → ℝ) (V : ℕ → Fin 256 → ℝ) (n : ℕ) (m l : EReal) (acc : Fin 256 → EReal) : Prop :=
  ∃ μ : ℝ, m = μ ∧ l = ((∑ k ∈ Finset.range n, (2 : ℝ) ^ (S k - μ) : ℝ) : EReal)
    ∧ ∀ d, acc d = ((∑ k ∈ Finset.range n, (2 : ℝ) ^ (S k - μ) * V k d : ℝ) : EReal)

/-- Before any key: whatever real number the maximum starts from. -/
theorem State.init (S : ℕ → ℝ) (V : ℕ → Fin 256 → ℝ) (μ : ℝ) (m l : EReal) (acc : Fin 256 → EReal)
    (hm : m = μ) (hl : l = 0) (ha : ∀ d, acc d = 0) : State S V 0 m l acc :=
  ⟨μ, hm, by simp [hl], fun d => by simp [ha]⟩

theorem exp2_real (r : ℝ) : Ideal.exp2 (r : EReal) = (((2 : ℝ) ^ r : ℝ) : EReal) := rfl

/-- A sum over the first `n ≤ T` of `T` positions as a sum over a range. -/
theorem sum_fin_lt {T n : ℕ} (hn : n ≤ T) (g : ℕ → ℝ) :
    (∑ c : Fin T, if (c : ℕ) < n then g c else 0) = ∑ c ∈ Finset.range n, g c := by
  rw [Fin.sum_univ_eq_sum_range (fun c => if c < n then g c else 0) T, ← Finset.sum_filter]
  congr 1
  ext c
  simp only [Finset.mem_filter, Finset.mem_range]
  omega

/-- ONE TILE: the keys `b … b + n - 1` are taken in, the tile's remaining columns being masked (`⊥`). -/
theorem State.step {S : ℕ → ℝ} {V : ℕ → Fin 256 → ℝ} {b n : ℕ} {m l : EReal} {acc : Fin 256 → EReal}
    (h : State S V b m l acc) (hn : n ≤ 512) (s : Fin 512 → EReal) (v : Fin 512 → Fin 256 → EReal)
    (hs : ∀ c : Fin 512, s c = if (c : ℕ) < n then ((S (b + c) : ℝ) : EReal) else ⊥)
    (hv : ∀ c d, v c d = ((V (b + c) d : ℝ) : EReal)) {m' l' : EReal} {acc' : Fin 256 → EReal}
    (hm : m' = max m (Finset.univ.fold max ⊥ s))
    (hl : l' = Ideal.exp2 (m - m') * l + ∑ c, Ideal.exp2 (s c - m'))
    (ha : ∀ d, acc' d = Ideal.exp2 (m - m') * acc d + ∑ c, Ideal.exp2 (s c - m') * v c d) :
    State S V (b + n) m' l' acc' := by
  obtain ⟨μ, rfl, hl0, ha0⟩ := h
  obtain ⟨μ', hμ'⟩ := max_fold_real μ Finset.univ s fun c => by
    rw [hs]; split <;> simp
  rw [hμ'] at hm
  subst hm
  have he : ∀ c : Fin 512, Ideal.exp2 (s c - (μ' : EReal)) = ((if (c : ℕ) < n then (2 : ℝ) ^ (S (b + c) - μ') else 0 : ℝ) : EReal) := by
    intro c
    rw [hs]
    split
    · rw [← EReal.coe_sub, exp2_real]
    · rw [EReal.bot_sub]
      simp
  have hα : Ideal.exp2 ((μ : EReal) - (μ' : EReal)) = (((2 : ℝ) ^ (μ - μ') : ℝ) : EReal) := by
    rw [← EReal.coe_sub, exp2_real]
  have hshift : ∀ x : ℝ, (2 : ℝ) ^ (μ - μ') * (2 : ℝ) ^ (x - μ) = (2 : ℝ) ^ (x - μ') := by
    intro x
    rw [← Real.rpow_add (by norm_num)]
    congr 1
    ring
  refine ⟨μ', rfl, ?_, fun d => ?_⟩
  · rw [hl, hl0, hα, Finset.sum_congr rfl fun c _ => he c, ← coe_sum, ← EReal.coe_mul, ← EReal.coe_add]
    congr 1
    rw [sum_fin_lt hn (fun c => (2 : ℝ) ^ (S (b + c) - μ')), Finset.sum_range_add, Finset.mul_sum]
    congr 1
    exact Finset.sum_congr rfl fun k _ => hshift _
  · have hev : ∀ c : Fin 512, Ideal.exp2 (s c - (μ' : EReal)) * v c d
        = ((if (c : ℕ) < n then (2 : ℝ) ^ (S (b + c) - μ') * V (b + c) d else 0 : ℝ) : EReal) := by
      intro c
      rw [he, hv, ← EReal.coe_mul]
      congr 1
      split <;> simp
    rw [ha, ha0, hα, Finset.sum_congr rfl fun c _ => hev c, ← coe_sum, ← EReal.coe_mul, ← EReal.coe_add]
    congr 1
    rw [sum_fin_lt hn (fun c => (2 : ℝ) ^ (S (b + c) - μ') * V (b + c) d), Finset.sum_range_add, Finset.mul_sum]
    congr 1
    exact Finset.sum_congr rfl fun k _ => by rw [← mul_assoc, hshift]

/-- What the row divides out to, over weights `w k` that the powers of two are a constant multiple of. -/
theorem State.quot {S : ℕ → ℝ} {V : ℕ → Fin 256 → ℝ} {n : ℕ} {m l : EReal} {acc : Fin 256 → EReal}
    (h : State S V n m l acc) (hn : 0 < n) (w : ℕ → ℝ) (κ : ℝ) (hw : ∀ k < n, w k = Real.exp (S k * Real.log 2 + κ)) (d : Fin 256) :
    Ideal.div (acc d) l = (((∑ k ∈ Finset.range n, w k * V k d) / ∑ k ∈ Finset.range n, w k : ℝ) : EReal) := by
  obtain ⟨μ, -, hl, ha⟩ := h
  have hc : ∀ k ∈ Finset.range n, (2 : ℝ) ^ (S k - μ) = Real.exp (-κ - μ * Real.log 2) * w k := by
    intro k hk
    rw [hw k (Finset.mem_range.mp hk), ← Real.exp_add, Real.rpow_def_of_pos (by norm_num)]
    congr 1
    ring
  have hpos : 0 < ∑ k ∈ Finset.range n, w k :=
    Finset.sum_pos (fun k hk => by rw [hw k (Finset.mem_range.mp hk)]; exact Real.exp_pos _) ⟨0, Finset.mem_range.mpr hn⟩
  have hE := (Real.exp_pos (-κ - μ * Real.log 2)).ne'
  have h1 : ∑ k ∈ Finset.range n, (2 : ℝ) ^ (S k - μ) = Real.exp (-κ - μ * Real.log 2) * ∑ k ∈ Finset.range n, w k := by
    rw [Finset.mul_sum]; exact Finset.sum_congr rfl hc
  have h2 : ∑ k ∈ Finset.range n, (2 : ℝ) ^ (S k - μ) * V k d
      = Real.exp (-κ - μ * Real.log 2) * ∑ k ∈ Finset.range n, w k * V k d := by
    rw [Finset.mul_sum]
    exact Finset.sum_congr rfl fun k hk => by rw [hc k hk, mul_assoc]
  rw [ha, hl, h1, h2, Ideal.div_coe (mul_ne_zero hE hpos.ne'), ← EReal.coe_mul]
  congr 1
  field_simp

/-- A 32-bit pattern whose exponent field is not all ones is a real number. -/
theorem ofBits_real (b : BitVec 32) (h : (b.extractLsb' 23 8).toNat ≠ 255) :
    ∃ x : ℝ, Ideal.ofBits .f32 b = ((x : ℝ) : EReal) := by
  unfold Ideal.ofBits Ideal.ieee
  dsimp only
  rw [if_neg (by simpa using h)]
  split
  · exact ⟨_, rfl⟩
  · exact ⟨_, rfl⟩

end Cert.Online

end
-- ==== Proof.Aug.lean ====
/- The augmented queries and keys: 128 lanes of numbers, then lanes of position features. -/
module

public import proofs.«01_k».proof.Proof.Gen.KernelIdeal.Value
public import Idealize.ShloMosaic.Lib.Pipeline.ValueKit
public import proofs.«01_k».proof.Proof.Online

@[expose] public section

set_option maxRecDepth 16384

noncomputable section

namespace Cert.KernelIdeal.Aug

open Cert.KernelIdeal Cert.KernelIdeal.Gen Idealize.ShloMosaic Idealize.ShloMosaic.TcCoe Idealize.SL.Sem

/-- A key's position within its group of 64, as the kernel computes it. -/
theorem pos_lo : ∀ j : Fin 4096,
    Scalar.select
      (IntOp.andi (IntOp.xori (IntOp.cmpi CmpIPredicate.slt (IntOp.remsi ArithUnit.vector (BitVec.ofNat 32 (j : ℕ))
            (Scalar.select (Scalar.cmpi CmpIPredicate.eq 64#32 0#32) 1#32 64#32)) 0#32) (Scalar.cmpi CmpIPredicate.slt 64#32 0#32))
        (IntOp.cmpi CmpIPredicate.ne (IntOp.remsi ArithUnit.vector (BitVec.ofNat 32 (j : ℕ))
            (Scalar.select (Scalar.cmpi CmpIPredicate.eq 64#32 0#32) 1#32 64#32)) 0#32))
      (IntOp.addi (IntOp.remsi ArithUnit.vector (BitVec.ofNat 32 (j : ℕ))
            (Scalar.select (Scalar.cmpi CmpIPredicate.eq 64#32 0#32) 1#32 64#32)) 64#32) (IntOp.remsi ArithUnit.vector (BitVec.ofNat 32 (j : ℕ))
            (Scalar.select (Scalar.cmpi CmpIPredicate.eq 64#32 0#32) 1#32 64#32)) = BitVec.ofNat 32 (j % 64) := by
  decide +kernel

/-- A key's group of 64, as the kernel computes it. -/
theorem pos_hi : ∀ j : Fin 4096,
    Scalar.select
      (IntOp.andi
        (IntOp.cmpi CmpIPredicate.ne
          (IntOp.subi (BitVec.setWidth 32 (IntOp.cmpi CmpIPredicate.sgt (BitVec.ofNat 32 (j : ℕ)) 0#32))
            (BitVec.setWidth 32 (IntOp.cmpi CmpIPredicate.slt (BitVec.ofNat 32 (j : ℕ)) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 (j : ℕ)) 64#32) 0#32))
      (IntOp.subi (IntOp.divsi ArithUnit.vector (BitVec.ofNat 32 (j : ℕ)) 64#32) 1#32)
      (IntOp.divsi ArithUnit.vector (BitVec.ofNat 32 (j : ℕ)) 64#32) = BitVec.ofNat 32 (j / 64) := by
  decide +kernel

/-- The first six lanes, as the kernel tells them apart. -/
theorem lanes_lo : ∀ e : Fin 128, IntOp.andi (IntOp.cmpi CmpIPredicate.sge (BitVec.ofNat 32 (e : ℕ)) 3#32)
    (IntOp.cmpi CmpIPredicate.slt (BitVec.ofNat 32 (e : ℕ)) 6#32) = if 3 ≤ (e : ℕ) ∧ (e : ℕ) < 6 then 1#1 else 0#1 := by
  decide +kernel

theorem lanes_hi : ∀ e : Fin 128, IntOp.andi (IntOp.cmpi CmpIPredicate.sge (BitVec.ofNat 32 (e : ℕ)) 0#32)
    (IntOp.cmpi CmpIPredicate.slt (BitVec.ofNat 32 (e : ℕ)) 3#32) = if (e : ℕ) < 3 then 1#1 else 0#1 := by
  decide +kernel

/-- A small natural number's word, as a number. -/
theorem sitofp_nat {n : ℕ} (h : n < 4096) : (FloatOps.sitofp .f32 (BitVec.ofNat 32 n) : Ideal .f32) = (((n : ℝ) : EReal)) := by
  have : (BitVec.ofNat 32 n).toInt = n := by
    rw [BitVec.toInt_ofNat']
    simp only [Int.bmod]
    omega
  show (((BitVec.ofNat 32 n).toInt : ℝ) : EReal) = _
  rw [this]
  simp

/-- The kernel's constant 64. -/
theorem ofBits_64 : Ideal.ofBits .f32 1115684864#32 = ((64 : ℝ) : EReal) := by
  simp [Ideal.ofBits, Ideal.ieee, -EReal.coe_mul]
  norm_num

/-- A key's position features, lane by lane. -/
theorem kfeat (j : Fin 4096) (e : Fin 128) :
    (k0_pay46 (F := Ideal) k0_pay2 k0_pay3 (64#32) k0_pay4 k0_pay5 (ix2 j e) : EReal) =
      if (e : ℕ) < 3 then (((j / 64 : ℕ) : ℝ) : EReal) else if (e : ℕ) < 6 then (((j % 64 : ℕ) : ℝ) : EReal) else 0 := by
  pointwise [k0_pay46, k0_pay2, k0_pay3, k0_pay4, k0_pay5]
  rw [pos_lo, pos_hi, lanes_lo, lanes_hi, sitofp_nat (by omega), sitofp_nat (by omega)]
  by_cases h3 : (e : ℕ) < 3
  · simp [h3, Nat.not_le.mpr h3, Scalar.select]
  · by_cases h6 : (e : ℕ) < 6
    · simp [h3, h6, Nat.le_of_not_lt h3, Scalar.select]
    · simp [h3, h6, Scalar.select]

/-- A query's slope features, lane by lane. -/
theorem qfeat (a b c : EReal) (r : Fin 1024) (e : Fin 128) :
    (k0_pay53 (F := Ideal) (iota .tc S8x1024 32 [0] iota_S8x1024_d0_w32) (k0_pay51 a b) c k0_pay52 (ix2 r e) : EReal) =
      if (e : ℕ) = 0 then ((64 : ℝ) : EReal) * a else if (e : ℕ) = 1 then ((64 : ℝ) : EReal) * b else if (e : ℕ) = 2 then ((64 : ℝ) : EReal) * c else
        if (e : ℕ) = 3 then a else if (e : ℕ) = 4 then b else if (e : ℕ) = 5 then c else 0 := by
  pointwise [k0_pay53, k0_pay51, k0_pay52]
  rw [ofBits_64]
  by_cases h8 : (e : ℕ) < 8
  · rw [dif_pos h8]
    have : ∀ k : ℕ, k < 8 → ∀ x : ℕ, x < 8 → IntOp.cmpi CmpIPredicate.eq (BitVec.ofNat 32 k) (BitVec.ofNat 32 x) = if k = x then 1#1 else 0#1 := by
      decide +kernel
    generalize (e : ℕ) = k at h8
    interval_cases k <;> simp [this, Scalar.select]
  · rw [dif_neg h8]
    simp [show (e : ℕ) ≠ 0 by omega, show (e : ℕ) ≠ 1 by omega, show (e : ℕ) ≠ 2 by omega, show (e : ℕ) ≠ 3 by omega,
      show (e : ℕ) ≠ 4 by omega, show (e : ℕ) ≠ 5 by omega]

/-- The augmented queries that a point stores: both heads' queries, each followed by the slope features. -/
def qaug (a b c : Elt Ideal .f32) (x : Vec Ideal S1024x256 .bf16) : Vec Ideal S2x1024x256 .bf16 :=
  View.canon (Val := Elt Ideal) [⟨Rect.unit ![1, 0, 128] ![1, 1024, 128] inb_S2x1024x256_S1x1024x128_1_0_128,
      k0_pay57 (F := Ideal) (iota Kind.tc S8x1024 32 [0] iota_S8x1024_d0_w32) (k0_pay51 a b) c k0_pay52⟩,
    ⟨Rect.unit ![1, 0, 0] ![1, 1024, 128] inb_S2x1024x256_S1x1024x128_1_0_0,
      k0_pay56 (View.ld x (Rect.unit ![0, 128] ![1024, 128] inb_S1024x256_S1024x128_0_128))⟩,
    ⟨Rect.unit ![0, 0, 128] ![1, 1024, 128] inb_S2x1024x256_S1x1024x128_0_0_128,
      k0_pay55 (F := Ideal) (iota Kind.tc S8x1024 32 [0] iota_S8x1024_d0_w32) (k0_pay51 a b) c k0_pay52⟩,
    ⟨Rect.unit ![0, 0, 0] ![1, 1024, 128] inb_S2x1024x256_S1x1024x128_0_0_0,
      k0_pay54 (View.ld x (Rect.unit ![0, 0] ![1024, 128] inb_S1024x256_S1024x128_0_0))⟩]

/-- The augmented keys: both heads' keys, each followed by the position features. -/
def kaug (y : Vec Ideal S4096x256 .bf16) : Vec Ideal S2x4096x256 .bf16 :=
  View.canon (Val := Elt Ideal) [⟨Rect.unit ![1, 0, 128] ![1, 4096, 128] inb_S2x4096x256_S1x4096x128_1_0_128,
      k0_pay50 (F := Ideal) k0_pay2 k0_pay3 (64#32) k0_pay4 k0_pay5⟩,
    ⟨Rect.unit ![1, 0, 0] ![1, 4096, 128] inb_S2x4096x256_S1x4096x128_1_0_0,
      k0_pay49 (View.ld y (Rect.unit ![0, 128] ![4096, 128] inb_S4096x256_S4096x128_0_128))⟩,
    ⟨Rect.unit ![0, 0, 128] ![1, 4096, 128] inb_S2x4096x256_S1x4096x128_0_0_128,
      k0_pay48 (F := Ideal) k0_pay2 k0_pay3 (64#32) k0_pay4 k0_pay5⟩,
    ⟨Rect.unit ![0, 0, 0] ![1, 4096, 128] inb_S2x4096x256_S1x4096x128_0_0_0,
      k0_pay47 (View.ld y (Rect.unit ![0, 0] ![4096, 128] inb_S4096x256_S4096x128_0_0))⟩]

theorem qaug_fold (a b c : Elt Ideal .f32) (x : Vec Ideal S1024x256 .bf16) :
  View.canon (Val := Elt Ideal) [⟨Rect.unit ![1, 0, 128] ![1, 1024, 128] inb_S2x1024x256_S1x1024x128_1_0_128,
      k0_pay57 (F := Ideal) (iota Kind.tc S8x1024 32 [0] iota_S8x1024_d0_w32) (k0_pay51 a b) c k0_pay52⟩,
    ⟨Rect.unit ![1, 0, 0] ![1, 1024, 128] inb_S2x1024x256_S1x1024x128_1_0_0,
      k0_pay56 (View.ld x (Rect.unit ![0, 128] ![1024, 128] inb_S1024x256_S1024x128_0_128))⟩,
    ⟨Rect.unit ![0, 0, 128] ![1, 1024, 128] inb_S2x1024x256_S1x1024x128_0_0_128,
      k0_pay55 (F := Ideal) (iota Kind.tc S8x1024 32 [0] iota_S8x1024_d0_w32) (k0_pay51 a b) c k0_pay52⟩,
    ⟨Rect.unit ![0, 0, 0] ![1, 1024, 128] inb_S2x1024x256_S1x1024x128_0_0_0,
      k0_pay54 (View.ld x (Rect.unit ![0, 0] ![1024, 128] inb_S1024x256_S1024x128_0_0))⟩] = qaug a b c x := rfl

theorem kaug_fold (y : Vec Ideal S4096x256 .bf16) :
  View.canon (Val := Elt Ideal) [⟨Rect.unit ![1, 0, 128] ![1, 4096, 128] inb_S2x4096x256_S1x4096x128_1_0_128,
      k0_pay50 (F := Ideal) k0_pay2 k0_pay3 (64#32) k0_pay4 k0_pay5⟩,
    ⟨Rect.unit ![1, 0, 0] ![1, 4096, 128] inb_S2x4096x256_S1x4096x128_1_0_0,
      k0_pay49 (View.ld y (Rect.unit ![0, 128] ![4096, 128] inb_S4096x256_S4096x128_0_128))⟩,
    ⟨Rect.unit ![0, 0, 128] ![1, 4096, 128] inb_S2x4096x256_S1x4096x128_0_0_128,
      k0_pay48 (F := Ideal) k0_pay2 k0_pay3 (64#32) k0_pay4 k0_pay5⟩,
    ⟨Rect.unit ![0, 0, 0] ![1, 4096, 128] inb_S2x4096x256_S1x4096x128_0_0_0,
      k0_pay47 (View.ld y (Rect.unit ![0, 0] ![4096, 128] inb_S4096x256_S4096x128_0_0))⟩] = kaug y := rfl

/-- An index of rank 3 from its coordinates. -/
theorem idx3 {n0 n1 n2 : ℕ} (z : (⟨3, ![n0, n1, n2]⟩ : Shape).Idx) (a : Fin n0) (b : Fin n1) (c : Fin n2)
    (h0 : (z 0 : ℕ) = a) (h1 : (z 1 : ℕ) = b) (h2 : (z 2 : ℕ) = c) : z = ix3 a b c := by
  funext x
  match x with
  | 0 => exact Fin.ext h0
  | 1 => exact Fin.ext h1
  | 2 => exact Fin.ext h2

/-- The augmented queries, entry by entry. -/
theorem qaug_at (a b c : Elt Ideal .f32) (x : Vec Ideal S1024x256 .bf16) (g : Fin 2) (r : Fin 1024) (e : Fin 256) :
    qaug a b c x (ix3 g r e) = if he : (e : ℕ) < 128 then x (ix2 r ⟨128 * g + e, by omega⟩) else
      k0_pay53 (F := Ideal) (iota .tc S8x1024 32 [0] iota_S8x1024_d0_w32) (k0_pay51 a b) c k0_pay52 (ix2 r ⟨e - 128, by omega⟩) := by
  unfold qaug
  canon_tiles z h
  all_goals
    change (g : ℕ) = _ at h0
    change (r : ℕ) = _ at h1
    change (e : ℕ) = _ at h2
  · rw [idx3 z 0 r ⟨e - 128, by omega⟩ (by simp only [Fin.val_zero]; omega) h1.symm (by simp only; omega), dif_neg (by omega)]
    pointwise [k0_pay57]
  · obtain rfl : g = 1 := Fin.ext (by simp only [Fin.val_one]; omega)
    rw [idx3 z 0 r ⟨e, by omega⟩ (by simp only [Fin.val_zero]; omega) h1.symm h2.symm, dif_pos (by omega)]
    pointwise [k0_pay56]
  · rw [idx3 z 0 r ⟨e - 128, by omega⟩ (by simp only [Fin.val_zero]; omega) h1.symm (by simp only; omega), dif_neg (by omega)]
    pointwise [k0_pay55]
  · obtain rfl : g = 0 := Fin.ext (by simp only [Fin.val_zero]; omega)
    rw [idx3 z 0 r ⟨e, by omega⟩ (by simp only [Fin.val_zero]; omega) h1.symm h2.symm, dif_pos (by omega)]
    pointwise [k0_pay54]

/-- The augmented keys, entry by entry. -/
theorem kaug_at (y : Vec Ideal S4096x256 .bf16) (g : Fin 2) (r : Fin 4096) (e : Fin 256) :
    kaug y (ix3 g r e) = if he : (e : ℕ) < 128 then y (ix2 r ⟨128 * g + e, by omega⟩) else
      k0_pay46 (F := Ideal) k0_pay2 k0_pay3 (64#32) k0_pay4 k0_pay5 (ix2 r ⟨e - 128, by omega⟩) := by
  unfold kaug
  canon_tiles z h
  all_goals
    change (g : ℕ) = _ at h0
    change (r : ℕ) = _ at h1
    change (e : ℕ) = _ at h2
  · rw [idx3 z 0 r ⟨e - 128, by omega⟩ (by simp only [Fin.val_zero]; omega) h1.symm (by simp only; omega), dif_neg (by omega)]
    pointwise [k0_pay50]
  · obtain rfl : g = 1 := Fin.ext (by simp only [Fin.val_one]; omega)
    rw [idx3 z 0 r ⟨e, by omega⟩ (by simp only [Fin.val_zero]; omega) h1.symm h2.symm, dif_pos (by omega)]
    pointwise [k0_pay49]
  · rw [idx3 z 0 r ⟨e - 128, by omega⟩ (by simp only [Fin.val_zero]; omega) h1.symm (by simp only; omega), dif_neg (by omega)]
    pointwise [k0_pay48]
  · obtain rfl : g = 0 := Fin.ext (by simp only [Fin.val_zero]; omega)
    rw [idx3 z 0 r ⟨e, by omega⟩ (by simp only [Fin.val_zero]; omega) h1.symm h2.symm, dif_pos (by omega)]
    pointwise [k0_pay47]

/-- A SCORE of an augmented query and key: the product of the numbers, plus the slope times the key's position. -/
theorem score (a : ℝ) (x : Vec Ideal S1024x256 .bf16) (y : Vec Ideal S4096x256 .bf16) (g : Fin 2) (r : Fin 1024) (j : Fin 4096)
    (p k : Fin 128 → ℝ) (hp : ∀ e : Fin 128, (x (ix2 r ⟨128 * g + e, by omega⟩) : EReal) = ((p e : ℝ) : EReal))
    (hk : ∀ e : Fin 128, (y (ix2 j ⟨128 * g + e, by omega⟩) : EReal) = ((k e : ℝ) : EReal)) :
    (∑ e : Fin 256, (qaug ((a : ℝ) : EReal) (0 : EReal) (0 : EReal) x (ix3 g r e) : EReal) * kaug y (ix3 g j e)) =
      (((∑ e, p e * k e) + a * j : ℝ) : EReal) := by
  rw [Fin.sum_univ_add (a := 128) (b := 128)]
  have h1 : ∀ e : Fin 128, (qaug ((a : ℝ) : EReal) (0 : EReal) (0 : EReal) x (ix3 g r (Fin.castAdd 128 e)) : EReal) *
      kaug y (ix3 g j (Fin.castAdd 128 e)) = ((p e * k e : ℝ) : EReal) := fun e => by
    rw [qaug_at, kaug_at, dif_pos (by simp), dif_pos (by simp), EReal.coe_mul, ← hp e, ← hk e]
    rfl
  have h2 : ∀ e : Fin 128, (qaug ((a : ℝ) : EReal) (0 : EReal) (0 : EReal) x (ix3 g r (Fin.natAdd 128 e)) : EReal) *
      kaug y (ix3 g j (Fin.natAdd 128 e)) =
      (((if (e : ℕ) = 0 then a * (64 * (j / 64 : ℕ)) else 0) + if (e : ℕ) = 3 then a * (j % 64 : ℕ) else 0 : ℝ) : EReal) := fun e => by
    rw [qaug_at, kaug_at, dif_neg (by simp), dif_neg (by simp)]
    have ee : (⟨(Fin.natAdd 128 e : Fin 256) - 128, by omega⟩ : Fin 128) = e := Fin.ext (by simp)
    rw [ee, qfeat, kfeat]
    by_cases e0 : (e : ℕ) = 0
    · simp only [e0, if_true, if_pos (show 0 < 3 by omega), if_neg (show ¬ (0 : ℕ) = 3 by omega), add_zero]
      rw [← EReal.coe_mul, ← EReal.coe_mul]
      congr 1
      ring
    · by_cases e3 : (e : ℕ) = 3
      · simp only [e3]
        norm_num [EReal.coe_mul]
      · simp only [e0, e3, if_false, mul_zero]
        split_ifs <;> simp
  simp only [h1, h2]
  rw [← Cert.Online.coe_sum, ← Cert.Online.coe_sum, ← EReal.coe_add]
  congr 2
  rw [Finset.sum_add_distrib]
  have s0 := Finset.sum_ite_eq' (Finset.univ : Finset (Fin 128)) 0 fun _ => a * (64 * ((j / 64 : ℕ) : ℝ))
  have s3 := Finset.sum_ite_eq' (Finset.univ : Finset (Fin 128)) 3 fun _ => a * ((j % 64 : ℕ) : ℝ)
  simp only [Fin.ext_iff, Finset.mem_univ, if_true] at s0 s3
  rw [show ((0 : Fin 128) : ℕ) = 0 from rfl] at s0
  rw [show ((3 : Fin 128) : ℕ) = 3 from rfl] at s3
  rw [s0, s3, ← mul_add]
  congr 1
  exact_mod_cast Nat.div_add_mod (j : ℕ) 64

end Cert.KernelIdeal.Aug

end
-- ==== Proof.Spec.lean ====
/- The differential attention of one query row, in real numbers, and its normalisation per head. -/
module

public import proofs.«01_k».proof.Proof.Online

@[expose] public section

noncomputable section

namespace Cert.Spec

open Idealize.ShloMosaic

/-- The slope of a head's distance penalty. -/
def slope (h : Fin 4) : ℝ := ![1 / 4, 1 / 16, 1 / 64, 1 / 256] h

/-- Softmax of the first score row minus `lam` times softmax of the second, over `n` keys, against the values. -/
def att (s1 s2 : ℕ → ℝ) (V : ℕ → Fin 256 → ℝ) (lam : ℝ) (n : ℕ) (d : Fin 256) : ℝ :=
  (∑ k ∈ Finset.range n, Real.exp (s1 k) * V k d) / (∑ k ∈ Finset.range n, Real.exp (s1 k)) -
    lam * ((∑ k ∈ Finset.range n, Real.exp (s2 k) * V k d) / (∑ k ∈ Finset.range n, Real.exp (s2 k)))

/-- The RMS norm of a row of 256 values at `d`, weighted by `w`, times 1 - 0.2. -/
def rms (o : Fin 256 → EReal) (w : EReal) (d : Fin 256) : EReal :=
  o d * Ideal.rsqrt (Ideal.div (∑ e, o e * o e) (Ideal.ofBits .f32 0x43800000#32) + Ideal.ofBits .f32 0x358637BD#32) * w *
    Ideal.ofBits .f32 0x3F4CCCCD#32

/-- The difference of the two softmaxes is weighted by this number, made of four vectors. -/
def lamOf (a b c d : Fin 128 → EReal) : EReal :=
  Ideal.exp (∑ e, a e * b e) - Ideal.exp (∑ e, c e * d e) + Ideal.ofBits .f32 0x3E4CCCCD#32

/-- Of finite vectors it is a real number. -/
theorem lamOf_real (a b c d : Fin 128 → EReal) (ha : ∀ e, ∃ x : ℝ, a e = x) (hb : ∀ e, ∃ x : ℝ, b e = x)
    (hc : ∀ e, ∃ x : ℝ, c e = x) (hd : ∀ e, ∃ x : ℝ, d e = x) : ∃ x : ℝ, lamOf a b c d = x := by
  choose a' ha using ha
  choose b' hb using hb
  choose c' hc using hc
  choose d' hd using hd
  obtain ⟨z, hz⟩ := Cert.Online.ofBits_real 0x3E4CCCCD#32 (by decide)
  unfold lamOf
  simp only [ha, hb, hc, hd, hz, ← EReal.coe_mul, ← Cert.Online.coe_sum, Ideal.exp_coe, ← EReal.coe_sub, ← EReal.coe_add]
  exact ⟨_, rfl⟩

/-- A query row against a key row, of head `h` and half `g`. -/
def dotp (X : Fin 2 → Fin 4096 → Fin 6144 → ℝ) (b : Fin 2) (h : Fin 4) (g : Fin 2) (t k : Fin 4096) : ℝ :=
  ∑ e : Fin 128, X b t ⟨3072 + 256 * h + 128 * g + e, by omega⟩ * X b k ⟨4096 + 256 * h + 128 * g + e, by omega⟩

/-- The score of key `k`: the product over `√128`, less the slope times the distance. -/
def score (X : Fin 2 → Fin 4096 → Fin 6144 → ℝ) (b : Fin 2) (h : Fin 4) (g : Fin 2) (t : Fin 4096) (k : ℕ) : ℝ :=
  if hk : k < 4096 then dotp X b h g t ⟨k, hk⟩ / Real.sqrt 128 - slope h * ((t : ℝ) - k) else 0

/-- The values of head `h`. -/
def value (X : Fin 2 → Fin 4096 → Fin 6144 → ℝ) (b : Fin 2) (h : Fin 4) (k : ℕ) (d : Fin 256) : ℝ :=
  if hk : k < 4096 then X b ⟨k, hk⟩ ⟨5120 + 256 * h + d, by omega⟩ else 0

/-- The layer's value at row `t`, head `h`, lane `d`: the two causal softmaxes' difference against the values, normalised. -/
def out (X : Fin 2 → Fin 4096 → Fin 6144 → ℝ) (lam : ℝ) (w : Fin 256 → EReal) (b : Fin 2) (h : Fin 4) (t : Fin 4096) (d : Fin 256) : EReal :=
  rms (fun d => ((att (score X b h 0 t) (score X b h 1 t) (value X b h) lam (t + 1) d : ℝ) : EReal)) (w d) d

/-- The same at row `R` and column `C` of the result, whose rows are the two sequences one after the other and whose columns are the heads'. -/
def outAt (X : Fin 2 → Fin 4096 → Fin 6144 → ℝ) (lam : ℝ) (w : Fin 256 → EReal) (R : Fin 8192) (C : Fin 1024) : EReal :=
  out X lam w ⟨R / 4096, by omega⟩ ⟨C / 256, by omega⟩ ⟨R % 4096, by omega⟩ ⟨C % 256, by omega⟩

end Cert.Spec

end
-- ==== Proof.Host.lean ====
/- The arrays that the host lines prepare for the kernel: the scaled projections and the slope table. -/
module

public import proofs.«01_k».proof.Proof.Aug
public import proofs.«01_k».proof.Proof.Spec

@[expose] public section

set_option maxRecDepth 16384

noncomputable section

namespace Cert.KernelIdeal.HostLines

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The projections, as launched. -/
def proj (c : Dev nD) : S2x4096x6144.Idx → EReal := m ((c : Thread nD τ).loc main_arg0)

/-- The scale of a column of the projections: the query columns carry one over `√128 · log 2`. -/
theorem V_proj (c : Dev nD) (R : Fin 8192) (C : Fin 6144) :
    (V m c main_v17 : S8192x6144.Idx → Elt Ideal .bf16) (ix2 R C)
      = proj m c (ix3 ⟨R / 4096, by omega⟩ ⟨R % 4096, by omega⟩ C) *
        ((if C.val < 1024 ∨ (3072 ≤ C.val ∧ C.val < 4096) then
          Ideal.div (Ideal.ofBits .f32 1065353216#32) (Ideal.sqrt (Ideal.ofBits .f32 1124073472#32) * Ideal.log (Ideal.ofBits .f32 1073741824#32))
         else Ideal.ofBits .f32 1065353216#32 : EReal)) := by
  unfold V
  simp only [hostOps0, hostOps0_1, hostOps0_2, List.flatten_cons, List.flatten_nil, List.append_nil, List.cons_append, List.nil_append]
  entry_read
  pointwise []
  simp only [StableHlo.TRef.ofBuf_toBuf]
  refine congrArg₂ (· * ·) rfl ?_
  change select (ori
              (cmpi CmpIPredicate.slt (iotaInDim S1x6144 32 1)
                (broadcastInDim S1x6144 ![] bcast_S_S1x6144 (constantI S_ 32 1024#32)))
              (andi
                (cmpi CmpIPredicate.sge (iotaInDim S1x6144 32 1)
                  (broadcastInDim S1x6144 ![] bcast_S_S1x6144 (constantI S_ 32 3072#32)))
                (cmpi CmpIPredicate.slt (iotaInDim S1x6144 32 1)
                  (broadcastInDim S1x6144 ![] bcast_S_S1x6144 (constantI S_ 32 4096#32)))))
          (broadcastInDim S1x6144 ![] bcast_S_S1x6144
                  (Host.divf (constant (F := Ideal) S_ FTy.f32 1065353216#32)
                    (mulf (Host.sqrt (constant S_ FTy.f32 1124073472#32))
                      (Host.log (constant S_ FTy.f32 1073741824#32)))))
          (broadcastInDim S1x6144 ![] bcast_S_S1x6144 (constant S_ FTy.f32 1065353216#32)) (ix2 0 C) = _
  pointwise []
  word_cmp

/-- The last two of the host lines: the three columns of the slope table side by side, read row by row. -/
theorem feats_line (F : Valuation τ sig (Elt Ideal)) (h : Fin 4) (u : Fin 3) :
    ((StableHlo.reshape main_v34 main_v35 (rfl : (.f32 : EltTy) = .f32) shapeCasts_S4x3_S12 : HloOp τ sig (Elt Ideal)).result
      ((StableHlo.nary ![main_v31, main_v32, main_v33] main_v34 (fun u => (concatenate S4x3 1 [⟨S4x1, (u 0 : (⟨S4x1, .f32⟩ : BufTy).Contents (Elt Ideal))⟩, ⟨S4x1, (u 1 : (⟨S4x1, .f32⟩ : BufTy).Contents (Elt Ideal))⟩, ⟨S4x1, (u 2 : (⟨S4x1, .f32⟩ : BufTy).Contents (Elt Ideal))⟩] concatenates_S4x1_S4x1_S4x1_S4x3_d1 : (⟨S4x3, .f32⟩ : BufTy).Contents (Elt Ideal)))).result F)
      (Proc.devRef .tc main_v35) : S12.Idx → Elt Ideal .f32) (ix1 ⟨3 * h + u, by omega⟩)
    = (![F (Proc.devRef .tc main_v31), F (Proc.devRef .tc main_v32), F (Proc.devRef .tc main_v33)] : Fin 3 → S4x1.Idx → Elt Ideal .f32) u (ix2 h 0) := by
  rw [StableHlo.reshape_result, StableHlo.nary_result]
  fin_cases u
  · pointwise []
    rw [dif_pos (by omega)]
    exact congrArg (F (Proc.devRef .tc main_v31)) (by congr 1; ext; simp; try omega)
  · pointwise []
    rw [dif_neg (by omega), dif_pos (by omega)]
    exact congrArg (F (Proc.devRef .tc main_v32)) (by congr 1; ext; simp; try omega)
  · pointwise []
    rw [dif_neg (by omega), dif_neg (by omega)]
    exact congrArg (F (Proc.devRef .tc main_v33)) (by congr 1; ext; simp; try omega)

/-- One over the logarithm of two, as the host computes it. -/
theorem log_word : Ideal.log (Ideal.ofBits .f32 1073741824#32) = ((Real.log 2 : ℝ) : EReal) := by
  rw [show Ideal.ofBits .f32 1073741824#32 = ((2 : ℝ) : EReal) by simp [Ideal.ofBits, Ideal.ieee, -EReal.coe_mul]; norm_num, Ideal.log_coe, if_neg (by norm_num)]

theorem log2_ne : Real.log 2 ≠ 0 := (Real.log_pos (by norm_num)).ne'

theorem sqrt_word : Ideal.sqrt (Ideal.ofBits .f32 1124073472#32) = ((Real.sqrt 128 : ℝ) : EReal) := by
  rw [show Ideal.ofBits .f32 1124073472#32 = ((128 : ℝ) : EReal) by simp [Ideal.ofBits, Ideal.ieee, -EReal.coe_mul]; norm_num, Ideal.sqrt_coe, if_neg (by norm_num)]

/-- The entries of the table of slopes. -/
theorem slope_lit (h : Fin 4) : Ideal.ofBits .f32 (lit0 (S4.rowMajor (ix1 h))) = ((Cert.Spec.slope h : ℝ) : EReal) := by
  fin_cases h
  · rw [show lit0 (S4.rowMajor (ix1 (⟨0, by decide⟩ : Fin 4))) = 0x3E800000#32 by rfl]
    simp [Ideal.ofBits, Ideal.ieee, -EReal.coe_mul, Cert.Spec.slope]; norm_num
  · rw [show lit0 (S4.rowMajor (ix1 (⟨1, by decide⟩ : Fin 4))) = 0x3D800000#32 by rfl]
    simp [Ideal.ofBits, Ideal.ieee, -EReal.coe_mul, Cert.Spec.slope]; norm_num
  · rw [show lit0 (S4.rowMajor (ix1 (⟨2, by decide⟩ : Fin 4))) = 0x3C800000#32 by rfl]
    simp [Ideal.ofBits, Ideal.ieee, -EReal.coe_mul, Cert.Spec.slope]; norm_num
  · rw [show lit0 (S4.rowMajor (ix1 (⟨3, by decide⟩ : Fin 4))) = 0x3B800000#32 by rfl]
    simp [Ideal.ofBits, Ideal.ieee, -EReal.coe_mul, Cert.Spec.slope]; norm_num

theorem slope_word (h : Fin 4) :
    Ideal.ofBits FTy.f32 (lit0 (S4.rowMajor (ix1 h))) * Ideal.div 1 (Ideal.log (Ideal.ofBits FTy.f32 1073741824#32))
      = ((Cert.Spec.slope h * (1 / Real.log 2) : ℝ) : EReal) := by
  rw [slope_lit, log_word, Ideal.div_coe log2_ne, one_mul, ← EReal.coe_mul]

/-- The scale of a query column. -/
theorem scale_word :
    Ideal.div (Ideal.ofBits .f32 1065353216#32) (Ideal.sqrt (Ideal.ofBits .f32 1124073472#32) * Ideal.log (Ideal.ofBits .f32 1073741824#32))
      = ((1 / (Real.sqrt 128 * Real.log 2) : ℝ) : EReal) := by
  rw [sqrt_word, log_word, ← EReal.coe_mul, Ideal.div_coe (mul_ne_zero (Real.sqrt_ne_zero'.mpr (by norm_num)) log2_ne),
    show Ideal.ofBits .f32 1065353216#32 = ((1 : ℝ) : EReal) by simp [Ideal.ofBits, Ideal.ieee, -EReal.coe_mul]; norm_num,
    EReal.coe_one, one_mul]

theorem one_word : Ideal.ofBits .f32 1065353216#32 = ((1 : ℝ) : EReal) := by
  simp [Ideal.ofBits, Ideal.ieee, -EReal.coe_mul]; norm_num

set_option maxHeartbeats 1000000 in
theorem V_feats (c : Dev nD) (h : Fin 4) (u : Fin 3) :
    (V m c main_v35 : S12.Idx → Elt Ideal .f32) (ix1 ⟨3 * h + u, by omega⟩) = ((if u = 0 then Cert.Spec.slope h * (1 / Real.log 2) else 0 : ℝ) : EReal) := by
  unfold V
  simp only [hostOps0, hostOps0_1, hostOps0_2, List.flatten_cons, List.flatten_nil, List.append_nil, List.cons_append, List.nil_append]
  simp only [StableHlo.after_cons, StableHlo.after_nil]
  refine (feats_line _ h u).trans ?_
  fin_cases u
  · dsimp only
    simp only [↓ StableHlo.readResult, ↓ StableHlo.readPieces, -eq_self]
    rw [StableHlo.nullary_result]
    pointwise []
    rw [slope_word]
    try rfl
  · dsimp only
    simp only [↓ StableHlo.readResult, ↓ StableHlo.readPieces, -eq_self]
    rw [StableHlo.nullary_result]
    pointwise []
    rw [slope_word, ← EReal.coe_sub, sub_self, EReal.coe_zero]

  · dsimp only
    simp only [↓ StableHlo.readResult, ↓ StableHlo.readPieces, -eq_self]
    rw [StableHlo.nullary_result]
    pointwise []
    rw [slope_word, ← EReal.coe_sub, sub_self, EReal.coe_zero]
    show ((0 : EReal) - 0 = 0)
    simp

theorem coords1 : ∀ t : Fin cfg0.N, (grid0.coords t 1).val = t.val / 4 % 4 :=
  (by decide +kernel : ∀ t : Fin grid0.N, _)
theorem coords2 : ∀ t : Fin cfg0.N, (grid0.coords t 2).val = t.val % 4 :=
  (by decide +kernel : ∀ t : Fin grid0.N, _)
theorem idx0 : ∀ t : Fin cfg0.N, win0_0.index t = ![0] :=
  (by decide +kernel : ∀ t : Fin grid0.N, _)
theorem idx6 : ∀ t : Fin cfg0.N, win0_6.index t = ![t.val / 16 * 4 + t.val % 4, 12 + t.val / 4 % 4] :=
  (by decide +kernel : ∀ t : Fin grid0.N, _)
theorem idx7 : ∀ t : Fin cfg0.N, win0_7.index t = ![t.val / 16, 16 + t.val / 4 % 4] :=
  (by decide +kernel : ∀ t : Fin grid0.N, _)
theorem idx8 : ∀ t : Fin cfg0.N, win0_8.index t = ![t.val / 16, 20 + t.val / 4 % 4] :=
  (by decide +kernel : ∀ t : Fin grid0.N, _)
theorem idx9 : ∀ t : Fin cfg0.N, win0_9.index t = ![t.val / 16 * 4 + t.val % 4, t.val / 4 % 4] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)

theorem blk6 (c : Dev nD) (t : Fin cfg0.N) (r : Fin 1024) (e : Fin 256) (hb) (he) :
    iblk m c 6 t (ix2 r e) = V m c main_v17 (ix2 ⟨1024 * (t.val / 16 * 4 + t.val % 4) + r, hb⟩ ⟨256 * (12 + t.val / 4 % 4) + e, he⟩) := by
  blk_ext [iblk, idx6 t]
theorem blk7 (c : Dev nD) (t : Fin cfg0.N) (j : Fin 4096) (e : Fin 256) (hb) (he) :
    iblk m c 7 t (ix2 j e) = V m c main_v17 (ix2 ⟨4096 * (t.val / 16) + j, hb⟩ ⟨256 * (16 + t.val / 4 % 4) + e, he⟩) := by
  blk_ext [iblk, idx7 t]
theorem blk8 (c : Dev nD) (t : Fin cfg0.N) (j : Fin 4096) (e : Fin 256) (hb) (he) :
    iblk m c 8 t (ix2 j e) = V m c main_v17 (ix2 ⟨4096 * (t.val / 16) + j, hb⟩ ⟨256 * (20 + t.val / 4 % 4) + e, he⟩) := by
  blk_ext [iblk, idx8 t]
theorem blk0 (c : Dev nD) (t : Fin cfg0.N) (u : Fin 12) :
    iblk m c 0 t (ix1 u) = V m c main_v35 (ix1 u) := by
  blk_ext [iblk, idx0 t]
theorem blk1 (c : Dev nD) (t : Fin cfg0.N) (e : Fin 128) :
    iblk m c 1 t (ix2 0 e) = m ((c : Thread nD τ).loc main_arg1) (ix2 0 e) := by
  rw [← V_main_arg1 m c]; blk_ext [iblk, idx1 t]
theorem blk2 (c : Dev nD) (t : Fin cfg0.N) (e : Fin 128) :
    iblk m c 2 t (ix2 0 e) = m ((c : Thread nD τ).loc main_arg2) (ix2 0 e) := by
  rw [← V_main_arg2 m c]; blk_ext [iblk, idx2 t]
theorem blk3 (c : Dev nD) (t : Fin cfg0.N) (e : Fin 128) :
    iblk m c 3 t (ix2 0 e) = m ((c : Thread nD τ).loc main_arg3) (ix2 0 e) := by
  rw [← V_main_arg3 m c]; blk_ext [iblk, idx3 t]
theorem blk4 (c : Dev nD) (t : Fin cfg0.N) (e : Fin 128) :
    iblk m c 4 t (ix2 0 e) = m ((c : Thread nD τ).loc main_arg4) (ix2 0 e) := by
  rw [← V_main_arg4 m c]; blk_ext [iblk, idx4 t]
theorem blk5 (c : Dev nD) (t : Fin cfg0.N) (e : Fin 256) :
    iblk m c 5 t (ix2 0 e) = m ((c : Thread nD τ).loc main_arg5) (ix2 0 e) := by
  rw [← V_main_arg5 m c]; blk_ext [iblk, idx5 t]

end Cert.KernelIdeal.HostLines

end
-- ==== Proof.ExpertRefer.lean ====
/- The reference of the experts at an index. -/
module

public import proofs.«01_k».proof.Proof.Experts
public import proofs.«01_k».proof.Proof.Host
public import proofs.«01_k».proof.Proof.Gen.Reference3Ideal.Read
public import Idealize.ShloMosaic.Lib.Routing.OpsSearch
public import Idealize.ShloMosaic.Lib.TwoAxisContraction
public import Idealize.ShloMosaic.Lib.WordCmp

@[expose] public section

set_option maxRecDepth 16384

noncomputable section

namespace Cert.Reference3Ideal.ExpertRefer

open Cert.Reference3Ideal Cert.Reference3Ideal.Gen Cert.Reference3Ideal.Read Idealize.ShloMosaic Idealize.ShloMosaic.TcCoe Idealize.SL.Sem
open Cert.ExpertSpec
open Cert.Kernel3Ideal.Experts (Book)

variable (x0 : (⟨S96, .i32⟩ : BufTy).Contents (Elt Ideal)) (x1 : (⟨S32, .i32⟩ : BufTy).Contents (Elt Ideal)) (x2 : (⟨S2, .i32⟩ : BufTy).Contents (Elt Ideal))
  (x3 : (⟨S24576x2048, .bf16⟩ : BufTy).Contents (Elt Ideal)) (x4 x5 : (⟨S32x2048x512, .f32⟩ : BufTy).Contents (Elt Ideal)) (x6 : (⟨S32x512x2048, .f32⟩ : BufTy).Contents (Elt Ideal))

/-- A flag as a number. -/
theorem flag (p : Prop) [Decidable p] : ((((BitVec.ofBool (decide p)).toNat : ℕ) : ℝ) : EReal) = if p then 1 else 0 := by
  by_cases h : p <;> simp [h]

section Words

variable {b : Book} (ok : b.Ok) (hb : b.Reads x0 x1 x2)
include ok hb

/-- The expert of a tile in use. -/
theorem expert_at (t : Fin 96) (h : t.val < b.n) : val_main_v6 (F := Ideal) x0 x1 (ix1 t) = BitVec.ofNat 32 (b.ξ (b.κ t.val)) := by
  have hE := ok.E_le
  have hk : b.κ t.val < 32 := lt_of_lt_of_le (ok.lt t.val h) hE
  have hw : val_main_v5 (F := Ideal) x0 (ix2 t (0 : Fin 1)) = BitVec.ofNat 32 (b.κ t.val) := by
    rw [val_main_v5_apply, val_main_v4_apply, val_main_v1_apply, val_main_v0_apply, val_main_c_apply,
      show x0 (idx_main_v5 (ix2 t (0 : Fin 1))) = BitVec.ofNat 32 (b.κ t.val) from hb.tile _]
    have h0 : IntOp.cmpi .slt (BitVec.ofNat 32 (b.κ t.val)) 0#32 = 0#1 := by
      rw [WordCmp.cmpi_slt_ofNat (w := 32) (a := b.κ t.val) (b := 0) (by omega) (by decide)]
      simp
    rw [h0]
    rfl
  exact (Routing.take_ap gather_S32_S96x1_S96_n_0_n_n_0_1_1 rfl rfl rfl rfl x1 _ t hk (by omega) hw).trans (hb.seq _)

/-- The flag of a tile in use. -/
theorem used_at (t : Fin 96) (e : Fin 32) : (val_main_v15 (F := Ideal) x2 (ix2 t e) : EReal) = if t.val < b.n then 1 else 0 := by
  have hn := ok.n_le
  have hz : ∀ y : S1.Idx, (idx_main_v9 y 0).val = 0 := fun y => Nat.lt_one_iff.mp (y 0).isLt
  have hx : val_main_v10 (F := Ideal) x2 (fun a => a.elim0) = BitVec.ofNat 32 b.n :=
    (val_main_v9_apply (F := Ideal) x2 _).trans (hb.used _ (hz _))
  rw [val_main_v15_apply, val_main_v14_apply, val_main_v13_apply, val_main_v12_apply, val_main_v8_apply, val_main_v11_apply, hx]
  rw [show BitVec.ofNat 32 ((idx_main_v13 (idx_main_v15 (ix2 t e))) 0).val = BitVec.ofNat 32 t.val from rfl,
    WordCmp.cmpi_slt_ofNat (w := 32) (a := t.val) (b := b.n) (by have := t.isLt; omega) (by omega)]
  exact flag _

/-- How much of an expert's output a row takes. -/
theorem combine_at (R : Fin 24576) (e : Fin 32) :
    (val_main_v18 (F := Ideal) x0 x1 x2 (ix2 R e) : EReal) = if R.val / 256 < b.n ∧ e = b.ex (b.κ (R.val / 256)) then 1 else 0 := by
  have hR := R.isLt
  have he := e.isLt
  have ht : R.val / 256 < 96 := by omega
  rw [val_main_v18_apply, val_main_v17_apply, show idx_main_v17 (idx_main_v18 (ix2 R e)) = ix2 (⟨R.val / 256, ht⟩ : Fin 96) e from
    funext fun a => Fin.ext (by
      match a with
      | ⟨0, _⟩ => show (R.val * 32 + e.val) / 8192 = R.val / 256; omega
      | ⟨1, _⟩ => show (R.val * 32 + e.val) % 32 = e.val; omega)]
  rw [val_main_v16_apply]
  show (val_main_v7 (F := Ideal) x0 x1 (ix2 (⟨R.val / 256, ht⟩ : Fin 96) e) : EReal) * (val_main_v15 (F := Ideal) x2 (ix2 (⟨R.val / 256, ht⟩ : Fin 96) e) : EReal) = _
  rw [used_at x0 x1 x2 ok hb]
  dsimp only
  by_cases h : R.val / 256 < b.n
  · rw [if_pos h, mul_one, val_main_v7_apply, val_main_call0_v4_apply, val_main_call0_v2_apply, val_main_call0_v0_apply, val_main_call0_v3_apply, val_main_call0_v1_apply]
    rw [show idx_main_call0_v0 (idx_main_call0_v2 (ix2 (⟨R.val / 256, ht⟩ : Fin 96) e)) = ix1 (⟨R.val / 256, ht⟩ : Fin 96) from
      funext fun a => Fin.ext (by match a with | ⟨0, _⟩ => rfl)]
    rw [expert_at x0 x1 x2 ok hb _ h]
    have hx := ok.expert _ (ok.lt _ h)
    have hv := b.ex_val ok (ok.lt _ h)
    have hc : IntOp.cmpi .eq (BitVec.ofNat 32 (b.ξ (b.κ (R.val / 256)))) (BitVec.ofNat 32 e.val) = BitVec.ofBool (decide (e = b.ex (b.κ (R.val / 256)))) := by
      rw [WordCmp.cmpi_eq_ofNat (w := 32) (by omega) (by omega)]
      refine congrArg BitVec.ofBool (decide_eq_decide.mpr ⟨fun hh => Fin.ext (hh.symm.trans hv.symm), fun hh => ?_⟩)
      rw [hh, hv]
    refine (congrArg (fun z : BitVec 1 => (((z.toNat : ℕ) : ℝ) : EReal)) hc).trans ((flag _).trans ?_)
    simp [h]
  · rw [if_neg h, mul_zero, if_neg (fun hh => h hh.1)]

end Words

/-- The gated activation. -/
theorem gated_at (R : Fin 24576) (e : Fin 32) (f : Fin 512) :
    (val_main_v23 (F := Ideal) x3 x4 x5 (ix3 R e f) : EReal) = gated (fun d => x3 (ix2 R d)) (fun d f => x4 (ix3 e d f)) (fun d f => x5 (ix3 e d f)) f := by
  unfold gated
  have h20 : (val_main_v20 (F := Ideal) x3 x4 (ix3 R e f) : EReal) = ∑ d, x3 (ix2 R d) * x4 (ix3 e d f) := by
    pointwise [val_main_v20, val_main_v19]
  have h21 : (val_main_v21 (F := Ideal) x3 x5 (ix3 R e f) : EReal) = ∑ d, x3 (ix2 R d) * x5 (ix3 e d f) := by
    pointwise [val_main_v21, val_main_v19]
  rw [val_main_v23_apply, val_main_v22_apply, val_main_call1_v5_apply, val_main_call1_v4_apply, val_main_call1_v3_apply, val_main_call1_v2_apply, val_main_call1_v1_apply, val_main_call1_v0_apply,
    val_main_call1_cst_apply, val_main_call1_cst_0_apply, h20, h21]
  show _ * Ideal.div (Ideal.ofBits .f32 1065353216#32) (Ideal.ofBits .f32 1065353216#32 + Ideal.exp (-_)) * _ = _
  rw [Cert.KernelIdeal.HostLines.one_word]
  rfl

/-- The last product. -/
theorem down_at (R : Fin 24576) (C : Fin 2048) :
    (val_main_v27 (F := Ideal) x0 x1 x2 x3 x4 x5 x6 (ix2 R C) : EReal)
      = ∑ e : Fin 32, ∑ f : Fin 512, (val_main_v26 (F := Ideal) x0 x1 x2 x3 x4 x5 (ix3 R e f) : EReal) * x6 (ix3 e f C) := by
  pointwise [val_main_v27]

/-- The result. -/
theorem out_at {b : Book} (ok : b.Ok) (hb : b.Reads x0 x1 x2) (R : Fin 24576) (C : Fin 2048) :
    (val_main_v28 (F := Ideal) x0 x1 x2 x3 x4 x5 x6 (ix2 R C) : EReal)
      = if R.val / 256 < b.n then
          expertAt (fun d => x3 (ix2 R d)) (fun d f => x4 (ix3 (b.ex (b.κ (R.val / 256))) d f)) (fun d f => x5 (ix3 (b.ex (b.κ (R.val / 256))) d f))
            (fun f C => x6 (ix3 (b.ex (b.κ (R.val / 256))) f C)) C
        else 0 := by
  rw [val_main_v28_apply]
  show (val_main_v27 (F := Ideal) x0 x1 x2 x3 x4 x5 x6 (ix2 R C) : EReal) = _
  rw [down_at]
  have hv : ∀ (e : Fin 32) (f : Fin 512), (val_main_v26 (F := Ideal) x0 x1 x2 x3 x4 x5 (ix3 R e f) : EReal)
      = gated (fun d => x3 (ix2 R d)) (fun d f => x4 (ix3 e d f)) (fun d f => x5 (ix3 e d f)) f * if R.val / 256 < b.n ∧ e = b.ex (b.κ (R.val / 256)) then 1 else 0 := fun e f => by
    rw [val_main_v26_apply, val_main_v25_apply, val_main_v24_apply]
    refine congrArg₂ (· * ·) (gated_at x3 x4 x5 R e f) ?_
    refine Eq.trans (congrArg (val_main_v18 (F := Ideal) x0 x1 x2) (funext fun a => Fin.ext ?_)) (combine_at x0 x1 x2 ok hb R e)
    match a with
    | ⟨0, _⟩ => rfl
    | ⟨1, _⟩ => rfl
  by_cases h : R.val / 256 < b.n
  · rw [if_pos h, Finset.sum_eq_single (b.ex (b.κ (R.val / 256)))]
    · unfold expertAt
      refine Finset.sum_congr rfl fun f _ => ?_
      rw [hv, if_pos ⟨h, rfl⟩, mul_one]
    · intro e _ hne
      refine Finset.sum_eq_zero fun f _ => ?_
      rw [hv, if_neg (fun hh => hne hh.2), mul_zero, zero_mul]
    · exact fun hh => absurd (Finset.mem_univ _) hh
  · rw [if_neg h]
    refine Finset.sum_eq_zero fun e _ => Finset.sum_eq_zero fun f _ => ?_
    rw [hv, if_neg (fun hh => h hh.1), mul_zero, zero_mul]

end Cert.Reference3Ideal.ExpertRefer

end
-- ==== Proof.Same.lean ====
/- The two printed experts kernels are the same program: over any float values they have one body table and one main. -/
module

public import proofs.«01_k».proof.Proof.Gen.Kernel3
public import proofs.«01_k».proof.Proof.Gen.Kernel3Ideal

@[expose] public section

set_option maxRecDepth 16384

noncomputable section

namespace Cert.Same

open Idealize.ShloMosaic Idealize.SL.Sem

variable {F : FTy → Type} [FloatOps F]

set_option maxHeartbeats 30000000 in
/-- One body. -/
theorem body_eq : Cert.Kernel3.cc0_experts (F := F) = Cert.Kernel3Ideal.cc0_experts (F := F) := rfl

open Cert.Kernel3Ideal Cert.Kernel3Ideal.Facts₀ Cert.Kernel3Ideal.Facts in
/-- One body table of the kernel. -/
theorem table_eq : Cert.Kernel3.defs₀ (F := F) = Cert.Kernel3Ideal.defs₀ (F := F) := by
  delta Cert.Kernel3.defs₀ Cert.Kernel3Ideal.defs₀
  refine congrArg (Defs.onTc (τ := τ)) (funext fun l => funext fun p => ?_)
  match l, p with
  | 0, (t, s) =>
    exact congrArg (fun f : type_of% (cc0_experts (F := F)) => f (grid0.coords t) (Memref.whole main_arg0) (Memref.isWhole_whole _) (Memref.whole main_arg1) (Memref.isWhole_whole _) (Memref.whole main_arg2) (Memref.isWhole_whole _) (spec0_0.stage (s 0)) (hstage0_0 ((s 0).cast nbuf0_0)) (Memref.whole main_arg4) (Memref.isWhole_whole _) (Memref.whole main_arg5) (Memref.isWhole_whole _) (Memref.whole main_arg6) (Memref.isWhole_whole _) (spec0_1.stage (s 1)) (hstage0_1 ((s 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) body_eq

/-- One body table with the region and its pipeline. -/
theorem defs_eq : Cert.Kernel3.defs (F := F) = Cert.Kernel3Ideal.defs (F := F) :=
  congrArg (Idealize.ShloMosaic.Pipeline.defs (Cert.Kernel3Ideal.pcfgs (F := F))) table_eq

/-- A run of the one is a run of the other. -/
theorem run_eq (m : (ℓ : Loc Cert.Kernel3Ideal.nD Cert.Kernel3Ideal.τ Cert.Kernel3Ideal.sig) → Buf (Elt F) ℓ) (ρ : Dev Cert.Kernel3Ideal.nD → PrngReg) (Q)
    (h : θ_run (Cert.Kernel3Ideal.defs (F := F)) (onTc (τ := Cert.Kernel3Ideal.τ) (Cert.Kernel3Ideal.main (F := F))) ⟨m, fun _ => 0, ρ⟩ Q) :
    θ_run (Cert.Kernel3.defs (F := F)) (onTc (τ := Cert.Kernel3.τ) (Cert.Kernel3.main (F := F))) ⟨m, fun _ => 0, ρ⟩ Q :=
  (congrArg (fun d => θ_run d (onTc (τ := Cert.Kernel3Ideal.τ) (Cert.Kernel3Ideal.main (F := F))) ⟨m, fun _ => 0, ρ⟩ Q) (defs_eq (F := F))).mpr h

end Cert.Same

end
-- ==== Proof.Tables.lean ====
/- What the precondition says of the experts' tables. -/
module

public import proofs.«01_k».proof.Defs
public import proofs.«01_k».proof.Proof.Run
public import Idealize.ShloMosaic.Lib.Pointwise
public import Idealize.ShloMosaic.Lib.ReduceAll
public import Idealize.ShloMosaic.Lib.WordCmp
public import Idealize.ShloMosaic.Lib.StableHlo.Predicate

@[expose] public section

set_option maxRecDepth 16384

noncomputable section

namespace Cert.Pre_tables

open Idealize.ShloMosaic Idealize.ShloMosaic.StableHlo.Predicate
open Cert.Kernel3Ideal.Experts (at1 bookOf)

/-- The shape conditions of the precondition. -/
theorem shapes : Facts :=
  ⟨by decide, by decide, by decide, by decide, by decide, by decide, by decide, by decide, by decide, by decide, by decide, by decide, by decide⟩

theorem only (i : S_.Idx) : i = ix0 := funext fun a => a.elim0

/-- One word of the pair of counts. -/
theorem count_at (T2 : IVec S2 32) (o : Fin 2) (h : S2.Slices ![o.val] S1) (hs : S1.ShapeCasts S_) (i : S_.Idx) :
    shapeCast S_ (extractStridedSlice S1 ![o.val] T2 h) hs i = T2 (at1 o) :=
  Eq.trans (b := extractStridedSlice S1 ![o.val] T2 h (Shape.reshapeEquiv hs i)) rfl <| extractStridedSlice_apply ![o.val] T2 h _ (at1 o) fun a => by
    obtain rfl : a = 0 := Subsingleton.elim (α := Fin 1) _ _
    have hz : ∀ y : S1.Idx, (y 0).val = 0 := fun y => Nat.lt_one_iff.mp (y 0).isLt
    exact (congrArg (o.val + ·) (hz _)).symm

/-- A count at every place. -/
theorem spread_at {s : Shape} (dims : Fin 0 → Fin s.rank) (hb : S_.BroadcastsInDim s dims) (x : IVec S_ 32) (i : s.Idx) : broadcastInDim s dims hb x i = x ix0 :=
  broadcastInDim_apply dims hb x i ix0 fun a => a.elim0

theorem late_at (x : IVec S96 32) (h : S96.Slices ![1] S95) (t : Fin 95) : extractStridedSlice S95 ![1] x h (at1 t) = x (at1 ⟨t.val + 1, by omega⟩) :=
  extractStridedSlice_apply ![1] x h _ _ fun a => by
    obtain rfl : a = 0 := Subsingleton.elim (α := Fin 1) _ _
    exact Nat.add_comm _ _

theorem early_at (x : IVec S96 32) (h : S96.Slices ![0] S95) (t : Fin 95) : extractStridedSlice S95 ![0] x h (at1 t) = x (at1 ⟨t.val, by omega⟩) :=
  extractStridedSlice_apply ![0] x h _ _ fun a => by
    obtain rfl : a = 0 := Subsingleton.elim (α := Fin 1) _ _
    exact (Nat.zero_add _).symm

theorem first_at (x : IVec S96 32) (h : S96.Slices ![0] S1) (hs : S1.ShapeCasts S_) (i : S_.Idx) : shapeCast S_ (extractStridedSlice S1 ![0] x h) hs i = x (at1 0) :=
  Eq.trans (b := extractStridedSlice S1 ![0] x h (Shape.reshapeEquiv hs i)) rfl <| extractStridedSlice_apply ![0] x h _ (at1 0) fun a => by
    obtain rfl : a = 0 := Subsingleton.elim (α := Fin 1) _ _
    have hz : ∀ y : S1.Idx, (y 0).val = 0 := fun y => Nat.lt_one_iff.mp (y 0).isLt
    exact (congrArg (0 + ·) (hz _)).symm

/-- A word in a range that starts at zero. -/
theorem below {x y : BitVec 32} (hy : y.toNat < 2 ^ 31) (h0 : IntOp.cmpi .sge x 0#32 = 1#1) (h1 : IntOp.cmpi .slt x y = 1#1) : x.toNat < y.toNat := by
  rw [WordCmp.cmpi_sge_zero, WordCmp.ofBool_decide_eq_one_iff] at h0
  exact (slt_iff_toNat h0 hy).1 h1

theorem upto {x y : BitVec 32} (hy : y.toNat < 2 ^ 31) (h0 : IntOp.cmpi .sge x 0#32 = 1#1) (h1 : IntOp.cmpi .sle x y = 1#1) : x.toNat ≤ y.toNat := by
  rw [WordCmp.cmpi_sge_zero, WordCmp.ofBool_decide_eq_one_iff] at h0
  exact (sle_iff_toNat h0 hy).1 h1

/-- A place at or past a count. -/
theorem past {t : ℕ} {y : BitVec 32} (ht : t < 2 ^ 31) (hy : y.toNat < 2 ^ 31) (h : IntOp.cmpi .sge (BitVec.ofNat 32 t) y = 1#1) : y.toNat ≤ t := by
  have e := WordCmp.toNat_ofNat_of_lt (w := 32) (a := t) (by omega)
  have := (sge_iff_toNat (by rw [e]; exact ht) hy).1 h
  rwa [e] at this

/-- The word after a small one. -/
theorem succ_toNat {x : BitVec 32} (h : x.toNat < 2 ^ 31) : (IntOp.addi x 1#32).toNat = x.toNat + 1 := by
  show (x + 1#32).toNat = _
  rw [BitVec.toNat_add]
  show (x.toNat + 1) % 2 ^ 32 = _
  omega

variable {F : FTy → Type} [FloatOps F]

/-- The precondition, on the tables read as naturals. -/
theorem ok [Facts] (T0 : IVec S96 32) (T1 : IVec S32 32) (T2 : IVec S2 32) (x3 : FVec F S24576x2048 .bf16) (x4 x5 : FVec F S32x2048x512 .f32) (x6 : FVec F S32x512x2048 .f32)
    (h : fn (F := F) T0 T1 T2 x3 x4 x5 x6 = fun _ => 1#1) : (bookOf T0 T1 T2).Ok := by
  have e := congrFun h ix0
  dsimp only [fn, fn_part1, fn_part2, fn_part3] at e
  clear h
  haveI : Subsingleton S_.Idx := ⟨fun a b => funext fun k => k.elim0⟩
  obtain ⟨e, eS⟩ := IntOp.andi_eq_one.1 e
  obtain ⟨e, eL⟩ := IntOp.andi_eq_one.1 e
  obtain ⟨e, eT⟩ := IntOp.andi_eq_one.1 e
  obtain ⟨e, eZ⟩ := IntOp.andi_eq_one.1 e
  obtain ⟨e, eK⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  clear e
  have n0 := count_at T2 0 Facts.slices_S2_S1_0 Facts.shapeCasts_S1_S_ ix0
  have n1 := count_at T2 1 Facts.slices_S2_S1_1 Facts.shapeCasts_S1_S_ ix0
  change shapeCast S_ (extractStridedSlice S1 ![0] T2 Facts.slices_S2_S1_0) Facts.shapeCasts_S1_S_ ix0 = _ at n0
  change shapeCast S_ (extractStridedSlice S1 ![1] T2 Facts.slices_S2_S1_1) Facts.shapeCasts_S1_S_ ix0 = _ at n1
  generalize shapeCast S_ (extractStridedSlice S1 ![0] T2 Facts.slices_S2_S1_0) Facts.shapeCasts_S1_S_ = N at *
  generalize shapeCast S_ (extractStridedSlice S1 ![1] T2 Facts.slices_S2_S1_1) Facts.shapeCasts_S1_S_ = E at *
  change IntOp.cmpi .sge (N ix0) 0#32 = 1#1 at e1
  change IntOp.cmpi .sle (N ix0) 96#32 = 1#1 at e2
  change IntOp.cmpi .sge (E ix0) 0#32 = 1#1 at e3
  change IntOp.cmpi .sle (E ix0) 32#32 = 1#1 at e4
  rw [n0] at e1 e2
  rw [n1] at e3 e4
  have hn : (T2 (at1 0)).toNat ≤ 96 := upto (by decide) e1 e2
  have hE : (T2 (at1 1)).toNat ≤ 32 := upto (by decide) e3 e4
  have hK : ∀ t : Fin 96, t.val < (T2 (at1 0)).toNat → (T0 (at1 t)).toNat < (T2 (at1 1)).toNat := fun t ht => by
    have q := Host.reduce_andi_all _ _ _ _ _ eK (at1 t)
    change IntOp.ori (IntOp.cmpi .sge (BitVec.ofNat 32 t.val) (broadcastInDim S96 ![] Facts.bcast_S_S96 N (at1 t)))
      (IntOp.andi (IntOp.cmpi .sge (T0 (at1 t)) 0#32) (IntOp.cmpi .slt (T0 (at1 t)) (broadcastInDim S96 ![] Facts.bcast_S_S96 E (at1 t)))) = 1#1 at q
    rw [spread_at, spread_at, n0, n1] at q
    rcases IntOp.ori_eq_one.1 q with q | q
    · have := past (by have := t.isLt; omega) (by omega) q
      omega
    · obtain ⟨q0, q1⟩ := IntOp.andi_eq_one.1 q
      exact below (by omega) q0 q1
  have hZ : 0 < (T2 (at1 0)).toNat → (T0 (at1 0)).toNat = 0 := fun h0 => by
    change IntOp.ori (IntOp.cmpi .sle (N ix0) 0#32) (IntOp.cmpi .eq (shapeCast S_ (extractStridedSlice S1 ![0] T0 Facts.slices_S96_S1_0) Facts.shapeCasts_S1_S_ ix0) 0#32) = 1#1 at eZ
    rw [first_at, n0] at eZ
    rcases IntOp.ori_eq_one.1 eZ with q | q
    · have := (sle_iff_toNat (by omega) (by decide)).1 q
      change (T2 (at1 0)).toNat ≤ 0 at this
      omega
    · rw [cmpi_eq_iff.1 q]
      rfl
  have hT : ∀ t : Fin 95, t.val + 1 < (T2 (at1 0)).toNat →
      (T0 (at1 ⟨t.val + 1, by omega⟩)).toNat = (T0 (at1 ⟨t.val, by omega⟩)).toNat ∨ (T0 (at1 ⟨t.val + 1, by omega⟩)).toNat = (T0 (at1 ⟨t.val, by omega⟩)).toNat + 1 := fun t ht => by
    have q := Host.reduce_andi_all _ _ _ _ _ eT (at1 t)
    change IntOp.ori (IntOp.ori (IntOp.cmpi .sge (extractStridedSlice S95 ![1] (iotaInDim S96 32 0) Facts.slices_S96_S95_1 (at1 t)) (broadcastInDim S95 ![] Facts.bcast_S_S95 N (at1 t)))
        (IntOp.cmpi .eq (extractStridedSlice S95 ![1] T0 Facts.slices_S96_S95_1 (at1 t)) (extractStridedSlice S95 ![0] T0 Facts.slices_S96_S95_0 (at1 t))))
      (IntOp.cmpi .eq (extractStridedSlice S95 ![1] T0 Facts.slices_S96_S95_1 (at1 t)) (IntOp.addi (extractStridedSlice S95 ![0] T0 Facts.slices_S96_S95_0 (at1 t)) 1#32)) = 1#1 at q
    rw [spread_at, n0, late_at, late_at, early_at] at q
    have hk := hK ⟨t.val, by omega⟩ (by show t.val < _; omega)
    rcases IntOp.ori_eq_one.1 q with q | q
    · rcases IntOp.ori_eq_one.1 q with q | q
      · have := past (t := t.val + 1) (by have := t.isLt; omega) (by omega) q
        omega
      · exact .inl (congrArg BitVec.toNat (cmpi_eq_iff.1 q))
    · exact .inr ((congrArg BitVec.toNat (cmpi_eq_iff.1 q)).trans (succ_toNat (by omega)))
  have hL : ∀ t : Fin 96, t.val + 1 = (T2 (at1 0)).toNat → (T0 (at1 t)).toNat + 1 = (T2 (at1 1)).toNat := fun t ht => by
    have q := Host.reduce_andi_all _ _ _ _ _ eL (at1 t)
    change IntOp.ori (IntOp.cmpi .ne (IntOp.addi (BitVec.ofNat 32 t.val) 1#32) (broadcastInDim S96 ![] Facts.bcast_S_S96 N (at1 t)))
      (IntOp.cmpi .eq (IntOp.addi (T0 (at1 t)) 1#32) (broadcastInDim S96 ![] Facts.bcast_S_S96 E (at1 t))) = 1#1 at q
    rw [spread_at, spread_at, n0, n1] at q
    have hk := hK t (by omega)
    have hw := WordCmp.toNat_ofNat_of_lt (w := 32) (a := t.val) (by have := t.isLt; omega)
    rcases IntOp.ori_eq_one.1 q with q | q
    · rw [WordCmp.cmpi_ne_eq_toNat, WordCmp.ofBool_decide_eq_one_iff, succ_toNat (by rw [hw]; have := t.isLt; omega), hw] at q
      exact absurd ht q
    · exact (succ_toNat (by omega)).symm.trans (congrArg BitVec.toNat (cmpi_eq_iff.1 q))
  have hS : ∀ k : Fin 32, k.val < (T2 (at1 1)).toNat → (T1 (at1 k)).toNat < 32 := fun k hk => by
    have q := Host.reduce_andi_all _ _ _ _ _ eS (at1 k)
    change IntOp.ori (IntOp.cmpi .sge (BitVec.ofNat 32 k.val) (broadcastInDim S32 ![] Facts.bcast_S_S32 E (at1 k)))
      (IntOp.andi (IntOp.cmpi .sge (T1 (at1 k)) 0#32) (IntOp.cmpi .slt (T1 (at1 k)) 32#32)) = 1#1 at q
    rw [spread_at, n1] at q
    rcases IntOp.ori_eq_one.1 q with q | q
    · have := past (by have := k.isLt; omega) (by omega) q
      omega
    · obtain ⟨q0, q1⟩ := IntOp.andi_eq_one.1 q
      exact below (y := 32#32) (by decide) q0 q1
  clear eS eL eT eZ eK
  have hκ : ∀ {t : ℕ} (ht : t < 96), (bookOf T0 T1 T2).κ t = (T0 (at1 ⟨t, ht⟩)).toNat := fun ht => dif_pos ht
  refine ⟨hn, hE, fun t => ?_, fun t (ht : t < (T2 (at1 0)).toNat) => ?_, fun h0 => (hκ (by decide)).trans (hZ h0), fun t (ht : t + 1 < (T2 (at1 0)).toNat) => ?_,
    fun t (ht : t + 1 = (T2 (at1 0)).toNat) => ?_, fun k (hk : k < (T2 (at1 1)).toNat) => ?_⟩
  · show (if h : t < 96 then (T0 (at1 ⟨t, h⟩)).toNat else 0) < 2 ^ 32
    split
    · exact BitVec.isLt _
    · decide
  · rw [hκ (by omega)]
    exact hK ⟨t, by omega⟩ ht
  · rw [hκ (t := t + 1) (by omega), hκ (t := t) (by omega)]
    exact hT ⟨t, by omega⟩ ht
  · rw [hκ (by omega)]
    exact hL ⟨t, by omega⟩ ht
  · show (if h : k < 32 then (T1 (at1 ⟨k, h⟩)).toNat else 0) < 32
    rw [dif_pos (by omega)]
    exact hS ⟨k, by omega⟩ hk

end Cert.Pre_tables

end
-- ==== Proof.Tile.lean ====
/- What one tile of keys does to one query row, for each of the kernel's tile steps: the payload that
   stores the new maximum, weight sum and weighted value sum takes `State` from `b` keys to `b + n`. -/
module

public import proofs.«01_k».proof.Proof.Gen.KernelIdeal.Skeleton
public import proofs.«01_k».proof.Proof.Online
public import Idealize.ShloMosaic.Lib.WordCmp

@[expose] public section

set_option maxRecDepth 16384

noncomputable section

namespace Cert.KernelIdeal.Tile

open Cert.KernelIdeal Cert.KernelIdeal.Gen Cert.Online Idealize.ShloMosaic Idealize.ShloMosaic.TcCoe Idealize.SL.Sem

theorem negInf : Ideal.ofBits .f32 0xFF800000#32 = ⊥ := by
  simp [Ideal.ofBits, Ideal.ieee, -EReal.coe_mul]

/-- The mask's entry at column `c` of row `r`: the score up to the diagonal, -∞ beyond. -/
theorem mask_le {M N : ℕ} (c : Fin M) (r : Fin N) (x y : EReal) (hM : M ≤ 1024) (hN : N ≤ 1024) :
    Scalar.select (IntOp.cmpi .sle (BitVec.ofNat 32 (c : ℕ)) (BitVec.ofNat 32 (r : ℕ))) x y =
      if (c : ℕ) ≤ (r : ℕ) then x else y := by
  have hc := c.isLt
  have hr := r.isLt
  word_cmp

variable {S : ℕ → ℝ} {V : ℕ → Fin 256 → ℝ} {b : ℕ} {r : Fin 1024}

/-- The first head's step at a trip's first tile. -/
theorem step_a (m l : FVec Ideal S1024x1 .f32) (acc : FVec Ideal S1024x256 .f32) (q : FVec Ideal S1x1024x256 .bf16)
    (k : FVec Ideal S1x512x256 .bf16) (v : FVec Ideal S512x256 .bf16)
    (h : State S V b (m (ix2 r 0)) (l (ix2 r 0)) fun d => acc (ix2 r d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + 512) (k0_pay7 m q k (ix2 r 0)) (k0_pay10 m l q k (ix2 r 0)) fun d => k0_pay11 m acc q k v (ix2 r d) := by
  refine h.step le_rfl (fun c => ∑ e : Fin 256, q (ix3 0 r e) * k (ix3 0 c e)) (fun c d => v (ix2 c d))
    (fun c => by rw [if_pos c.isLt]; exact hs c) hv ?_ ?_ fun d => ?_
  all_goals
    pointwise [k0_pay6, k0_pay7, k0_pay8, k0_pay9, k0_pay10, k0_pay11, negInf]
    try rfl

/-- The second head's step at a trip's first tile. -/
theorem step_b (m l : FVec Ideal S1024x1 .f32) (acc : FVec Ideal S1024x256 .f32) (q : FVec Ideal S1x1024x256 .bf16)
    (k : FVec Ideal S1x512x256 .bf16) (v : FVec Ideal S512x256 .bf16)
    (h : State S V b (m (ix2 r 0)) (l (ix2 r 0)) fun d => acc (ix2 r d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + 512) (k0_pay14 m (k0_pay13 q k) (ix2 r 0)) (k0_pay17 m l (k0_pay12 q k) (k0_pay13 q k) (ix2 r 0)) fun d => k0_pay18 m acc (k0_pay12 q k) (k0_pay13 q k) v (ix2 r d) := by
  refine h.step le_rfl (fun c => ∑ e : Fin 256, q (ix3 0 r e) * k (ix3 0 c e)) (fun c d => v (ix2 c d))
    (fun c => by rw [if_pos c.isLt]; exact hs c) hv ?_ ?_ fun d => ?_
  all_goals
    pointwise [k0_pay12, k0_pay13, k0_pay14, k0_pay15, k0_pay16, k0_pay17, k0_pay18, negInf]
    try rfl

/-- The first head's step at a trip's second tile. -/
theorem step_c (m l : FVec Ideal S1024x1 .f32) (acc : FVec Ideal S1024x256 .f32) (q : FVec Ideal S1x1024x256 .bf16)
    (k : FVec Ideal S1x512x256 .bf16) (v : FVec Ideal S512x256 .bf16)
    (h : State S V b (m (ix2 r 0)) (l (ix2 r 0)) fun d => acc (ix2 r d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + 512) (k0_pay20 m q k (ix2 r 0)) (k0_pay64 (k0_pay24 m l q k) (k0_pay25 m q k) (ix2 r 0)) fun d => k0_pay65 acc (k0_pay21 m q k) (k0_pay22 v) (k0_pay23 m q k) (ix2 r d) := by
  refine h.step le_rfl (fun c => ∑ e : Fin 256, q (ix3 0 r e) * k (ix3 0 c e)) (fun c d => v (ix2 c d))
    (fun c => by rw [if_pos c.isLt]; exact hs c) hv ?_ ?_ fun d => ?_
  all_goals
    pointwise [k0_pay19, k0_pay20, k0_pay21, k0_pay22, k0_pay23, k0_pay24, k0_pay25, k0_pay64, k0_pay65, negInf]
    try rfl

/-- The second head's step at a trip's second tile. -/
theorem step_d (m l : FVec Ideal S1024x1 .f32) (acc : FVec Ideal S1024x256 .f32) (q : FVec Ideal S1x1024x256 .bf16)
    (k : FVec Ideal S1x512x256 .bf16) (v : FVec Ideal S512x256 .bf16)
    (h : State S V b (m (ix2 r 0)) (l (ix2 r 0)) fun d => acc (ix2 r d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + 512) (k0_pay67 m q k (ix2 r 0)) (k0_pay70 m l q k (ix2 r 0)) fun d => k0_pay71 m acc q k v (ix2 r d) := by
  refine h.step le_rfl (fun c => ∑ e : Fin 256, q (ix3 0 r e) * k (ix3 0 c e)) (fun c d => v (ix2 c d))
    (fun c => by rw [if_pos c.isLt]; exact hs c) hv ?_ ?_ fun d => ?_
  all_goals
    pointwise [k0_pay66, k0_pay67, k0_pay68, k0_pay69, k0_pay70, k0_pay71, negInf]
    try rfl

/-- The first head's step at the tile its first 512 rows' diagonal crosses. -/
theorem step_e (m l : FVec Ideal S1024x1 .f32) (acc : FVec Ideal S1024x256 .f32) (q : FVec Ideal S1x1024x256 .bf16)
    (k : FVec Ideal S1x512x256 .bf16) (v : FVec Ideal S512x256 .bf16)
    (h : State S V b (m (ix2 r 0)) (l (ix2 r 0)) fun d => acc (ix2 r d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + min 512 ((r : ℕ) + 1)) (k0_pay81 m q k (ix2 r 0)) (k0_pay85 m l q k (ix2 r 0)) fun d => k0_pay87 acc (k0_pay83 v) (k0_pay84 m q k) (k0_pay86 m q k) (ix2 r d) := by
  refine h.step (min_le_left _ _) (fun c => Scalar.select (IntOp.cmpi .sle (BitVec.ofNat 32 (c : ℕ)) (BitVec.ofNat 32 (r : ℕ)))
      (∑ e : Fin 256, q (ix3 0 r e) * k (ix3 0 c e)) ⊥)
    (fun c d => v (ix2 c d)) (fun c => by rw [mask_le c r _ _ (by decide) (by decide), hs c]; congr 1; simp only [eq_iff_iff]; omega) hv ?_ ?_ fun d => ?_
  all_goals
    pointwise [k0_pay80, k0_pay81, k0_pay82, k0_pay83, k0_pay84, k0_pay85, k0_pay86, k0_pay87, negInf]
    try rfl

/-- The second head's step at the tile its first 512 rows' diagonal crosses. -/
theorem step_f (m l : FVec Ideal S1024x1 .f32) (acc : FVec Ideal S1024x256 .f32) (q : FVec Ideal S1x1024x256 .bf16)
    (k : FVec Ideal S1x512x256 .bf16) (v : FVec Ideal S512x256 .bf16)
    (h : State S V b (m (ix2 r 0)) (l (ix2 r 0)) fun d => acc (ix2 r d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + min 512 ((r : ℕ) + 1)) (k0_pay89 m q k (ix2 r 0)) (k0_pay92 m l q k (ix2 r 0)) fun d => k0_pay93 m acc q k v (ix2 r d) := by
  refine h.step (min_le_left _ _) (fun c => Scalar.select (IntOp.cmpi .sle (BitVec.ofNat 32 (c : ℕ)) (BitVec.ofNat 32 (r : ℕ)))
      (∑ e : Fin 256, q (ix3 0 r e) * k (ix3 0 c e)) ⊥)
    (fun c d => v (ix2 c d)) (fun c => by rw [mask_le c r _ _ (by decide) (by decide), hs c]; congr 1; simp only [eq_iff_iff]; omega) hv ?_ ?_ fun d => ?_
  all_goals
    pointwise [k0_pay88, k0_pay89, k0_pay90, k0_pay91, k0_pay92, k0_pay93, negInf]
    try rfl

/-- The first head's step at the tile its last 512 rows' diagonal crosses. -/
theorem step_g (m l : FVec Ideal S1024x1 .f32) (acc : FVec Ideal S1024x256 .f32) (acc' : FVec Ideal S512x256 .f32)
    (q : FVec Ideal S1x512x256 .bf16) (k : FVec Ideal S1x512x256 .bf16) (v : FVec Ideal S512x256 .bf16) (r : Fin 512)
    (hacc : ∀ d, acc' (ix2 r d) = acc (ix2 ⟨512 + r, by omega⟩ d))
    (h : State S V b (m (ix2 ⟨512 + r, by omega⟩ 0)) (l (ix2 ⟨512 + r, by omega⟩ 0)) fun d => acc (ix2 ⟨512 + r, by omega⟩ d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + ((r : ℕ) + 1)) (k0_pay99 (k0_pay94 m) (k0_pay97 q) k (ix2 r 0)) (k0_pay102 l (k0_pay94 m) (k0_pay95 l) (k0_pay97 q) k (ix2 ⟨512 + r, by omega⟩ 0))
      fun d => k0_pay103 acc (k0_pay94 m) acc' (k0_pay97 q) k v (ix2 ⟨512 + r, by omega⟩ d) := by
  have hlt : ¬ (512 + (r : ℕ) < 512) := by omega
  refine h.step (by omega) (fun c => Scalar.select (IntOp.cmpi .sle (BitVec.ofNat 32 (c : ℕ)) (BitVec.ofNat 32 (r : ℕ)))
      (∑ e : Fin 256, q (ix3 0 r e) * k (ix3 0 c e)) ⊥)
    (fun c d => v (ix2 c d)) (fun c => by rw [mask_le c r _ _ (by decide) (by decide), hs c]; congr 1; simp only [eq_iff_iff]; omega) hv ?_ ?_ fun d => ?_
  all_goals
    pointwise [k0_pay94, k0_pay95, k0_pay97, k0_pay98, k0_pay99, k0_pay100, k0_pay101, k0_pay102, k0_pay103, negInf, hlt, hacc, Nat.add_sub_cancel_left]
    try rfl

/-- The first head's first 512 rows are kept. -/
theorem step_g_low (m l : FVec Ideal S1024x1 .f32) (acc : FVec Ideal S1024x256 .f32) (acc' : FVec Ideal S512x256 .f32)
    (q : FVec Ideal S1x512x256 .bf16) (k : FVec Ideal S1x512x256 .bf16) (v : FVec Ideal S512x256 .bf16) (r : Fin 1024) (hr : (r : ℕ) < 512) :
    k0_pay102 l (k0_pay94 m) (k0_pay95 l) (k0_pay97 q) k (ix2 r 0) = l (ix2 r 0) ∧ ∀ d, k0_pay103 acc (k0_pay94 m) acc' (k0_pay97 q) k v (ix2 r d) = acc (ix2 r d) := by
  refine ⟨?_, fun d => ?_⟩
  all_goals
    pointwise [k0_pay94, k0_pay95, k0_pay97, k0_pay98, k0_pay99, k0_pay100, k0_pay101, k0_pay102, k0_pay103, negInf, hr]

/-- The second head's step at the tile its last 512 rows' diagonal crosses. -/
theorem step_h (m l : FVec Ideal S1024x1 .f32) (acc : FVec Ideal S1024x256 .f32) (acc' : FVec Ideal S512x256 .f32)
    (q : FVec Ideal S1x512x256 .bf16) (k : FVec Ideal S1x512x256 .bf16) (v : FVec Ideal S512x256 .bf16) (r : Fin 512)
    (hacc : ∀ d, acc' (ix2 r d) = acc (ix2 ⟨512 + r, by omega⟩ d))
    (h : State S V b (m (ix2 ⟨512 + r, by omega⟩ 0)) (l (ix2 ⟨512 + r, by omega⟩ 0)) fun d => acc (ix2 ⟨512 + r, by omega⟩ d))
    (hs : ∀ c : Fin 512, (∑ e : Fin 256, q (ix3 0 r e) * k (ix3 0 c e)) = ((S (b + c) : ℝ) : EReal))
    (hv : ∀ (c : Fin 512) d, v (ix2 c d) = ((V (b + c) d : ℝ) : EReal)) :
    State S V (b + ((r : ℕ) + 1)) (k0_pay110 (k0_pay104 m) (k0_pay107 q k) k0_pay108 (ix2 r 0)) (k0_pay113 l (k0_pay104 m) (k0_pay105 l) (k0_pay107 q k) k0_pay108 (ix2 ⟨512 + r, by omega⟩ 0))
      fun d => k0_pay114 acc (k0_pay104 m) acc' (k0_pay107 q k) k0_pay108 v (ix2 ⟨512 + r, by omega⟩ d) := by
  have hlt : ¬ (512 + (r : ℕ) < 512) := by omega
  refine h.step (by omega) (fun c => Scalar.select (IntOp.cmpi .sle (BitVec.ofNat 32 (c : ℕ)) (BitVec.ofNat 32 (r : ℕ)))
      (∑ e : Fin 256, q (ix3 0 r e) * k (ix3 0 c e)) ⊥)
    (fun c d => v (ix2 c d)) (fun c => by rw [mask_le c r _ _ (by decide) (by decide), hs c]; congr 1; simp only [eq_iff_iff]; omega) hv ?_ ?_ fun d => ?_
  all_goals
    pointwise [k0_pay104, k0_pay105, k0_pay107, k0_pay108, k0_pay109, k0_pay110, k0_pay111, k0_pay112, k0_pay113, k0_pay114, negInf, hlt, hacc, Nat.add_sub_cancel_left]
    try rfl

/-- The second head's first 512 rows are kept. -/
theorem step_h_low (m l : FVec Ideal S1024x1 .f32) (acc : FVec Ideal S1024x256 .f32) (acc' : FVec Ideal S512x256 .f32)
    (q : FVec Ideal S1x512x256 .bf16) (k : FVec Ideal S1x512x256 .bf16) (v : FVec Ideal S512x256 .bf16) (r : Fin 1024) (hr : (r : ℕ) < 512) :
    k0_pay113 l (k0_pay104 m) (k0_pay105 l) (k0_pay107 q k) k0_pay108 (ix2 r 0) = l (ix2 r 0) ∧ ∀ d, k0_pay114 acc (k0_pay104 m) acc' (k0_pay107 q k) k0_pay108 v (ix2 r d) = acc (ix2 r d) := by
  refine ⟨?_, fun d => ?_⟩
  all_goals
    pointwise [k0_pay104, k0_pay105, k0_pay107, k0_pay108, k0_pay109, k0_pay110, k0_pay111, k0_pay112, k0_pay113, k0_pay114, negInf, hr]

end Cert.KernelIdeal.Tile

end
-- ==== Proof.Loop.lean ====
/- The loop over full key tiles. -/
module

public import proofs.«01_k».proof.Proof.Gen.KernelIdeal.Value
public import proofs.«01_k».proof.Proof.Tile
public import Idealize.ShloMosaic.Lib.Pipeline.ValueKit

@[expose] public section

set_option maxRecDepth 16384

noncomputable section

namespace Cert.KernelIdeal.Loop

open Cert.KernelIdeal Cert.KernelIdeal.Gen Cert.KernelIdeal.Tile Cert.Online Idealize.ShloMosaic Idealize.ShloMosaic.TcCoe Idealize.SL.Sem

/-- The coordinates of an entry read through a rectangle at offsets `off`, rank 3. -/
theorem coords3 {N0 N1 N2 n0 n1 n2 : ℕ} {off : Fin 3 → ℕ} {o0 o1 o2 : ℕ} (h : off = ![o0, o1, o2])
    {A : Fin N0} {B : Fin N1} {C : Fin N2} {a : Fin n0} {b : Fin n1} {c : Fin n2}
    (h0 : (A : ℕ) = o0 + a) (h1 : (B : ℕ) = o1 + b) (h2 : (C : ℕ) = o2 + c) :
    ∀ x, (ix3 A B C x : ℕ) = off x + (ix3 a b c x : ℕ) := by
  subst h
  intro x
  match x with
  | 0 => exact h0
  | 1 => exact h1
  | 2 => exact h2

/-- The coordinates of an entry read through a rectangle at offsets `off`, rank 2. -/
theorem coords2 {N0 N1 n0 n1 : ℕ} {off : Fin 2 → ℕ} {o0 o1 : ℕ} (h : off = ![o0, o1])
    {A : Fin N0} {B : Fin N1} {a : Fin n0} {b : Fin n1} (h0 : (A : ℕ) = o0 + a) (h1 : (B : ℕ) = o1 + b) :
    ∀ x, (ix2 A B x : ℕ) = off x + (ix2 a b x : ℕ) := by
  subst h
  intro x
  match x with
  | 0 => exact h0
  | 1 => exact h1

/-- Both heads' online state for row `r` after `b` keys, of the six values a loop trip carries. -/
def Both (S1 S2 : ℕ → ℝ) (V : ℕ → Fin 256 → ℝ) (r : Fin 1024) (b : ℕ)
    (T : FVec Ideal S1024x1 .f32 × FVec Ideal S1024x1 .f32 × FVec Ideal S1024x256 .f32 × FVec Ideal S1024x1 .f32 ×
      FVec Ideal S1024x1 .f32 × FVec Ideal S1024x256 .f32) : Prop :=
  State S1 V b (T.1 (ix2 r 0)) (T.2.1 (ix2 r 0)) (fun d => T.2.2.1 (ix2 r d)) ∧
    State S2 V b (T.2.2.2.1 (ix2 r 0)) (T.2.2.2.2.1 (ix2 r 0)) fun d => T.2.2.2.2.2 (ix2 r d)

/-- What the online states need of the scores and values in the buffers: row `r` of the queries against every key. -/
structure Reads (S1 S2 : ℕ → ℝ) (V : ℕ → Fin 256 → ℝ) (r : Fin 1024) (q : S2x1024x256.Idx → EReal)
    (k : S2x4096x256.Idx → EReal) (v : S4096x256.Idx → EReal) : Prop where
  score1 : ∀ j : Fin 4096, (∑ e : Fin 256, q (ix3 0 r e) * k (ix3 0 j e)) = ((S1 j : ℝ) : EReal)
  score2 : ∀ j : Fin 4096, (∑ e : Fin 256, q (ix3 1 r e) * k (ix3 1 j e)) = ((S2 j : ℝ) : EReal)
  value : ∀ (j : Fin 4096) d, v (ix2 j d) = ((V j d : ℝ) : EReal)

variable {S1 S2 : ℕ → ℝ} {V : ℕ → Fin 256 → ℝ} {r : Fin 1024}

/-- A score of a tile of keys, read through its rectangles. -/
theorem score_ld {q : S2x1024x256.Idx → Elt Ideal .bf16} {k : S2x4096x256.Idx → Elt Ideal .bf16} {S : ℕ → ℝ} (h : Fin 2)
    (hs : ∀ j : Fin 4096, (∑ e : Fin 256, (q (ix3 h r e) : EReal) * k (ix3 h j e)) = ((S j : ℝ) : EReal))
    {nr : ℕ} {offq offk : Fin 3 → ℕ} {iq ik} {o s b : ℕ} (hq : offq = ![(h : ℕ), s, 0]) (hk : offk = ![(h : ℕ), o, 0]) (hb : o = b)
    (hlt : o + 512 ≤ 4096) (r' : Fin nr) (hr : (r : ℕ) = s + r') (c : Fin 512) :
    (∑ e : Fin 256, (View.ld (Val := Elt Ideal) q (Rect.unit offq ![1, nr, 256] iq) (ix3 0 r' e) : EReal) *
      View.ld (Val := Elt Ideal) k (Rect.unit offk ![1, 512, 256] ik) (ix3 0 c e)) = ((S (b + c) : ℝ) : EReal) := by
  subst hb
  have hc : o + (c : ℕ) < 4096 := by omega
  refine (Finset.sum_congr rfl fun e _ => Ideal.mul_congr
    (View.ld_unit_apply_of _ _ _ _ _ (ix3 h r e) (coords3 hq rfl hr (Nat.zero_add _).symm))
    (View.ld_unit_apply_of _ _ _ _ _ (ix3 h ⟨o + c, hc⟩ e) (coords3 hk rfl rfl (Nat.zero_add _).symm))).trans (hs ⟨o + c, hc⟩)

/-- A tile of values, read through its rectangle. -/
theorem value_ld {v : S4096x256.Idx → Elt Ideal .bf16} (hv : ∀ (j : Fin 4096) d, (v (ix2 j d) : EReal) = ((V j d : ℝ) : EReal))
    {offv : Fin 2 → ℕ} {iv} {o b : ℕ} (ho : offv = ![o, 0]) (hb : o = b) (hlt : o + 512 ≤ 4096) (c : Fin 512) (d : Fin 256) :
    (View.ld (Val := Elt Ideal) v (Rect.unit offv ![512, 256] iv) (ix2 c d) : EReal) = ((V (b + c) d : ℝ) : EReal) := by
  subst hb
  exact (View.ld_unit_apply_of _ _ _ _ _ (ix2 ⟨o + c, by omega⟩ d) (coords2 ho rfl (Nat.zero_add _).symm)).trans (hv _ _)

/-- ONE TRIP: 1024 more keys, for both heads. -/
theorem trip (𝒱 : Variants) (c : Dev nD) (bd : Option 𝒱.V) (i : grid0.Coords) (arg3 : Memref sig .tc .smem S12 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x256 .bf16) (harg12 : arg12.IsWhole) (arg13 : Memref sig .tc .vmem S2x4096x256 .bf16) (harg13 : arg13.IsWhole) (arg14 : Memref sig .tc .vmem S2x1024x256 .bf16) (harg14 : arg14.IsWhole) (arg2 : BitVec 32) (v66 : FVec Ideal S1024x1 .f32) (v67 : FVec Ideal S1024x1 .f32) (v68 : FVec Ideal S1024x256 .f32) (v69 : FVec Ideal S1024x1 .f32) (cst_31 : Ideal .f32) (X_arg11 : BufTy.Contents (Elt Ideal) arg11.view.ty) (X_arg13 : BufTy.Contents (Elt Ideal) arg13.view.ty) (X_arg14 : BufTy.Contents (Elt Ideal) arg14.view.ty) (k : Fin (k0_t1_loop i).trips) (hk : (k : ℕ) < 4)
    (h : Reads S1 S2 V r (View.read (Elt Ideal) arg14.view X_arg14) (View.read (Elt Ideal) arg13.view X_arg13)
      (View.read (Elt Ideal) arg11.view X_arg11))
    (T : FVec Ideal S1024x1 .f32 × FVec Ideal S1024x1 .f32 × FVec Ideal S1024x256 .f32 × FVec Ideal S1024x1 .f32 ×
      FVec Ideal S1024x1 .f32 × FVec Ideal S1024x256 .f32)
    (hT : Both S1 S2 V r (1024 * k) T) :
    Both S1 S2 V r (1024 * (k + 1)) (tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v66 v67 v68 v69 cst_31 X_arg11 X_arg13 X_arg14 k T) := by
  have e2 : 1024 * ((k : ℕ) + 1) = 1024 * (k : ℕ) + 512 + 512 := by ring
  rw [e2]
  obtain ⟨h1, h2⟩ := hT
  constructor
  all_goals
    unfold tripR_k0_t1 trip_k0_t1
    dsimp only
    frame_out
  · exact step_c _ _ _ _ _ _ (step_a _ _ _ _ _ _ h1
      (score_ld 0 h.score1 rfl (k0_off2_eq i k 0) (by simp) (by simp; omega) r (by simp)) (value_ld h.value (k0_off3_eq i k 0) (by simp) (by simp; omega)))
      (score_ld 0 h.score1 rfl (k0_off2_eq i k 1) (by simp) (by simp; omega) r (by simp)) (value_ld h.value (k0_off3_eq i k 1) (by simp) (by simp; omega))
  · exact step_d _ _ _ _ _ _ (step_b _ _ _ _ _ _ h2
      (score_ld 1 h.score2 rfl (k0_off4_eq i k 0) (by simp) (by simp; omega) r (by simp)) (value_ld h.value (k0_off3_eq i k 0) (by simp) (by simp; omega)))
      (score_ld 1 h.score2 rfl (k0_off4_eq i k 1) (by simp) (by simp; omega) r (by simp)) (value_ld h.value (k0_off3_eq i k 1) (by simp) (by simp; omega))

theorem trips_eq (i : grid0.Coords) : (k0_t1_loop i).trips = (i 2).val := by
  revert i
  decide +kernel

/-- THE LOOP: after its trips, the online states have seen every key of the earlier blocks. -/
theorem loop (𝒱 : Variants) (c : Dev nD) (bd : Option 𝒱.V) (i : grid0.Coords) (arg3 : Memref sig .tc .smem S12 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x256 .bf16) (harg12 : arg12.IsWhole) (arg13 : Memref sig .tc .vmem S2x4096x256 .bf16) (harg13 : arg13.IsWhole) (arg14 : Memref sig .tc .vmem S2x1024x256 .bf16) (harg14 : arg14.IsWhole) (arg2 : BitVec 32) (v66 : FVec Ideal S1024x1 .f32) (v67 : FVec Ideal S1024x1 .f32) (v68 : FVec Ideal S1024x256 .f32) (v69 : FVec Ideal S1024x1 .f32) (cst_31 : Ideal .f32) (X_arg11 : BufTy.Contents (Elt Ideal) arg11.view.ty) (X_arg13 : BufTy.Contents (Elt Ideal) arg13.view.ty) (X_arg14 : BufTy.Contents (Elt Ideal) arg14.view.ty) (init)
    (h : Reads S1 S2 V r (View.read (Elt Ideal) arg14.view X_arg14) (View.read (Elt Ideal) arg13.view X_arg13)
      (View.read (Elt Ideal) arg11.view X_arg11))
    (h0 : Both S1 S2 V r 0 init) (n : ℕ) (hn : n ≤ (i 2).val) :
    Both S1 S2 V r (1024 * n) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v66 v67 v68 v69 cst_31 X_arg11 X_arg13 X_arg14 init n) := by
  have hi : (i 2).val < 4 := (i 2).isLt
  induction n with
  | zero => exact h0
  | succ n ih =>
    have hlt : n < (k0_t1_loop i).trips := by rw [trips_eq]; omega
    have e := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg2 v66 v67 v68 v69 cst_31 X_arg11 X_arg13 X_arg14 init ⟨n, hlt⟩
    rw [show (⟨n, hlt⟩ : Fin (k0_t1_loop i).trips).val = n from rfl] at e
    rw [e]
    exact trip 𝒱 c bd i arg3 harg3 arg4 harg4 arg5 harg5 arg6 harg6 arg7 harg7 arg8 harg8 arg9 harg9 arg10 harg10 arg11 harg11 arg12 harg12 arg13 harg13 arg14 harg14 arg2 v66 v67 v68 v69 cst_31 X_arg11 X_arg13 X_arg14 ⟨n, hlt⟩ (by simp only; omega) h _ (ih (by omega))

/-- The values the loop starts from: a finite maximum, no weight, nothing accumulated. -/
theorem init_state : Both S1 S2 V r 0
    (k0_pay58 (F := Ideal), k0_pay59, k0_pay60, k0_pay61, k0_pay62 (FloatOps.ofBits .f32 0#32), k0_pay63) := by
  obtain ⟨μ, hμ⟩ := ofBits_real 0xFE967699#32 (by decide)
  refine ⟨State.init _ _ μ _ _ _ ?_ ?_ fun d => ?_, State.init _ _ μ _ _ _ ?_ ?_ fun d => ?_⟩
  all_goals
    pointwise [k0_pay58, k0_pay59, k0_pay60, k0_pay61, k0_pay62, k0_pay63, hμ]

end Cert.KernelIdeal.Loop

end
-- ==== Proof.Tail.lean ====
/- What the kernel stores for a query row, from the online states its loop leaves and the two diagonal tiles. -/
module

public import proofs.«01_k».proof.Proof.Loop
public import proofs.«01_k».proof.Proof.Spec

@[expose] public section

set_option maxRecDepth 16384

noncomputable section

namespace Cert.KernelIdeal.Tail

open Cert.KernelIdeal Cert.KernelIdeal.Gen Cert.KernelIdeal.Tile Cert.KernelIdeal.Loop Cert.Online Cert.Spec
open Idealize.ShloMosaic Idealize.ShloMosaic.TcCoe Idealize.SL.Sem

/-- The stored row from both heads' weight sums and weighted value sums. -/
theorem store_at (l1 l2 : FVec Ideal S1024x1 .f32) (a1 a2 : FVec Ideal S1024x256 .f32) (lam : FVec Ideal S1x1 .f32)
    (sw : FVec Ideal S1x256 .f32) (r : Fin 1024) (d : Fin 256) :
    k0_pay1 l2 a2 lam (k0_pay116 l1 a1) sw (ix2 r d) =
      rms (fun d => Ideal.div (a1 (ix2 r d)) (l1 (ix2 r 0)) - lam (ix2 0 0) * Ideal.div (a2 (ix2 r d)) (l2 (ix2 r 0)))
        (sw (ix2 0 d)) d := by
  unfold rms
  pointwise [k0_pay1, k0_pay116]

theorem lam_at (a b c d : FVec Ideal S1x128 .f32) :
    k0_pay115 (F := Ideal) a b c d (ix2 0 0) = Ideal.exp (∑ e : Fin 128, a (ix2 0 e) * b (ix2 0 e)) -
      Ideal.exp (∑ e : Fin 128, c (ix2 0 e) * d (ix2 0 e)) + Ideal.ofBits .f32 0x3E4CCCCD#32 := by
  pointwise [k0_pay115]

variable {S1 S2 : ℕ → ℝ} {V : ℕ → Fin 256 → ℝ} {r : Fin 1024} {b : ℕ}

/-- The first head after both diagonal tiles: every key up to the row's own. -/
theorem final1 (m l : FVec Ideal S1024x1 .f32) (a : FVec Ideal S1024x256 .f32) (q : FVec Ideal S1x1024x256 .bf16)
    (k : FVec Ideal S1x512x256 .bf16) (v : FVec Ideal S512x256 .bf16) (q' k' : FVec Ideal S1x512x256 .bf16)
    (v' : FVec Ideal S512x256 .bf16) (h : State S1 V b (m (ix2 r 0)) (l (ix2 r 0)) fun d => a (ix2 r d))
    (hs : ∀ c : Fin 512, (∑ e : Fin 256, q (ix3 0 r e) * k (ix3 0 c e)) = ((S1 (b + c) : ℝ) : EReal))
    (hv : ∀ (c : Fin 512) d, v (ix2 c d) = ((V (b + c) d : ℝ) : EReal))
    (hs' : ∀ r' : Fin 512, (r : ℕ) = 512 + r' → ∀ c : Fin 512,
      (∑ e : Fin 256, q' (ix3 0 r' e) * k' (ix3 0 c e)) = ((S1 (b + 512 + c) : ℝ) : EReal))
    (hv' : ∀ (c : Fin 512) d, v' (ix2 c d) = ((V (b + 512 + c) d : ℝ) : EReal)) :
    ∃ μ, State S1 V (b + r + 1) μ
      (k0_pay102 (k0_pay85 m l q k) (k0_pay94 (k0_pay81 m q k)) (k0_pay95 (k0_pay85 m l q k)) (k0_pay97 q') k' (ix2 r 0))
      fun d => k0_pay103 (k0_pay87 a (k0_pay83 v) (k0_pay84 m q k) (k0_pay86 m q k)) (k0_pay94 (k0_pay81 m q k))
        (k0_pay96 a (k0_pay83 v) (k0_pay84 m q k) (k0_pay86 m q k)) (k0_pay97 q') k' v' (ix2 r d) := by
  have h1 := step_e m l a q k v h hs hv
  by_cases hr : (r : ℕ) < 512
  · obtain ⟨el, ea⟩ := step_g_low (k0_pay81 m q k) (k0_pay85 m l q k) (k0_pay87 a (k0_pay83 v) (k0_pay84 m q k) (k0_pay86 m q k))
      (k0_pay96 a (k0_pay83 v) (k0_pay84 m q k) (k0_pay86 m q k)) q' k' v' r hr
    refine ⟨k0_pay81 m q k (ix2 r 0), ?_⟩
    simp only [ea]
    rw [el]
    rw [show b + min 512 ((r : ℕ) + 1) = b + r + 1 by omega] at h1
    exact h1
  · obtain ⟨s, hs0⟩ : ∃ s : Fin 512, r = ⟨512 + s, Nat.add_lt_add_left s.isLt 512⟩ := ⟨⟨r - 512, by omega⟩, by ext; simp; omega⟩
    subst hs0
    rw [show b + min 512 (512 + (s : ℕ) + 1) = b + 512 by omega] at h1
    have h2 := step_g (k0_pay81 m q k) (k0_pay85 m l q k) (k0_pay87 a (k0_pay83 v) (k0_pay84 m q k) (k0_pay86 m q k))
      (k0_pay96 a (k0_pay83 v) (k0_pay84 m q k) (k0_pay86 m q k)) q' k' v' s (fun d => by pointwise [k0_pay96]) h1
      (hs' s rfl) hv'
    refine ⟨(k0_pay99 (k0_pay94 (k0_pay81 m q k)) (k0_pay97 q') k' (ix2 s 0)), ?_⟩
    rw [show b + (512 + (s : ℕ)) + 1 = b + 512 + ((s : ℕ) + 1) by omega]
    exact h2

/-- The second head after both diagonal tiles: every key up to the row's own. -/
theorem final2 (m l : FVec Ideal S1024x1 .f32) (a : FVec Ideal S1024x256 .f32) (q : FVec Ideal S1x1024x256 .bf16)
    (k : FVec Ideal S1x512x256 .bf16) (v : FVec Ideal S512x256 .bf16) (q' k' : FVec Ideal S1x512x256 .bf16)
    (v' : FVec Ideal S512x256 .bf16) (h : State S2 V b (m (ix2 r 0)) (l (ix2 r 0)) fun d => a (ix2 r d))
    (hs : ∀ c : Fin 512, (∑ e : Fin 256, q (ix3 0 r e) * k (ix3 0 c e)) = ((S2 (b + c) : ℝ) : EReal))
    (hv : ∀ (c : Fin 512) d, v (ix2 c d) = ((V (b + c) d : ℝ) : EReal))
    (hs' : ∀ r' : Fin 512, (r : ℕ) = 512 + r' → ∀ c : Fin 512,
      (∑ e : Fin 256, q' (ix3 0 r' e) * k' (ix3 0 c e)) = ((S2 (b + 512 + c) : ℝ) : EReal))
    (hv' : ∀ (c : Fin 512) d, v' (ix2 c d) = ((V (b + 512 + c) d : ℝ) : EReal)) :
    ∃ μ, State S2 V (b + r + 1) μ
      (k0_pay113 (k0_pay92 m l q k) (k0_pay104 (k0_pay89 m q k)) (k0_pay105 (k0_pay92 m l q k)) (k0_pay107 q' k') k0_pay108 (ix2 r 0))
      fun d => k0_pay114 (k0_pay93 m a q k v) (k0_pay104 (k0_pay89 m q k))
        (k0_pay106 (k0_pay93 m a q k v)) (k0_pay107 q' k') k0_pay108 v' (ix2 r d) := by
  have h1 := step_f m l a q k v h hs hv
  by_cases hr : (r : ℕ) < 512
  · obtain ⟨el, ea⟩ := step_h_low (k0_pay89 m q k) (k0_pay92 m l q k) (k0_pay93 m a q k v) (k0_pay106 (k0_pay93 m a q k v)) q' k' v' r hr
    refine ⟨k0_pay89 m q k (ix2 r 0), ?_⟩
    simp only [ea]
    rw [el]
    rw [show b + min 512 ((r : ℕ) + 1) = b + r + 1 by omega] at h1
    exact h1
  · obtain ⟨s, hs0⟩ : ∃ s : Fin 512, r = ⟨512 + s, Nat.add_lt_add_left s.isLt 512⟩ := ⟨⟨r - 512, by omega⟩, by ext; simp; omega⟩
    subst hs0
    rw [show b + min 512 (512 + (s : ℕ) + 1) = b + 512 by omega] at h1
    have h2 := step_h (k0_pay89 m q k) (k0_pay92 m l q k) (k0_pay93 m a q k v) (k0_pay106 (k0_pay93 m a q k v)) q' k' v' s
      (fun d => by pointwise [k0_pay106]) h1 (hs' s rfl) hv'
    refine ⟨(k0_pay110 (k0_pay104 (k0_pay89 m q k)) (k0_pay107 q' k') k0_pay108 (ix2 s 0)), ?_⟩
    rw [show b + (512 + (s : ℕ)) + 1 = b + 512 + ((s : ℕ) + 1) by omega]
    exact h2

/-- THE STORED ROW: the differential attention of the row, normed. -/
theorem tail (T : FVec Ideal S1024x1 .f32 × FVec Ideal S1024x1 .f32 × FVec Ideal S1024x256 .f32 × FVec Ideal S1024x1 .f32 ×
      FVec Ideal S1024x1 .f32 × FVec Ideal S1024x256 .f32) (q1 q2 : FVec Ideal S1x1024x256 .bf16)
    (k1 k2 : FVec Ideal S1x512x256 .bf16) (v1 v2 : FVec Ideal S512x256 .bf16) (q1' q2' k1' k2' : FVec Ideal S1x512x256 .bf16)
    (v1' v2' : FVec Ideal S512x256 .bf16) (lv : FVec Ideal S1x1 .f32) (sw : FVec Ideal S1x256 .f32) (lam : ℝ) (w1 w2 : ℕ → ℝ) (κ : ℝ)
    (d : Fin 256) (hT : Both S1 S2 V r b T)
    (hs1 : ∀ c : Fin 512, (∑ e : Fin 256, q1 (ix3 0 r e) * k1 (ix3 0 c e)) = ((S1 (b + c) : ℝ) : EReal))
    (hs2 : ∀ c : Fin 512, (∑ e : Fin 256, q2 (ix3 0 r e) * k2 (ix3 0 c e)) = ((S2 (b + c) : ℝ) : EReal))
    (hv1 : ∀ (c : Fin 512) d, v1 (ix2 c d) = ((V (b + c) d : ℝ) : EReal))
    (hv2 : ∀ (c : Fin 512) d, v2 (ix2 c d) = ((V (b + c) d : ℝ) : EReal))
    (hs1' : ∀ r' : Fin 512, (r : ℕ) = 512 + r' → ∀ c : Fin 512,
      (∑ e : Fin 256, q1' (ix3 0 r' e) * k1' (ix3 0 c e)) = ((S1 (b + 512 + c) : ℝ) : EReal))
    (hs2' : ∀ r' : Fin 512, (r : ℕ) = 512 + r' → ∀ c : Fin 512,
      (∑ e : Fin 256, q2' (ix3 0 r' e) * k2' (ix3 0 c e)) = ((S2 (b + 512 + c) : ℝ) : EReal))
    (hv1' : ∀ (c : Fin 512) d, v1' (ix2 c d) = ((V (b + 512 + c) d : ℝ) : EReal))
    (hv2' : ∀ (c : Fin 512) d, v2' (ix2 c d) = ((V (b + 512 + c) d : ℝ) : EReal))
    (hlam : (lv (ix2 0 0) : EReal) = ((lam : ℝ) : EReal))
    (hw1 : ∀ k < b + r + 1, w1 k = S1 k * Real.log 2 + κ) (hw2 : ∀ k < b + r + 1, w2 k = S2 k * Real.log 2 + κ) :
    k0_pay1
      (k0_pay113 (k0_pay92 T.2.2.2.1 T.2.2.2.2.1 q2 k2) (k0_pay104 (k0_pay89 T.2.2.2.1 q2 k2))
        (k0_pay105 (k0_pay92 T.2.2.2.1 T.2.2.2.2.1 q2 k2)) (k0_pay107 q2' k2') k0_pay108)
      (k0_pay114 (k0_pay93 T.2.2.2.1 T.2.2.2.2.2 q2 k2 v2) (k0_pay104 (k0_pay89 T.2.2.2.1 q2 k2))
        (k0_pay106 (k0_pay93 T.2.2.2.1 T.2.2.2.2.2 q2 k2 v2)) (k0_pay107 q2' k2') k0_pay108 v2')
      lv
      (k0_pay116
        (k0_pay102 (k0_pay85 T.1 T.2.1 q1 k1) (k0_pay94 (k0_pay81 T.1 q1 k1)) (k0_pay95 (k0_pay85 T.1 T.2.1 q1 k1)) (k0_pay97 q1') k1')
        (k0_pay103 (k0_pay87 T.2.2.1 (k0_pay83 v1) (k0_pay84 T.1 q1 k1) (k0_pay86 T.1 q1 k1)) (k0_pay94 (k0_pay81 T.1 q1 k1))
          (k0_pay96 T.2.2.1 (k0_pay83 v1) (k0_pay84 T.1 q1 k1) (k0_pay86 T.1 q1 k1)) (k0_pay97 q1') k1' v1'))
      sw (ix2 r d) = rms (fun d => ((att w1 w2 V lam (b + r + 1) d : ℝ) : EReal)) (sw (ix2 0 d)) d := by
  obtain ⟨μ1, f1⟩ := final1 T.1 T.2.1 T.2.2.1 q1 k1 v1 q1' k1' v1' hT.1 hs1 hv1 hs1' hv1'
  obtain ⟨μ2, f2⟩ := final2 T.2.2.2.1 T.2.2.2.2.1 T.2.2.2.2.2 q2 k2 v2 q2' k2' v2' hT.2 hs2 hv2 hs2' hv2'
  rw [store_at]
  refine congrArg (fun o => rms o (sw (ix2 0 d)) d) (funext fun d => ?_)
  have e1 := f1.quot (by omega) (fun k => Real.exp (w1 k)) κ (fun k hk => by rw [hw1 k hk]) d
  have e2 := f2.quot (by omega) (fun k => Real.exp (w2 k)) κ (fun k hk => by rw [hw2 k hk]) d
  rw [e1, e2, hlam, att, EReal.coe_sub, EReal.coe_mul]

end Cert.KernelIdeal.Tail

end
-- ==== Proof.Point.lean ====
/- What one grid point leaves in its output block. -/
module

public import proofs.«01_k».proof.Proof.Tail
public import proofs.«01_k».proof.Proof.Aug

@[expose] public section

set_option maxRecDepth 16384

noncomputable section

namespace Cert.KernelIdeal.Point

open Cert.KernelIdeal Cert.KernelIdeal.Gen Idealize.ShloMosaic Idealize.ShloMosaic.TcCoe Idealize.SL.Sem
open Idealize.ShloMosaic.Pipeline (Dat)
open Cert.Online Cert.Spec Cert.KernelIdeal.Loop Cert.KernelIdeal.Tail Cert.KernelIdeal.Aug

variable (m : (ℓ : Loc nD τ sig) → Buf (Elt Ideal) ℓ)

/-- The slope pieces that a point reads from the table. -/
def piece (c : Dev nD) (t : Fin cfg0.N) (u : Fin 3) : Elt Ideal .f32 :=
  iblk m c 0 t (ix1 ⟨3 * (grid0.coords t 1).val + u, by have := (grid0.coords t 1).isLt; have : (grid0.coords t 1).val < 4 := this; omega⟩)

/-- The augmented queries of a point. -/
def qa (c : Dev nD) (t : Fin cfg0.N) : Vec Ideal S2x1024x256 .bf16 :=
  qaug (piece m c t 0) (piece m c t 1) (piece m c t 2) (iblk m c 6 t)

theorem piece_ld (c : Dev nD) (t : Fin cfg0.N) (u : Fin 3) {off : Fin 1 → ℕ} (ho : off = ![3 * (grid0.coords t 1).val + u.val])
    (inb : ∀ a, off a + (![1] : Fin 1 → ℕ) a ≤ S12.size a) (x : (Rect.unit (s := S12) off ![1] inb).shape.Idx) :
    View.ld (Val := Elt Ideal) (e' := .f32) (iblk m c 0 t) (Rect.unit (s := S12) off ![1] inb) x = piece m c t u := by
  refine View.ld_unit_apply_of _ _ _ _ _ _ fun a => ?_
  subst ho
  match a with
  | 0 =>
    have : (x 0 : ℕ) < 1 := (x 0).isLt
    show 3 * (grid0.coords t 1).val + u.val = 3 * (grid0.coords t 1).val + u.val + (x 0 : ℕ)
    omega

/-- A load of stored pieces reads what the pieces hold together. -/
theorem readCov_ld {s : Shape} {e : EltTy} {κ : Kind} {sp : Space} (v : View sig κ sp s e) (L : List (View.Piece (Elt Ideal) s e)) (R : Rect s) :
    v.readCov L R.toLoadRect = View.ld (View.canon L) R := View.readCov_eq_canon' v L R.toLoadRect

/-- The row that the first point of a head stores: it has just stored the augmented keys itself. -/
theorem point_A (c : Dev nD) (t : Fin cfg0.N) (h0 : t.val % 4 = 0) (S1 S2 : ℕ → ℝ) (V : ℕ → Fin 256 → ℝ) (lam κ : ℝ) (w1 w2 : ℕ → ℝ)
    (r : Fin 1024) (d : Fin 256)
    (h : Reads S1 S2 V r (qa m c t) (kaug (iblk m c 7 t)) (iblk m c 8 t))
    (hlam : (k0_pay115 (F := Ideal) (iblk m c 1 t) (iblk m c 2 t) (iblk m c 3 t) (iblk m c 4 t) (ix2 0 0) : EReal) = ((lam : ℝ) : EReal))
    (hw1 : ∀ k < 1024 * (grid0.coords t 2).val + r + 1, w1 k = S1 k * Real.log 2 + κ)
    (hw2 : ∀ k < 1024 * (grid0.coords t 2).val + r + 1, w2 k = S2 k * Real.log 2 + κ) :
    (outsAt0 m c t.val t.isLt).1 (ix2 r d) =
      rms (fun d => ((att w1 w2 V lam (1024 * (grid0.coords t 2).val + r + 1) d : ℝ) : EReal)) (iblk m c 5 t (ix2 0 d)) d := by
  have hq0 := fun inb x => piece_ld m c t 0 (k0_off1_eq (grid0.coords t) 0) inb x
  have hq1 := fun inb x => piece_ld m c t 1 (k0_off1_eq (grid0.coords t) 1) inb x
  have hq2 := fun inb x => piece_ld m c t 2 (k0_off1_eq (grid0.coords t) 2) inb x
  have hi : (grid0.coords t 2).val < 4 := (grid0.coords t 2).isLt
  simp only [Fin.val_zero, Fin.val_one, Fin.val_two] at hq0 hq1 hq2
  rw [outsAt0_A m c t h0]; dsimp only; frame_out
  simp only [readCov_ld, hq0, hq1, hq2]
  unfold qa qaug kaug at h
  refine tail (S1 := S1) (S2 := S2) (V := V) (b := 1024 * (grid0.coords t 2).val) _ _ _ _ _ _ _ _ _ _ _ _ _ _ _ lam w1 w2 κ d ?_ ?_ ?_ ?_ ?_ ?_ ?_ ?_ ?_ hlam hw1 hw2
  · rw [show Scf.trips (Scalar.addi (0#32) (Scalar.muli (Scalar.divsi (Scalar.subi (Scalar.muli (BitVec.ofNat 32 (grid0.coords t 2).val) 1#32) 0#32) 1#32)
            1#32))
        (Scalar.addi (0#32) (Scalar.subi (Scalar.muli (BitVec.ofNat 32 (grid0.coords t 2).val) 1#32) 0#32)) 1#32 = 0 by
      generalize grid0.coords t = i; clear * -; revert i; decide +kernel]
    show Both _ _ _ _ _ (_, _)
    rw [show Scf.trips (0#32) (Scalar.addi (0#32) (Scalar.muli (Scalar.divsi (Scalar.subi (Scalar.muli (BitVec.ofNat 32 (grid0.coords t 2).val) 1#32) 0#32) 1#32)
            1#32)) 1#32 = (grid0.coords t 2).val from trips_eq _]
    refine loop _ _ _ _ _ _ _ _ _ _ _ _ _ _ _ _ _ _ _ _ _ _ _ _ _ _ _ _ _ _ _ _ _ _ _ _ _ _ ?_ ?_ _ le_rfl
    · exact (congr (congr (congrArg (Reads S1 S2 V r) (View.read_writes_junk_eq_canon _ _)) (View.read_writes_junk_eq_canon _ _))
        (Memref.IsWhole.read_unread _ _)).mpr h
    · exact init_state
  · exact score_ld 0 h.score1 rfl (k0_off8_eq (grid0.coords t) 0) (by simp) (by simp; omega) r (by simp)
  · exact score_ld 1 h.score2 rfl (k0_off10_eq (grid0.coords t) 0) (by simp) (by simp; omega) r (by simp)
  · exact value_ld h.value (k0_off9_eq (grid0.coords t) 0) (by simp) (by simp; omega)
  · exact value_ld h.value (k0_off9_eq (grid0.coords t) 0) (by simp) (by simp; omega)
  · exact fun r' hr => score_ld 0 h.score1 rfl (k0_off8_eq (grid0.coords t) 1) (by simp) (by simp; omega) r' hr
  · exact fun r' hr => score_ld 1 h.score2 rfl (k0_off10_eq (grid0.coords t) 1) (by simp) (by simp; omega) r' hr
  · exact value_ld h.value (k0_off9_eq (grid0.coords t) 1) (by simp) (by simp; omega)
  · exact value_ld h.value (k0_off9_eq (grid0.coords t) 1) (by simp) (by simp; omega)

/-- The row that a later point stores, over the keys that the scratch holds. -/
theorem point_B (c : Dev nD) (t : Fin cfg0.N) (h0 : ¬t.val % 4 = 0) (S1 S2 : ℕ → ℝ) (V : ℕ → Fin 256 → ℝ) (lam κ : ℝ) (w1 w2 : ℕ → ℝ)
    (r : Fin 1024) (d : Fin 256)
    (h : Reads S1 S2 V r (qa m c t) (outsAt0 m c (t.val - 1) (lt_of_le_of_lt (Nat.sub_le _ _) t.isLt)).2 (iblk m c 8 t))
    (hlam : (k0_pay115 (F := Ideal) (iblk m c 1 t) (iblk m c 2 t) (iblk m c 3 t) (iblk m c 4 t) (ix2 0 0) : EReal) = ((lam : ℝ) : EReal))
    (hw1 : ∀ k < 1024 * (grid0.coords t 2).val + r + 1, w1 k = S1 k * Real.log 2 + κ)
    (hw2 : ∀ k < 1024 * (grid0.coords t 2).val + r + 1, w2 k = S2 k * Real.log 2 + κ) :
    (outsAt0 m c t.val t.isLt).1 (ix2 r d) =
      rms (fun d => ((att w1 w2 V lam (1024 * (grid0.coords t 2).val + r + 1) d : ℝ) : EReal)) (iblk m c 5 t (ix2 0 d)) d := by
  have hq0 := fun inb x => piece_ld m c t 0 (k0_off1_eq (grid0.coords t) 0) inb x
  have hq1 := fun inb x => piece_ld m c t 1 (k0_off1_eq (grid0.coords t) 1) inb x
  have hq2 := fun inb x => piece_ld m c t 2 (k0_off1_eq (grid0.coords t) 2) inb x
  have hi : (grid0.coords t 2).val < 4 := (grid0.coords t 2).isLt
  simp only [Fin.val_zero, Fin.val_one, Fin.val_two] at hq0 hq1 hq2
  rw [outsAt0_B m c t h0]; dsimp only; frame_out
  simp only [readCov_ld, hq0, hq1, hq2]
  have hu : ∀ X, View.read (Elt Ideal) (View.whole cc0_scratch0) ((Memref.isWhole_whole cc0_scratch0).unread X) = X :=
    fun X => Memref.IsWhole.read_unread (Memref.isWhole_whole cc0_scratch0) X
  simp only [hu]
  unfold qa qaug at h
  refine tail (S1 := S1) (S2 := S2) (V := V) (b := 1024 * (grid0.coords t 2).val) _ _ _ _ _ _ _ _ _ _ _ _ _ _ _ lam w1 w2 κ d ?_ ?_ ?_ ?_ ?_ ?_ ?_ ?_ ?_ hlam hw1 hw2
  · rw [show Scf.trips (Scalar.addi (0#32) (Scalar.muli (Scalar.divsi (Scalar.subi (Scalar.muli (BitVec.ofNat 32 (grid0.coords t 2).val) 1#32) 0#32) 1#32)
            1#32))
        (Scalar.addi (0#32) (Scalar.subi (Scalar.muli (BitVec.ofNat 32 (grid0.coords t 2).val) 1#32) 0#32)) 1#32 = 0 by
      generalize grid0.coords t = i; clear * -; revert i; decide +kernel]
    show Both _ _ _ _ _ (_, _)
    rw [show Scf.trips (0#32) (Scalar.addi (0#32) (Scalar.muli (Scalar.divsi (Scalar.subi (Scalar.muli (BitVec.ofNat 32 (grid0.coords t 2).val) 1#32) 0#32) 1#32)
            1#32)) 1#32 = (grid0.coords t 2).val from trips_eq _]
    refine loop _ _ _ _ _ _ _ _ _ _ _ _ _ _ _ _ _ _ _ _ _ _ _ _ _ _ _ _ _ _ _ _ _ _ _ _ _ _ ?_ ?_ _ le_rfl
    · exact (congr (congr (congrArg (Reads S1 S2 V r) (View.read_writes_junk_eq_canon _ _)) (Memref.IsWhole.read_unread _ _))
        (Memref.IsWhole.read_unread _ _)).mpr h
    · exact init_state
  · exact score_ld 0 h.score1 rfl (k0_off8_eq (grid0.coords t) 0) (by simp) (by simp; omega) r (by simp)
  · exact score_ld 1 h.score2 rfl (k0_off10_eq (grid0.coords t) 0) (by simp) (by simp; omega) r (by simp)
  · exact value_ld h.value (k0_off9_eq (grid0.coords t) 0) (by simp) (by simp; omega)
  · exact value_ld h.value (k0_off9_eq (grid0.coords t) 0) (by simp) (by simp; omega)
  · exact fun r' hr => score_ld 0 h.score1 rfl (k0_off8_eq (grid0.coords t) 1) (by simp) (by simp; omega) r' hr
  · exact fun r' hr => score_ld 1 h.score2 rfl (k0_off10_eq (grid0.coords t) 1) (by simp) (by simp; omega) r' hr
  · exact value_ld h.value (k0_off9_eq (grid0.coords t) 1) (by simp) (by simp; omega)
  · exact value_ld h.value (k0_off9_eq (grid0.coords t) 1) (by simp) (by simp; omega)

/-- What a head's first point leaves in the scratch: the augmented keys. -/
theorem scratch_A (c : Dev nD) (t : Fin cfg0.N) (h0 : t.val % 4 = 0) :
    (outsAt0 m c t.val t.isLt).2 = kaug (iblk m c 7 t) := by
  rw [outsAt0_A m c t h0]; dsimp only; frame_out

/-- A later point leaves the scratch as it was. -/
theorem scratch_B (c : Dev nD) (t : Fin cfg0.N) (h0 : ¬t.val % 4 = 0) :
    (outsAt0 m c t.val t.isLt).2 = (outsAt0 m c (t.val - 1) (lt_of_le_of_lt (Nat.sub_le _ _) t.isLt)).2 := by
  rw [outsAt0_B m c t h0]
  rfl

end Cert.KernelIdeal.Point

end
-- ==== Proof.Row.lean ====
/- What each grid point stores, in terms of the launched arrays. -/
module

public import proofs.«01_k».proof.Proof.Point
public import proofs.«01_k».proof.Proof.Host

@[expose] public section

set_option maxRecDepth 16384

noncomputable section

namespace Cert.KernelIdeal.Row

open Cert.KernelIdeal Cert.KernelIdeal.Gen Idealize.ShloMosaic Idealize.ShloMosaic.TcCoe Idealize.SL.Sem
open Idealize.ShloMosaic.Pipeline (Dat)
open Cert.Spec Cert.KernelIdeal.Loop Cert.KernelIdeal.Tail Cert.KernelIdeal.Aug Cert.KernelIdeal.Point Cert.KernelIdeal.HostLines

variable (m : (ℓ : Loc nD τ sig) → Buf (Elt Ideal) ℓ)

theorem lt32 (t : Fin cfg0.N) : t.val < 32 := t.isLt

/-- The batch of a point. -/
def bat (t : Fin cfg0.N) : Fin 2 := ⟨t.val / 16, by have := lt32 t; omega⟩
/-- The head of a point. -/
def head (t : Fin cfg0.N) : Fin 4 := ⟨t.val / 4 % 4, by omega⟩
/-- The sequence position of a point's row. -/
def pos (t : Fin cfg0.N) (r : Fin 1024) : Fin 4096 := ⟨1024 * (t.val % 4) + r, by omega⟩

/-- The points of one head read the same keys. -/
theorem keys_eq (c : Dev nD) (t u : Fin cfg0.N) (h : t.val / 4 = u.val / 4) : iblk m c 7 t = iblk m c 7 u := by
  show (iblk m c 7 t : S4096x256.Idx → Elt Ideal .bf16) = iblk m c 7 u
  have ht := lt32 t
  have hu := lt32 u
  funext x
  idx_vars x
  rw [blk7 m c t x0 x1 (by omega) (by omega), blk7 m c u x0 x1 (by omega) (by omega)]
  have h1 : t.val / 16 = u.val / 16 := by omega
  congr 2 <;> simp only [h, h1]

theorem at_eq (X : Fin 2 → Fin 4096 → Fin 6144 → ℝ) {b b' : Fin 2} {s s' : Fin 4096} {C C' : Fin 6144} (hb : b.val = b'.val)
    (hs : s.val = s'.val) (hC : C.val = C'.val) : X b s C = X b' s' C' := by
  rw [Fin.ext hb, Fin.ext hs, Fin.ext hC]

/-- The scratch holds the augmented keys of the point's head. -/
theorem scratch (c : Dev nD) (n : ℕ) : ∀ t : Fin cfg0.N, t.val = n → (outsAt0 m c t.val t.isLt).2 = kaug (iblk m c 7 t) := by
  induction n with
  | zero => exact fun t h => scratch_A m c t (by omega)
  | succ n ih =>
    intro t h
    by_cases h0 : t.val % 4 = 0
    · exact scratch_A m c t h0
    · rw [scratch_B m c t h0]
      have := ih ⟨t.val - 1, lt_of_le_of_lt (Nat.sub_le _ _) t.isLt⟩ (by show t.val - 1 = n; omega)
      rw [this]
      exact congrArg kaug (keys_eq m c _ t (by show (t.val - 1) / 4 = _; omega))

section Values

variable (X : Fin 2 → Fin 4096 → Fin 6144 → ℝ)

/-- The scale of a query column. -/
def qs : ℝ := 1 / (Real.sqrt 128 * Real.log 2)

theorem q_at (c : Dev nD) (hX : ∀ b s C, proj m c (ix3 b s C) = ((X b s C : ℝ) : EReal)) (t : Fin cfg0.N) (r : Fin 1024) (e : Fin 256) :
    (iblk m c 6 t (ix2 r e) : EReal) = ((X (bat t) (pos t r) ⟨3072 + 256 * head t + e, by omega⟩ * qs : ℝ) : EReal) := by
  have ht := lt32 t
  rw [blk6 m c t r e (by omega) (by omega)]
  refine (V_proj m c _ _).trans ?_
  rw [if_pos (Or.inr ⟨by show 3072 ≤ 256 * (12 + t.val / 4 % 4) + e; omega, by show 256 * (12 + t.val / 4 % 4) + e < 4096; omega⟩), scale_word, hX, ← EReal.coe_mul]
  refine congrArg (fun z : ℝ => ((z * qs : ℝ) : EReal)) ?_
  exact at_eq X (by show (1024 * (t.val / 16 * 4 + t.val % 4) + r) / 4096 = t.val / 16; omega)
    (by show (1024 * (t.val / 16 * 4 + t.val % 4) + r) % 4096 = 1024 * (t.val % 4) + r; omega)
    (by show 256 * (12 + t.val / 4 % 4) + e = 3072 + 256 * (t.val / 4 % 4) + e; omega)

theorem k_at (c : Dev nD) (hX : ∀ b s C, proj m c (ix3 b s C) = ((X b s C : ℝ) : EReal)) (t : Fin cfg0.N) (j : Fin 4096) (e : Fin 256) :
    (iblk m c 7 t (ix2 j e) : EReal) = ((X (bat t) j ⟨4096 + 256 * head t + e, by omega⟩ : ℝ) : EReal) := by
  have ht := lt32 t
  rw [blk7 m c t j e (by omega) (by omega)]
  refine (V_proj m c _ _).trans ?_
  rw [if_neg (by show ¬(256 * (16 + t.val / 4 % 4) + e.val < 1024 ∨ 3072 ≤ 256 * (16 + t.val / 4 % 4) + e.val ∧ 256 * (16 + t.val / 4 % 4) + e.val < 4096); omega), one_word, hX, ← EReal.coe_mul, mul_one]
  refine congrArg (fun z : ℝ => (z : EReal)) ?_
  exact at_eq X (by show (4096 * (t.val / 16) + j) / 4096 = t.val / 16; omega)
    (by show (4096 * (t.val / 16) + j) % 4096 = j; omega)
    (by show 256 * (16 + t.val / 4 % 4) + e = 4096 + 256 * (t.val / 4 % 4) + e; omega)

theorem v_at (c : Dev nD) (hX : ∀ b s C, proj m c (ix3 b s C) = ((X b s C : ℝ) : EReal)) (t : Fin cfg0.N) (j : Fin 4096) (e : Fin 256) :
    (iblk m c 8 t (ix2 j e) : EReal) = ((value X (bat t) (head t) j e : ℝ) : EReal) := by
  have ht := lt32 t
  rw [blk8 m c t j e (by omega) (by omega)]
  refine (V_proj m c _ _).trans ?_
  rw [if_neg (by show ¬(256 * (20 + t.val / 4 % 4) + e.val < 1024 ∨ 3072 ≤ 256 * (20 + t.val / 4 % 4) + e.val ∧ 256 * (20 + t.val / 4 % 4) + e.val < 4096); omega), one_word, hX, ← EReal.coe_mul, mul_one]
  refine congrArg (fun z : ℝ => (z : EReal)) ?_
  unfold value
  rw [dif_pos j.isLt]
  exact at_eq X (by show (4096 * (t.val / 16) + j) / 4096 = t.val / 16; omega)
    (by show (4096 * (t.val / 16) + j) % 4096 = j; omega)
    (by show 256 * (20 + t.val / 4 % 4) + e = 5120 + 256 * (t.val / 4 % 4) + e; omega)

theorem piece_at (c : Dev nD) (t : Fin cfg0.N) (u : Fin 3) :
    (Point.piece m c t u : EReal) = ((if u = 0 then slope (head t) * (1 / Real.log 2) else 0 : ℝ) : EReal) := by
  unfold Point.piece
  rw [blk0]
  refine Eq.trans ?_ (V_feats m c (head t) u)
  refine congrArg (fun i => V m c main_v35 (ix1 i)) (Fin.ext ?_)
  show 3 * (grid0.coords t 1).val + u = 3 * (t.val / 4 % 4) + u
  rw [HostLines.coords1]

/-- The scores as the kernel holds them, in units of the logarithm of two and without the part that all keys of a row share. -/
def raw (b : Fin 2) (h : Fin 4) (g : Fin 2) (t : Fin 4096) (k : ℕ) : ℝ :=
  if hk : k < 4096 then dotp X b h g t ⟨k, hk⟩ * qs + slope h * (1 / Real.log 2) * k else 0

theorem raw_score (b : Fin 2) (h : Fin 4) (g : Fin 2) (t : Fin 4096) (k : ℕ) (hk : k < 4096) :
    Spec.score X b h g t k = raw X b h g t k * Real.log 2 + -(slope h * t) := by
  unfold Spec.score raw
  rw [dif_pos hk, dif_pos hk]
  unfold qs
  have h1 : Real.sqrt 128 ≠ 0 := Real.sqrt_ne_zero'.mpr (by norm_num)
  have h2 := log2_ne
  field_simp
  ring

theorem reads_at (c : Dev nD) (hX : ∀ b s C, proj m c (ix3 b s C) = ((X b s C : ℝ) : EReal)) (t : Fin cfg0.N) (r : Fin 1024)
    (g : Fin 2) (j : Fin 4096) :
    (∑ e : Fin 256, (qa m c t (ix3 g r e) : EReal) * kaug (iblk m c 7 t) (ix3 g j e)) = ((raw X (bat t) (head t) g (pos t r) j : ℝ) : EReal) := by
  unfold qa
  rw [show Point.piece m c t 0 = (((slope (head t) * (1 / Real.log 2) : ℝ)) : EReal) from piece_at m c t 0,
    show Point.piece m c t 1 = (0 : EReal) from (piece_at m c t 1).trans EReal.coe_zero,
    show Point.piece m c t 2 = (0 : EReal) from (piece_at m c t 2).trans EReal.coe_zero]
  refine (Aug.score _ (iblk m c 6 t) (iblk m c 7 t) g r j
    (fun e => X (bat t) (pos t r) ⟨3072 + 256 * head t + 128 * g + e, by omega⟩ * qs)
    (fun e => X (bat t) j ⟨4096 + 256 * head t + 128 * g + e, by omega⟩) (fun e => ?_) (fun e => ?_)).trans ?_
  · refine (q_at m X c hX t r _).trans ?_
    refine congrArg (fun i => ((X (bat t) (pos t r) i * qs : ℝ) : EReal)) (Fin.ext ?_)
    show 3072 + 256 * (head t : ℕ) + (128 * g + e) = 3072 + 256 * head t + 128 * g + e
    omega
  · refine (k_at m X c hX t j _).trans ?_
    refine congrArg (fun i => ((X (bat t) j i : ℝ) : EReal)) (Fin.ext ?_)
    show 4096 + 256 * (head t : ℕ) + (128 * g + e) = 4096 + 256 * head t + 128 * g + e
    omega
  · refine congrArg (fun z : ℝ => (z : EReal)) ?_
    unfold raw dotp
    rw [dif_pos j.isLt, Finset.sum_mul]
    congr 1
    exact Finset.sum_congr rfl fun e _ => by ring

/-- The value that a point stores at row `r`, lane `d`. -/
theorem point (c : Dev nD) (hX : ∀ b s C, proj m c (ix3 b s C) = ((X b s C : ℝ) : EReal)) (lam : ℝ)
    (hlam : lamOf (fun e => m ((c : Thread nD τ).loc main_arg1) (ix2 0 e)) (fun e => m ((c : Thread nD τ).loc main_arg2) (ix2 0 e))
      (fun e => m ((c : Thread nD τ).loc main_arg3) (ix2 0 e)) (fun e => m ((c : Thread nD τ).loc main_arg4) (ix2 0 e)) = lam)
    (t : Fin cfg0.N) (r : Fin 1024) (d : Fin 256) :
    (outsAt0 m c t.val t.isLt).1 (ix2 r d) =
      out X lam (fun e => m ((c : Thread nD τ).loc main_arg5) (ix2 0 e)) (bat t) (head t) (pos t r) d := by
  have hi : 1024 * (grid0.coords t 2).val + r + 1 = (pos t r).val + 1 := by rw [HostLines.coords2]; rfl
  have hl : (k0_pay115 (F := Ideal) (iblk m c 1 t) (iblk m c 2 t) (iblk m c 3 t) (iblk m c 4 t) (ix2 0 0) : EReal) = ((lam : ℝ) : EReal) := by
    refine (lam_at _ _ _ _).trans ?_
    simp only [blk1, blk2, blk3, blk4]
    exact hlam
  have hw : ∀ g, ∀ k < 1024 * (grid0.coords t 2).val + r + 1,
      Spec.score X (bat t) (head t) g (pos t r) k = raw X (bat t) (head t) g (pos t r) k * Real.log 2 + -(slope (head t) * (pos t r).val) :=
    fun g k hk => raw_score X _ _ g _ k (by rw [hi] at hk; have := (pos t r).isLt; omega)
  have hR : Reads (raw X (bat t) (head t) 0 (pos t r)) (raw X (bat t) (head t) 1 (pos t r)) (value X (bat t) (head t)) r
      (qa m c t) (kaug (iblk m c 7 t)) (iblk m c 8 t) :=
    ⟨reads_at m X c hX t r 0, reads_at m X c hX t r 1, v_at m X c hX t⟩
  have key : (outsAt0 m c t.val t.isLt).1 (ix2 r d) =
      rms (fun d => ((att (Spec.score X (bat t) (head t) 0 (pos t r)) (Spec.score X (bat t) (head t) 1 (pos t r)) (value X (bat t) (head t)) lam
        (1024 * (grid0.coords t 2).val + r + 1) d : ℝ) : EReal)) (iblk m c 5 t (ix2 0 d)) d := by
    by_cases h0 : t.val % 4 = 0
    · exact point_A m c t h0 _ _ _ lam _ _ _ r d hR hl (hw 0) (hw 1)
    · refine point_B m c t h0 _ _ _ lam _ _ _ r d ?_ hl (hw 0) (hw 1)
      have hs := scratch m c _ ⟨t.val - 1, lt_of_le_of_lt (Nat.sub_le _ _) t.isLt⟩ rfl
      have := keys_eq m c ⟨t.val - 1, lt_of_le_of_lt (Nat.sub_le _ _) t.isLt⟩ t (by show (t.val - 1) / 4 = _; omega)
      rw [this] at hs
      exact hs ▸ hR
  rw [key, hi, blk5]
  rfl

/-- The array that the run leaves. -/
theorem final (c : Dev nD) (hX : ∀ b s C, proj m c (ix3 b s C) = ((X b s C : ℝ) : EReal)) (lam : ℝ)
    (hlam : lamOf (fun e => m ((c : Thread nD τ).loc main_arg1) (ix2 0 e)) (fun e => m ((c : Thread nD τ).loc main_arg2) (ix2 0 e))
      (fun e => m ((c : Thread nD τ).loc main_arg3) (ix2 0 e)) (fun e => m ((c : Thread nD τ).loc main_arg4) (ix2 0 e)) = lam) :
    (dats m 0 c).arrAt 9 cfg0.N =
      fun i : S8192x1024.Idx => outAt X lam (fun e => m ((c : Thread nD τ).loc main_arg5) (ix2 0 e)) (i 0) (i 1) := by
  refine (dats m 0 c).arrAt_eq_of_covers 9 _ (by decide +kernel) fun t _ y => ?_
  blk_simp
  rw [after0_9]
  idx_vars y
  refine (point m X c hX lam hlam t y0 y1).trans ?_
  have ht := lt32 t
  unfold outAt
  have hR : ((((cfg0.win 9).blk t).view.emb (ix2 y0 y1)) 0 : ℕ) = 1024 * (t.val / 16 * 4 + t.val % 4) + y0 := by
    blk_simp [idx9 t]; omega
  have hC : ((((cfg0.win 9).blk t).view.emb (ix2 y0 y1)) 1 : ℕ) = 256 * (t.val / 4 % 4) + y1 := by
    blk_simp [idx9 t]; omega
  congr 1
  · exact Fin.ext (by show t.val / 16 = _ / 4096; rw [hR]; omega)
  · exact Fin.ext (by show t.val / 4 % 4 = _ / 256; rw [hC]; omega)
  · exact Fin.ext (by show 1024 * (t.val % 4) + y0 = _ % 4096; rw [hR]; omega)
  · exact Fin.ext (by show y1.val = _ % 256; rw [hC]; omega)

end Values

end Cert.KernelIdeal.Row

end
-- ==== Proof.Soft.lean ====
/- A causal softmax with its maximum taken out, and the difference of two of them against the values. -/
module

public import proofs.«01_k».proof.Proof.Spec

@[expose] public section

noncomputable section

namespace Cert.Soft

open Idealize.ShloMosaic Cert.Spec

/-- The masked scores of a row: those of the keys up to `t`, the rest at minus infinity. -/
def masked (s : ℕ → ℝ) (t : Fin 4096) (k : Fin 4096) : EReal := if (k : ℕ) ≤ t then ((s k : ℝ) : EReal) else ⊥

/-- The row's maximum is a real number. -/
theorem top_real (s : ℕ → ℝ) (t : Fin 4096) : ∃ μ : ℝ, (Finset.univ : Finset (Fin 4096)).fold max ⊥ (masked s t) = μ := by
  have h1 := Cert.Online.fold_max_ne_top Finset.univ (masked s t) ⊥ (by simp) (fun k => by unfold masked; split <;> simp)
  have h2 := Cert.Online.fold_max_ne_bot Finset.univ (masked s t) ⊥ t (Finset.mem_univ _) (by simp [masked])
  exact ⟨_, (EReal.coe_toReal h1 h2).symm⟩

theorem exp_masked (s : ℕ → ℝ) (t k : Fin 4096) (μ : ℝ) :
    Ideal.exp (masked s t k - (μ : EReal)) = ((if (k : ℕ) < t + 1 then Real.exp (s k - μ) else 0 : ℝ) : EReal) := by
  unfold masked
  by_cases h : (k : ℕ) ≤ t
  · rw [if_pos h, if_pos (by omega), ← EReal.coe_sub, Ideal.exp_coe]
  · rw [if_neg h, if_neg (by omega), EReal.bot_sub, Ideal.exp_bot, EReal.coe_zero]

/-- One weight of the softmax. -/
def weight (s : ℕ → ℝ) (n k : ℕ) : ℝ := if k < n then Real.exp (s k) / ∑ j ∈ Finset.range n, Real.exp (s j) else 0

theorem sum_pos (s : ℕ → ℝ) (n : ℕ) : 0 < ∑ j ∈ Finset.range (n + 1), Real.exp (s j) :=
  Finset.sum_pos (fun _ _ => Real.exp_pos _) ⟨0, by simp⟩

/-- The softmax as the reference computes it. -/
theorem soft (s : ℕ → ℝ) (t k : Fin 4096) (μ : ℝ) :
    Ideal.div (Ideal.exp (masked s t k - (μ : EReal))) (∑ j : Fin 4096, Ideal.exp (masked s t j - (μ : EReal)))
      = ((weight s (t + 1) k : ℝ) : EReal) := by
  simp only [exp_masked]
  rw [← Cert.Online.coe_sum, Cert.Online.sum_fin_lt (by omega) (fun k => Real.exp (s k - μ)),
    Ideal.div_coe (sum_pos (fun k => s k - μ) t).ne', ← EReal.coe_mul]
  congr 1
  unfold weight
  split
  · simp only [Real.exp_sub, ← Finset.sum_div]
    have h1 := (sum_pos s t).ne'
    have h2 := (Real.exp_pos μ).ne'
    field_simp
  · simp

/-- The difference of the two softmaxes against the values. -/
theorem diff (s1 s2 : ℕ → ℝ) (V : ℕ → Fin 256 → ℝ) (lam : ℝ) (t : Fin 4096) (d : Fin 256) :
    (∑ k : Fin 4096, (((weight s1 (t + 1) k : ℝ) : EReal) - (lam : EReal) * ((weight s2 (t + 1) k : ℝ) : EReal)) * ((V k d : ℝ) : EReal))
      = ((att s1 s2 V lam (t + 1) d : ℝ) : EReal) := by
  simp only [← EReal.coe_mul, ← EReal.coe_sub, ← Cert.Online.coe_sum]
  congr 1
  have h : ∀ s : ℕ → ℝ, (∑ k : Fin 4096, weight s (t + 1) k * V k d)
      = (∑ k ∈ Finset.range (t + 1), Real.exp (s k) * V k d) / ∑ k ∈ Finset.range (t + 1), Real.exp (s k) := by
    intro s
    have := Cert.Online.sum_fin_lt (T := 4096) (n := t + 1) (by omega) (fun k => Real.exp (s k) * V k d / ∑ j ∈ Finset.range (t + 1), Real.exp (s j))
    rw [Finset.sum_div, ← this]
    refine Finset.sum_congr rfl fun k _ => ?_
    unfold weight
    split
    · ring
    · simp
  unfold att
  rw [← h s1, ← h s2, Finset.mul_sum, ← Finset.sum_sub_distrib]
  exact Finset.sum_congr rfl fun k _ => by ring

end Cert.Soft

end
-- ==== Proof.Refer.lean ====
/- The reference's result at an index. -/
module

public import proofs.«01_k».proof.Proof.Soft
public import proofs.«01_k».proof.Proof.Gen.ReferenceIdeal.Read
public import Idealize.ShloMosaic.Lib.WordCmp

@[expose] public section

set_option maxRecDepth 16384

noncomputable section

namespace Cert.ReferenceIdeal.Refer

open Cert.ReferenceIdeal Cert.ReferenceIdeal.Gen Cert.ReferenceIdeal.Read Idealize.ShloMosaic Idealize.ShloMosaic.TcCoe Idealize.SL.Sem
open Cert.Spec Cert.Soft

variable (x0 : (⟨S2x4096x6144, .f32⟩ : BufTy).Contents (Elt Ideal)) (x1 x2 x3 x4 : (⟨S1x128, .f32⟩ : BufTy).Contents (Elt Ideal))
  (x5 : (⟨S1x256, .f32⟩ : BufTy).Contents (Elt Ideal))

theorem at_eq (b : Fin 2) (t : Fin 4096) {C C' : Fin 6144} (h : C.val = C'.val) : x0 (ix3 b t C) = x0 (ix3 b t C') := by
  rw [Fin.ext h]

theorem v_at (b : Fin 2) (h : Fin 4) (t : Fin 4096) (e : Fin 256) :
    val_main_v8 (F := Ideal) x0 (ix4 b h t e) = x0 (ix3 b t ⟨5120 + 256 * h + e, by omega⟩) := by
  pointwise [val_main_v8, val_main_v7, val_main_v6]
  exact at_eq x0 b t (by show 5120 + (h.val * 256 + e) = 5120 + 256 * h + e; omega)

theorem slope_at (h : Fin 4) :
    Ideal.pow (Ideal.ofBits FTy.f32 1073741824#32)
          (Ideal.div (Ideal.ofBits FTy.f32 3238002688#32 * (FloatOps.sitofp (F := Ideal) FTy.f32 (BitVec.ofNat 32 ↑h) + 1))
            (Ideal.ofBits FTy.f32 1082130432#32)) = ((slope h : ℝ) : EReal) := by
  rw [show Ideal.ofBits .f32 1073741824#32 = ((2 : ℝ) : EReal) by simp [Ideal.ofBits, Ideal.ieee, -EReal.coe_mul]; norm_num,
    show Ideal.ofBits .f32 3238002688#32 = ((-8 : ℝ) : EReal) by simp [Ideal.ofBits, Ideal.ieee, -EReal.coe_mul]; norm_num,
    show Ideal.ofBits .f32 1082130432#32 = ((4 : ℝ) : EReal) by simp [Ideal.ofBits, Ideal.ieee, -EReal.coe_mul]; norm_num,
    show (FloatOps.sitofp (F := Ideal) FTy.f32 (BitVec.ofNat 32 h.val) : EReal) = ((h.val : ℝ) : EReal) by
      show (((BitVec.ofNat 32 h.val).toInt : ℝ) : EReal) = _
      fin_cases h <;> simp]
  rw [show ((h.val : ℝ) : EReal) + 1 = (((h.val : ℝ) + 1 : ℝ) : EReal) by rw [EReal.coe_add, EReal.coe_one], ← EReal.coe_mul,
    Ideal.div_coe (by norm_num), ← EReal.coe_mul, Ideal.pow_coe_coe]
  refine congrArg (fun z : ℝ => (z : EReal)) ?_
  have h1 : (-8 * ((h.val : ℝ) + 1) * (1 / 4) : ℝ) = -((2 * (h.val + 1) : ℕ) : ℝ) := by push_cast; ring
  show Real.rpow 2 (-8 * ((h.val : ℝ) + 1) * (1 / 4)) = _
  rw [h1]
  show (2 : ℝ) ^ (-((2 * (h.val + 1) : ℕ) : ℝ)) = _
  rw [Real.rpow_neg (by norm_num), Real.rpow_natCast]
  fin_cases h <;> simp [Cert.Spec.slope] <;> norm_num

/-- The distance penalty. -/
theorem bias_at (h : Fin 4) (t k : Fin 4096) :
    (val_main_v47 (F := Ideal) (ix3 h t k) : EReal) = ((-(slope h * ((t : ℝ) - k)) : ℝ) : EReal) := by
  pointwise [val_main_v47, val_main_v46, val_main_v45, val_main_v44, val_main_v43, val_main_v42, val_main_v41, val_main_v40, val_main_v39, val_main_v38, val_main_v37, val_main_v36, val_main_v30, val_main_v29, val_main_v28, val_main_cst_5, val_main_v27, val_main_v26, val_main_cst_4, val_main_v25, val_main_v24, val_main_cst_3, val_main_v23, val_main_v22, val_main_v21, val_main_cst_2]
  rw [slope_at]
  rw [show (FloatOps.sitofp (F := Ideal) FTy.f32 (IntOp.subi (BitVec.ofNat 32 t.val) (BitVec.ofNat 32 k.val)) : EReal) = (((t : ℝ) - k : ℝ) : EReal) by
    show (((IntOp.subi (BitVec.ofNat 32 t.val) (BitVec.ofNat 32 k.val)).toInt : ℝ) : EReal) = _
    have : (IntOp.subi (BitVec.ofNat 32 t.val) (BitVec.ofNat 32 k.val)).toInt = (t.val : ℤ) - k.val := by
      show (BitVec.ofNat 32 t.val - BitVec.ofNat 32 k.val).toInt = _
      rw [BitVec.toInt_sub, BitVec.toInt_ofNat', BitVec.toInt_ofNat']
      have := t.isLt
      have := k.isLt
      simp only [Int.bmod_def]
      omega
    rw [this]
    push_cast
    rfl]
  rw [← EReal.coe_neg, ← EReal.coe_mul, neg_mul]

theorem sqrt_word : Ideal.sqrt (Ideal.ofBits .f32 1124073472#32) = ((Real.sqrt 128 : ℝ) : EReal) := by
  rw [show Ideal.ofBits .f32 1124073472#32 = ((128 : ℝ) : EReal) by simp [Ideal.ofBits, Ideal.ieee, -EReal.coe_mul]; norm_num, Ideal.sqrt_coe, if_neg (by norm_num)]

theorem bot_word : Ideal.ofBits .f32 4286578688#32 = ⊥ := by
  simp [Ideal.ofBits, Ideal.ieee]

/-- The maximum of a row of masked scores is a real number. -/
theorem top_at (z : (⟨S2x4x4096x4096, .f32⟩ : BufTy).Contents (Elt Ideal)) (s : ℕ → ℝ) (b : Fin 2) (h : Fin 4) (t : Fin 4096)
    (hz : ∀ k, (z (ix4 b h t k) : EReal) = masked s t k) (init : (⟨S_, .f32⟩ : BufTy).Contents (Elt Ideal)) (hi : ∀ i, (init i : EReal) = ⊥) :
    ∃ μ : ℝ, (Host.reduce (fun x y : Ideal .f32 => FloatOps.maximumf x y) z init reducesTo_S2x4x4096x4096_S2x4x4096_d3 h_S_ (ix3 b h t) : EReal) = (μ : EReal) := by
  obtain ⟨μ, hμ⟩ := top_real s t
  refine ⟨μ, ?_⟩
  rw [← hμ]
  refine (Host.reduce_eq_fold_single (max : EReal → EReal → EReal) z init reducesTo_S2x4x4096x4096_S2x4x4096_d3 (by decide) h_S_ (ix3 b h t)).trans ?_
  rw [hi]
  refine congrArg (fun f => Finset.fold max ⊥ f (Finset.univ : Finset (Fin 4096))) (funext fun k => ?_)
  rw [← hz k]
  exact congrArg z (funext fun a => Fin.ext (by match a with | ⟨0, _⟩ => rfl | ⟨1, _⟩ => rfl | ⟨2, _⟩ => rfl | ⟨3, _⟩ => rfl))

section Values

variable (X : Fin 2 → Fin 4096 → Fin 6144 → ℝ)

theorem q0_at (b : Fin 2) (h : Fin 4) (t : Fin 4096) (e : Fin 128) :
    val_main_v49 (F := Ideal) x0 (ix4 b h t e) = x0 (ix3 b t ⟨3072 + 256 * h + 128 * (0 : Fin 2) + e, by omega⟩) := by
  pointwise [val_main_v49, val_main_v48, val_main_v2, val_main_v1, val_main_v0]
  exact at_eq x0 b t (by simp; omega)

theorem k0_at (b : Fin 2) (h : Fin 4) (t : Fin 4096) (e : Fin 128) :
    val_main_v51 (F := Ideal) x0 (ix4 b h t e) = x0 (ix3 b t ⟨4096 + 256 * h + 128 * (0 : Fin 2) + e, by omega⟩) := by
  pointwise [val_main_v51, val_main_v50, val_main_v5, val_main_v4, val_main_v3]
  exact at_eq x0 b t (by simp; omega)

/-- The scores of half 0. -/
theorem score0_at (hX : ∀ b s C, x0 (ix3 b s C) = ((X b s C : ℝ) : EReal)) (b : Fin 2) (h : Fin 4) (t k : Fin 4096) :
    (val_main_v58 (F := Ideal) x0 (ix4 b h t k) : EReal) = ((score X b h 0 t k : ℝ) : EReal) := by
  pointwise [val_main_v58, val_main_v57, val_main_v56, val_main_v55, val_main_v54, val_main_v53, val_main_v52, val_main_cst_6]
  simp only [q0_at, k0_at, hX, sqrt_word, bias_at, Ideal.div_coe (Real.sqrt_ne_zero'.mpr (by norm_num : (0 : ℝ) < 128)), ← EReal.coe_mul,
    ← Cert.Online.coe_sum, ← EReal.coe_add]
  refine congrArg (fun z : ℝ => (z : EReal)) ?_
  unfold score dotp
  rw [dif_pos k.isLt, Finset.sum_div, sub_eq_add_neg]
  congr 1
  exact Finset.sum_congr rfl fun e _ => by ring

/-- The same under the causal mask. -/
theorem masked0_at (hX : ∀ b s C, x0 (ix3 b s C) = ((X b s C : ℝ) : EReal)) (b : Fin 2) (h : Fin 4) (t k : Fin 4096) :
    (val_main_v59 (F := Ideal) x0 (ix4 b h t k) : EReal) = masked (score X b h 0 t) t k := by
  pointwise [val_main_v59, val_main_call0_v1, val_main_call0_v2, val_main_call0_v0, val_main_cst_7, val_main_v35, val_main_v34, val_main_v33, val_main_v32, val_main_v31, val_main_v30]
  rw [score0_at x0 X hX]
  rw [show (id (constant (F := Ideal) S_ FTy.f32 4286578688#32) ix0 : EReal) = ⊥ from bot_word]
  simp (disch := word_cmp_side) only [hlo_ix]
  rfl

theorem shift0_at (b : Fin 2) (h : Fin 4) (t k : Fin 4096) :
    val_main_v64 (F := Ideal) x0 (ix4 b h t k) = val_main_v62 (F := Ideal) x0 (ix3 b h t) := by
  pointwise [val_main_v64, val_main_v63]

theorem total0_at (b : Fin 2) (h : Fin 4) (t k : Fin 4096) :
    (val_main_v69 (F := Ideal) x0 (ix4 b h t k) : EReal) = ∑ j : Fin 4096, (val_main_v66 (F := Ideal) x0 (ix4 b h t j) : EReal) := by
  rw [show val_main_v69 (F := Ideal) x0 (ix4 b h t k) = val_main_v67 (F := Ideal) x0 (ix3 b h t) by
    pointwise [val_main_v69, val_main_v68]]
  rw [val_main_v67_apply]
  rw [show (val_main_cst_10 (F := Ideal) (Shape.Idx.first h_S_) : EReal) = 0 by simp [val_main_cst_10, constant, FloatOps.ofBits, Ideal.ofBits, Ideal.ieee], zero_add]
  refine Finset.sum_congr rfl fun j _ => congrArg (val_main_v66 (F := Ideal) x0) ?_
  exact funext fun a => Fin.ext (by match a with | ⟨0, _⟩ => rfl | ⟨1, _⟩ => rfl | ⟨2, _⟩ => rfl | ⟨3, _⟩ => rfl)

/-- The row's maximum in half 0. -/
theorem max0_at (hX : ∀ b s C, x0 (ix3 b s C) = ((X b s C : ℝ) : EReal)) (b : Fin 2) (h : Fin 4) (t : Fin 4096) :
    ∃ μ : ℝ, (val_main_v62 (F := Ideal) x0 (ix3 b h t) : EReal) = (μ : EReal) := by
  have hz := masked0_at x0 X hX b h t
  rw [val_main_v62_apply, val_main_v61_apply]
  unfold val_main_v60
  generalize val_main_v59 (F := Ideal) x0 = z at hz ⊢
  obtain ⟨μ, hμ⟩ := top_at z _ b h t hz (val_main_cst_8 (F := Ideal)) (fun i => bot_word)
  refine ⟨μ, ?_⟩
  rw [hμ]
  show max (Ideal.ofBits .f32 4286578688#32) (μ : EReal) = μ
  rw [bot_word, max_eq_right bot_le]

theorem q1_at (b : Fin 2) (h : Fin 4) (t : Fin 4096) (e : Fin 128) :
    val_main_v72 (F := Ideal) x0 (ix4 b h t e) = x0 (ix3 b t ⟨3072 + 256 * h + 128 * (1 : Fin 2) + e, by omega⟩) := by
  pointwise [val_main_v72, val_main_v71, val_main_v2, val_main_v1, val_main_v0]
  exact at_eq x0 b t (by simp; omega)

theorem k1_at (b : Fin 2) (h : Fin 4) (t : Fin 4096) (e : Fin 128) :
    val_main_v74 (F := Ideal) x0 (ix4 b h t e) = x0 (ix3 b t ⟨4096 + 256 * h + 128 * (1 : Fin 2) + e, by omega⟩) := by
  pointwise [val_main_v74, val_main_v73, val_main_v5, val_main_v4, val_main_v3]
  exact at_eq x0 b t (by simp; omega)

/-- The scores of half 1. -/
theorem score1_at (hX : ∀ b s C, x0 (ix3 b s C) = ((X b s C : ℝ) : EReal)) (b : Fin 2) (h : Fin 4) (t k : Fin 4096) :
    (val_main_v81 (F := Ideal) x0 (ix4 b h t k) : EReal) = ((score X b h 1 t k : ℝ) : EReal) := by
  pointwise [val_main_v81, val_main_v80, val_main_v79, val_main_v78, val_main_v77, val_main_v76, val_main_v75, val_main_cst_11]
  simp only [q1_at, k1_at, hX, sqrt_word, bias_at, Ideal.div_coe (Real.sqrt_ne_zero'.mpr (by norm_num : (0 : ℝ) < 128)), ← EReal.coe_mul,
    ← Cert.Online.coe_sum, ← EReal.coe_add]
  refine congrArg (fun z : ℝ => (z : EReal)) ?_
  unfold score dotp
  rw [dif_pos k.isLt, Finset.sum_div, sub_eq_add_neg]
  congr 1
  exact Finset.sum_congr rfl fun e _ => by ring

/-- The same under the causal mask. -/
theorem masked1_at (hX : ∀ b s C, x0 (ix3 b s C) = ((X b s C : ℝ) : EReal)) (b : Fin 2) (h : Fin 4) (t k : Fin 4096) :
    (val_main_v82 (F := Ideal) x0 (ix4 b h t k) : EReal) = masked (score X b h 1 t) t k := by
  pointwise [val_main_v82, val_main_call1_v1, val_main_call1_v2, val_main_call1_v0, val_main_cst_12, val_main_v35, val_main_v34, val_main_v33, val_main_v32, val_main_v31, val_main_v30]
  rw [score1_at x0 X hX]
  rw [show (id (constant (F := Ideal) S_ FTy.f32 4286578688#32) ix0 : EReal) = ⊥ from bot_word]
  simp (disch := word_cmp_side) only [hlo_ix]
  rfl

theorem shift1_at (b : Fin 2) (h : Fin 4) (t k : Fin 4096) :
    val_main_v87 (F := Ideal) x0 (ix4 b h t k) = val_main_v85 (F := Ideal) x0 (ix3 b h t) := by
  pointwise [val_main_v87, val_main_v86]

theorem total1_at (b : Fin 2) (h : Fin 4) (t k : Fin 4096) :
    (val_main_v92 (F := Ideal) x0 (ix4 b h t k) : EReal) = ∑ j : Fin 4096, (val_main_v89 (F := Ideal) x0 (ix4 b h t j) : EReal) := by
  rw [show val_main_v92 (F := Ideal) x0 (ix4 b h t k) = val_main_v90 (F := Ideal) x0 (ix3 b h t) by
    pointwise [val_main_v92, val_main_v91]]
  rw [val_main_v90_apply]
  rw [show (val_main_cst_15 (F := Ideal) (Shape.Idx.first h_S_) : EReal) = 0 by simp [val_main_cst_15, constant, FloatOps.ofBits, Ideal.ofBits, Ideal.ieee], zero_add]
  refine Finset.sum_congr rfl fun j _ => congrArg (val_main_v89 (F := Ideal) x0) ?_
  exact funext fun a => Fin.ext (by match a with | ⟨0, _⟩ => rfl | ⟨1, _⟩ => rfl | ⟨2, _⟩ => rfl | ⟨3, _⟩ => rfl)

/-- The row's maximum in half 1. -/
theorem max1_at (hX : ∀ b s C, x0 (ix3 b s C) = ((X b s C : ℝ) : EReal)) (b : Fin 2) (h : Fin 4) (t : Fin 4096) :
    ∃ μ : ℝ, (val_main_v85 (F := Ideal) x0 (ix3 b h t) : EReal) = (μ : EReal) := by
  have hz := masked1_at x0 X hX b h t
  rw [val_main_v85_apply, val_main_v84_apply]
  unfold val_main_v83
  generalize val_main_v82 (F := Ideal) x0 = z at hz ⊢
  obtain ⟨μ, hμ⟩ := top_at z _ b h t hz (val_main_cst_13 (F := Ideal)) (fun i => bot_word)
  refine ⟨μ, ?_⟩
  rw [hμ]
  show max (Ideal.ofBits .f32 4286578688#32) (μ : EReal) = μ
  rw [bot_word, max_eq_right bot_le]

end Values

end Cert.ReferenceIdeal.Refer

end
-- ==== Proof.Result.lean ====
/- The reference's softmaxes and its result at an index. -/
module

public import proofs.«01_k».proof.Proof.Refer
public import proofs.«01_k».proof.Proof.Gen.ReferenceIdeal.Read
public import Idealize.ShloMosaic.Lib.WordCmp

@[expose] public section

set_option maxRecDepth 16384

noncomputable section

namespace Cert.ReferenceIdeal.Refer

open Cert.ReferenceIdeal Cert.ReferenceIdeal.Gen Cert.ReferenceIdeal.Read Idealize.ShloMosaic Idealize.ShloMosaic.TcCoe Idealize.SL.Sem
open Cert.Spec Cert.Soft

variable (x0 : (⟨S2x4096x6144, .f32⟩ : BufTy).Contents (Elt Ideal)) (x1 x2 x3 x4 : (⟨S1x128, .f32⟩ : BufTy).Contents (Elt Ideal))
  (x5 : (⟨S1x256, .f32⟩ : BufTy).Contents (Elt Ideal))

section Values

variable (X : Fin 2 → Fin 4096 → Fin 6144 → ℝ)

/-- The softmax of half 0. -/
theorem weight0_at (hX : ∀ b s C, x0 (ix3 b s C) = ((X b s C : ℝ) : EReal)) (b : Fin 2) (h : Fin 4) (t k : Fin 4096) :
    (val_main_v70 (F := Ideal) x0 (ix4 b h t k) : EReal) = ((weight (score X b h 0 t) (t + 1) k : ℝ) : EReal) := by
  obtain ⟨μ, hm⟩ := max0_at x0 X hX b h t
  have he : ∀ j, (val_main_v66 (F := Ideal) x0 (ix4 b h t j) : EReal) = Ideal.exp (masked (score X b h 0 t) t j - (μ : EReal)) := fun j => by
    rw [val_main_v66_apply, val_main_v65_apply, shift0_at, hm, masked0_at x0 X hX]
    rfl
  rw [val_main_v70_apply, total0_at]
  simp only [he]
  exact soft _ t k μ

/-- The softmax of half 1. -/
theorem weight1_at (hX : ∀ b s C, x0 (ix3 b s C) = ((X b s C : ℝ) : EReal)) (b : Fin 2) (h : Fin 4) (t k : Fin 4096) :
    (val_main_v93 (F := Ideal) x0 (ix4 b h t k) : EReal) = ((weight (score X b h 1 t) (t + 1) k : ℝ) : EReal) := by
  obtain ⟨μ, hm⟩ := max1_at x0 X hX b h t
  have he : ∀ j, (val_main_v89 (F := Ideal) x0 (ix4 b h t j) : EReal) = Ideal.exp (masked (score X b h 1 t) t j - (μ : EReal)) := fun j => by
    rw [val_main_v89_apply, val_main_v88_apply, shift1_at, hm, masked1_at x0 X hX]
    rfl
  rw [val_main_v93_apply, total1_at]
  simp only [he]
  exact soft _ t k μ

theorem lam_at : (val_main_v20 (F := Ideal) x1 x2 x3 x4 ix0 : EReal) =
    lamOf (fun e => x1 (ix2 0 e)) (fun e => x2 (ix2 0 e)) (fun e => x3 (ix2 0 e)) (fun e => x4 (ix2 0 e)) := by
  pointwise [val_main_v20, val_main_cst_1, val_main_v19, val_main_v18, val_main_v17, val_main_cst_0, val_main_v16, val_main_v15, val_main_v14, val_main_v13, val_main_v12, val_main_cst, val_main_v11, val_main_v10, val_main_v9]
  rfl

/-- The two softmaxes' difference against the values. -/
theorem att_at (hX : ∀ b s C, x0 (ix3 b s C) = ((X b s C : ℝ) : EReal)) (lam : ℝ)
    (hlam : lamOf (fun e => x1 (ix2 0 e)) (fun e => x2 (ix2 0 e)) (fun e => x3 (ix2 0 e)) (fun e => x4 (ix2 0 e)) = lam)
    (b : Fin 2) (h : Fin 4) (t : Fin 4096) (d : Fin 256) :
    (val_main_v97 (F := Ideal) x0 x1 x2 x3 x4 (ix4 b h t d) : EReal) =
      ((att (score X b h 0 t) (score X b h 1 t) (value X b h) lam (t + 1) d : ℝ) : EReal) := by
  pointwise [val_main_v97, val_main_v96, val_main_v95, val_main_v94]
  rw [lam_at, hlam, ← diff]
  refine Finset.sum_congr rfl fun k _ => ?_
  rw [weight0_at x0 X hX, weight1_at x0 X hX, v_at, hX]
  unfold value
  rw [dif_pos k.isLt]

/-- The reference's result. -/
theorem out_at (hX : ∀ b s C, x0 (ix3 b s C) = ((X b s C : ℝ) : EReal)) (lam : ℝ)
    (hlam : lamOf (fun e => x1 (ix2 0 e)) (fun e => x2 (ix2 0 e)) (fun e => x3 (ix2 0 e)) (fun e => x4 (ix2 0 e)) = lam)
    (R : Fin 8192) (C : Fin 1024) :
    (val_main_v116 (F := Ideal) x0 x1 x2 x3 x4 x5 (ix2 R C) : EReal) = outAt X lam (fun e => x5 (ix2 0 e)) R C := by
  pointwise [val_main_v116, val_main_v115, val_main_v114, val_main_v113, val_main_v112, val_main_cst_19, val_main_v111, val_main_v110, val_main_v109, val_main_v108, val_main_v107, val_main_v106, val_main_v105, val_main_v104, val_main_cst_18, val_main_v103, val_main_v102, val_main_cst_17, val_main_v101, val_main_v100, val_main_cst_16, val_main_v99, val_main_v98]
  simp only [att_at x0 x1 x2 x3 x4 X hX lam hlam]
  rfl

end Values

end Cert.ReferenceIdeal.Refer

end
-- ==== Proof.InProj.lean ====
/- The RMS norm and input projection: what each grid point stores, in terms of the launched arrays. -/
module

public import proofs.«01_k».proof.Proof.Host
public import proofs.«01_k».proof.Proof.Gen.Kernel2Ideal.Value

@[expose] public section

set_option maxRecDepth 16384

noncomputable section

namespace Cert.InSpec

open Idealize.ShloMosaic

/-- A row of 2048 values under the RMS norm, at `k`, weighted by `w`. -/
def normed (x w : Fin 2048 → EReal) (k : Fin 2048) : EReal :=
  x k * Ideal.rsqrt (Ideal.div (∑ e, x e * x e) (Ideal.ofBits .f32 0x45000000#32) + Ideal.ofBits .f32 0x358637BD#32) * w k

/-- The projection of a normalised row onto a column `W`. -/
def onto (x w W : Fin 2048 → EReal) : EReal := ∑ k, normed x w k * W k

/-- The factor of a column: one over `√128 · log 2` at the query columns. -/
def factor (C : Fin 6144) : EReal :=
  if C.val < 1024 ∨ (3072 ≤ C.val ∧ C.val < 4096) then ((1 / (Real.sqrt 128 * Real.log 2) : ℝ) : EReal) else 1

/-- The projection's array at row `R` and column `C`. -/
def projAt (x : Fin 2 → Fin 4096 → Fin 2048 → EReal) (w : Fin 2048 → EReal) (W : Fin 2048 → Fin 6144 → EReal) (R : Fin 8192) (C : Fin 6144) : EReal :=
  onto (x ⟨R / 4096, by omega⟩ ⟨R % 4096, by omega⟩) w (fun k => W k C) * factor C

end Cert.InSpec

namespace Cert.Kernel2Ideal.InProj

open Cert.Kernel2Ideal Cert.Kernel2Ideal.Gen Idealize.ShloMosaic Idealize.ShloMosaic.TcCoe Idealize.SL.Sem
open Idealize.ShloMosaic.Pipeline (Dat)
open Cert.InSpec

variable (m : (ℓ : Loc nD τ sig) → Buf (Elt Ideal) ℓ)

/-- The layer's input, as launched. -/
def inp (c : Dev nD) (b : Fin 2) (s : Fin 4096) (k : Fin 2048) : EReal := (m ((c : Thread nD τ).loc main_arg0) : S2x4096x2048.Idx → EReal) (ix3 b s k)
/-- The norm's weights. -/
def wt (c : Dev nD) (k : Fin 2048) : EReal := (m ((c : Thread nD τ).loc main_arg1) : S1x2048.Idx → EReal) (ix2 0 k)
/-- The projection's matrix. -/
def mat (c : Dev nD) (k : Fin 2048) (C : Fin 6144) : EReal := (m ((c : Thread nD τ).loc main_arg2) : S1x2048x6144.Idx → EReal) (ix3 0 k C)

theorem V_inp (c : Dev nD) (R : Fin 8192) (k : Fin 2048) :
    (V m c main_v0 : S8192x2048.Idx → EReal) (ix2 R k) = inp m c ⟨R / 4096, by omega⟩ ⟨R % 4096, by omega⟩ k := by
  unfold V
  simp only [hostOps0, hostOps0_1, List.flatten_cons, List.flatten_nil, List.append_nil, List.cons_append, List.nil_append]
  entry_read
  pointwise []
  rfl

theorem V_wt (c : Dev nD) (k : Fin 2048) :
    (V m c main_v2 : S1x2048.Idx → EReal) (ix2 0 k) = wt m c k := by
  unfold V
  simp only [hostOps0, hostOps0_1, List.flatten_cons, List.flatten_nil, List.append_nil, List.cons_append, List.nil_append]
  entry_read
  pointwise []
  rfl

theorem V_mat (c : Dev nD) (k : Fin 2048) (C : Fin 6144) :
    (V m c main_v3 : S2048x6144.Idx → EReal) (ix2 k C) = mat m c k C := by
  unfold V
  simp only [hostOps0, hostOps0_1, List.flatten_cons, List.flatten_nil, List.append_nil, List.cons_append, List.nil_append]
  entry_read
  pointwise []
  rfl

theorem V_factor (c : Dev nD) (C : Fin 6144) :
    (V m c main_v17 : S1x6144.Idx → EReal) (ix2 0 C) = factor C := by
  unfold factor
  rw [← Cert.KernelIdeal.HostLines.scale_word, ← EReal.coe_one, ← Cert.KernelIdeal.HostLines.one_word]
  unfold V
  simp only [hostOps0, hostOps0_1, List.flatten_cons, List.flatten_nil, List.append_nil, List.cons_append, List.nil_append]
  entry_read
  simp only [StableHlo.TRef.ofBuf_toBuf]
  change select (ori
              (cmpi CmpIPredicate.slt (iotaInDim S1x6144 32 1)
                (broadcastInDim S1x6144 ![] bcast_S_S1x6144 (constantI S_ 32 1024#32)))
              (andi
                (cmpi CmpIPredicate.sge (iotaInDim S1x6144 32 1)
                  (broadcastInDim S1x6144 ![] bcast_S_S1x6144 (constantI S_ 32 3072#32)))
                (cmpi CmpIPredicate.slt (iotaInDim S1x6144 32 1)
                  (broadcastInDim S1x6144 ![] bcast_S_S1x6144 (constantI S_ 32 4096#32)))))
          (broadcastInDim S1x6144 ![] bcast_S_S1x6144
                  (Host.divf (constant (F := Ideal) S_ FTy.f32 1065353216#32)
                    (mulf (Host.sqrt (constant S_ FTy.f32 1124073472#32))
                      (Host.log (constant S_ FTy.f32 1073741824#32)))))
          (broadcastInDim S1x6144 ![] bcast_S_S1x6144 (constant S_ FTy.f32 1065353216#32)) (ix2 0 C) = _
  pointwise []
  word_cmp

theorem idx0 : ∀ t : Fin cfg0.N, win0_0.index t = ![t.val / 6, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, t.val % 6] :=
  (by decide +kernel : ∀ t : Fin grid0.N, _)
theorem idx3 : ∀ t : Fin cfg0.N, win0_3.index t = ![0, t.val % 6] :=
  (by decide +kernel : ∀ t : Fin grid0.N, _)
theorem idx4 : ∀ t : Fin cfg0.N, win0_4.index t = ![t.val / 6, t.val % 6] :=
  (by decide +kernel : ∀ t : Fin grid0.N, _)

theorem lt48 (t : Fin cfg0.N) : t.val < 48 := t.isLt

/-- The row of the array that a point's row is. -/
def rowOf (t : Fin cfg0.N) (r : Fin 1024) : Fin 8192 := ⟨1024 * (t.val / 6) + r, by have := lt48 t; omega⟩
/-- The column of the array that a point's column is. -/
def colOf (t : Fin cfg0.N) (j : Fin 1024) : Fin 6144 := ⟨1024 * (t.val % 6) + j, by omega⟩

theorem blk0 (c : Dev nD) (t : Fin cfg0.N) (r : Fin 1024) (k : Fin 2048) :
    iblk m c 0 t (ix2 r k) = V m c main_v0 (ix2 (rowOf t r) k) := by
  unfold rowOf
  blk_ext [iblk, idx0 t]
theorem blk1 (c : Dev nD) (t : Fin cfg0.N) (k : Fin 2048) :
    iblk m c 1 t (ix2 0 k) = V m c main_v2 (ix2 0 k) := by
  blk_ext [iblk, idx1 t]
theorem blk2 (c : Dev nD) (t : Fin cfg0.N) (j : Fin 1024) :
    iblk m c 2 t (ix2 0 j) = V m c main_v17 (ix2 0 (colOf t j)) := by
  unfold colOf
  blk_ext [iblk, idx2 t]
theorem blk3 (c : Dev nD) (t : Fin cfg0.N) (k : Fin 2048) (j : Fin 1024) :
    iblk m c 3 t (ix2 k j) = V m c main_v3 (ix2 k (colOf t j)) := by
  unfold colOf
  blk_ext [iblk, idx3 t]

/-- The normalised block at an index. -/
theorem pay1_at (X : Vec Ideal S1024x2048 .f32) (w : Vec Ideal S1x2048 .f32) (r : Fin 1024) (k : Fin 2048) :
    (k0_pay1 (F := Ideal) X w (ix2 r k) : EReal) = normed (fun e => X (ix2 r e)) (fun e => w (ix2 0 e)) k := by
  unfold normed
  pointwise [k0_pay1]

/-- The product's block at an index. -/
theorem pay2_at (h : Vec Ideal S1024x2048 .bf16) (W : Vec Ideal S2048x1024 .f32) (s : Vec Ideal S1x1024 .f32) (r j : Fin 1024) :
    (k0_pay2 (F := Ideal) h W s (ix2 r j) : EReal) = (∑ k : Fin 2048, (h (ix2 r k) : EReal) * W (ix2 k j)) * s (ix2 0 j) := by
  pointwise [k0_pay2]

theorem scratch_A (c : Dev nD) (t : Fin cfg0.N) (h0 : t.val % 6 = 0) :
    (outsAt0 m c t.val t.isLt).2 = k0_pay1 (F := Ideal) (iblk m c 0 t) (iblk m c 1 t) := by
  rw [outsAt0_A m c t h0]; dsimp only; frame_out

theorem scratch_B (c : Dev nD) (t : Fin cfg0.N) (h0 : ¬t.val % 6 = 0) :
    (outsAt0 m c t.val t.isLt).2 = (outsAt0 m c (t.val - 1) (lt_of_le_of_lt (Nat.sub_le _ _) t.isLt)).2 := by
  rw [outsAt0_B m c t h0]
  rfl

/-- The scratch at an index: the normalised row. -/
theorem scratch (c : Dev nD) (n : ℕ) : ∀ t : Fin cfg0.N, t.val = n → ∀ (r : Fin 1024) (k : Fin 2048),
    ((outsAt0 m c t.val t.isLt).2 (ix2 r k) : EReal)
      = normed (inp m c ⟨rowOf t r / 4096, by omega⟩ ⟨rowOf t r % 4096, by omega⟩) (wt m c) k := by
  have first : ∀ t : Fin cfg0.N, t.val % 6 = 0 → ∀ (r : Fin 1024) (k : Fin 2048), ((outsAt0 m c t.val t.isLt).2 (ix2 r k) : EReal)
      = normed (inp m c ⟨rowOf t r / 4096, by omega⟩ ⟨rowOf t r % 4096, by omega⟩) (wt m c) k := by
    intro t h0 r k
    rw [scratch_A m c t h0, pay1_at]
    refine congrArg₂ (fun x w => normed x w k) (funext fun e => ?_) (funext fun e => ?_)
    · exact (blk0 m c t r e).trans (V_inp m c _ e)
    · exact (blk1 m c t e).trans (V_wt m c e)
  induction n with
  | zero => exact fun t h => first t (by omega)
  | succ n ih =>
    intro t h r k
    by_cases h0 : t.val % 6 = 0
    · exact first t h0 r k
    · rw [scratch_B m c t h0]
      refine (ih ⟨t.val - 1, lt_of_le_of_lt (Nat.sub_le _ _) t.isLt⟩ (by show t.val - 1 = n; omega) r k).trans ?_
      have e : rowOf ⟨t.val - 1, lt_of_le_of_lt (Nat.sub_le _ _) t.isLt⟩ r = rowOf t r :=
        Fin.ext (by show 1024 * ((t.val - 1) / 6) + r.val = 1024 * (t.val / 6) + r; omega)
      simp only [e]

/-- A point stores the product of what the scratch then holds. -/
theorem stored (c : Dev nD) (t : Fin cfg0.N) :
    (outsAt0 m c t.val t.isLt).1 = k0_pay2 (F := Ideal) (outsAt0 m c t.val t.isLt).2 (iblk m c 3 t) (iblk m c 2 t) := by
  by_cases h0 : t.val % 6 = 0
  · rw [scratch_A m c t h0, outsAt0_A m c t h0]; dsimp only; frame_out
  · rw [scratch_B m c t h0, outsAt0_B m c t h0]; dsimp only; frame_out
    rw [Memref.IsWhole.read_unread (Memref.isWhole_whole cc0_scratch0)]

/-- The value that a point stores. -/
theorem point (c : Dev nD) (t : Fin cfg0.N) (r j : Fin 1024) :
    ((outsAt0 m c t.val t.isLt).1 (ix2 r j) : EReal) = projAt (inp m c) (wt m c) (mat m c) (rowOf t r) (colOf t j) := by
  rw [stored, pay2_at]
  unfold projAt onto
  refine congrArg₂ (· * ·) (Finset.sum_congr rfl fun k _ => congrArg₂ (· * ·) (scratch m c _ t rfl r k) ?_) ?_
  · exact (blk3 m c t k j).trans (V_mat m c k _)
  · exact (blk2 m c t j).trans (V_factor m c _)

/-- The array that the run leaves. -/
theorem final (c : Dev nD) :
    (dats m 0 c).arrAt 4 cfg0.N = fun i : S8192x6144.Idx => projAt (inp m c) (wt m c) (mat m c) (i 0) (i 1) := by
  refine (dats m 0 c).arrAt_eq_of_covers 4 _ (by decide +kernel) fun t _ y => ?_
  blk_simp
  rw [after0_4]
  idx_vars y
  refine (point m c t y0 y1).trans ?_
  have hR : ((((cfg0.win 4).blk t).view.emb (ix2 y0 y1)) 0 : ℕ) = 1024 * (t.val / 6) + y0 := by
    blk_simp [idx4 t]; omega
  have hC : ((((cfg0.win 4).blk t).view.emb (ix2 y0 y1)) 1 : ℕ) = 1024 * (t.val % 6) + y1 := by
    blk_simp [idx4 t]; omega
  exact congrArg₂ (projAt (inp m c) (wt m c) (mat m c)) (Fin.ext hR.symm) (Fin.ext hC.symm)

end Cert.Kernel2Ideal.InProj

end
-- ==== Proof.InRefer.lean ====
/- The reference of the RMS norm and input projection at an index. -/
module

public import proofs.«01_k».proof.Proof.InProj
public import proofs.«01_k».proof.Proof.Gen.Reference2Ideal.Read
public import Idealize.ShloMosaic.Lib.WordCmp

@[expose] public section

set_option maxRecDepth 16384

noncomputable section

namespace Cert.Reference2Ideal.InRefer

open Cert.Reference2Ideal Cert.Reference2Ideal.Gen Cert.Reference2Ideal.Read Idealize.ShloMosaic Idealize.ShloMosaic.TcCoe Idealize.SL.Sem
open Cert.InSpec

variable (x0 : (⟨S2x4096x2048, .f32⟩ : BufTy).Contents (Elt Ideal)) (x1 : (⟨S1x2048, .f32⟩ : BufTy).Contents (Elt Ideal))
  (x2 : (⟨S1x2048x6144, .f32⟩ : BufTy).Contents (Elt Ideal))

/-- The normalised rows. -/
theorem normed_at (b : Fin 2) (s : Fin 4096) (k : Fin 2048) :
    (val_main_v13 (F := Ideal) x0 x1 (ix3 b s k) : EReal) = normed (fun e => x0 (ix3 b s e)) (fun e => x1 (ix2 0 e)) k := by
  unfold normed
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The product. -/
theorem onto_at (b : Fin 2) (s : Fin 4096) (C : Fin 6144) :
    (val_main_v15 (F := Ideal) x0 x1 x2 (ix3 b s C) : EReal) = onto (fun e => x0 (ix3 b s e)) (fun e => x1 (ix2 0 e)) (fun e => x2 (ix3 0 e C)) := by
  rw [val_main_v15_apply]
  unfold onto
  refine Finset.sum_congr rfl fun k _ => congrArg₂ (· * ·) ?_ ?_
  · exact (congrArg (val_main_v13 (F := Ideal) x0 x1) (funext fun a => Fin.ext (by match a with | ⟨0, _⟩ => rfl | ⟨1, _⟩ => rfl | ⟨2, _⟩ => rfl))).trans (normed_at x0 x1 b s k)
  · rw [val_main_v14_apply]
    exact congrArg x2 (funext fun a => Fin.ext (by
      match a with
      | ⟨0, _⟩ => rfl
      | ⟨1, _⟩ => show (k.val * 6144 + C.val) / 6144 % 2048 = k.val; omega
      | ⟨2, _⟩ => show (k.val * 6144 + C.val) % 6144 = C.val; omega))

/-- Division by `√128` and then by the logarithm of two is one factor. -/
theorem two_divisions (z : EReal) :
    Ideal.div (Ideal.div z (Ideal.sqrt (Ideal.ofBits .f32 1124073472#32))) (Ideal.log (Ideal.ofBits .f32 1073741824#32))
      = z * ((1 / (Real.sqrt 128 * Real.log 2) : ℝ) : EReal) := by
  rw [Cert.KernelIdeal.HostLines.sqrt_word, Cert.KernelIdeal.HostLines.log_word, Ideal.div_coe (Real.sqrt_ne_zero'.mpr (by norm_num)),
    Ideal.div_coe Cert.KernelIdeal.HostLines.log2_ne, mul_assoc, ← EReal.coe_mul]
  refine congrArg (fun y : ℝ => z * (y : EReal)) ?_
  rw [one_div_mul_one_div]

/-- The scaled projections before they are laid out row by row. -/
theorem scaled_at (b : Fin 2) (s : Fin 4096) (C : Fin 6144) :
    (val_main_v31 (F := Ideal) x0 x1 x2 (ix3 b s C) : EReal)
      = onto (fun e => x0 (ix3 b s e)) (fun e => x1 (ix2 0 e)) (fun e => x2 (ix3 0 e C)) * factor C := by
  have hd : (val_main_v30 (F := Ideal) x0 x1 x2 (ix3 b s C) : EReal)
      = (val_main_v15 (F := Ideal) x0 x1 x2 (ix3 b s C) : EReal) * ((1 / (Real.sqrt 128 * Real.log 2) : ℝ) : EReal) := by
    rw [val_main_v30_apply, val_main_v27_apply, val_main_v29_apply, val_main_v26_apply, val_main_v28_apply, val_main_v25_apply]
    exact two_divisions _
  rw [val_main_v31_apply, hd, onto_at]
  generalize onto _ _ _ = z
  unfold factor
  rw [show z * (if C.val < 1024 ∨ (3072 ≤ C.val ∧ C.val < 4096) then ((1 / (Real.sqrt 128 * Real.log 2) : ℝ) : EReal) else 1)
    = if C.val < 1024 ∨ (3072 ≤ C.val ∧ C.val < 4096) then z * ((1 / (Real.sqrt 128 * Real.log 2) : ℝ) : EReal) else z by
      split <;> simp only [mul_one]]
  generalize z * ((1 / (Real.sqrt 128 * Real.log 2) : ℝ) : EReal) = y
  rw [show val_main_call0_v0 (F := Ideal) (ix3 b s C) = val_main_v24 (F := Ideal) (ix1 C) from by
    pointwise [val_main_call0_v0]]
  pointwise [val_main_v24, val_main_v23, val_main_v22, val_main_v21, val_main_c_3, val_main_v20, val_main_v19, val_main_c_2, val_main_v18, val_main_v17, val_main_c, val_main_v16]
  word_cmp

/-- The result. -/
theorem out_at (R : Fin 8192) (C : Fin 6144) :
    (val_main_v33 (F := Ideal) x0 x1 x2 (ix2 R C) : EReal)
      = projAt (fun b s k => x0 (ix3 b s k)) (fun k => x1 (ix2 0 k)) (fun k C => x2 (ix3 0 k C)) R C := by
  rw [val_main_v33_apply]
  show (val_main_v32 (F := Ideal) x0 x1 x2 (ix2 R C) : EReal) = _
  rw [val_main_v32_apply]
  refine Eq.trans (congrArg (val_main_v31 (F := Ideal) x0 x1 x2) (funext fun a => Fin.ext ?_))
    (scaled_at x0 x1 x2 ⟨R / 4096, by omega⟩ ⟨R % 4096, by omega⟩ C)
  match a with
  | ⟨0, _⟩ => show (R.val * 6144 + C.val) / 25165824 = R.val / 4096; omega
  | ⟨1, _⟩ => show (R.val * 6144 + C.val) / 6144 % 4096 = R.val % 4096; omega
  | ⟨2, _⟩ => show (R.val * 6144 + C.val) % 6144 = C.val; omega

end Cert.Reference2Ideal.InRefer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Pre
public import proofs.«01_k».proof.Proof.Experts
public import proofs.«01_k».proof.Proof.ExpertRefer
public import proofs.«01_k».proof.Proof.Same
public import proofs.«01_k».proof.Proof.Tables
public import proofs.«01_k».proof.Proof.Row
public import proofs.«01_k».proof.Proof.Result
public import proofs.«01_k».proof.Proof.InRefer
public import Idealize.ShloMosaic.Adequacy
public import Idealize.ShloMosaic.Init

@[expose] public section

noncomputable section

namespace Cert.Proof

open Idealize.ShloMosaic Idealize.SL.Sem

instance pre_facts : Cert.Pre_finite.Facts := Cert.Pre_finite.shapes

/-- The reference runs, leaves its arguments unchanged and has no counter to leave raised. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

/-- The kernel's result is the reference's. -/
theorem algebraic : Cert.algebraic_KernelIdeal_ReferenceIdeal_pre_finite := by
  pair_intro
  · run_from Cert.KernelIdeal.Value.run_blocks m g
  · run_from Cert.ReferenceIdeal.Value.run m' g'
    obtain ⟨h0, h1, h2, h3, h4⟩ := Cert.Pre_finite.reals _ _ _ _ _ _ (hpre c)
    obtain ⟨a0, a1, a2, a3, a4, a5⟩ := hagree c
    choose X hX using fun b s C => h0 (ix3 b s C)
    obtain ⟨lam, hlam⟩ := Cert.Spec.lamOf_real _ _ _ _ (fun e => h1 (ix2 0 e)) (fun e => h2 (ix2 0 e)) (fun e => h3 (ix2 0 e)) (fun e => h4 (ix2 0 e))
    rw [Cert.KernelIdeal.Row.final m X c hX lam hlam, Cert.ReferenceIdeal.Read.val_main_v116_eq, a0, a1, a2, a3, a4, a5]
    funext i
    idx_vars i
    exact Cert.ReferenceIdeal.Refer.out_at _ _ _ _ _ _ X hX lam hlam _ _

/-- The reference of the input projection runs, leaves its arguments unchanged and has no counter to leave raised. -/
theorem frame_reference2 : Cert.quiescent_Reference2Ideal := by
  intro m ρ _
  exact (θ_run Cert.Reference2Ideal.defs _ _).mono
    (fun r h => ⟨fun c => (h c).2, sem_eq_zero_of_no_sems (by decide) r.2⟩) (Cert.Reference2Ideal.Value.run (F := Ideal) m ρ)

/-- The input projection's result is its reference's. -/
theorem algebraic2 : Cert.algebraic_Kernel2Ideal_Reference2Ideal := by
  pair_intro
  · run_from Cert.Kernel2Ideal.Value.run_blocks m g
  · run_from Cert.Reference2Ideal.Value.run m' g'
    rw [Cert.Kernel2Ideal.InProj.final m c, Cert.Reference2Ideal.Read.val_main_v33_eq]
    funext i
    idx_vars i
    exact Cert.Reference2Ideal.InRefer.out_at _ _ _ _ _

instance tables_facts : Cert.Pre_tables.Facts := Cert.Pre_tables.shapes

section Experts

open Cert.Kernel3Ideal Cert.Kernel3Ideal.Gen Cert.Kernel3Ideal.Experts

variable {F : FTy → Type} [FloatOps F] (m : (ℓ : Loc nD τ sig) → Buf (Elt F) ℓ) (ρ : Dev nD → PrngReg) (ok : ∀ c, (book m c).Ok)

/-- The experts' run over any float values: its result is the window's array, its arguments are as launched, and every counter reads zero. -/
theorem run3 : θ_run defs (onTc (τ := τ) (main (F := F))) ⟨m, fun _ => 0, ρ⟩ fun r =>
    (∀ c : Dev nD, r.2.mem ((c.tc : Thread nD τ).loc main_v0) = (dats m ok 0 c).arrAt 1 (cfg0 (adm m ok 0)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 := by
  refine (θ_run defs _ _).mono (fun r h => ⟨fun c => ?_, h.2⟩) (run_main m ρ ok)
  have rest : ∀ b : Ref sig .tc, b ∈ Pipeline.restRefs sig spec0 → r.2.mem ((c.tc : Thread nD τ).loc b) = m ((c.tc : Thread nD τ).loc b) := (h.1 c).2
  refine ⟨(h.1 c).1 1, rest main_arg0 (Pipeline.mem_restRefs_of main_arg0 (by decide) (by decide)), rest main_arg1 (Pipeline.mem_restRefs_of main_arg1 (by decide) (by decide)),
    rest main_arg2 (Pipeline.mem_restRefs_of main_arg2 (by decide) (by decide)), ((h.1 c).1 0).trans ((dats m ok 0 c).arrAt_in 0 rfl _),
    rest main_arg4 (Pipeline.mem_restRefs_of main_arg4 (by decide) (by decide)), rest main_arg5 (Pipeline.mem_restRefs_of main_arg5 (by decide) (by decide)),
    rest main_arg6 (Pipeline.mem_restRefs_of main_arg6 (by decide) (by decide))⟩

end Experts

/-- The experts' kernel on float words: the run over any float values, at words. -/
theorem frame_kernel3 : Cert.quiescent_Kernel3 := by
  intro m ρ hpre
  refine Cert.Same.run_eq (F := Bits) m ρ _ ?_
  exact (θ_run Cert.Kernel3Ideal.defs _ _).mono (fun _ h => ⟨fun c => (h.1 c).2, h.2⟩)
    (run3 (F := Bits) m ρ fun c => Cert.Pre_tables.ok _ _ _ _ _ _ _ (hpre c))

/-- The experts' kernel over the extended reals. -/
theorem frame_kernel3_ideal : Cert.quiescent_Kernel3Ideal := fun m ρ hpre =>
  (θ_run Cert.Kernel3Ideal.defs _ _).mono (fun _ h => ⟨fun c => (h.1 c).2, h.2⟩)
    (run3 (F := Ideal) m ρ fun c => Cert.Pre_tables.ok _ _ _ _ _ _ _ (hpre c))

/-- The experts' reference runs, leaves its arguments unchanged and has no counter to leave raised. -/
theorem frame_reference3 : Cert.quiescent_Reference3Ideal := by
  intro m ρ _
  exact (θ_run Cert.Reference3Ideal.defs _ _).mono
    (fun r h => ⟨fun c => (h c).2, sem_eq_zero_of_no_sems (by decide) r.2⟩) (Cert.Reference3Ideal.Value.run (F := Ideal) m ρ)

/-- The experts' result is their reference's. -/
theorem algebraic3 : Cert.algebraic_Kernel3Ideal_Reference3Ideal := by
  intro m g m' g' hpre hagree
  have ok : ∀ c, (Cert.Kernel3Ideal.Experts.book m c).Ok := fun c => Cert.Pre_tables.ok _ _ _ _ _ _ _ (hpre c)
  refine ⟨_, (θ_run Cert.Kernel3Ideal.defs _ _).mono (fun _ h c => h.1 c) (run3 m g ok),
    (θ_run Cert.Reference3Ideal.defs _ _).mono (fun _ h c => ⟨(h c).1.trans ?_, (h c).2⟩) (Cert.Reference3Ideal.Value.run (F := Ideal) m' g')⟩
  obtain ⟨a0, a1, a2, a3, a4, a5, a6⟩ := hagree c
  rw [Cert.Kernel3Ideal.Experts.final m ok c, a0, a1, a2, a3, a4, a5, a6, Cert.Reference3Ideal.Read.val_main_v28_eq]
  funext i
  idx_vars i
  exact Cert.Reference3Ideal.ExpertRefer.out_at _ _ _ _ _ _ _ (ok c) (Cert.Kernel3Ideal.Experts.book_reads m c) _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, pre_facts, tables_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    frame_kernel3, frame_kernel3_ideal, frame_reference3, fun m ρ _ => frame_reference3 m ρ trivial,
    trivial, algebraic, trivial, algebraic2, trivial, algebraic3⟩

end Cert.Proof

end
